-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_OutputKernel (m : (ℓ : Loc Cert.OutputKernel.nD Cert.OutputKernel.τ Cert.OutputKernel.sig) → Buf (Elt Bits) ℓ) : Prop :=
  True

def Pre_OutputKernelIdeal (m : (ℓ : Loc Cert.OutputKernelIdeal.nD Cert.OutputKernelIdeal.τ Cert.OutputKernelIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ColumnsKernel (m : (ℓ : Loc Cert.ColumnsKernel.nD Cert.ColumnsKernel.τ Cert.ColumnsKernel.sig) → Buf (Elt Bits) ℓ) : Prop :=
  True

def Pre_ColumnsKernelIdeal (m : (ℓ : Loc Cert.ColumnsKernelIdeal.nD Cert.ColumnsKernelIdeal.τ Cert.ColumnsKernelIdeal.sig) → Buf (Elt Ideal) ℓ) : Prop :=
  True

def Pre_ColumnsRefIdeal (m : (ℓ : Loc Cert.ColumnsRefIdeal.nD Cert.ColumnsRefIdeal.τ Cert.ColumnsRefIdeal.sig) → Buf (Elt Ideal) ℓ) : Prop :=
  True

def Pre_ShortKernel (m : (ℓ : Loc Cert.ShortKernel.nD Cert.ShortKernel.τ Cert.ShortKernel.sig) → Buf (Elt Bits) ℓ) : Prop :=
  True

def Pre_ShortKernelIdeal (m : (ℓ : Loc Cert.ShortKernelIdeal.nD Cert.ShortKernelIdeal.τ Cert.ShortKernelIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_HeadsKernel (m : (ℓ : Loc Cert.HeadsKernel.nD Cert.HeadsKernel.τ Cert.HeadsKernel.sig) → Buf (Elt Bits) ℓ) : Prop :=
  True

def Pre_HeadsKernelIdeal (m : (ℓ : Loc Cert.HeadsKernelIdeal.nD Cert.HeadsKernelIdeal.τ Cert.HeadsKernelIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_RouterKernel (m : (ℓ : Loc Cert.RouterKernel.nD Cert.RouterKernel.τ Cert.RouterKernel.sig) → Buf (Elt Bits) ℓ) : Prop :=
  True

def Pre_RouterKernelIdeal (m : (ℓ : Loc Cert.RouterKernelIdeal.nD Cert.RouterKernelIdeal.τ Cert.RouterKernelIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_CombineKernel (m : (ℓ : Loc Cert.CombineKernel.nD Cert.CombineKernel.τ Cert.CombineKernel.sig) → Buf (Elt Bits) ℓ) : Prop :=
  True

def Pre_CombineKernelIdeal (m : (ℓ : Loc Cert.CombineKernelIdeal.nD Cert.CombineKernelIdeal.τ Cert.CombineKernelIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ExpertsKernel [hPre_experts_named : Cert.Pre_experts_named.Facts] (m : (ℓ : Loc Cert.ExpertsKernel.nD Cert.ExpertsKernel.τ Cert.ExpertsKernel.sig) → Buf (Elt Bits) ℓ) : Prop :=
  ∀ c : Dev Cert.ExpertsKernel.nD,
    (Cert.Pre_experts_named.fn (F := Bits) (m ((c.tc : Thread Cert.ExpertsKernel.nD Cert.ExpertsKernel.τ).loc Cert.ExpertsKernel.main_arg0)) (m ((c.tc : Thread Cert.ExpertsKernel.nD Cert.ExpertsKernel.τ).loc Cert.ExpertsKernel.main_arg1)) (m ((c.tc : Thread Cert.ExpertsKernel.nD Cert.ExpertsKernel.τ).loc Cert.ExpertsKernel.main_arg2)) (m ((c.tc : Thread Cert.ExpertsKernel.nD Cert.ExpertsKernel.τ).loc Cert.ExpertsKernel.main_arg3)) (m ((c.tc : Thread Cert.ExpertsKernel.nD Cert.ExpertsKernel.τ).loc Cert.ExpertsKernel.main_arg4)) (m ((c.tc : Thread Cert.ExpertsKernel.nD Cert.ExpertsKernel.τ).loc Cert.ExpertsKernel.main_arg5)) (m ((c.tc : Thread Cert.ExpertsKernel.nD Cert.ExpertsKernel.τ).loc Cert.ExpertsKernel.main_arg6)) (m ((c.tc : Thread Cert.ExpertsKernel.nD Cert.ExpertsKernel.τ).loc Cert.ExpertsKernel.main_arg7))) = (fun _ => 1#1)

def Pre_ExpertsKernelIdeal [hPre_experts_named : Cert.Pre_experts_named.Facts] (m : (ℓ : Loc Cert.ExpertsKernelIdeal.nD Cert.ExpertsKernelIdeal.τ Cert.ExpertsKernelIdeal.sig) → Buf (Elt Ideal) ℓ) : Prop :=
  ∀ c : Dev Cert.ExpertsKernelIdeal.nD,
    (Cert.Pre_experts_named.fn (F := Ideal) (m ((c.tc : Thread Cert.ExpertsKernelIdeal.nD Cert.ExpertsKernelIdeal.τ).loc Cert.ExpertsKernelIdeal.main_arg0)) (m ((c.tc : Thread Cert.ExpertsKernelIdeal.nD Cert.ExpertsKernelIdeal.τ).loc Cert.ExpertsKernelIdeal.main_arg1)) (m ((c.tc : Thread Cert.ExpertsKernelIdeal.nD Cert.ExpertsKernelIdeal.τ).loc Cert.ExpertsKernelIdeal.main_arg2)) (m ((c.tc : Thread Cert.ExpertsKernelIdeal.nD Cert.ExpertsKernelIdeal.τ).loc Cert.ExpertsKernelIdeal.main_arg3)) (m ((c.tc : Thread Cert.ExpertsKernelIdeal.nD Cert.ExpertsKernelIdeal.τ).loc Cert.ExpertsKernelIdeal.main_arg4)) (m ((c.tc : Thread Cert.ExpertsKernelIdeal.nD Cert.ExpertsKernelIdeal.τ).loc Cert.ExpertsKernelIdeal.main_arg5)) (m ((c.tc : Thread Cert.ExpertsKernelIdeal.nD Cert.ExpertsKernelIdeal.τ).loc Cert.ExpertsKernelIdeal.main_arg6)) (m ((c.tc : Thread Cert.ExpertsKernelIdeal.nD Cert.ExpertsKernelIdeal.τ).loc Cert.ExpertsKernelIdeal.main_arg7))) = (fun _ => 1#1)

def Pre_ExpertsRefIdeal [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_OutputKernel [hOutputKernel : Cert.OutputKernel.Facts] : Prop :=
  ∀ (m : (ℓ : Loc Cert.OutputKernel.nD Cert.OutputKernel.τ Cert.OutputKernel.sig) → Buf (Elt Bits) ℓ) (g : Dev Cert.OutputKernel.nD → PrngReg), Pre_OutputKernel m →
    θ_run (Cert.OutputKernel.defs (F := Bits)) (onTc (τ := Cert.OutputKernel.τ) (Cert.OutputKernel.main (F := Bits))) ⟨m, fun _ => 0, g⟩ (fun r => (∀ c : Dev Cert.OutputKernel.nD,
      r.2.mem ((c.tc : Thread Cert.OutputKernel.nD Cert.OutputKernel.τ).loc Cert.OutputKernel.main_arg0) = m ((c.tc : Thread Cert.OutputKernel.nD Cert.OutputKernel.τ).loc Cert.OutputKernel.main_arg0)
      ∧ r.2.mem ((c.tc : Thread Cert.OutputKernel.nD Cert.OutputKernel.τ).loc Cert.OutputKernel.main_arg1) = m ((c.tc : Thread Cert.OutputKernel.nD Cert.OutputKernel.τ).loc Cert.OutputKernel.main_arg1)
      ∧ r.2.mem ((c.tc : Thread Cert.OutputKernel.nD Cert.OutputKernel.τ).loc Cert.OutputKernel.main_arg2) = m ((c.tc : Thread Cert.OutputKernel.nD Cert.OutputKernel.τ).loc Cert.OutputKernel.main_arg2)
      ∧ r.2.mem ((c.tc : Thread Cert.OutputKernel.nD Cert.OutputKernel.τ).loc Cert.OutputKernel.main_arg3) = m ((c.tc : Thread Cert.OutputKernel.nD Cert.OutputKernel.τ).loc Cert.OutputKernel.main_arg3))
      ∧ r.2.sem = fun _ => 0)

def quiescent_OutputKernelIdeal [hOutputKernelIdeal : Cert.OutputKernelIdeal.Facts] : Prop :=
  ∀ (m : (ℓ : Loc Cert.OutputKernelIdeal.nD Cert.OutputKernelIdeal.τ Cert.OutputKernelIdeal.sig) → Buf (Elt Ideal) ℓ) (g : Dev Cert.OutputKernelIdeal.nD → PrngReg), Pre_OutputKernelIdeal m →
    θ_run (Cert.OutputKernelIdeal.defs (F := Ideal)) (onTc (τ := Cert.OutputKernelIdeal.τ) (Cert.OutputKernelIdeal.main (F := Ideal))) ⟨m, fun _ => 0, g⟩ (fun r => (∀ c : Dev Cert.OutputKernelIdeal.nD,
      r.2.mem ((c.tc : Thread Cert.OutputKernelIdeal.nD Cert.OutputKernelIdeal.τ).loc Cert.OutputKernelIdeal.main_arg0) = m ((c.tc : Thread Cert.OutputKernelIdeal.nD Cert.OutputKernelIdeal.τ).loc Cert.OutputKernelIdeal.main_arg0)
      ∧ r.2.mem ((c.tc : Thread Cert.OutputKernelIdeal.nD Cert.OutputKernelIdeal.τ).loc Cert.OutputKernelIdeal.main_arg1) = m ((c.tc : Thread Cert.OutputKernelIdeal.nD Cert.OutputKernelIdeal.τ).loc Cert.OutputKernelIdeal.main_arg1)
      ∧ r.2.mem ((c.tc : Thread Cert.OutputKernelIdeal.nD Cert.OutputKernelIdeal.τ).loc Cert.OutputKernelIdeal.main_arg2) = m ((c.tc : Thread Cert.OutputKernelIdeal.nD Cert.OutputKernelIdeal.τ).loc Cert.OutputKernelIdeal.main_arg2)
      ∧ r.2.mem ((c.tc : Thread Cert.OutputKernelIdeal.nD Cert.OutputKernelIdeal.τ).loc Cert.OutputKernelIdeal.main_arg3) = m ((c.tc : Thread Cert.OutputKernelIdeal.nD Cert.OutputKernelIdeal.τ).loc Cert.OutputKernelIdeal.main_arg3))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_ColumnsKernel [hColumnsKernel : Cert.ColumnsKernel.Facts] : Prop :=
  ∀ (m : (ℓ : Loc Cert.ColumnsKernel.nD Cert.ColumnsKernel.τ Cert.ColumnsKernel.sig) → Buf (Elt Bits) ℓ) (g : Dev Cert.ColumnsKernel.nD → PrngReg), Pre_ColumnsKernel m →
    θ_run (Cert.ColumnsKernel.defs (F := Bits)) (onTc (τ := Cert.ColumnsKernel.τ) (Cert.ColumnsKernel.main (F := Bits))) ⟨m, fun _ => 0, g⟩ (fun r => (∀ c : Dev Cert.ColumnsKernel.nD,
      r.2.mem ((c.tc : Thread Cert.ColumnsKernel.nD Cert.ColumnsKernel.τ).loc Cert.ColumnsKernel.main_arg0) = m ((c.tc : Thread Cert.ColumnsKernel.nD Cert.ColumnsKernel.τ).loc Cert.ColumnsKernel.main_arg0)
      ∧ r.2.mem ((c.tc : Thread Cert.ColumnsKernel.nD Cert.ColumnsKernel.τ).loc Cert.ColumnsKernel.main_arg1) = m ((c.tc : Thread Cert.ColumnsKernel.nD Cert.ColumnsKernel.τ).loc Cert.ColumnsKernel.main_arg1))
      ∧ r.2.sem = fun _ => 0)

def quiescent_ColumnsKernelIdeal [hColumnsKernelIdeal : Cert.ColumnsKernelIdeal.Facts] : Prop :=
  ∀ (m : (ℓ : Loc Cert.ColumnsKernelIdeal.nD Cert.ColumnsKernelIdeal.τ Cert.ColumnsKernelIdeal.sig) → Buf (Elt Ideal) ℓ) (g : Dev Cert.ColumnsKernelIdeal.nD → PrngReg), Pre_ColumnsKernelIdeal m →
    θ_run (Cert.ColumnsKernelIdeal.defs (F := Ideal)) (onTc (τ := Cert.ColumnsKernelIdeal.τ) (Cert.ColumnsKernelIdeal.main (F := Ideal))) ⟨m, fun _ => 0, g⟩ (fun r => (∀ c : Dev Cert.ColumnsKernelIdeal.nD,
      r.2.mem ((c.tc : Thread Cert.ColumnsKernelIdeal.nD Cert.ColumnsKernelIdeal.τ).loc Cert.ColumnsKernelIdeal.main_arg0) = m ((c.tc : Thread Cert.ColumnsKernelIdeal.nD Cert.ColumnsKernelIdeal.τ).loc Cert.ColumnsKernelIdeal.main_arg0)
      ∧ r.2.mem ((c.tc : Thread Cert.ColumnsKernelIdeal.nD Cert.ColumnsKernelIdeal.τ).loc Cert.ColumnsKernelIdeal.main_arg1) = m ((c.tc : Thread Cert.ColumnsKernelIdeal.nD Cert.ColumnsKernelIdeal.τ).loc Cert.ColumnsKernelIdeal.main_arg1))
      ∧ r.2.sem = fun _ => 0)

def quiescent_ColumnsRefIdeal [hColumnsRefIdeal : Cert.ColumnsRefIdeal.Facts] : Prop :=
  ∀ (m : (ℓ : Loc Cert.ColumnsRefIdeal.nD Cert.ColumnsRefIdeal.τ Cert.ColumnsRefIdeal.sig) → Buf (Elt Ideal) ℓ) (g : Dev Cert.ColumnsRefIdeal.nD → PrngReg), Pre_ColumnsRefIdeal m →
    θ_run (Cert.ColumnsRefIdeal.defs (F := Ideal)) (onTc (τ := Cert.ColumnsRefIdeal.τ) (Cert.ColumnsRefIdeal.main (F := Ideal))) ⟨m, fun _ => 0, g⟩ (fun r => (∀ c : Dev Cert.ColumnsRefIdeal.nD,
      r.2.mem ((c.tc : Thread Cert.ColumnsRefIdeal.nD Cert.ColumnsRefIdeal.τ).loc Cert.ColumnsRefIdeal.main_arg0) = m ((c.tc : Thread Cert.ColumnsRefIdeal.nD Cert.ColumnsRefIdeal.τ).loc Cert.ColumnsRefIdeal.main_arg0)
      ∧ r.2.mem ((c.tc : Thread Cert.ColumnsRefIdeal.nD Cert.ColumnsRefIdeal.τ).loc Cert.ColumnsRefIdeal.main_arg1) = m ((c.tc : Thread Cert.ColumnsRefIdeal.nD Cert.ColumnsRefIdeal.τ).loc Cert.ColumnsRefIdeal.main_arg1))
      ∧ r.2.sem = fun _ => 0)

def quiescent_ShortKernel [hShortKernel : Cert.ShortKernel.Facts] : Prop :=
  ∀ (m : (ℓ : Loc Cert.ShortKernel.nD Cert.ShortKernel.τ Cert.ShortKernel.sig) → Buf (Elt Bits) ℓ) (g : Dev Cert.ShortKernel.nD → PrngReg), Pre_ShortKernel m →
    θ_run (Cert.ShortKernel.defs (F := Bits)) (onTc (τ := Cert.ShortKernel.τ) (Cert.ShortKernel.main (F := Bits))) ⟨m, fun _ => 0, g⟩ (fun r => (∀ c : Dev Cert.ShortKernel.nD,
      r.2.mem ((c.tc : Thread Cert.ShortKernel.nD Cert.ShortKernel.τ).loc Cert.ShortKernel.main_arg0) = m ((c.tc : Thread Cert.ShortKernel.nD Cert.ShortKernel.τ).loc Cert.ShortKernel.main_arg0)
      ∧ r.2.mem ((c.tc : Thread Cert.ShortKernel.nD Cert.ShortKernel.τ).loc Cert.ShortKernel.main_arg1) = m ((c.tc : Thread Cert.ShortKernel.nD Cert.ShortKernel.τ).loc Cert.ShortKernel.main_arg1))
      ∧ r.2.sem = fun _ => 0)

def quiescent_ShortKernelIdeal [hShortKernelIdeal : Cert.ShortKernelIdeal.Facts] : Prop :=
  ∀ (m : (ℓ : Loc Cert.ShortKernelIdeal.nD Cert.ShortKernelIdeal.τ Cert.ShortKernelIdeal.sig) → Buf (Elt Ideal) ℓ) (g : Dev Cert.ShortKernelIdeal.nD → PrngReg), Pre_ShortKernelIdeal m →
    θ_run (Cert.ShortKernelIdeal.defs (F := Ideal)) (onTc (τ := Cert.ShortKernelIdeal.τ) (Cert.ShortKernelIdeal.main (F := Ideal))) ⟨m, fun _ => 0, g⟩ (fun r => (∀ c : Dev Cert.ShortKernelIdeal.nD,
      r.2.mem ((c.tc : Thread Cert.ShortKernelIdeal.nD Cert.ShortKernelIdeal.τ).loc Cert.ShortKernelIdeal.main_arg0) = m ((c.tc : Thread Cert.ShortKernelIdeal.nD Cert.ShortKernelIdeal.τ).loc Cert.ShortKernelIdeal.main_arg0)
      ∧ r.2.mem ((c.tc : Thread Cert.ShortKernelIdeal.nD Cert.ShortKernelIdeal.τ).loc Cert.ShortKernelIdeal.main_arg1) = m ((c.tc : Thread Cert.ShortKernelIdeal.nD Cert.ShortKernelIdeal.τ).loc Cert.ShortKernelIdeal.main_arg1))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1))
      ∧ r.2.sem = fun _ => 0)

def quiescent_HeadsKernel [hHeadsKernel : Cert.HeadsKernel.Facts] : Prop :=
  ∀ (m : (ℓ : Loc Cert.HeadsKernel.nD Cert.HeadsKernel.τ Cert.HeadsKernel.sig) → Buf (Elt Bits) ℓ) (g : Dev Cert.HeadsKernel.nD → PrngReg), Pre_HeadsKernel m →
    θ_run (Cert.HeadsKernel.defs (F := Bits)) (onTc (τ := Cert.HeadsKernel.τ) (Cert.HeadsKernel.main (F := Bits))) ⟨m, fun _ => 0, g⟩ (fun r => (∀ c : Dev Cert.HeadsKernel.nD,
      r.2.mem ((c.tc : Thread Cert.HeadsKernel.nD Cert.HeadsKernel.τ).loc Cert.HeadsKernel.main_arg0) = m ((c.tc : Thread Cert.HeadsKernel.nD Cert.HeadsKernel.τ).loc Cert.HeadsKernel.main_arg0)
      ∧ r.2.mem ((c.tc : Thread Cert.HeadsKernel.nD Cert.HeadsKernel.τ).loc Cert.HeadsKernel.main_arg1) = m ((c.tc : Thread Cert.HeadsKernel.nD Cert.HeadsKernel.τ).loc Cert.HeadsKernel.main_arg1))
      ∧ r.2.sem = fun _ => 0)

def quiescent_HeadsKernelIdeal [hHeadsKernelIdeal : Cert.HeadsKernelIdeal.Facts] : Prop :=
  ∀ (m : (ℓ : Loc Cert.HeadsKernelIdeal.nD Cert.HeadsKernelIdeal.τ Cert.HeadsKernelIdeal.sig) → Buf (Elt Ideal) ℓ) (g : Dev Cert.HeadsKernelIdeal.nD → PrngReg), Pre_HeadsKernelIdeal m →
    θ_run (Cert.HeadsKernelIdeal.defs (F := Ideal)) (onTc (τ := Cert.HeadsKernelIdeal.τ) (Cert.HeadsKernelIdeal.main (F := Ideal))) ⟨m, fun _ => 0, g⟩ (fun r => (∀ c : Dev Cert.HeadsKernelIdeal.nD,
      r.2.mem ((c.tc : Thread Cert.HeadsKernelIdeal.nD Cert.HeadsKernelIdeal.τ).loc Cert.HeadsKernelIdeal.main_arg0) = m ((c.tc : Thread Cert.HeadsKernelIdeal.nD Cert.HeadsKernelIdeal.τ).loc Cert.HeadsKernelIdeal.main_arg0)
      ∧ r.2.mem ((c.tc : Thread Cert.HeadsKernelIdeal.nD Cert.HeadsKernelIdeal.τ).loc Cert.HeadsKernelIdeal.main_arg1) = m ((c.tc : Thread Cert.HeadsKernelIdeal.nD Cert.HeadsKernelIdeal.τ).loc Cert.HeadsKernelIdeal.main_arg1))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_RouterKernel [hRouterKernel : Cert.RouterKernel.Facts] : Prop :=
  ∀ (m : (ℓ : Loc Cert.RouterKernel.nD Cert.RouterKernel.τ Cert.RouterKernel.sig) → Buf (Elt Bits) ℓ) (g : Dev Cert.RouterKernel.nD → PrngReg), Pre_RouterKernel m →
    θ_run (Cert.RouterKernel.defs (F := Bits)) (onTc (τ := Cert.RouterKernel.τ) (Cert.RouterKernel.main (F := Bits))) ⟨m, fun _ => 0, g⟩ (fun r => (∀ c : Dev Cert.RouterKernel.nD,
      r.2.mem ((c.tc : Thread Cert.RouterKernel.nD Cert.RouterKernel.τ).loc Cert.RouterKernel.main_arg0) = m ((c.tc : Thread Cert.RouterKernel.nD Cert.RouterKernel.τ).loc Cert.RouterKernel.main_arg0)
      ∧ r.2.mem ((c.tc : Thread Cert.RouterKernel.nD Cert.RouterKernel.τ).loc Cert.RouterKernel.main_arg1) = m ((c.tc : Thread Cert.RouterKernel.nD Cert.RouterKernel.τ).loc Cert.RouterKernel.main_arg1)
      ∧ r.2.mem ((c.tc : Thread Cert.RouterKernel.nD Cert.RouterKernel.τ).loc Cert.RouterKernel.main_arg2) = m ((c.tc : Thread Cert.RouterKernel.nD Cert.RouterKernel.τ).loc Cert.RouterKernel.main_arg2)
      ∧ r.2.mem ((c.tc : Thread Cert.RouterKernel.nD Cert.RouterKernel.τ).loc Cert.RouterKernel.main_arg3) = m ((c.tc : Thread Cert.RouterKernel.nD Cert.RouterKernel.τ).loc Cert.RouterKernel.main_arg3)
      ∧ r.2.mem ((c.tc : Thread Cert.RouterKernel.nD Cert.RouterKernel.τ).loc Cert.RouterKernel.main_arg4) = m ((c.tc : Thread Cert.RouterKernel.nD Cert.RouterKernel.τ).loc Cert.RouterKernel.main_arg4)
      ∧ r.2.mem ((c.tc : Thread Cert.RouterKernel.nD Cert.RouterKernel.τ).loc Cert.RouterKernel.main_arg5) = m ((c.tc : Thread Cert.RouterKernel.nD Cert.RouterKernel.τ).loc Cert.RouterKernel.main_arg5))
      ∧ r.2.sem = fun _ => 0)

def quiescent_RouterKernelIdeal [hRouterKernelIdeal : Cert.RouterKernelIdeal.Facts] : Prop :=
  ∀ (m : (ℓ : Loc Cert.RouterKernelIdeal.nD Cert.RouterKernelIdeal.τ Cert.RouterKernelIdeal.sig) → Buf (Elt Ideal) ℓ) (g : Dev Cert.RouterKernelIdeal.nD → PrngReg), Pre_RouterKernelIdeal m →
    θ_run (Cert.RouterKernelIdeal.defs (F := Ideal)) (onTc (τ := Cert.RouterKernelIdeal.τ) (Cert.RouterKernelIdeal.main (F := Ideal))) ⟨m, fun _ => 0, g⟩ (fun r => (∀ c : Dev Cert.RouterKernelIdeal.nD,
      r.2.mem ((c.tc : Thread Cert.RouterKernelIdeal.nD Cert.RouterKernelIdeal.τ).loc Cert.RouterKernelIdeal.main_arg0) = m ((c.tc : Thread Cert.RouterKernelIdeal.nD Cert.RouterKernelIdeal.τ).loc Cert.RouterKernelIdeal.main_arg0)
      ∧ r.2.mem ((c.tc : Thread Cert.RouterKernelIdeal.nD Cert.RouterKernelIdeal.τ).loc Cert.RouterKernelIdeal.main_arg1) = m ((c.tc : Thread Cert.RouterKernelIdeal.nD Cert.RouterKernelIdeal.τ).loc Cert.RouterKernelIdeal.main_arg1)
      ∧ r.2.mem ((c.tc : Thread Cert.RouterKernelIdeal.nD Cert.RouterKernelIdeal.τ).loc Cert.RouterKernelIdeal.main_arg2) = m ((c.tc : Thread Cert.RouterKernelIdeal.nD Cert.RouterKernelIdeal.τ).loc Cert.RouterKernelIdeal.main_arg2)
      ∧ r.2.mem ((c.tc : Thread Cert.RouterKernelIdeal.nD Cert.RouterKernelIdeal.τ).loc Cert.RouterKernelIdeal.main_arg3) = m ((c.tc : Thread Cert.RouterKernelIdeal.nD Cert.RouterKernelIdeal.τ).loc Cert.RouterKernelIdeal.main_arg3)
      ∧ r.2.mem ((c.tc : Thread Cert.RouterKernelIdeal.nD Cert.RouterKernelIdeal.τ).loc Cert.RouterKernelIdeal.main_arg4) = m ((c.tc : Thread Cert.RouterKernelIdeal.nD Cert.RouterKernelIdeal.τ).loc Cert.RouterKernelIdeal.main_arg4)
      ∧ r.2.mem ((c.tc : Thread Cert.RouterKernelIdeal.nD Cert.RouterKernelIdeal.τ).loc Cert.RouterKernelIdeal.main_arg5) = m ((c.tc : Thread Cert.RouterKernelIdeal.nD Cert.RouterKernelIdeal.τ).loc Cert.RouterKernelIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_CombineKernel [hCombineKernel : Cert.CombineKernel.Facts] : Prop :=
  ∀ (m : (ℓ : Loc Cert.CombineKernel.nD Cert.CombineKernel.τ Cert.CombineKernel.sig) → Buf (Elt Bits) ℓ) (g : Dev Cert.CombineKernel.nD → PrngReg), Pre_CombineKernel m →
    θ_run (Cert.CombineKernel.defs (F := Bits)) (onTc (τ := Cert.CombineKernel.τ) (Cert.CombineKernel.main (F := Bits))) ⟨m, fun _ => 0, g⟩ (fun r => (∀ c : Dev Cert.CombineKernel.nD,
      r.2.mem ((c.tc : Thread Cert.CombineKernel.nD Cert.CombineKernel.τ).loc Cert.CombineKernel.main_arg0) = m ((c.tc : Thread Cert.CombineKernel.nD Cert.CombineKernel.τ).loc Cert.CombineKernel.main_arg0)
      ∧ r.2.mem ((c.tc : Thread Cert.CombineKernel.nD Cert.CombineKernel.τ).loc Cert.CombineKernel.main_arg1) = m ((c.tc : Thread Cert.CombineKernel.nD Cert.CombineKernel.τ).loc Cert.CombineKernel.main_arg1)
      ∧ r.2.mem ((c.tc : Thread Cert.CombineKernel.nD Cert.CombineKernel.τ).loc Cert.CombineKernel.main_arg2) = m ((c.tc : Thread Cert.CombineKernel.nD Cert.CombineKernel.τ).loc Cert.CombineKernel.main_arg2))
      ∧ r.2.sem = fun _ => 0)

def quiescent_CombineKernelIdeal [hCombineKernelIdeal : Cert.CombineKernelIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ExpertsKernel [hExpertsKernel : Cert.ExpertsKernel.Facts] [hPre_experts_named : Cert.Pre_experts_named.Facts] : Prop :=
  ∀ (m : (ℓ : Loc Cert.ExpertsKernel.nD Cert.ExpertsKernel.τ Cert.ExpertsKernel.sig) → Buf (Elt Bits) ℓ) (g : Dev Cert.ExpertsKernel.nD → PrngReg), Pre_ExpertsKernel m →
    θ_run (Cert.ExpertsKernel.defs (F := Bits)) (onTc (τ := Cert.ExpertsKernel.τ) (Cert.ExpertsKernel.main (F := Bits))) ⟨m, fun _ => 0, g⟩ (fun r => (∀ c : Dev Cert.ExpertsKernel.nD,
      r.2.mem ((c.tc : Thread Cert.ExpertsKernel.nD Cert.ExpertsKernel.τ).loc Cert.ExpertsKernel.main_arg0) = m ((c.tc : Thread Cert.ExpertsKernel.nD Cert.ExpertsKernel.τ).loc Cert.ExpertsKernel.main_arg0)
      ∧ r.2.mem ((c.tc : Thread Cert.ExpertsKernel.nD Cert.ExpertsKernel.τ).loc Cert.ExpertsKernel.main_arg1) = m ((c.tc : Thread Cert.ExpertsKernel.nD Cert.ExpertsKernel.τ).loc Cert.ExpertsKernel.main_arg1)
      ∧ r.2.mem ((c.tc : Thread Cert.ExpertsKernel.nD Cert.ExpertsKernel.τ).loc Cert.ExpertsKernel.main_arg2) = m ((c.tc : Thread Cert.ExpertsKernel.nD Cert.ExpertsKernel.τ).loc Cert.ExpertsKernel.main_arg2)
      ∧ r.2.mem ((c.tc : Thread Cert.ExpertsKernel.nD Cert.ExpertsKernel.τ).loc Cert.ExpertsKernel.main_arg3) = m ((c.tc : Thread Cert.ExpertsKernel.nD Cert.ExpertsKernel.τ).loc Cert.ExpertsKernel.main_arg3)
      ∧ r.2.mem ((c.tc : Thread Cert.ExpertsKernel.nD Cert.ExpertsKernel.τ).loc Cert.ExpertsKernel.main_arg4) = m ((c.tc : Thread Cert.ExpertsKernel.nD Cert.ExpertsKernel.τ).loc Cert.ExpertsKernel.main_arg4)
      ∧ r.2.mem ((c.tc : Thread Cert.ExpertsKernel.nD Cert.ExpertsKernel.τ).loc Cert.ExpertsKernel.main_arg5) = m ((c.tc : Thread Cert.ExpertsKernel.nD Cert.ExpertsKernel.τ).loc Cert.ExpertsKernel.main_arg5)
      ∧ r.2.mem ((c.tc : Thread Cert.ExpertsKernel.nD Cert.ExpertsKernel.τ).loc Cert.ExpertsKernel.main_arg6) = m ((c.tc : Thread Cert.ExpertsKernel.nD Cert.ExpertsKernel.τ).loc Cert.ExpertsKernel.main_arg6)
      ∧ r.2.mem ((c.tc : Thread Cert.ExpertsKernel.nD Cert.ExpertsKernel.τ).loc Cert.ExpertsKernel.main_arg7) = m ((c.tc : Thread Cert.ExpertsKernel.nD Cert.ExpertsKernel.τ).loc Cert.ExpertsKernel.main_arg7))
      ∧ r.2.sem = fun _ => 0)

def quiescent_ExpertsKernelIdeal [hExpertsKernelIdeal : Cert.ExpertsKernelIdeal.Facts] [hPre_experts_named : Cert.Pre_experts_named.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg), Pre_ExpertsKernelIdeal m →
    θ_run (Cert.ExpertsKernelIdeal.defs (F := Ideal)) (onTc (τ := Cert.ExpertsKernelIdeal.τ) (Cert.ExpertsKernelIdeal.main (F := Ideal))) ⟨m, fun _ => 0, g⟩ (fun r => (∀ c : Dev Cert.ExpertsKernelIdeal.nD,
      r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
      ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
      ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
      ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
      ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
      ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5)
      ∧ r.2.mem ((c.tc : Thread Cert.ExpertsKernelIdeal.nD Cert.ExpertsKernelIdeal.τ).loc Cert.ExpertsKernelIdeal.main_arg6) = m ((c.tc : Thread Cert.ExpertsKernelIdeal.nD Cert.ExpertsKernelIdeal.τ).loc Cert.ExpertsKernelIdeal.main_arg6)
      ∧ r.2.mem ((c.tc : Thread Cert.ExpertsKernelIdeal.nD Cert.ExpertsKernelIdeal.τ).loc Cert.ExpertsKernelIdeal.main_arg7) = m ((c.tc : Thread Cert.ExpertsKernelIdeal.nD Cert.ExpertsKernelIdeal.τ).loc Cert.ExpertsKernelIdeal.main_arg7))
      ∧ r.2.sem = fun _ => 0)

def quiescent_ExpertsRefIdeal [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v85_7) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GatesKernel_GatesKernelIdeal : Prop :=
  True

def algebraic_GatesKernelIdeal_GatesRefIdeal [hGatesKernelIdeal : Cert.GatesKernelIdeal.Facts] [hGatesRefIdeal : Cert.GatesRefIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesKernelIdeal m →
    (∀ c : Dev Cert.GatesKernelIdeal.nD,
      m' ((c.tc : Thread Cert.GatesRefIdeal.nD Cert.GatesRefIdeal.τ).loc Cert.GatesRefIdeal.main_arg0) = m ((c.tc : Thread Cert.GatesKernelIdeal.nD Cert.GatesKernelIdeal.τ).loc Cert.GatesKernelIdeal.main_arg0)
      ∧ m' ((c.tc : Thread Cert.GatesRefIdeal.nD Cert.GatesRefIdeal.τ).loc Cert.GatesRefIdeal.main_arg1) = m ((c.tc : Thread Cert.GatesKernelIdeal.nD Cert.GatesKernelIdeal.τ).loc Cert.GatesKernelIdeal.main_arg1)) →
    ∃ (v0 : (c : Dev Cert.GatesKernelIdeal.nD) → Buf (Elt Ideal) ((c.tc : Thread Cert.GatesKernelIdeal.nD Cert.GatesKernelIdeal.τ).loc Cert.GatesKernelIdeal.main_v3)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v3) = v0 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v1) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_OutputKernel_OutputKernelIdeal : Prop :=
  True

def algebraic_OutputKernelIdeal_OutputRefIdeal [hOutputKernelIdeal : Cert.OutputKernelIdeal.Facts] [hOutputRefIdeal : Cert.OutputRefIdeal.Facts] : Prop :=
  ∀ (m : (ℓ : Loc Cert.OutputKernelIdeal.nD Cert.OutputKernelIdeal.τ Cert.OutputKernelIdeal.sig) → Buf (Elt Ideal) ℓ) (g : Dev Cert.OutputKernelIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputKernelIdeal m →
    (∀ c : Dev Cert.OutputKernelIdeal.nD,
      m' ((c.tc : Thread Cert.OutputRefIdeal.nD Cert.OutputRefIdeal.τ).loc Cert.OutputRefIdeal.main_arg0) = m ((c.tc : Thread Cert.OutputKernelIdeal.nD Cert.OutputKernelIdeal.τ).loc Cert.OutputKernelIdeal.main_arg0)
      ∧ m' ((c.tc : Thread Cert.OutputRefIdeal.nD Cert.OutputRefIdeal.τ).loc Cert.OutputRefIdeal.main_arg1) = m ((c.tc : Thread Cert.OutputKernelIdeal.nD Cert.OutputKernelIdeal.τ).loc Cert.OutputKernelIdeal.main_arg1)
      ∧ m' ((c.tc : Thread Cert.OutputRefIdeal.nD Cert.OutputRefIdeal.τ).loc Cert.OutputRefIdeal.main_arg2) = m ((c.tc : Thread Cert.OutputKernelIdeal.nD Cert.OutputKernelIdeal.τ).loc Cert.OutputKernelIdeal.main_arg2)
      ∧ m' ((c.tc : Thread Cert.OutputRefIdeal.nD Cert.OutputRefIdeal.τ).loc Cert.OutputRefIdeal.main_arg3) = m ((c.tc : Thread Cert.OutputKernelIdeal.nD Cert.OutputKernelIdeal.τ).loc Cert.OutputKernelIdeal.main_arg3)) →
    ∃ (v0 : (c : Dev Cert.OutputKernelIdeal.nD) → Buf (Elt Ideal) ((c.tc : Thread Cert.OutputKernelIdeal.nD Cert.OutputKernelIdeal.τ).loc Cert.OutputKernelIdeal.main_v3)),
      θ_run (Cert.OutputKernelIdeal.defs (F := Ideal)) (onTc (τ := Cert.OutputKernelIdeal.τ) (Cert.OutputKernelIdeal.main (F := Ideal))) ⟨m, fun _ => 0, g⟩ (fun r => ∀ c : Dev Cert.OutputKernelIdeal.nD,
          r.2.mem ((c.tc : Thread Cert.OutputKernelIdeal.nD Cert.OutputKernelIdeal.τ).loc Cert.OutputKernelIdeal.main_v3) = v0 c
          ∧ r.2.mem ((c.tc : Thread Cert.OutputKernelIdeal.nD Cert.OutputKernelIdeal.τ).loc Cert.OutputKernelIdeal.main_arg0) = m ((c.tc : Thread Cert.OutputKernelIdeal.nD Cert.OutputKernelIdeal.τ).loc Cert.OutputKernelIdeal.main_arg0)
          ∧ r.2.mem ((c.tc : Thread Cert.OutputKernelIdeal.nD Cert.OutputKernelIdeal.τ).loc Cert.OutputKernelIdeal.main_arg1) = m ((c.tc : Thread Cert.OutputKernelIdeal.nD Cert.OutputKernelIdeal.τ).loc Cert.OutputKernelIdeal.main_arg1)
          ∧ r.2.mem ((c.tc : Thread Cert.OutputKernelIdeal.nD Cert.OutputKernelIdeal.τ).loc Cert.OutputKernelIdeal.main_arg2) = m ((c.tc : Thread Cert.OutputKernelIdeal.nD Cert.OutputKernelIdeal.τ).loc Cert.OutputKernelIdeal.main_arg2)
          ∧ r.2.mem ((c.tc : Thread Cert.OutputKernelIdeal.nD Cert.OutputKernelIdeal.τ).loc Cert.OutputKernelIdeal.main_arg3) = m ((c.tc : Thread Cert.OutputKernelIdeal.nD Cert.OutputKernelIdeal.τ).loc Cert.OutputKernelIdeal.main_arg3))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v4) = v0 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3))

def preserves_MergeKernel_MergeKernelIdeal : Prop :=
  True

def algebraic_MergeKernelIdeal_MergeRefIdeal [hMergeKernelIdeal : Cert.MergeKernelIdeal.Facts] [hMergeRefIdeal : Cert.MergeRefIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeKernelIdeal m →
    (∀ c : Dev Cert.MergeKernelIdeal.nD,
      m' ((c.tc : Thread Cert.MergeRefIdeal.nD Cert.MergeRefIdeal.τ).loc Cert.MergeRefIdeal.main_arg0) = m ((c.tc : Thread Cert.MergeKernelIdeal.nD Cert.MergeKernelIdeal.τ).loc Cert.MergeKernelIdeal.main_arg0)
      ∧ m' ((c.tc : Thread Cert.MergeRefIdeal.nD Cert.MergeRefIdeal.τ).loc Cert.MergeRefIdeal.main_arg1) = m ((c.tc : Thread Cert.MergeKernelIdeal.nD Cert.MergeKernelIdeal.τ).loc Cert.MergeKernelIdeal.main_arg1)
      ∧ m' ((c.tc : Thread Cert.MergeRefIdeal.nD Cert.MergeRefIdeal.τ).loc Cert.MergeRefIdeal.main_arg2) = m ((c.tc : Thread Cert.MergeKernelIdeal.nD Cert.MergeKernelIdeal.τ).loc Cert.MergeKernelIdeal.main_arg2)
      ∧ m' ((c.tc : Thread Cert.MergeRefIdeal.nD Cert.MergeRefIdeal.τ).loc Cert.MergeRefIdeal.main_arg3) = m ((c.tc : Thread Cert.MergeKernelIdeal.nD Cert.MergeKernelIdeal.τ).loc Cert.MergeKernelIdeal.main_arg3)
      ∧ m' ((c.tc : Thread Cert.MergeRefIdeal.nD Cert.MergeRefIdeal.τ).loc Cert.MergeRefIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v1) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_ColumnsKernel_ColumnsKernelIdeal : Prop :=
  True

def algebraic_ColumnsKernelIdeal_ColumnsRefIdeal [hColumnsKernelIdeal : Cert.ColumnsKernelIdeal.Facts] [hColumnsRefIdeal : Cert.ColumnsRefIdeal.Facts] : Prop :=
  ∀ (m : (ℓ : Loc Cert.ColumnsKernelIdeal.nD Cert.ColumnsKernelIdeal.τ Cert.ColumnsKernelIdeal.sig) → Buf (Elt Ideal) ℓ) (g : Dev Cert.ColumnsKernelIdeal.nD → PrngReg)
    (m' : (ℓ : Loc Cert.ColumnsRefIdeal.nD Cert.ColumnsRefIdeal.τ Cert.ColumnsRefIdeal.sig) → Buf (Elt Ideal) ℓ) (g' : Dev Cert.ColumnsRefIdeal.nD → PrngReg), Pre_ColumnsKernelIdeal m →
    (∀ c : Dev Cert.ColumnsKernelIdeal.nD,
      m' ((c.tc : Thread Cert.ColumnsRefIdeal.nD Cert.ColumnsRefIdeal.τ).loc Cert.ColumnsRefIdeal.main_arg0) = m ((c.tc : Thread Cert.ColumnsKernelIdeal.nD Cert.ColumnsKernelIdeal.τ).loc Cert.ColumnsKernelIdeal.main_arg0)
      ∧ m' ((c.tc : Thread Cert.ColumnsRefIdeal.nD Cert.ColumnsRefIdeal.τ).loc Cert.ColumnsRefIdeal.main_arg1) = m ((c.tc : Thread Cert.ColumnsKernelIdeal.nD Cert.ColumnsKernelIdeal.τ).loc Cert.ColumnsKernelIdeal.main_arg1)) →
    ∃ (v0 : (c : Dev Cert.ColumnsKernelIdeal.nD) → Buf (Elt Ideal) ((c.tc : Thread Cert.ColumnsKernelIdeal.nD Cert.ColumnsKernelIdeal.τ).loc Cert.ColumnsKernelIdeal.main_v2)),
      θ_run (Cert.ColumnsKernelIdeal.defs (F := Ideal)) (onTc (τ := Cert.ColumnsKernelIdeal.τ) (Cert.ColumnsKernelIdeal.main (F := Ideal))) ⟨m, fun _ => 0, g⟩ (fun r => ∀ c : Dev Cert.ColumnsKernelIdeal.nD,
          r.2.mem ((c.tc : Thread Cert.ColumnsKernelIdeal.nD Cert.ColumnsKernelIdeal.τ).loc Cert.ColumnsKernelIdeal.main_v2) = v0 c
          ∧ r.2.mem ((c.tc : Thread Cert.ColumnsKernelIdeal.nD Cert.ColumnsKernelIdeal.τ).loc Cert.ColumnsKernelIdeal.main_arg0) = m ((c.tc : Thread Cert.ColumnsKernelIdeal.nD Cert.ColumnsKernelIdeal.τ).loc Cert.ColumnsKernelIdeal.main_arg0)
          ∧ r.2.mem ((c.tc : Thread Cert.ColumnsKernelIdeal.nD Cert.ColumnsKernelIdeal.τ).loc Cert.ColumnsKernelIdeal.main_arg1) = m ((c.tc : Thread Cert.ColumnsKernelIdeal.nD Cert.ColumnsKernelIdeal.τ).loc Cert.ColumnsKernelIdeal.main_arg1))
      ∧ θ_run (Cert.ColumnsRefIdeal.defs (F := Ideal)) (onTc (τ := Cert.ColumnsRefIdeal.τ) (Cert.ColumnsRefIdeal.main (F := Ideal))) ⟨m', fun _ => 0, g'⟩ (fun r => ∀ c : Dev Cert.ColumnsRefIdeal.nD,
          r.2.mem ((c.tc : Thread Cert.ColumnsRefIdeal.nD Cert.ColumnsRefIdeal.τ).loc Cert.ColumnsRefIdeal.main_v2) = v0 c
          ∧ r.2.mem ((c.tc : Thread Cert.ColumnsRefIdeal.nD Cert.ColumnsRefIdeal.τ).loc Cert.ColumnsRefIdeal.main_arg0) = m' ((c.tc : Thread Cert.ColumnsRefIdeal.nD Cert.ColumnsRefIdeal.τ).loc Cert.ColumnsRefIdeal.main_arg0)
          ∧ r.2.mem ((c.tc : Thread Cert.ColumnsRefIdeal.nD Cert.ColumnsRefIdeal.τ).loc Cert.ColumnsRefIdeal.main_arg1) = m' ((c.tc : Thread Cert.ColumnsRefIdeal.nD Cert.ColumnsRefIdeal.τ).loc Cert.ColumnsRefIdeal.main_arg1))

def preserves_ShortKernel_ShortKernelIdeal : Prop :=
  True

def algebraic_ShortKernelIdeal_ShortRefIdeal [hShortKernelIdeal : Cert.ShortKernelIdeal.Facts] [hShortRefIdeal : Cert.ShortRefIdeal.Facts] : Prop :=
  ∀ (m : (ℓ : Loc Cert.ShortKernelIdeal.nD Cert.ShortKernelIdeal.τ Cert.ShortKernelIdeal.sig) → Buf (Elt Ideal) ℓ) (g : Dev Cert.ShortKernelIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortKernelIdeal m →
    (∀ c : Dev Cert.ShortKernelIdeal.nD,
      m' ((c.tc : Thread Cert.ShortRefIdeal.nD Cert.ShortRefIdeal.τ).loc Cert.ShortRefIdeal.main_arg0) = m ((c.tc : Thread Cert.ShortKernelIdeal.nD Cert.ShortKernelIdeal.τ).loc Cert.ShortKernelIdeal.main_arg0)
      ∧ m' ((c.tc : Thread Cert.ShortRefIdeal.nD Cert.ShortRefIdeal.τ).loc Cert.ShortRefIdeal.main_arg1) = m ((c.tc : Thread Cert.ShortKernelIdeal.nD Cert.ShortKernelIdeal.τ).loc Cert.ShortKernelIdeal.main_arg1)) →
    ∃ (v0 : (c : Dev Cert.ShortKernelIdeal.nD) → Buf (Elt Ideal) ((c.tc : Thread Cert.ShortKernelIdeal.nD Cert.ShortKernelIdeal.τ).loc Cert.ShortKernelIdeal.main_v3)),
      θ_run (Cert.ShortKernelIdeal.defs (F := Ideal)) (onTc (τ := Cert.ShortKernelIdeal.τ) (Cert.ShortKernelIdeal.main (F := Ideal))) ⟨m, fun _ => 0, g⟩ (fun r => ∀ c : Dev Cert.ShortKernelIdeal.nD,
          r.2.mem ((c.tc : Thread Cert.ShortKernelIdeal.nD Cert.ShortKernelIdeal.τ).loc Cert.ShortKernelIdeal.main_v3) = v0 c
          ∧ r.2.mem ((c.tc : Thread Cert.ShortKernelIdeal.nD Cert.ShortKernelIdeal.τ).loc Cert.ShortKernelIdeal.main_arg0) = m ((c.tc : Thread Cert.ShortKernelIdeal.nD Cert.ShortKernelIdeal.τ).loc Cert.ShortKernelIdeal.main_arg0)
          ∧ r.2.mem ((c.tc : Thread Cert.ShortKernelIdeal.nD Cert.ShortKernelIdeal.τ).loc Cert.ShortKernelIdeal.main_arg1) = m ((c.tc : Thread Cert.ShortKernelIdeal.nD Cert.ShortKernelIdeal.τ).loc Cert.ShortKernelIdeal.main_arg1))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v1) = v0 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1))

def preserves_HeadsKernel_HeadsKernelIdeal : Prop :=
  True

def algebraic_HeadsKernelIdeal_HeadsRefIdeal [hHeadsKernelIdeal : Cert.HeadsKernelIdeal.Facts] [hHeadsRefIdeal : Cert.HeadsRefIdeal.Facts] : Prop :=
  ∀ (m : (ℓ : Loc Cert.HeadsKernelIdeal.nD Cert.HeadsKernelIdeal.τ Cert.HeadsKernelIdeal.sig) → Buf (Elt Ideal) ℓ) (g : Dev Cert.HeadsKernelIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsKernelIdeal m →
    (∀ c : Dev Cert.HeadsKernelIdeal.nD,
      m' ((c.tc : Thread Cert.HeadsRefIdeal.nD Cert.HeadsRefIdeal.τ).loc Cert.HeadsRefIdeal.main_arg0) = m ((c.tc : Thread Cert.HeadsKernelIdeal.nD Cert.HeadsKernelIdeal.τ).loc Cert.HeadsKernelIdeal.main_arg0)
      ∧ m' ((c.tc : Thread Cert.HeadsRefIdeal.nD Cert.HeadsRefIdeal.τ).loc Cert.HeadsRefIdeal.main_arg1) = m ((c.tc : Thread Cert.HeadsKernelIdeal.nD Cert.HeadsKernelIdeal.τ).loc Cert.HeadsKernelIdeal.main_arg1)) →
    ∃ (v0 : (c : Dev Cert.HeadsKernelIdeal.nD) → Buf (Elt Ideal) ((c.tc : Thread Cert.HeadsKernelIdeal.nD Cert.HeadsKernelIdeal.τ).loc Cert.HeadsKernelIdeal.main_v2)),
      θ_run (Cert.HeadsKernelIdeal.defs (F := Ideal)) (onTc (τ := Cert.HeadsKernelIdeal.τ) (Cert.HeadsKernelIdeal.main (F := Ideal))) ⟨m, fun _ => 0, g⟩ (fun r => ∀ c : Dev Cert.HeadsKernelIdeal.nD,
          r.2.mem ((c.tc : Thread Cert.HeadsKernelIdeal.nD Cert.HeadsKernelIdeal.τ).loc Cert.HeadsKernelIdeal.main_v2) = v0 c
          ∧ r.2.mem ((c.tc : Thread Cert.HeadsKernelIdeal.nD Cert.HeadsKernelIdeal.τ).loc Cert.HeadsKernelIdeal.main_arg0) = m ((c.tc : Thread Cert.HeadsKernelIdeal.nD Cert.HeadsKernelIdeal.τ).loc Cert.HeadsKernelIdeal.main_arg0)
          ∧ r.2.mem ((c.tc : Thread Cert.HeadsKernelIdeal.nD Cert.HeadsKernelIdeal.τ).loc Cert.HeadsKernelIdeal.main_arg1) = m ((c.tc : Thread Cert.HeadsKernelIdeal.nD Cert.HeadsKernelIdeal.τ).loc Cert.HeadsKernelIdeal.main_arg1))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v0) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1))

def preserves_NormKernel_NormKernelIdeal : Prop :=
  True

def algebraic_NormKernelIdeal_NormRefIdeal [hNormKernelIdeal : Cert.NormKernelIdeal.Facts] [hNormRefIdeal : Cert.NormRefIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormKernelIdeal m →
    (∀ c : Dev Cert.NormKernelIdeal.nD,
      m' ((c.tc : Thread Cert.NormRefIdeal.nD Cert.NormRefIdeal.τ).loc Cert.NormRefIdeal.main_arg0) = m ((c.tc : Thread Cert.NormKernelIdeal.nD Cert.NormKernelIdeal.τ).loc Cert.NormKernelIdeal.main_arg0)
      ∧ m' ((c.tc : Thread Cert.NormRefIdeal.nD Cert.NormRefIdeal.τ).loc Cert.NormRefIdeal.main_arg1) = m ((c.tc : Thread Cert.NormKernelIdeal.nD Cert.NormKernelIdeal.τ).loc Cert.NormKernelIdeal.main_arg1)
      ∧ m' ((c.tc : Thread Cert.NormRefIdeal.nD Cert.NormRefIdeal.τ).loc Cert.NormRefIdeal.main_arg2) = m ((c.tc : Thread Cert.NormKernelIdeal.nD Cert.NormKernelIdeal.τ).loc Cert.NormKernelIdeal.main_arg2)
      ∧ m' ((c.tc : Thread Cert.NormRefIdeal.nD Cert.NormRefIdeal.τ).loc Cert.NormRefIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_RouterKernel_RouterKernelIdeal : Prop :=
  True

def algebraic_RouterKernelIdeal_RouterRefIdeal [hRouterKernelIdeal : Cert.RouterKernelIdeal.Facts] [hRouterRefIdeal : Cert.RouterRefIdeal.Facts] : Prop :=
  ∀ (m : (ℓ : Loc Cert.RouterKernelIdeal.nD Cert.RouterKernelIdeal.τ Cert.RouterKernelIdeal.sig) → Buf (Elt Ideal) ℓ) (g : Dev Cert.RouterKernelIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterKernelIdeal m →
    (∀ c : Dev Cert.RouterKernelIdeal.nD,
      m' ((c.tc : Thread Cert.RouterRefIdeal.nD Cert.RouterRefIdeal.τ).loc Cert.RouterRefIdeal.main_arg0) = m ((c.tc : Thread Cert.RouterKernelIdeal.nD Cert.RouterKernelIdeal.τ).loc Cert.RouterKernelIdeal.main_arg0)
      ∧ m' ((c.tc : Thread Cert.RouterRefIdeal.nD Cert.RouterRefIdeal.τ).loc Cert.RouterRefIdeal.main_arg1) = m ((c.tc : Thread Cert.RouterKernelIdeal.nD Cert.RouterKernelIdeal.τ).loc Cert.RouterKernelIdeal.main_arg1)
      ∧ m' ((c.tc : Thread Cert.RouterRefIdeal.nD Cert.RouterRefIdeal.τ).loc Cert.RouterRefIdeal.main_arg2) = m ((c.tc : Thread Cert.RouterKernelIdeal.nD Cert.RouterKernelIdeal.τ).loc Cert.RouterKernelIdeal.main_arg2)
      ∧ m' ((c.tc : Thread Cert.RouterRefIdeal.nD Cert.RouterRefIdeal.τ).loc Cert.RouterRefIdeal.main_arg3) = m ((c.tc : Thread Cert.RouterKernelIdeal.nD Cert.RouterKernelIdeal.τ).loc Cert.RouterKernelIdeal.main_arg3)
      ∧ m' ((c.tc : Thread Cert.RouterRefIdeal.nD Cert.RouterRefIdeal.τ).loc Cert.RouterRefIdeal.main_arg4) = m ((c.tc : Thread Cert.RouterKernelIdeal.nD Cert.RouterKernelIdeal.τ).loc Cert.RouterKernelIdeal.main_arg4)
      ∧ m' ((c.tc : Thread Cert.RouterRefIdeal.nD Cert.RouterRefIdeal.τ).loc Cert.RouterRefIdeal.main_arg5) = m ((c.tc : Thread Cert.RouterKernelIdeal.nD Cert.RouterKernelIdeal.τ).loc Cert.RouterKernelIdeal.main_arg5)) →
    ∃ (v0 : (c : Dev Cert.RouterKernelIdeal.nD) → Buf (Elt Ideal) ((c.tc : Thread Cert.RouterKernelIdeal.nD Cert.RouterKernelIdeal.τ).loc Cert.RouterKernelIdeal.main_v3_0)) (v1 : (c : Dev Cert.RouterKernelIdeal.nD) → Buf (Elt Ideal) ((c.tc : Thread Cert.RouterKernelIdeal.nD Cert.RouterKernelIdeal.τ).loc Cert.RouterKernelIdeal.main_v3_1)),
      θ_run (Cert.RouterKernelIdeal.defs (F := Ideal)) (onTc (τ := Cert.RouterKernelIdeal.τ) (Cert.RouterKernelIdeal.main (F := Ideal))) ⟨m, fun _ => 0, g⟩ (fun r => ∀ c : Dev Cert.RouterKernelIdeal.nD,
          r.2.mem ((c.tc : Thread Cert.RouterKernelIdeal.nD Cert.RouterKernelIdeal.τ).loc Cert.RouterKernelIdeal.main_v3_0) = v0 c
          ∧ r.2.mem ((c.tc : Thread Cert.RouterKernelIdeal.nD Cert.RouterKernelIdeal.τ).loc Cert.RouterKernelIdeal.main_v3_1) = v1 c
          ∧ r.2.mem ((c.tc : Thread Cert.RouterKernelIdeal.nD Cert.RouterKernelIdeal.τ).loc Cert.RouterKernelIdeal.main_arg0) = m ((c.tc : Thread Cert.RouterKernelIdeal.nD Cert.RouterKernelIdeal.τ).loc Cert.RouterKernelIdeal.main_arg0)
          ∧ r.2.mem ((c.tc : Thread Cert.RouterKernelIdeal.nD Cert.RouterKernelIdeal.τ).loc Cert.RouterKernelIdeal.main_arg1) = m ((c.tc : Thread Cert.RouterKernelIdeal.nD Cert.RouterKernelIdeal.τ).loc Cert.RouterKernelIdeal.main_arg1)
          ∧ r.2.mem ((c.tc : Thread Cert.RouterKernelIdeal.nD Cert.RouterKernelIdeal.τ).loc Cert.RouterKernelIdeal.main_arg2) = m ((c.tc : Thread Cert.RouterKernelIdeal.nD Cert.RouterKernelIdeal.τ).loc Cert.RouterKernelIdeal.main_arg2)
          ∧ r.2.mem ((c.tc : Thread Cert.RouterKernelIdeal.nD Cert.RouterKernelIdeal.τ).loc Cert.RouterKernelIdeal.main_arg3) = m ((c.tc : Thread Cert.RouterKernelIdeal.nD Cert.RouterKernelIdeal.τ).loc Cert.RouterKernelIdeal.main_arg3)
          ∧ r.2.mem ((c.tc : Thread Cert.RouterKernelIdeal.nD Cert.RouterKernelIdeal.τ).loc Cert.RouterKernelIdeal.main_arg4) = m ((c.tc : Thread Cert.RouterKernelIdeal.nD Cert.RouterKernelIdeal.τ).loc Cert.RouterKernelIdeal.main_arg4)
          ∧ r.2.mem ((c.tc : Thread Cert.RouterKernelIdeal.nD Cert.RouterKernelIdeal.τ).loc Cert.RouterKernelIdeal.main_arg5) = m ((c.tc : Thread Cert.RouterKernelIdeal.nD Cert.RouterKernelIdeal.τ).loc Cert.RouterKernelIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v21) = v0 c
          ∧ r.2.mem ((c.tc : Thread Cert.RouterRefIdeal.nD Cert.RouterRefIdeal.τ).loc Cert.RouterRefIdeal.main_v24) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def preserves_FinalKernel_FinalKernelIdeal : Prop :=
  True

def algebraic_FinalKernelIdeal_FinalRefIdeal [hFinalKernelIdeal : Cert.FinalKernelIdeal.Facts] [hFinalRefIdeal : Cert.FinalRefIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalKernelIdeal m →
    (∀ c : Dev Cert.FinalKernelIdeal.nD,
      m' ((c.tc : Thread Cert.FinalRefIdeal.nD Cert.FinalRefIdeal.τ).loc Cert.FinalRefIdeal.main_arg0) = m ((c.tc : Thread Cert.FinalKernelIdeal.nD Cert.FinalKernelIdeal.τ).loc Cert.FinalKernelIdeal.main_arg0)
      ∧ m' ((c.tc : Thread Cert.FinalRefIdeal.nD Cert.FinalRefIdeal.τ).loc Cert.FinalRefIdeal.main_arg1) = m ((c.tc : Thread Cert.FinalKernelIdeal.nD Cert.FinalKernelIdeal.τ).loc Cert.FinalKernelIdeal.main_arg1)) →
    ∃ (v0 : (c : Dev Cert.FinalKernelIdeal.nD) → Buf (Elt Ideal) ((c.tc : Thread Cert.FinalKernelIdeal.nD Cert.FinalKernelIdeal.τ).loc Cert.FinalKernelIdeal.main_v4)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v4) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_CombineKernel_CombineKernelIdeal : Prop :=
  True

def algebraic_CombineKernelIdeal_CombineRefIdeal [hCombineKernelIdeal : Cert.CombineKernelIdeal.Facts] [hCombineRefIdeal : Cert.CombineRefIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineKernelIdeal m →
    (∀ c : Dev Cert.CombineKernelIdeal.nD,
      m' ((c.tc : Thread Cert.CombineRefIdeal.nD Cert.CombineRefIdeal.τ).loc Cert.CombineRefIdeal.main_arg0) = m ((c.tc : Thread Cert.CombineKernelIdeal.nD Cert.CombineKernelIdeal.τ).loc Cert.CombineKernelIdeal.main_arg0)
      ∧ m' ((c.tc : Thread Cert.CombineRefIdeal.nD Cert.CombineRefIdeal.τ).loc Cert.CombineRefIdeal.main_arg1) = m ((c.tc : Thread Cert.CombineKernelIdeal.nD Cert.CombineKernelIdeal.τ).loc Cert.CombineKernelIdeal.main_arg1)
      ∧ m' ((c.tc : Thread Cert.CombineRefIdeal.nD Cert.CombineRefIdeal.τ).loc Cert.CombineRefIdeal.main_arg2) = m ((c.tc : Thread Cert.CombineKernelIdeal.nD Cert.CombineKernelIdeal.τ).loc Cert.CombineKernelIdeal.main_arg2)) →
    ∃ (v0 : (c : Dev Cert.CombineKernelIdeal.nD) → Buf (Elt Ideal) ((c.tc : Thread Cert.CombineKernelIdeal.nD Cert.CombineKernelIdeal.τ).loc Cert.CombineKernelIdeal.main_v1)),
      θ_run (Cert.CombineKernelIdeal.defs (F := Ideal)) (onTc (τ := Cert.CombineKernelIdeal.τ) (Cert.CombineKernelIdeal.main (F := Ideal))) ⟨m, fun _ => 0, g⟩ (fun r => ∀ c : Dev Cert.CombineKernelIdeal.nD,
          r.2.mem ((c.tc : Thread Cert.CombineKernelIdeal.nD Cert.CombineKernelIdeal.τ).loc Cert.CombineKernelIdeal.main_v1) = v0 c
          ∧ r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
          ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
          ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v5) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_AdaKernel_AdaKernelIdeal : Prop :=
  True

def algebraic_AdaKernelIdeal_AdaRefIdeal [hAdaKernelIdeal : Cert.AdaKernelIdeal.Facts] [hAdaRefIdeal : Cert.AdaRefIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaKernelIdeal m →
    (∀ c : Dev Cert.AdaKernelIdeal.nD,
      m' ((c.tc : Thread Cert.AdaRefIdeal.nD Cert.AdaRefIdeal.τ).loc Cert.AdaRefIdeal.main_arg0) = m ((c.tc : Thread Cert.AdaKernelIdeal.nD Cert.AdaKernelIdeal.τ).loc Cert.AdaKernelIdeal.main_arg0)
      ∧ m' ((c.tc : Thread Cert.AdaRefIdeal.nD Cert.AdaRefIdeal.τ).loc Cert.AdaRefIdeal.main_arg1) = m ((c.tc : Thread Cert.AdaKernelIdeal.nD Cert.AdaKernelIdeal.τ).loc Cert.AdaKernelIdeal.main_arg1)
      ∧ m' ((c.tc : Thread Cert.AdaRefIdeal.nD Cert.AdaRefIdeal.τ).loc Cert.AdaRefIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v1)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v1) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_PostKernel_PostKernelIdeal : Prop :=
  True

def algebraic_PostKernelIdeal_PostRefIdeal [hPostKernelIdeal : Cert.PostKernelIdeal.Facts] [hPostRefIdeal : Cert.PostRefIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostKernelIdeal m →
    (∀ c : Dev Cert.PostKernelIdeal.nD,
      m' ((c.tc : Thread Cert.PostRefIdeal.nD Cert.PostRefIdeal.τ).loc Cert.PostRefIdeal.main_arg0) = m ((c.tc : Thread Cert.PostKernelIdeal.nD Cert.PostKernelIdeal.τ).loc Cert.PostKernelIdeal.main_arg0)
      ∧ m' ((c.tc : Thread Cert.PostRefIdeal.nD Cert.PostRefIdeal.τ).loc Cert.PostRefIdeal.main_arg1) = m ((c.tc : Thread Cert.PostKernelIdeal.nD Cert.PostKernelIdeal.τ).loc Cert.PostKernelIdeal.main_arg1)
      ∧ m' ((c.tc : Thread Cert.PostRefIdeal.nD Cert.PostRefIdeal.τ).loc Cert.PostRefIdeal.main_arg2) = m ((c.tc : Thread Cert.PostKernelIdeal.nD Cert.PostKernelIdeal.τ).loc Cert.PostKernelIdeal.main_arg2)) →
    ∃ (v0 : (c : Dev Cert.PostKernelIdeal.nD) → Buf (Elt Ideal) ((c.tc : Thread Cert.PostKernelIdeal.nD Cert.PostKernelIdeal.τ).loc Cert.PostKernelIdeal.main_v1)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v1) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v27) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_ConvKernel_ConvKernelIdeal : Prop :=
  True

def algebraic_ConvKernelIdeal_ConvRefIdeal [hConvKernelIdeal : Cert.ConvKernelIdeal.Facts] [hConvRefIdeal : Cert.ConvRefIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvKernelIdeal m →
    (∀ c : Dev Cert.ConvKernelIdeal.nD,
      m' ((c.tc : Thread Cert.ConvRefIdeal.nD Cert.ConvRefIdeal.τ).loc Cert.ConvRefIdeal.main_arg0) = m ((c.tc : Thread Cert.ConvKernelIdeal.nD Cert.ConvKernelIdeal.τ).loc Cert.ConvKernelIdeal.main_arg0)
      ∧ m' ((c.tc : Thread Cert.ConvRefIdeal.nD Cert.ConvRefIdeal.τ).loc Cert.ConvRefIdeal.main_arg1) = m ((c.tc : Thread Cert.ConvKernelIdeal.nD Cert.ConvKernelIdeal.τ).loc Cert.ConvKernelIdeal.main_arg1)
      ∧ m' ((c.tc : Thread Cert.ConvRefIdeal.nD Cert.ConvRefIdeal.τ).loc Cert.ConvRefIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v1_0)) (v1 : (c : Dev Cert.ConvKernelIdeal.nD) → Buf (Elt Ideal) ((c.tc : Thread Cert.ConvKernelIdeal.nD Cert.ConvKernelIdeal.τ).loc Cert.ConvKernelIdeal.main_v1_1)) (v2 : (c : Dev Cert.ConvKernelIdeal.nD) → Buf (Elt Ideal) ((c.tc : Thread Cert.ConvKernelIdeal.nD Cert.ConvKernelIdeal.τ).loc Cert.ConvKernelIdeal.main_v1_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1_0) = v0 c
          ∧ r.2.mem ((c.tc : Thread Cert.ConvKernelIdeal.nD Cert.ConvKernelIdeal.τ).loc Cert.ConvKernelIdeal.main_v1_1) = v1 c
          ∧ r.2.mem ((c.tc : Thread Cert.ConvKernelIdeal.nD Cert.ConvKernelIdeal.τ).loc Cert.ConvKernelIdeal.main_v1_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v23) = v0 c
          ∧ r.2.mem ((c.tc : Thread Cert.ConvRefIdeal.nD Cert.ConvRefIdeal.τ).loc Cert.ConvRefIdeal.main_v24) = v1 c
          ∧ r.2.mem ((c.tc : Thread Cert.ConvRefIdeal.nD Cert.ConvRefIdeal.τ).loc Cert.ConvRefIdeal.main_v25) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_ExpertsKernel_ExpertsKernelIdeal : Prop :=
  True

def algebraic_ExpertsKernelIdeal_ExpertsRefIdeal [hExpertsKernelIdeal : Cert.ExpertsKernelIdeal.Facts] [hExpertsRefIdeal : Cert.ExpertsRefIdeal.Facts] [hPre_experts_named : Cert.Pre_experts_named.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsKernelIdeal m →
    (∀ c : Dev Cert.ExpertsKernelIdeal.nD,
      m' ((c.tc : Thread Cert.ExpertsRefIdeal.nD Cert.ExpertsRefIdeal.τ).loc Cert.ExpertsRefIdeal.main_arg0) = m ((c.tc : Thread Cert.ExpertsKernelIdeal.nD Cert.ExpertsKernelIdeal.τ).loc Cert.ExpertsKernelIdeal.main_arg0)
      ∧ m' ((c.tc : Thread Cert.ExpertsRefIdeal.nD Cert.ExpertsRefIdeal.τ).loc Cert.ExpertsRefIdeal.main_arg1) = m ((c.tc : Thread Cert.ExpertsKernelIdeal.nD Cert.ExpertsKernelIdeal.τ).loc Cert.ExpertsKernelIdeal.main_arg1)
      ∧ m' ((c.tc : Thread Cert.ExpertsRefIdeal.nD Cert.ExpertsRefIdeal.τ).loc Cert.ExpertsRefIdeal.main_arg2) = m ((c.tc : Thread Cert.ExpertsKernelIdeal.nD Cert.ExpertsKernelIdeal.τ).loc Cert.ExpertsKernelIdeal.main_arg2)
      ∧ m' ((c.tc : Thread Cert.ExpertsRefIdeal.nD Cert.ExpertsRefIdeal.τ).loc Cert.ExpertsRefIdeal.main_arg3) = m ((c.tc : Thread Cert.ExpertsKernelIdeal.nD Cert.ExpertsKernelIdeal.τ).loc Cert.ExpertsKernelIdeal.main_arg3)
      ∧ m' ((c.tc : Thread Cert.ExpertsRefIdeal.nD Cert.ExpertsRefIdeal.τ).loc Cert.ExpertsRefIdeal.main_arg4) = m ((c.tc : Thread Cert.ExpertsKernelIdeal.nD Cert.ExpertsKernelIdeal.τ).loc Cert.ExpertsKernelIdeal.main_arg4)
      ∧ m' ((c.tc : Thread Cert.ExpertsRefIdeal.nD Cert.ExpertsRefIdeal.τ).loc Cert.ExpertsRefIdeal.main_arg5) = m ((c.tc : Thread Cert.ExpertsKernelIdeal.nD Cert.ExpertsKernelIdeal.τ).loc Cert.ExpertsKernelIdeal.main_arg5)
      ∧ m' ((c.tc : Thread Cert.ExpertsRefIdeal.nD Cert.ExpertsRefIdeal.τ).loc Cert.ExpertsRefIdeal.main_arg6) = m ((c.tc : Thread Cert.ExpertsKernelIdeal.nD Cert.ExpertsKernelIdeal.τ).loc Cert.ExpertsKernelIdeal.main_arg6)
      ∧ m' ((c.tc : Thread Cert.ExpertsRefIdeal.nD Cert.ExpertsRefIdeal.τ).loc Cert.ExpertsRefIdeal.main_arg7) = m ((c.tc : Thread Cert.ExpertsKernelIdeal.nD Cert.ExpertsKernelIdeal.τ).loc Cert.ExpertsKernelIdeal.main_arg7)) →
    ∃ (v0 : (c : Dev Cert.ExpertsKernelIdeal.nD) → Buf (Elt Ideal) ((c.tc : Thread Cert.ExpertsKernelIdeal.nD Cert.ExpertsKernelIdeal.τ).loc Cert.ExpertsKernelIdeal.main_v2)),
      θ_run (Cert.ExpertsKernelIdeal.defs (F := Ideal)) (onTc (τ := Cert.ExpertsKernelIdeal.τ) (Cert.ExpertsKernelIdeal.main (F := Ideal))) ⟨m, fun _ => 0, g⟩ (fun r => ∀ c : Dev Cert.ExpertsKernelIdeal.nD,
          r.2.mem ((c.tc : Thread Cert.ExpertsKernelIdeal.nD Cert.ExpertsKernelIdeal.τ).loc Cert.ExpertsKernelIdeal.main_v2) = v0 c
          ∧ r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
          ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
          ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
          ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
          ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
          ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5)
          ∧ r.2.mem ((c.tc : Thread Cert.ExpertsKernelIdeal.nD Cert.ExpertsKernelIdeal.τ).loc Cert.ExpertsKernelIdeal.main_arg6) = m ((c.tc : Thread Cert.ExpertsKernelIdeal.nD Cert.ExpertsKernelIdeal.τ).loc Cert.ExpertsKernelIdeal.main_arg6)
          ∧ r.2.mem ((c.tc : Thread Cert.ExpertsKernelIdeal.nD Cert.ExpertsKernelIdeal.τ).loc Cert.ExpertsKernelIdeal.main_arg7) = m ((c.tc : Thread Cert.ExpertsKernelIdeal.nD Cert.ExpertsKernelIdeal.τ).loc Cert.ExpertsKernelIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v69) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def Claim : Prop :=
  ∃ (hKernel : Cert.Kernel.Facts) (hKernelIdeal : Cert.KernelIdeal.Facts) (hReferenceIdeal : Cert.ReferenceIdeal.Facts) (hGatesKernel : Cert.GatesKernel.Facts) (hGatesKernelIdeal : Cert.GatesKernelIdeal.Facts) (hGatesRefIdeal : Cert.GatesRefIdeal.Facts) (hOutputKernel : Cert.OutputKernel.Facts) (hOutputKernelIdeal : Cert.OutputKernelIdeal.Facts) (hOutputRefIdeal : Cert.OutputRefIdeal.Facts) (hMergeKernel : Cert.MergeKernel.Facts) (hMergeKernelIdeal : Cert.MergeKernelIdeal.Facts) (hMergeRefIdeal : Cert.MergeRefIdeal.Facts) (hColumnsKernel : Cert.ColumnsKernel.Facts) (hColumnsKernelIdeal : Cert.ColumnsKernelIdeal.Facts) (hColumnsRefIdeal : Cert.ColumnsRefIdeal.Facts) (hShortKernel : Cert.ShortKernel.Facts) (hShortKernelIdeal : Cert.ShortKernelIdeal.Facts) (hShortRefIdeal : Cert.ShortRefIdeal.Facts) (hHeadsKernel : Cert.HeadsKernel.Facts) (hHeadsKernelIdeal : Cert.HeadsKernelIdeal.Facts) (hHeadsRefIdeal : Cert.HeadsRefIdeal.Facts) (hNormKernel : Cert.NormKernel.Facts) (hNormKernelIdeal : Cert.NormKernelIdeal.Facts) (hNormRefIdeal : Cert.NormRefIdeal.Facts) (hRouterKernel : Cert.RouterKernel.Facts) (hRouterKernelIdeal : Cert.RouterKernelIdeal.Facts) (hRouterRefIdeal : Cert.RouterRefIdeal.Facts) (hFinalKernel : Cert.FinalKernel.Facts) (hFinalKernelIdeal : Cert.FinalKernelIdeal.Facts) (hFinalRefIdeal : Cert.FinalRefIdeal.Facts) (hCombineKernel : Cert.CombineKernel.Facts) (hCombineKernelIdeal : Cert.CombineKernelIdeal.Facts) (hCombineRefIdeal : Cert.CombineRefIdeal.Facts) (hAdaKernel : Cert.AdaKernel.Facts) (hAdaKernelIdeal : Cert.AdaKernelIdeal.Facts) (hAdaRefIdeal : Cert.AdaRefIdeal.Facts) (hPostKernel : Cert.PostKernel.Facts) (hPostKernelIdeal : Cert.PostKernelIdeal.Facts) (hPostRefIdeal : Cert.PostRefIdeal.Facts) (hConvKernel : Cert.ConvKernel.Facts) (hConvKernelIdeal : Cert.ConvKernelIdeal.Facts) (hConvRefIdeal : Cert.ConvRefIdeal.Facts) (hExpertsKernel : Cert.ExpertsKernel.Facts) (hExpertsKernelIdeal : Cert.ExpertsKernelIdeal.Facts) (hExpertsRefIdeal : Cert.ExpertsRefIdeal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_GatesKernel (hGatesKernel := hGatesKernel)
    ∧ quiescent_GatesKernelIdeal (hGatesKernelIdeal := hGatesKernelIdeal)
    ∧ quiescent_GatesRefIdeal (hGatesRefIdeal := hGatesRefIdeal)
    ∧ quiescent_OutputKernel (hOutputKernel := hOutputKernel)
    ∧ quiescent_OutputKernelIdeal (hOutputKernelIdeal := hOutputKernelIdeal)
    ∧ quiescent_OutputRefIdeal (hOutputRefIdeal := hOutputRefIdeal)
    ∧ quiescent_MergeKernel (hMergeKernel := hMergeKernel)
    ∧ quiescent_MergeKernelIdeal (hMergeKernelIdeal := hMergeKernelIdeal)
    ∧ quiescent_MergeRefIdeal (hMergeRefIdeal := hMergeRefIdeal)
    ∧ quiescent_ColumnsKernel (hColumnsKernel := hColumnsKernel)
    ∧ quiescent_ColumnsKernelIdeal (hColumnsKernelIdeal := hColumnsKernelIdeal)
    ∧ quiescent_ColumnsRefIdeal (hColumnsRefIdeal := hColumnsRefIdeal)
    ∧ quiescent_ShortKernel (hShortKernel := hShortKernel)
    ∧ quiescent_ShortKernelIdeal (hShortKernelIdeal := hShortKernelIdeal)
    ∧ quiescent_ShortRefIdeal (hShortRefIdeal := hShortRefIdeal)
    ∧ quiescent_HeadsKernel (hHeadsKernel := hHeadsKernel)
    ∧ quiescent_HeadsKernelIdeal (hHeadsKernelIdeal := hHeadsKernelIdeal)
    ∧ quiescent_HeadsRefIdeal (hHeadsRefIdeal := hHeadsRefIdeal)
    ∧ quiescent_NormKernel (hNormKernel := hNormKernel)
    ∧ quiescent_NormKernelIdeal (hNormKernelIdeal := hNormKernelIdeal)
    ∧ quiescent_NormRefIdeal (hNormRefIdeal := hNormRefIdeal)
    ∧ quiescent_RouterKernel (hRouterKernel := hRouterKernel)
    ∧ quiescent_RouterKernelIdeal (hRouterKernelIdeal := hRouterKernelIdeal)
    ∧ quiescent_RouterRefIdeal (hRouterRefIdeal := hRouterRefIdeal)
    ∧ quiescent_FinalKernel (hFinalKernel := hFinalKernel)
    ∧ quiescent_FinalKernelIdeal (hFinalKernelIdeal := hFinalKernelIdeal)
    ∧ quiescent_FinalRefIdeal (hFinalRefIdeal := hFinalRefIdeal)
    ∧ quiescent_CombineKernel (hCombineKernel := hCombineKernel)
    ∧ quiescent_CombineKernelIdeal (hCombineKernelIdeal := hCombineKernelIdeal)
    ∧ quiescent_CombineRefIdeal (hCombineRefIdeal := hCombineRefIdeal)
    ∧ quiescent_AdaKernel (hAdaKernel := hAdaKernel)
    ∧ quiescent_AdaKernelIdeal (hAdaKernelIdeal := hAdaKernelIdeal)
    ∧ quiescent_AdaRefIdeal (hAdaRefIdeal := hAdaRefIdeal)
    ∧ quiescent_PostKernel (hPostKernel := hPostKernel)
    ∧ quiescent_PostKernelIdeal (hPostKernelIdeal := hPostKernelIdeal)
    ∧ quiescent_PostRefIdeal (hPostRefIdeal := hPostRefIdeal)
    ∧ quiescent_ConvKernel (hConvKernel := hConvKernel)
    ∧ quiescent_ConvKernelIdeal (hConvKernelIdeal := hConvKernelIdeal)
    ∧ quiescent_ConvRefIdeal (hConvRefIdeal := hConvRefIdeal)
    ∧ quiescent_ExpertsKernel (hExpertsKernel := hExpertsKernel) (hPre_experts_named := hPre_experts_named)
    ∧ quiescent_ExpertsKernelIdeal (hExpertsKernelIdeal := hExpertsKernelIdeal) (hPre_experts_named := hPre_experts_named)
    ∧ quiescent_ExpertsRefIdeal (hExpertsRefIdeal := hExpertsRefIdeal) (hPre_experts_named := hPre_experts_named)
    ∧ preserves_Kernel_KernelIdeal
    ∧ algebraic_KernelIdeal_ReferenceIdeal (hKernelIdeal := hKernelIdeal) (hReferenceIdeal := hReferenceIdeal)
    ∧ preserves_GatesKernel_GatesKernelIdeal
    ∧ algebraic_GatesKernelIdeal_GatesRefIdeal (hGatesKernelIdeal := hGatesKernelIdeal) (hGatesRefIdeal := hGatesRefIdeal)
    ∧ preserves_OutputKernel_OutputKernelIdeal
    ∧ algebraic_OutputKernelIdeal_OutputRefIdeal (hOutputKernelIdeal := hOutputKernelIdeal) (hOutputRefIdeal := hOutputRefIdeal)
    ∧ preserves_MergeKernel_MergeKernelIdeal
    ∧ algebraic_MergeKernelIdeal_MergeRefIdeal (hMergeKernelIdeal := hMergeKernelIdeal) (hMergeRefIdeal := hMergeRefIdeal)
    ∧ preserves_ColumnsKernel_ColumnsKernelIdeal
    ∧ algebraic_ColumnsKernelIdeal_ColumnsRefIdeal (hColumnsKernelIdeal := hColumnsKernelIdeal) (hColumnsRefIdeal := hColumnsRefIdeal)
    ∧ preserves_ShortKernel_ShortKernelIdeal
    ∧ algebraic_ShortKernelIdeal_ShortRefIdeal (hShortKernelIdeal := hShortKernelIdeal) (hShortRefIdeal := hShortRefIdeal)
    ∧ preserves_HeadsKernel_HeadsKernelIdeal
    ∧ algebraic_HeadsKernelIdeal_HeadsRefIdeal (hHeadsKernelIdeal := hHeadsKernelIdeal) (hHeadsRefIdeal := hHeadsRefIdeal)
    ∧ preserves_NormKernel_NormKernelIdeal
    ∧ algebraic_NormKernelIdeal_NormRefIdeal (hNormKernelIdeal := hNormKernelIdeal) (hNormRefIdeal := hNormRefIdeal)
    ∧ preserves_RouterKernel_RouterKernelIdeal
    ∧ algebraic_RouterKernelIdeal_RouterRefIdeal (hRouterKernelIdeal := hRouterKernelIdeal) (hRouterRefIdeal := hRouterRefIdeal)
    ∧ preserves_FinalKernel_FinalKernelIdeal
    ∧ algebraic_FinalKernelIdeal_FinalRefIdeal (hFinalKernelIdeal := hFinalKernelIdeal) (hFinalRefIdeal := hFinalRefIdeal)
    ∧ preserves_CombineKernel_CombineKernelIdeal
    ∧ algebraic_CombineKernelIdeal_CombineRefIdeal (hCombineKernelIdeal := hCombineKernelIdeal) (hCombineRefIdeal := hCombineRefIdeal)
    ∧ preserves_AdaKernel_AdaKernelIdeal
    ∧ algebraic_AdaKernelIdeal_AdaRefIdeal (hAdaKernelIdeal := hAdaKernelIdeal) (hAdaRefIdeal := hAdaRefIdeal)
    ∧ preserves_PostKernel_PostKernelIdeal
    ∧ algebraic_PostKernelIdeal_PostRefIdeal (hPostKernelIdeal := hPostKernelIdeal) (hPostRefIdeal := hPostRefIdeal)
    ∧ preserves_ConvKernel_ConvKernelIdeal
    ∧ algebraic_ConvKernelIdeal_ConvRefIdeal (hConvKernelIdeal := hConvKernelIdeal) (hConvRefIdeal := hConvRefIdeal)
    ∧ preserves_ExpertsKernel_ExpertsKernelIdeal
    ∧ algebraic_ExpertsKernelIdeal_ExpertsRefIdeal (hExpertsKernelIdeal := hExpertsKernelIdeal) (hExpertsRefIdeal := hExpertsRefIdeal) (hPre_experts_named := hPre_experts_named)
-- ==== Pre_experts_named.lean ====
abbrev S288 : Shape := ⟨1, ![288]⟩
abbrev S1 : Shape := ⟨1, ![1]⟩
abbrev S73728x4096 : Shape := ⟨2, ![73728, 4096]⟩
abbrev S32x4096x1024 : Shape := ⟨3, ![32, 4096, 1024]⟩
abbrev S32x1x1024 : Shape := ⟨3, ![32, 1, 1024]⟩
abbrev S2x32x512x4096 : Shape := ⟨4, ![2, 32, 512, 4096]⟩
abbrev S2x32x1x4096 : Shape := ⟨4, ![2, 32, 1, 4096]⟩
abbrev S73728x1 : Shape := ⟨2, ![73728, 1]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73728x4096 .f32) (main_arg3 : FVec F S32x4096x1024 .f32) (main_arg4 : FVec F S32x1x1024 .f32) (main_arg5 : FVec F S2x32x512x4096 .f32) (main_arg6 : FVec F S2x32x1x4096 .f32) (main_arg7 : FVec F S73728x1 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S16384x3200 : Shape := ⟨2, ![16384, 3200]⟩
abbrev S1x128 : Shape := ⟨2, ![1, 128]⟩
abbrev S2x8x64x128 : Shape := ⟨4, ![2, 8, 64, 128]⟩
abbrev S2x8x1x64 : Shape := ⟨4, ![2, 8, 1, 64]⟩
abbrev S2x8x1x128 : Shape := ⟨4, ![2, 8, 1, 128]⟩
abbrev S2x16384x1024 : Shape := ⟨3, ![2, 16384, 1024]⟩
abbrev S128x1024 : Shape := ⟨2, ![128, 1024]⟩
abbrev S128x128 : Shape := ⟨2, ![128, 128]⟩
abbrev S1x128x1024 : Shape := ⟨3, ![1, 128, 1024]⟩
abbrev S128x16 : Shape := ⟨2, ![128, 16]⟩
abbrev S16x128 : Shape := ⟨2, ![16, 128]⟩
abbrev S128x8 : Shape := ⟨2, ![128, 8]⟩
abbrev S8x128 : Shape := ⟨2, ![8, 128]⟩
abbrev S8 : Shape := ⟨1, ![8]⟩
abbrev S1x8 : Shape := ⟨2, ![1, 8]⟩
abbrev S128x64 : Shape := ⟨2, ![128, 64]⟩
abbrev S64x128 : Shape := ⟨2, ![64, 128]⟩
abbrev S128x1 : Shape := ⟨2, ![128, 1]⟩
abbrev S1x1x1x128 : Shape := ⟨4, ![1, 1, 1, 128]⟩
abbrev S1x1 : Shape := ⟨2, ![1, 1]⟩
abbrev S1x1x64x128 : Shape := ⟨4, ![1, 1, 64, 128]⟩
abbrev S1x1x1x64 : Shape := ⟨4, ![1, 1, 1, 64]⟩
abbrev S1x64 : Shape := ⟨2, ![1, 64]⟩
abbrev S128 : Shape := ⟨1, ![128]⟩
abbrev S1x128x128 : Shape := ⟨3, ![1, 128, 128]⟩
abbrev S1 : Shape := ⟨1, ![1]⟩
abbrev S64 : Shape := ⟨1, ![64]⟩

abbrev nBuf : Space → Nat
  | .hbm => 9
  | .vmem => 15
  | .smem => 0
  | _ => 0

abbrev bufTy : (tb : Table) → Fin (tcTables nBuf tb) → BufTy
  | .hbm, ⟨0, _⟩ => ⟨S16384x3200, .f32⟩
  | .hbm, ⟨1, _⟩ => ⟨S1x128, .f32⟩
  | .hbm, ⟨2, _⟩ => ⟨S2x8x64x128, .f32⟩
  | .hbm, ⟨3, _⟩ => ⟨S2x8x1x64, .f32⟩
  | .hbm, ⟨4, _⟩ => ⟨S2x8x1x128, .f32⟩
  | .hbm, ⟨5, _⟩ => ⟨S2x16384x1024, .f32⟩
  | .hbm, ⟨6, _⟩ => ⟨S2x8x64x128, .f32⟩
  | .hbm, ⟨7, _⟩ => ⟨S2x8x1x64, .f32⟩
  | .hbm, ⟨8, _⟩ => ⟨S2x8x1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2x8x64x128, .f32⟩
  | .local _ .vmem, ⟨8, _⟩ => ⟨S2x8x1x64, .f32⟩
  | .local _ .vmem, ⟨9, _⟩ => ⟨S2x8x1x128, .f32⟩
  | .local _ .vmem, ⟨10, _⟩ => ⟨S1x128x1024, .f32⟩
  | .local _ .vmem, ⟨11, _⟩ => ⟨S1x128x1024, .f32⟩
  | .local _ .vmem, ⟨12, _⟩ => ⟨S2x8x64x128, .f32⟩
  | .local _ .vmem, ⟨13, _⟩ => ⟨S2x8x1x64, .f32⟩
  | .local _ .vmem, ⟨14, _⟩ => ⟨S2x8x1x128, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c127_i32 : BitVec 32 := 127#32
  let v1 : BitVec 32 := Scalar.subi c127_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c127_i32 : BitVec 32 := 127#32
  let v1 : BitVec 32 := Scalar.subi c127_i32 v0
  let v2 : BitVec 32 := Scalar.muli arg0 v1
  let v3 : BitVec 32 := Scalar.addi arg1 v2
  let c1_i32 : BitVec 32 := 1#32
  let c0_i32 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c127_i32 : BitVec 32 := 127#32
  let v1 : BitVec 32 := Scalar.subi c127_i32 v0
  let v2 : BitVec 32 := Scalar.muli arg0 v1
  let v3 : BitVec 32 := Scalar.addi arg1 v2
  let c24_i32 : BitVec 32 := 24#32
  let c0_i32 : BitVec 32 := 0#32
  ![v3.toNat, c24_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c127_i32 : BitVec 32 := 127#32
  let v1 : BitVec 32 := Scalar.subi c127_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x8x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x8x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x8x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S16384x3200 : Shape := ⟨2, ![16384, 3200]⟩
abbrev S1x128 : Shape := ⟨2, ![1, 128]⟩
abbrev S2x8x64x128 : Shape := ⟨4, ![2, 8, 64, 128]⟩
abbrev S2x8x1x64 : Shape := ⟨4, ![2, 8, 1, 64]⟩
abbrev S2x8x1x128 : Shape := ⟨4, ![2, 8, 1, 128]⟩
abbrev S16384x1024 : Shape := ⟨2, ![16384, 1024]⟩
abbrev S16384x8x128 : Shape := ⟨3, ![16384, 8, 128]⟩
abbrev S8x16384x128 : Shape := ⟨3, ![8, 16384, 128]⟩
abbrev S8x16384x64 : Shape := ⟨3, ![8, 16384, 64]⟩
abbrev S_ : Shape := ⟨0, ![]⟩
abbrev S16384x32 : Shape := ⟨2, ![16384, 32]⟩
abbrev S16384x2x2x8 : Shape := ⟨4, ![16384, 2, 2, 8]⟩
abbrev S1x32 : Shape := ⟨2, ![1, 32]⟩
abbrev S32 : Shape := ⟨1, ![32]⟩
abbrev S2x2x8 : Shape := ⟨3, ![2, 2, 8]⟩
abbrev S1x2x2x8 : Shape := ⟨4, ![1, 2, 2, 8]⟩
abbrev S2x2x8x16384 : Shape := ⟨4, ![2, 2, 8, 16384]⟩
abbrev S2x1x8x16384 : Shape := ⟨4, ![2, 1, 8, 16384]⟩
abbrev S2x8x16384 : Shape := ⟨3, ![2, 8, 16384]⟩
abbrev S128x128 : Shape := ⟨2, ![128, 128]⟩
abbrev S1x8x16384x64 : Shape := ⟨4, ![1, 8, 16384, 64]⟩
abbrev S2x8x16384x64 : Shape := ⟨4, ![2, 8, 16384, 64]⟩
abbrev S2x8x128x128x64 : Shape := ⟨5, ![2, 8, 128, 128, 64]⟩
abbrev S128x2x8x128x64 : Shape := ⟨5, ![128, 2, 8, 128, 64]⟩
abbrev S1x8x16384x128 : Shape := ⟨4, ![1, 8, 16384, 128]⟩
abbrev S2x8x16384x128 : Shape := ⟨4, ![2, 8, 16384, 128]⟩
abbrev S2x8x128x128x128 : Shape := ⟨5, ![2, 8, 128, 128, 128]⟩
abbrev S128x2x8x128x128 : Shape := ⟨5, ![128, 2, 8, 128, 128]⟩
abbrev S1x1x8x16384 : Shape := ⟨4, ![1, 1, 8, 16384]⟩
abbrev S8x16384 : Shape := ⟨2, ![8, 16384]⟩
abbrev S1x8x16384 : Shape := ⟨3, ![1, 8, 16384]⟩
abbrev S2x8x128x128 : Shape := ⟨4, ![2, 8, 128, 128]⟩
abbrev S128x2x8x128 : Shape := ⟨4, ![128, 2, 8, 128]⟩
abbrev S2x8x64 : Shape := ⟨3, ![2, 8, 64]⟩
abbrev S2x8x1x1 : Shape := ⟨4, ![2, 8, 1, 1]⟩
abbrev S2x8 : Shape := ⟨2, ![2, 8]⟩
abbrev S1x2x8x128x64 : Shape := ⟨5, ![1, 2, 8, 128, 64]⟩
abbrev S2x8x128x64 : Shape := ⟨4, ![2, 8, 128, 64]⟩
abbrev S1x2x8x128x128 : Shape := ⟨5, ![1, 2, 8, 128, 128]⟩
abbrev S1x2x8x128 : Shape := ⟨4, ![1, 2, 8, 128]⟩
abbrev S2x8x128 : Shape := ⟨3, ![2, 8, 128]⟩
abbrev S2x8x128x1 : Shape := ⟨4, ![2, 8, 128, 1]⟩
abbrev S2x8x1 : Shape := ⟨3, ![2, 8, 1]⟩
abbrev S2x16384x8x128 : Shape := ⟨4, ![2, 16384, 8, 128]⟩
abbrev S2x16384x1024 : Shape := ⟨3, ![2, 16384, 1024]⟩

abbrev nBuf : Space → Nat
  | .hbm => 247
  | .vmem => 0
  | .smem => 0
  | _ => 0

abbrev hbmTy0_0 (i : Nat) : BufTy := match i % 128 with
  | 0 => ⟨S16384x3200, .f32⟩
  | 1 => ⟨S1x128, .f32⟩
  | 2 => ⟨S2x8x64x128, .f32⟩
  | 3 => ⟨S2x8x1x64, .f32⟩
  | 4 => ⟨S2x8x1x128, .f32⟩
  | 5 => ⟨S16384x1024, .f32⟩
  | 6 => ⟨S16384x8x128, .f32⟩
  | 7 => ⟨S8x16384x128, .f32⟩
  | 8 => ⟨S8x16384x64, .f32⟩
  | 9 => ⟨S_, .f32⟩
  | 10 => ⟨S8x16384x64, .f32⟩
  | 11 => ⟨S8x16384x64, .f32⟩
  | 12 => ⟨S8x16384x64, .f32⟩
  | 13 => ⟨S16384x1024, .f32⟩
  | 14 => ⟨S16384x8x128, .f32⟩
  | 15 => ⟨S8x16384x128, .f32⟩
  | 16 => ⟨S16384x32, .f32⟩
  | 17 => ⟨S16384x2x2x8, .f32⟩
  | 18 => ⟨S1x32, .f32⟩
  | 19 => ⟨S32, .f32⟩
  | 20 => ⟨S2x2x8, .f32⟩
  | 21 => ⟨S1x2x2x8, .f32⟩
  | 22 => ⟨S16384x2x2x8, .f32⟩
  | 23 => ⟨S16384x2x2x8, .f32⟩
  | 24 => ⟨S_, .f32⟩
  | 25 => ⟨S16384x2x2x8, .f32⟩
  | 26 => ⟨S16384x2x2x8, .f32⟩
  | 27 => ⟨S16384x2x2x8, .f32⟩
  | 28 => ⟨S_, .f32⟩
  | 29 => ⟨S16384x2x2x8, .f32⟩
  | 30 => ⟨S16384x2x2x8, .f32⟩
  | 31 => ⟨S2x2x8x16384, .f32⟩
  | 32 => ⟨S2x1x8x16384, .f32⟩
  | 33 => ⟨S2x8x16384, .f32⟩
  | 34 => ⟨S2x8x16384, .f32⟩
  | 35 => ⟨S_, .f32⟩
  | 36 => ⟨S2x8x16384, .f32⟩
  | 37 => ⟨S2x8x16384, .f32⟩
  | 38 => ⟨S2x8x16384, .f32⟩
  | 39 => ⟨S2x8x16384, .f32⟩
  | 40 => ⟨S2x8x16384, .i1⟩
  | 41 => ⟨S2x8x16384, .f32⟩
  | 42 => ⟨S2x8x16384, .f32⟩
  | 43 => ⟨S2x8x16384, .f32⟩
  | 44 => ⟨S2x8x16384, .f32⟩
  | 45 => ⟨S2x8x16384, .f32⟩
  | 46 => ⟨S2x8x16384, .f32⟩
  | 47 => ⟨S2x8x16384, .f32⟩
  | 48 => ⟨S2x8x16384, .f32⟩
  | 49 => ⟨S2x8x16384, .f32⟩
  | 50 => ⟨S_, .i1⟩
  | 51 => ⟨S128x128, .i1⟩
  | 52 => ⟨S128x128, .i32⟩
  | 53 => ⟨S_, .i32⟩
  | 54 => ⟨S128x128, .i32⟩
  | 55 => ⟨S128x128, .i32⟩
  | 56 => ⟨S128x128, .i32⟩
  | 57 => ⟨S128x128, .i1⟩
  | 58 => ⟨S_, .i1⟩
  | 59 => ⟨S128x128, .i1⟩
  | 60 => ⟨S128x128, .i1⟩
  | 61 => ⟨S8x16384x64, .f32⟩
  | 62 => ⟨S1x8x16384x64, .f32⟩
  | 63 => ⟨S1x8x16384x64, .f32⟩
  | 64 => ⟨S2x8x16384x64, .f32⟩
  | 65 => ⟨S2x8x128x128x64, .f32⟩
  | 66 => ⟨S128x2x8x128x64, .f32⟩
  | 67 => ⟨S8x16384x64, .f32⟩
  | 68 => ⟨S1x8x16384x64, .f32⟩
  | 69 => ⟨S1x8x16384x64, .f32⟩
  | 70 => ⟨S2x8x16384x64, .f32⟩
  | 71 => ⟨S2x8x128x128x64, .f32⟩
  | 72 => ⟨S128x2x8x128x64, .f32⟩
  | 73 => ⟨S8x16384x128, .f32⟩
  | 74 => ⟨S1x8x16384x128, .f32⟩
  | 75 => ⟨S1x8x16384x128, .f32⟩
  | 76 => ⟨S2x8x16384x128, .f32⟩
  | 77 => ⟨S2x8x128x128x128, .f32⟩
  | 78 => ⟨S128x2x8x128x128, .f32⟩
  | 79 => ⟨S1x1x8x16384, .f32⟩
  | 80 => ⟨S8x16384, .f32⟩
  | 81 => ⟨S1x1x8x16384, .f32⟩
  | 82 => ⟨S8x16384, .f32⟩
  | 83 => ⟨S8x16384, .f32⟩
  | 84 => ⟨S1x8x16384, .f32⟩
  | 85 => ⟨S1x8x16384, .f32⟩
  | 86 => ⟨S2x8x16384, .f32⟩
  | 87 => ⟨S2x8x128x128, .f32⟩
  | 88 => ⟨S128x2x8x128, .f32⟩
  | 89 => ⟨S1x8x16384, .f32⟩
  | 90 => ⟨S8x16384, .f32⟩
  | 91 => ⟨S1x8x16384, .f32⟩
  | 92 => ⟨S8x16384, .f32⟩
  | 93 => ⟨S8x16384, .f32⟩
  | 94 => ⟨S1x8x16384, .f32⟩
  | 95 => ⟨S1x8x16384, .f32⟩
  | 96 => ⟨S2x8x16384, .f32⟩
  | 97 => ⟨S2x8x128x128, .f32⟩
  | 98 => ⟨S128x2x8x128, .f32⟩
  | 99 => ⟨S2x8x64, .f32⟩
  | 100 => ⟨S2x8x1x1, .f32⟩
  | 101 => ⟨S2x8, .f32⟩
  | 102 => ⟨S_, .f32⟩
  | 103 => ⟨S128x2x8x128x128, .f32⟩
  | 104 => ⟨S_, .i32⟩
  | 105 => ⟨S128x2x8x128x64, .f32⟩
  | 106 => ⟨S128x2x8x128x64, .f32⟩
  | 107 => ⟨S128x2x8x128x128, .f32⟩
  | 108 => ⟨S128x2x8x128, .f32⟩
  | 109 => ⟨S128x2x8x128, .f32⟩
  | 110 => ⟨S128x128, .i1⟩
  | 111 => ⟨S_, .i32⟩
  | 112 => ⟨S2x8x64x128, .f32⟩
  | 113 => ⟨S2x8x64, .f32⟩
  | 114 => ⟨S2x8, .f32⟩
  | 115 => ⟨S128x2x8x128x128, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1x2x8x128x64, .f32⟩
  | 123 => ⟨S2x8x128x64, .f32⟩
  | 124 => ⟨S_, .i32⟩
  | 125 => ⟨S_, .i32⟩
  | 126 => ⟨S_, .i32⟩
  | 127 => ⟨S_, .i32⟩
  | _ => ⟨S16384x3200, .f32⟩

abbrev hbmTy0_1 (i : Nat) : BufTy := match i % 128 with
  | 0 => ⟨S1x2x8x128x64, .f32⟩
  | 1 => ⟨S2x8x128x64, .f32⟩
  | 2 => ⟨S_, .i32⟩
  | 3 => ⟨S_, .i32⟩
  | 4 => ⟨S_, .i32⟩
  | 5 => ⟨S_, .i32⟩
  | 6 => ⟨S1x2x8x128x128, .f32⟩
  | 7 => ⟨S2x8x128x128, .f32⟩
  | 8 => ⟨S_, .i32⟩
  | 9 => ⟨S_, .i32⟩
  | 10 => ⟨S_, .i32⟩
  | 11 => ⟨S1x2x8x128, .f32⟩
  | 12 => ⟨S2x8x128, .f32⟩
  | 13 => ⟨S_, .i32⟩
  | 14 => ⟨S_, .i32⟩
  | 15 => ⟨S_, .i32⟩
  | 16 => ⟨S1x2x8x128, .f32⟩
  | 17 => ⟨S2x8x128, .f32⟩
  | 18 => ⟨S_, .f32⟩
  | 19 => ⟨S_, .f32⟩
  | 20 => ⟨S2x8x128, .f32⟩
  | 21 => ⟨S2x8x128x1, .f32⟩
  | 22 => ⟨S2x8x1x128, .f32⟩
  | 23 => ⟨S2x8x128x128, .f32⟩
  | 24 => ⟨S2x8x128x128, .f32⟩
  | 25 => ⟨S2x8x128x128, .f32⟩
  | 26 => ⟨S2x8x1x128, .f32⟩
  | 27 => ⟨S2x8x128x128, .f32⟩
  | 28 => ⟨S2x8x128x128, .f32⟩
  | 29 => ⟨S_, .f32⟩
  | 30 => ⟨S_, .f32⟩
  | 31 => ⟨S2x8x128x128, .i1⟩
  | 32 => ⟨S2x8x128x128, .f32⟩
  | 33 => ⟨S2x8x128x128, .f32⟩
  | 34 => ⟨S2x8x1, .f32⟩
  | 35 => ⟨S2x8x128, .f32⟩
  | 36 => ⟨S2x8x128, .f32⟩
  | 37 => ⟨S_, .f32⟩
  | 38 => ⟨S2x8x128, .f32⟩
  | 39 => ⟨S2x8x128, .f32⟩
  | 40 => ⟨S2x8x128, .f32⟩
  | 41 => ⟨S2x8x128, .f32⟩
  | 42 => ⟨S2x8x128x128, .f32⟩
  | 43 => ⟨S2x8x128x1, .f32⟩
  | 44 => ⟨S2x8x128x128, .f32⟩
  | 45 => ⟨S2x8x128x128, .f32⟩
  | 46 => ⟨S2x8x128x128, .f32⟩
  | 47 => ⟨S2x8x128x128, .f32⟩
  | 48 => ⟨S2x8x128x128, .f32⟩
  | 49 => ⟨S2x8x128x1, .f32⟩
  | 50 => ⟨S2x8x128x128, .f32⟩
  | 51 => ⟨S2x8x128x128, .f32⟩
  | 52 => ⟨S2x8x128x128, .f32⟩
  | 53 => ⟨S2x8x128x128, .f32⟩
  | 54 => ⟨S_, .f32⟩
  | 55 => ⟨S2x8x128, .f32⟩
  | 56 => ⟨S2x8x128, .f32⟩
  | 57 => ⟨S2x8x128, .f32⟩
  | 58 => ⟨S2x8x128, .f32⟩
  | 59 => ⟨S2x8x128, .f32⟩
  | 60 => ⟨S2x8x128, .f32⟩
  | 61 => ⟨S2x8x128, .f32⟩
  | 62 => ⟨S2x8x128, .f32⟩
  | 63 => ⟨S2x8x128x1, .f32⟩
  | 64 => ⟨S2x8x128x128, .f32⟩
  | 65 => ⟨S2x8x128x128, .f32⟩
  | 66 => ⟨S2x8x1, .f32⟩
  | 67 => ⟨S2x8, .f32⟩
  | 68 => ⟨S2x8x1, .f32⟩
  | 69 => ⟨S2x8x128, .f32⟩
  | 70 => ⟨S2x8x128, .f32⟩
  | 71 => ⟨S2x8x128, .f32⟩
  | 72 => ⟨S2x8, .f32⟩
  | 73 => ⟨S_, .f32⟩
  | 74 => ⟨S2x8, .f32⟩
  | 75 => ⟨S2x8, .f32⟩
  | 76 => ⟨S2x8x1, .f32⟩
  | 77 => ⟨S2x8x128, .f32⟩
  | 78 => ⟨S2x8x128, .f32⟩
  | 79 => ⟨S2x8x128, .f32⟩
  | 80 => ⟨S2x8, .f32⟩
  | 81 => ⟨S2x8, .f32⟩
  | 82 => ⟨S2x8, .f32⟩
  | 83 => ⟨S2x8x1x1, .f32⟩
  | 84 => ⟨S2x8x64x128, .f32⟩
  | 85 => ⟨S2x8x64x128, .f32⟩
  | 86 => ⟨S2x8x128x1, .f32⟩
  | 87 => ⟨S2x8x128x64, .f32⟩
  | 88 => ⟨S2x8x128x64, .f32⟩
  | 89 => ⟨S2x8x64x128, .f32⟩
  | 90 => ⟨S2x8x64x128, .f32⟩
  | 91 => ⟨S2x8x1, .f32⟩
  | 92 => ⟨S2x8x64, .f32⟩
  | 93 => ⟨S2x8x64, .f32⟩
  | 94 => ⟨S2x8x64, .f32⟩
  | 95 => ⟨S2x8x64, .f32⟩
  | 96 => ⟨S1x2x8x128x128, .f32⟩
  | 97 => ⟨S_, .i32⟩
  | 98 => ⟨S_, .i32⟩
  | 99 => ⟨S_, .i32⟩
  | 100 => ⟨S_, .i32⟩
  | 101 => ⟨S128x2x8x128x128, .f32⟩
  | 102 => ⟨S_, .i32⟩
  | 103 => ⟨S_, .i32⟩
  | 104 => ⟨S2x8x128x128x128, .f32⟩
  | 105 => ⟨S2x8x16384x128, .f32⟩
  | 106 => ⟨S1x8x16384x128, .f32⟩
  | 107 => ⟨S8x16384x128, .f32⟩
  | 108 => ⟨S1x8x16384x128, .f32⟩
  | 109 => ⟨S8x16384x128, .f32⟩
  | 110 => ⟨S8x16384x128, .f32⟩
  | 111 => ⟨S1x8x16384x128, .f32⟩
  | 112 => ⟨S1x8x16384x128, .f32⟩
  | 113 => ⟨S2x8x16384x128, .f32⟩
  | 114 => ⟨S2x16384x8x128, .f32⟩
  | 115 => ⟨S2x16384x1024, .f32⟩
  | 116 => ⟨S2x8x1x64, .f32⟩
  | 117 => ⟨S2x8x1x1, .f32⟩
  | 118 => ⟨S2x8x1x128, .f32⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c : Ref sig .tc := ⟨.hbm, 50, rfl⟩
abbrev main_v41 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_3 : Ref sig .tc := ⟨.hbm, 102, rfl⟩
abbrev main_v84 : Ref sig .tc := ⟨.hbm, 103, rfl⟩
abbrev main_c_4 : Ref sig .tc := ⟨.hbm, 104, rfl⟩
abbrev main_v85_0 : Ref sig .tc := ⟨.hbm, 105, rfl⟩
abbrev main_v85_1 : Ref sig .tc := ⟨.hbm, 106, rfl⟩
abbrev main_v85_2 : Ref sig .tc := ⟨.hbm, 107, rfl⟩
abbrev main_v85_3 : Ref sig .tc := ⟨.hbm, 108, rfl⟩
abbrev main_v85_4 : Ref sig .tc := ⟨.hbm, 109, rfl⟩
abbrev main_v85_5 : Ref sig .tc := ⟨.hbm, 110, rfl⟩
abbrev main_v85_6 : Ref sig .tc := ⟨.hbm, 111, rfl⟩
abbrev main_v85_7 : Ref sig .tc := ⟨.hbm, 112, rfl⟩
abbrev main_v85_8 : Ref sig .tc := ⟨.hbm, 113, rfl⟩
abbrev main_v85_9 : Ref sig .tc := ⟨.hbm, 114, rfl⟩
abbrev main_v85_10 : Ref sig .tc := ⟨.hbm, 115, rfl⟩
abbrev main_while0c_c_15 : Ref sig .tc := ⟨.hbm, 116, rfl⟩
abbrev main_while0c_v101 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_v0 : Ref sig .tc := ⟨.hbm, 122, rfl⟩
abbrev main_while0b_v101 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_call7_v0 : Ref sig .tc := ⟨.hbm, 128, rfl⟩
abbrev main_while0b_v102 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_c_2 : Ref sig .tc := ⟨.hbm, 133, rfl⟩
abbrev main_while0b_call8_v0 : Ref sig .tc := ⟨.hbm, 134, rfl⟩
abbrev main_while0b_v103 : Ref sig .tc := ⟨.hbm, 135, rfl⟩
abbrev main_while0b_call9_c : Ref sig .tc := ⟨.hbm, 136, rfl⟩
abbrev main_while0b_call9_c_0 : Ref sig .tc := ⟨.hbm, 137, rfl⟩
abbrev main_while0b_call9_c_1 : Ref sig .tc := ⟨.hbm, 138, rfl⟩
abbrev main_while0b_call9_v0 : Ref sig .tc := ⟨.hbm, 139, rfl⟩
abbrev main_while0b_v104 : Ref sig .tc := ⟨.hbm, 140, rfl⟩
abbrev main_while0b_call10_c : Ref sig .tc := ⟨.hbm, 141, rfl⟩
abbrev main_while0b_call10_c_0 : Ref sig .tc := ⟨.hbm, 142, rfl⟩
abbrev main_while0b_call10_c_1 : Ref sig .tc := ⟨.hbm, 143, rfl⟩
abbrev main_while0b_call10_v0 : Ref sig .tc := ⟨.hbm, 144, rfl⟩
abbrev main_while0b_v105 : Ref sig .tc := ⟨.hbm, 145, rfl⟩
abbrev main_while0b_call11_call0_cst : Ref sig .tc := ⟨.hbm, 146, rfl⟩
abbrev main_while0b_call11_call0_v0 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_cst_15 : Ref sig .tc := ⟨.hbm, 157, rfl⟩
abbrev main_while0b_call12_v0 : Ref sig .tc := ⟨.hbm, 158, rfl⟩
abbrev main_while0b_call12_v1 : Ref sig .tc := ⟨.hbm, 159, rfl⟩
abbrev main_while0b_call12_v2 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_v118 : Ref sig .tc := ⟨.hbm, 164, rfl⟩
abbrev main_while0b_cst_16 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_cst_17 : Ref sig .tc := ⟨.hbm, 182, rfl⟩
abbrev main_while0b_v135 : Ref sig .tc := ⟨.hbm, 183, rfl⟩
abbrev main_while0b_v136 : Ref sig .tc := ⟨.hbm, 184, rfl⟩
abbrev main_while0b_v137 : Ref sig .tc := ⟨.hbm, 185, rfl⟩
abbrev main_while0b_v138 : Ref sig .tc := ⟨.hbm, 186, rfl⟩
abbrev main_while0b_v139 : Ref sig .tc := ⟨.hbm, 187, rfl⟩
abbrev main_while0b_v140 : Ref sig .tc := ⟨.hbm, 188, rfl⟩
abbrev main_while0b_v141 : Ref sig .tc := ⟨.hbm, 189, rfl⟩
abbrev main_while0b_v142 : Ref sig .tc := ⟨.hbm, 190, rfl⟩
abbrev main_while0b_v143 : Ref sig .tc := ⟨.hbm, 191, rfl⟩
abbrev main_while0b_v144 : Ref sig .tc := ⟨.hbm, 192, rfl⟩
abbrev main_while0b_v145 : Ref sig .tc := ⟨.hbm, 193, rfl⟩
abbrev main_while0b_v146 : Ref sig .tc := ⟨.hbm, 194, rfl⟩
abbrev main_while0b_v147 : Ref sig .tc := ⟨.hbm, 195, rfl⟩
abbrev main_while0b_v148 : Ref sig .tc := ⟨.hbm, 196, rfl⟩
abbrev main_while0b_v149 : Ref sig .tc := ⟨.hbm, 197, rfl⟩
abbrev main_while0b_v150 : Ref sig .tc := ⟨.hbm, 198, rfl⟩
abbrev main_while0b_v151 : Ref sig .tc := ⟨.hbm, 199, rfl⟩
abbrev main_while0b_v152 : Ref sig .tc := ⟨.hbm, 200, rfl⟩
abbrev main_while0b_cst_18 : Ref sig .tc := ⟨.hbm, 201, rfl⟩
abbrev main_while0b_v153 : Ref sig .tc := ⟨.hbm, 202, rfl⟩
abbrev main_while0b_v154 : Ref sig .tc := ⟨.hbm, 203, rfl⟩
abbrev main_while0b_v155 : Ref sig .tc := ⟨.hbm, 204, rfl⟩
abbrev main_while0b_v156 : Ref sig .tc := ⟨.hbm, 205, rfl⟩
abbrev main_while0b_v157 : Ref sig .tc := ⟨.hbm, 206, rfl⟩
abbrev main_while0b_v158 : Ref sig .tc := ⟨.hbm, 207, rfl⟩
abbrev main_while0b_v159 : Ref sig .tc := ⟨.hbm, 208, rfl⟩
abbrev main_while0b_v160 : Ref sig .tc := ⟨.hbm, 209, rfl⟩
abbrev main_while0b_v161 : Ref sig .tc := ⟨.hbm, 210, rfl⟩
abbrev main_while0b_v162 : Ref sig .tc := ⟨.hbm, 211, rfl⟩
abbrev main_while0b_v163 : Ref sig .tc := ⟨.hbm, 212, rfl⟩
abbrev main_while0b_v164 : Ref sig .tc := ⟨.hbm, 213, rfl⟩
abbrev main_while0b_v165 : Ref sig .tc := ⟨.hbm, 214, rfl⟩
abbrev main_while0b_v166 : Ref sig .tc := ⟨.hbm, 215, rfl⟩
abbrev main_while0b_v167 : Ref sig .tc := ⟨.hbm, 216, rfl⟩
abbrev main_while0b_v168 : Ref sig .tc := ⟨.hbm, 217, rfl⟩
abbrev main_while0b_v169 : Ref sig .tc := ⟨.hbm, 218, rfl⟩
abbrev main_while0b_v170 : Ref sig .tc := ⟨.hbm, 219, rfl⟩
abbrev main_while0b_v171 : Ref sig .tc := ⟨.hbm, 220, rfl⟩
abbrev main_while0b_v172 : Ref sig .tc := ⟨.hbm, 221, rfl⟩
abbrev main_while0b_v173 : Ref sig .tc := ⟨.hbm, 222, rfl⟩
abbrev main_while0b_v174 : Ref sig .tc := ⟨.hbm, 223, rfl⟩
abbrev main_while0b_call13_v0 : Ref sig .tc := ⟨.hbm, 224, rfl⟩
abbrev main_while0b_call13_c : Ref sig .tc := ⟨.hbm, 225, rfl⟩
abbrev main_while0b_call13_c_0 : Ref sig .tc := ⟨.hbm, 226, rfl⟩
abbrev main_while0b_call13_c_1 : Ref sig .tc := ⟨.hbm, 227, rfl⟩
abbrev main_while0b_call13_c_2 : Ref sig .tc := ⟨.hbm, 228, rfl⟩
abbrev main_while0b_v175 : Ref sig .tc := ⟨.hbm, 229, rfl⟩
abbrev main_while0b_c_19 : Ref sig .tc := ⟨.hbm, 230, rfl⟩
abbrev main_while0b_v176 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩

abbrev nD : Nat := 1
abbrev τ : Topo := Topo.v7x

variable {F : FTy → Type} [FloatOps F]

abbrev main_while0_count : Scf.Loop 32 := ⟨0#32, 128#32, 1#32⟩
-- ==== GatesKernel.lean ====
abbrev S16384x4096 : Shape := ⟨2, ![16384, 4096]⟩
abbrev S4096x21952 : Shape := ⟨2, ![4096, 21952]⟩
abbrev S4096x12288 : Shape := ⟨2, ![4096, 12288]⟩
abbrev S16384x12288 : Shape := ⟨2, ![16384, 12288]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x21952, .f32⟩
  | .hbm, ⟨2, _⟩ => ⟨S16384x4096, .bf16⟩
  | .hbm, ⟨3, _⟩ => ⟨S4096x12288, .f32⟩
  | .hbm, ⟨4, _⟩ => ⟨S4096x12288, .bf16⟩
  | .hbm, ⟨5, _⟩ => ⟨S16384x12288, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x4096 : Shape := ⟨2, ![16384, 4096]⟩
abbrev S4096x21952 : Shape := ⟨2, ![4096, 21952]⟩
abbrev S16384x21952 : Shape := ⟨2, ![16384, 21952]⟩
abbrev S16384x12288 : Shape := ⟨2, ![16384, 12288]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x21952, .f32⟩
  | .hbm, ⟨2, _⟩ => ⟨S16384x21952, .f32⟩
  | .hbm, ⟨3, _⟩ => ⟨S16384x12288, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutputKernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S16384x4096, .bf16⟩
  | .hbm, ⟨5, _⟩ => ⟨S4096x4096, .bf16⟩
  | .hbm, ⟨6, _⟩ => ⟨S1x4096, .f32⟩
  | .hbm, ⟨7, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutputRefIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MergeKernel.lean ====
abbrev S16384x1024 : Shape := ⟨2, ![16384, 1024]⟩
abbrev S3x1024x4096 : Shape := ⟨3, ![3, 1024, 4096]⟩
abbrev S16384x12288 : Shape := ⟨2, ![16384, 12288]⟩
abbrev S16384x4096 : Shape := ⟨2, ![16384, 4096]⟩
abbrev S512x1024 : Shape := ⟨2, ![512, 1024]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S3x1024x4096, .f32⟩
  | .hbm, ⟨4, _⟩ => ⟨S16384x12288, .f32⟩
  | .hbm, ⟨5, _⟩ => ⟨S3x1024x4096, .bf16⟩
  | .hbm, ⟨6, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S3x1024x1024, .bf16⟩
  | .local _ .vmem, ⟨7, _⟩ => ⟨S3x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x1024 : Shape := ⟨2, ![16384, 1024]⟩
abbrev S3x1024x4096 : Shape := ⟨3, ![3, 1024, 4096]⟩
abbrev S16384x12288 : Shape := ⟨2, ![16384, 12288]⟩
abbrev S16384x4096 : Shape := ⟨2, ![16384, 4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S3x1024x4096, .f32⟩
  | .hbm, ⟨4, _⟩ => ⟨S16384x12288, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S1x1024x4096, .f32⟩
  | .hbm, ⟨15, _⟩ => ⟨S1024x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S1x1024x4096, .f32⟩
  | .hbm, ⟨31, _⟩ => ⟨S1024x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S1x1024x4096, .f32⟩
  | .hbm, ⟨45, _⟩ => ⟨S1024x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ColumnsKernel.lean ====
abbrev S16384x4096 : Shape := ⟨2, ![16384, 4096]⟩
abbrev S4096x3584 : Shape := ⟨2, ![4096, 3584]⟩
abbrev S64x256x3584 : Shape := ⟨3, ![64, 256, 3584]⟩
abbrev S512x4096 : Shape := ⟨2, ![512, 4096]⟩
abbrev S4096x896 : Shape := ⟨2, ![4096, 896]⟩
abbrev S64x8x896 : Shape := ⟨3, ![64, 8, 896]⟩
abbrev S512x896 : Shape := ⟨2, ![512, 896]⟩
abbrev S64x896 : Shape := ⟨2, ![64, 896]⟩
abbrev S64x1x896 : Shape := ⟨3, ![64, 1, 896]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x3584, .f32⟩
  | .hbm, ⟨2, _⟩ => ⟨S16384x4096, .bf16⟩
  | .hbm, ⟨3, _⟩ => ⟨S4096x3584, .bf16⟩
  | .hbm, ⟨4, _⟩ => ⟨S64x256x3584, .f32⟩
  | .local _ .vmem, ⟨0, _⟩ => ⟨S512x4096, .bf16⟩
  | .local _ .vmem, ⟨1, _⟩ => ⟨S512x4096, .bf16⟩
  | .local _ .vmem, ⟨2, _⟩ => ⟨S4096x896, .bf16⟩
  | .local _ .vmem, ⟨3, _⟩ => ⟨S4096x896, .bf16⟩
  | .local _ .vmem, ⟨4, _⟩ => ⟨S64x8x896, .f32⟩
  | .local _ .vmem, ⟨5, _⟩ => ⟨S64x8x896, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x8x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColumnsRefIdeal.lean ====
abbrev S16384x4096 : Shape := ⟨2, ![16384, 4096]⟩
abbrev S4096x3584 : Shape := ⟨2, ![4096, 3584]⟩
abbrev S16384x3584 : Shape := ⟨2, ![16384, 3584]⟩
abbrev S256x64x3584 : Shape := ⟨3, ![256, 64, 3584]⟩
abbrev S64x256x3584 : Shape := ⟨3, ![64, 256, 3584]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x3584, .f32⟩
  | .hbm, ⟨2, _⟩ => ⟨S16384x3584, .f32⟩
  | .hbm, ⟨3, _⟩ => ⟨S256x64x3584, .f32⟩
  | .hbm, ⟨4, _⟩ => ⟨S64x256x3584, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ShortKernel.lean ====
abbrev S16384x4096 : Shape := ⟨2, ![16384, 4096]⟩
abbrev S4096x21952 : Shape := ⟨2, ![4096, 21952]⟩
abbrev S4096x3072 : Shape := ⟨2, ![4096, 3072]⟩
abbrev S16384x3072 : Shape := ⟨2, ![16384, 3072]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x21952, .f32⟩
  | .hbm, ⟨2, _⟩ => ⟨S16384x4096, .bf16⟩
  | .hbm, ⟨3, _⟩ => ⟨S4096x3072, .f32⟩
  | .hbm, ⟨4, _⟩ => ⟨S4096x3072, .bf16⟩
  | .hbm, ⟨5, _⟩ => ⟨S16384x3072, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ShortRefIdeal.lean ====
abbrev S16384x4096 : Shape := ⟨2, ![16384, 4096]⟩
abbrev S4096x21952 : Shape := ⟨2, ![4096, 21952]⟩
abbrev S16384x21952 : Shape := ⟨2, ![16384, 21952]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x21952, .f32⟩
  | .hbm, ⟨2, _⟩ => ⟨S16384x21952, .f32⟩
  | .hbm, ⟨3, _⟩ => ⟨S16384x3072, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HeadsKernel.lean ====
abbrev S16384x4096 : Shape := ⟨2, ![16384, 4096]⟩
abbrev S4096x3200 : Shape := ⟨2, ![4096, 3200]⟩
abbrev S16384x3200 : Shape := ⟨2, ![16384, 3200]⟩
abbrev S512x4096 : Shape := ⟨2, ![512, 4096]⟩
abbrev S4096x640 : Shape := ⟨2, ![4096, 640]⟩
abbrev S512x640 : Shape := ⟨2, ![512, 640]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x3200, .f32⟩
  | .hbm, ⟨2, _⟩ => ⟨S16384x4096, .bf16⟩
  | .hbm, ⟨3, _⟩ => ⟨S4096x3200, .bf16⟩
  | .hbm, ⟨4, _⟩ => ⟨S16384x3200, .f32⟩
  | .local _ .vmem, ⟨0, _⟩ => ⟨S512x4096, .bf16⟩
  | .local _ .vmem, ⟨1, _⟩ => ⟨S512x4096, .bf16⟩
  | .local _ .vmem, ⟨2, _⟩ => ⟨S4096x640, .bf16⟩
  | .local _ .vmem, ⟨3, _⟩ => ⟨S4096x640, .bf16⟩
  | .local _ .vmem, ⟨4, _⟩ => ⟨S512x640, .f32⟩
  | .local _ .vmem, ⟨5, _⟩ => ⟨S512x640, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadsRefIdeal.lean ====
abbrev S16384x4096 : Shape := ⟨2, ![16384, 4096]⟩
abbrev S4096x3200 : Shape := ⟨2, ![4096, 3200]⟩
abbrev S16384x3200 : Shape := ⟨2, ![16384, 3200]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x3200, .f32⟩
  | .hbm, ⟨2, _⟩ => ⟨S16384x3200, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormKernel.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== RouterKernel.lean ====
abbrev S16384x4096 : Shape := ⟨2, ![16384, 4096]⟩
abbrev S4096 : Shape := ⟨1, ![4096]⟩
abbrev S4096x128 : Shape := ⟨2, ![4096, 128]⟩
abbrev S1x128 : Shape := ⟨2, ![1, 128]⟩
abbrev S1x4096 : Shape := ⟨2, ![1, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096x128, .f32⟩
  | .hbm, ⟨5, _⟩ => ⟨S1x128, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S16384x4096, .bf16⟩
  | .hbm, ⟨10, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x128, .f32⟩
  | .local _ .vmem, ⟨6, _⟩ => ⟨S1x128, .f32⟩
  | .local _ .vmem, ⟨7, _⟩ => ⟨S256x4096, .bf16⟩
  | .local _ .vmem, ⟨8, _⟩ => ⟨S256x4096, .bf16⟩
  | .local _ .vmem, ⟨9, _⟩ => ⟨S256x128, .f32⟩
  | .local _ .vmem, ⟨10, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouterRefIdeal.lean ====
abbrev S16384x4096 : Shape := ⟨2, ![16384, 4096]⟩
abbrev S4096 : Shape := ⟨1, ![4096]⟩
abbrev S4096x128 : Shape := ⟨2, ![4096, 128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096x128, .f32⟩
  | .hbm, ⟨5, _⟩ => ⟨S1x128, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S16384x4096, .bf16⟩
  | .hbm, ⟨32, _⟩ => ⟨S16384x128, .f32⟩
  | .hbm, ⟨33, _⟩ => ⟨S16384x128, .f32⟩
  | .hbm, ⟨34, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== FinalKernel.lean ====
abbrev S16384x4096 : Shape := ⟨2, ![16384, 4096]⟩
abbrev S4096 : Shape := ⟨1, ![4096]⟩
abbrev S_ : Shape := ⟨0, ![]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== CombineKernel.lean ====
abbrev S16384x4096 : Shape := ⟨2, ![16384, 4096]⟩
abbrev S4096 : Shape := ⟨1, ![4096]⟩
abbrev S65536x4096 : Shape := ⟨2, ![65536, 4096]⟩
abbrev S1x4096 : Shape := ⟨2, ![1, 4096]⟩
abbrev S256x4096 : Shape := ⟨2, ![256, 4096]⟩

abbrev nBuf : Space → Nat
  | .hbm => 5
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S65536x4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c192_i32 : BitVec 32 := 192#32
  let v0 : BitVec 32 := Scalar.addi arg0 c192_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S16384x4096 : Shape := ⟨2, ![16384, 4096]⟩
abbrev S4096 : Shape := ⟨1, ![4096]⟩
abbrev S65536x4096 : Shape := ⟨2, ![65536, 4096]⟩
abbrev S4x16384x4096 : Shape := ⟨3, ![4, 16384, 4096]⟩
abbrev S_ : Shape := ⟨0, ![]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S65536x4096, .f32⟩
  | .hbm, ⟨3, _⟩ => ⟨S4x16384x4096, .f32⟩
  | .hbm, ⟨4, _⟩ => ⟨S_, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdaKernel.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 40
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S1x4096x24576, .f32⟩
  | .hbm, ⟨30, _⟩ => ⟨S4096x24576, .f32⟩
  | .hbm, ⟨31, _⟩ => ⟨S8x24576, .f32⟩
  | .hbm, ⟨32, _⟩ => ⟨S1x24576, .f32⟩
  | .hbm, ⟨33, _⟩ => ⟨S24576, .f32⟩
  | .hbm, ⟨34, _⟩ => ⟨S1x24576, .f32⟩
  | .hbm, ⟨35, _⟩ => ⟨S8x24576, .f32⟩
  | .hbm, ⟨36, _⟩ => ⟨S8x24576, .f32⟩
  | .hbm, ⟨37, _⟩ => ⟨S1x8x24576, .f32⟩
  | .hbm, ⟨38, _⟩ => ⟨S1x8x24576, .f32⟩
  | .hbm, ⟨39, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== PostKernel.lean ====
abbrev S2x16384x1024 : Shape := ⟨3, ![2, 16384, 1024]⟩
abbrev S16384x3200 : Shape := ⟨2, ![16384, 3200]⟩
abbrev S1024 : Shape := ⟨1, ![1024]⟩
abbrev S1x1024 : Shape := ⟨2, ![1, 1024]⟩
abbrev S16384x1024 : Shape := ⟨2, ![16384, 1024]⟩
abbrev S1x256x1024 : Shape := ⟨3, ![1, 256, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S16384x3200, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S2x16384x1024 : Shape := ⟨3, ![2, 16384, 1024]⟩
abbrev S16384x3200 : Shape := ⟨2, ![16384, 3200]⟩
abbrev S1024 : Shape := ⟨1, ![1024]⟩
abbrev S1x16384x1024 : Shape := ⟨3, ![1, 16384, 1024]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S16384x3200, .f32⟩
  | .hbm, ⟨2, _⟩ => ⟨S1024, .f32⟩
  | .hbm, ⟨3, _⟩ => ⟨S1x16384x1024, .f32⟩
  | .hbm, ⟨4, _⟩ => ⟨S16384x1024, .f32⟩
  | .hbm, ⟨5, _⟩ => ⟨S1x16384x1024, .f32⟩
  | .hbm, ⟨6, _⟩ => ⟨S16384x1024, .f32⟩
  | .hbm, ⟨7, _⟩ => ⟨S16384x1024, .f32⟩
  | .hbm, ⟨8, _⟩ => ⟨S16384x8x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S16384x8x1, .f32⟩
  | .hbm, ⟨20, _⟩ => ⟨S16384x8x128, .f32⟩
  | .hbm, ⟨21, _⟩ => ⟨S16384x8x128, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== ConvKernel.lean ====
abbrev S16384x3072 : Shape := ⟨2, ![16384, 3072]⟩
abbrev S3x3072 : Shape := ⟨2, ![3, 3072]⟩
abbrev S3072 : Shape := ⟨1, ![3072]⟩
abbrev S1x3072 : Shape := ⟨2, ![1, 3072]⟩
abbrev S16384x1024 : Shape := ⟨2, ![16384, 1024]⟩
abbrev S256x3072 : Shape := ⟨2, ![256, 3072]⟩
abbrev S8x3072 : Shape := ⟨2, ![8, 3072]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16384x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16384x1024, .f32⟩
  | .hbm, ⟨5, _⟩ => ⟨S16384x1024, .f32⟩
  | .hbm, ⟨6, _⟩ => ⟨S16384x1024, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S3x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S16384x3072 : Shape := ⟨2, ![16384, 3072]⟩
abbrev S3x3072 : Shape := ⟨2, ![3, 3072]⟩
abbrev S3072 : Shape := ⟨1, ![3072]⟩
abbrev S_ : Shape := ⟨0, ![]⟩
abbrev S16386x3072 : Shape := ⟨2, ![16386, 3072]⟩
abbrev S1x3072 : Shape := ⟨2, ![1, 3072]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S16386x3072, .f32⟩
  | .hbm, ⟨6, _⟩ => ⟨S16384x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S16384x3072, .f32⟩
  | .hbm, ⟨11, _⟩ => ⟨S16384x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S16384x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S1x3072, .f32⟩
  | .hbm, ⟨26, _⟩ => ⟨S16384x3072, .f32⟩
  | .hbm, ⟨27, _⟩ => ⟨S16384x3072, .f32⟩
  | .hbm, ⟨28, _⟩ => ⟨S16384x1024, .f32⟩
  | .hbm, ⟨29, _⟩ => ⟨S16384x1024, .f32⟩
  | .hbm, ⟨30, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== ExpertsKernel.lean ====
abbrev S288 : Shape := ⟨1, ![288]⟩
abbrev S1 : Shape := ⟨1, ![1]⟩
abbrev S73728x4096 : Shape := ⟨2, ![73728, 4096]⟩
abbrev S32x4096x1024 : Shape := ⟨3, ![32, 4096, 1024]⟩
abbrev S32x1x1024 : Shape := ⟨3, ![32, 1, 1024]⟩
abbrev S2x32x512x4096 : Shape := ⟨4, ![2, 32, 512, 4096]⟩
abbrev S2x32x1x4096 : Shape := ⟨4, ![2, 32, 1, 4096]⟩
abbrev S73728x1 : Shape := ⟨2, ![73728, 1]⟩
abbrev S256x4096 : Shape := ⟨2, ![256, 4096]⟩
abbrev S1x4096x1024 : Shape := ⟨3, ![1, 4096, 1024]⟩
abbrev S1x1x1024 : Shape := ⟨3, ![1, 1, 1024]⟩
abbrev S1x1x512x4096 : Shape := ⟨4, ![1, 1, 512, 4096]⟩
abbrev S1x1x1x4096 : Shape := ⟨4, ![1, 1, 1, 4096]⟩
abbrev S256x1 : Shape := ⟨2, ![256, 1]⟩
abbrev S4096x1024 : Shape := ⟨2, ![4096, 1024]⟩
abbrev S256x1024 : Shape := ⟨2, ![256, 1024]⟩
abbrev S1x1024 : Shape := ⟨2, ![1, 1024]⟩
abbrev S256x128 : Shape := ⟨2, ![256, 128]⟩
abbrev S256x512 : Shape := ⟨2, ![256, 512]⟩
abbrev S512x4096 : Shape := ⟨2, ![512, 4096]⟩
abbrev S1x4096 : Shape := ⟨2, ![1, 4096]⟩

abbrev nBuf : Space → Nat
  | .hbm => 9
  | .vmem => 14
  | .smem => 2
  | _ => 0

abbrev bufTy : (tb : Table) → Fin (tcTables nBuf tb) → BufTy
  | .hbm, ⟨0, _⟩ => ⟨S73728x4096, .f32⟩
  | .hbm, ⟨1, _⟩ => ⟨S32x4096x1024, .f32⟩
  | .hbm, ⟨2, _⟩ => ⟨S32x1x1024, .f32⟩
  | .hbm, ⟨3, _⟩ => ⟨S2x32x512x4096, .f32⟩
  | .hbm, ⟨4, _⟩ => ⟨S2x32x1x4096, .f32⟩
  | .hbm, ⟨5, _⟩ => ⟨S73728x1, .f32⟩
  | .hbm, ⟨6, _⟩ => ⟨S73728x4096, .bf16⟩
  | .hbm, ⟨7, _⟩ => ⟨S32x4096x1024, .bf16⟩
  | .hbm, ⟨8, _⟩ => ⟨S73728x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x512x4096, .f32⟩
  | .local _ .vmem, ⟨7, _⟩ => ⟨S1x1x512x4096, .f32⟩
  | .local _ .vmem, ⟨8, _⟩ => ⟨S1x1x1x4096, .f32⟩
  | .local _ .vmem, ⟨9, _⟩ => ⟨S1x1x1x4096, .f32⟩
  | .local _ .vmem, ⟨10, _⟩ => ⟨S256x1, .f32⟩
  | .local _ .vmem, ⟨11, _⟩ => ⟨S256x1, .f32⟩
  | .local _ .vmem, ⟨12, _⟩ => ⟨S256x4096, .f32⟩
  | .local _ .vmem, ⟨13, _⟩ => ⟨S256x4096, .f32⟩
  | .local _ .smem, ⟨0, _⟩ => ⟨S288, .i32⟩
  | .local _ .smem, ⟨1, _⟩ => ⟨S1, .i32⟩
  | _, _ => ⟨S73728x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsRefIdeal.lean ====
abbrev S288 : Shape := ⟨1, ![288]⟩
abbrev S1 : Shape := ⟨1, ![1]⟩
abbrev S73728x4096 : Shape := ⟨2, ![73728, 4096]⟩
abbrev S32x4096x1024 : Shape := ⟨3, ![32, 4096, 1024]⟩
abbrev S32x1x1024 : Shape := ⟨3, ![32, 1, 1024]⟩
abbrev S2x32x512x4096 : Shape := ⟨4, ![2, 32, 512, 4096]⟩
abbrev S2x32x1x4096 : Shape := ⟨4, ![2, 32, 1, 4096]⟩
abbrev S73728x1 : Shape := ⟨2, ![73728, 1]⟩
abbrev S288x256x4096 : Shape := ⟨3, ![288, 256, 4096]⟩
abbrev S_ : Shape := ⟨0, ![]⟩
abbrev S288x1 : Shape := ⟨2, ![288, 1]⟩
abbrev S288x4096x1024 : Shape := ⟨3, ![288, 4096, 1024]⟩
abbrev S288x256x1024 : Shape := ⟨3, ![288, 256, 1024]⟩
abbrev S288x1x1024 : Shape := ⟨3, ![288, 1, 1024]⟩
abbrev S288x256x4x2x128 : Shape := ⟨5, ![288, 256, 4, 2, 128]⟩
abbrev S288x256x4x1x128 : Shape := ⟨5, ![288, 256, 4, 1, 128]⟩
abbrev S288x256x4x128 : Shape := ⟨4, ![288, 256, 4, 128]⟩
abbrev S288x256x512 : Shape := ⟨3, ![288, 256, 512]⟩
abbrev S1x32x512x4096 : Shape := ⟨4, ![1, 32, 512, 4096]⟩
abbrev S32x512x4096 : Shape := ⟨3, ![32, 512, 4096]⟩
abbrev S288x512x4096 : Shape := ⟨3, ![288, 512, 4096]⟩
abbrev S1x32x1x4096 : Shape := ⟨4, ![1, 32, 1, 4096]⟩
abbrev S32x1x4096 : Shape := ⟨3, ![32, 1, 4096]⟩
abbrev S288x1x4096 : Shape := ⟨3, ![288, 1, 4096]⟩
abbrev S288x256x1 : Shape := ⟨3, ![288, 256, 1]⟩
abbrev S288x1x1 : Shape := ⟨3, ![288, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x4096, .f32⟩
  | .hbm, ⟨3, _⟩ => ⟨S32x4096x1024, .f32⟩
  | .hbm, ⟨4, _⟩ => ⟨S32x1x1024, .f32⟩
  | .hbm, ⟨5, _⟩ => ⟨S2x32x512x4096, .f32⟩
  | .hbm, ⟨6, _⟩ => ⟨S2x32x1x4096, .f32⟩
  | .hbm, ⟨7, _⟩ => ⟨S73728x1, .f32⟩
  | .hbm, ⟨8, _⟩ => ⟨S288x256x4096, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x4096x1024, .f32⟩
  | .hbm, ⟨18, _⟩ => ⟨S288x256x1024, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1x1024, .f32⟩
  | .hbm, ⟨28, _⟩ => ⟨S288x256x1024, .f32⟩
  | .hbm, ⟨29, _⟩ => ⟨S288x256x1024, .f32⟩
  | .hbm, ⟨30, _⟩ => ⟨S288x256x4x2x128, .f32⟩
  | .hbm, ⟨31, _⟩ => ⟨S288x256x4x1x128, .f32⟩
  | .hbm, ⟨32, _⟩ => ⟨S288x256x4x128, .f32⟩
  | .hbm, ⟨33, _⟩ => ⟨S288x256x512, .f32⟩
  | .hbm, ⟨34, _⟩ => ⟨S_, .f32⟩
  | .hbm, ⟨35, _⟩ => ⟨S288x256x512, .f32⟩
  | .hbm, ⟨36, _⟩ => ⟨S288x256x512, .f32⟩
  | .hbm, ⟨37, _⟩ => ⟨S288x256x4x1x128, .f32⟩
  | .hbm, ⟨38, _⟩ => ⟨S288x256x4x128, .f32⟩
  | .hbm, ⟨39, _⟩ => ⟨S288x256x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S288x256x512, .f32⟩
  | .hbm, ⟨44, _⟩ => ⟨S288x256x512, .f32⟩
  | .hbm, ⟨45, _⟩ => ⟨S_, .f32⟩
  | .hbm, ⟨46, _⟩ => ⟨S288x256x512, .f32⟩
  | .hbm, ⟨47, _⟩ => ⟨S288x256x512, .f32⟩
  | .hbm, ⟨48, _⟩ => ⟨S_, .f32⟩
  | .hbm, ⟨49, _⟩ => ⟨S288x256x512, .f32⟩
  | .hbm, ⟨50, _⟩ => ⟨S288x256x512, .f32⟩
  | .hbm, ⟨51, _⟩ => ⟨S288x256x512, .f32⟩
  | .hbm, ⟨52, _⟩ => ⟨S288x256x512, .f32⟩
  | .hbm, ⟨53, _⟩ => ⟨S_, .f32⟩
  | .hbm, ⟨54, _⟩ => ⟨S288x256x512, .f32⟩
  | .hbm, ⟨55, _⟩ => ⟨S288x256x512, .f32⟩
  | .hbm, ⟨56, _⟩ => ⟨S_, .f32⟩
  | .hbm, ⟨57, _⟩ => ⟨S288x256x512, .f32⟩
  | .hbm, ⟨58, _⟩ => ⟨S288x256x512, .f32⟩
  | .hbm, ⟨59, _⟩ => ⟨S288x256x512, .f32⟩
  | .hbm, ⟨60, _⟩ => ⟨S_, .f32⟩
  | .hbm, ⟨61, _⟩ => ⟨S288x256x512, .f32⟩
  | .hbm, ⟨62, _⟩ => ⟨S288x256x512, .f32⟩
  | .hbm, ⟨63, _⟩ => ⟨S288x256x512, .f32⟩
  | .hbm, ⟨64, _⟩ => ⟨S1x32x512x4096, .f32⟩
  | .hbm, ⟨65, _⟩ => ⟨S32x512x4096, .f32⟩
  | .hbm, ⟨66, _⟩ => ⟨S_, .i32⟩
  | .hbm, ⟨67, _⟩ => ⟨S288, .i32⟩
  | .hbm, ⟨68, _⟩ => ⟨S288, .i1⟩
  | .hbm, ⟨69, _⟩ => ⟨S_, .i32⟩
  | .hbm, ⟨70, _⟩ => ⟨S288, .i32⟩
  | .hbm, ⟨71, _⟩ => ⟨S288, .i32⟩
  | .hbm, ⟨72, _⟩ => ⟨S288, .i32⟩
  | .hbm, ⟨73, _⟩ => ⟨S288x1, .i32⟩
  | .hbm, ⟨74, _⟩ => ⟨S288x512x4096, .f32⟩
  | .hbm, ⟨75, _⟩ => ⟨S288x256x4096, .f32⟩
  | .hbm, ⟨76, _⟩ => ⟨S1x32x1x4096, .f32⟩
  | .hbm, ⟨77, _⟩ => ⟨S32x1x4096, .f32⟩
  | .hbm, ⟨78, _⟩ => ⟨S_, .i32⟩
  | .hbm, ⟨79, _⟩ => ⟨S288, .i32⟩
  | .hbm, ⟨80, _⟩ => ⟨S288, .i1⟩
  | .hbm, ⟨81, _⟩ => ⟨S_, .i32⟩
  | .hbm, ⟨82, _⟩ => ⟨S288, .i32⟩
  | .hbm, ⟨83, _⟩ => ⟨S288, .i32⟩
  | .hbm, ⟨84, _⟩ => ⟨S288, .i32⟩
  | .hbm, ⟨85, _⟩ => ⟨S288x1, .i32⟩
  | .hbm, ⟨86, _⟩ => ⟨S288x1x4096, .f32⟩
  | .hbm, ⟨87, _⟩ => ⟨S288x256x4096, .f32⟩
  | .hbm, ⟨88, _⟩ => ⟨S288x256x4096, .f32⟩
  | .hbm, ⟨89, _⟩ => ⟨S288x256x1, .f32⟩
  | .hbm, ⟨90, _⟩ => ⟨S288x256x4096, .f32⟩
  | .hbm, ⟨91, _⟩ => ⟨S288x256x4096, .f32⟩
  | .hbm, ⟨92, _⟩ => ⟨S288, .i32⟩
  | .hbm, ⟨93, _⟩ => ⟨S288, .i32⟩
  | .hbm, ⟨94, _⟩ => ⟨S288, .i1⟩
  | .hbm, ⟨95, _⟩ => ⟨S288x1x1, .i1⟩
  | .hbm, ⟨96, _⟩ => ⟨S_, .f32⟩
  | .hbm, ⟨97, _⟩ => ⟨S_, .f32⟩
  | .hbm, ⟨98, _⟩ => ⟨S288x256x4096, .i1⟩
  | .hbm, ⟨99, _⟩ => ⟨S288x256x4096, .f32⟩
  | .hbm, ⟨100, _⟩ => ⟨S288x256x4096, .f32⟩
  | .hbm, ⟨101, _⟩ => ⟨S73728x4096, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Proof.Spec.lean ====
/-
  One chunk of the mLSTM scan for one head, over the extended reals: 128 steps at once, in the stabilised
  form both programs compute. Nothing here mentions a program.
-/
module

public import Idealize.ShloMosaic.PureOps.Ideal
public import Mathlib.Data.EReal.Operations
public import Mathlib.Data.EReal.Inv
public import Mathlib.Algebra.BigOperators.Fin
public import Mathlib.Data.Fin.Rev

@[expose] public section

noncomputable section

open Idealize.ShloMosaic

namespace Cert.Scan

/-- The largest of 128 values, from below. -/
def top (g : Fin 128 → EReal) : EReal := Finset.univ.fold max ⊥ g

/-- The absolute value. -/
abbrev abs' (x : EReal) : EReal := max x (-x)

/-- What a head carries from chunk to chunk: the matrix memory, the normaliser, the stabiliser. -/
@[ext] structure St where
  C : Fin 64 → Fin 128 → EReal
  n : Fin 64 → EReal
  m : EReal

/-- What a chunk brings: which steps a step sees, the summed log forget gates (with their total `e`), the input
    gates, and the queries (scaled), keys and values. -/
@[ext] structure Chunk where
  sees : Fin 128 → Fin 128 → Bool
  b : Fin 128 → EReal
  i : Fin 128 → EReal
  e : EReal
  q : Fin 128 → Fin 64 → EReal
  k : Fin 128 → Fin 64 → EReal
  v : Fin 128 → Fin 128 → EReal

namespace Chunk

variable (X : Chunk) (S : St)

/-- The log weight of step `s` as step `t` sees it. -/
def logD (t s : Fin 128) : EReal := if X.sees t s then X.b t - X.b s + X.i s else ⊥

/-- The log weight of the carried memory at step `t`. -/
def inter (t : Fin 128) : EReal := X.b t + S.m

/-- The stabiliser of step `t`. -/
def mt (t : Fin 128) : EReal := max (X.inter S t) (top (X.logD t))

/-- The weight of the carried memory at step `t`. -/
def wPrev (t : Fin 128) : EReal := Ideal.exp (X.inter S t - X.mt S t)

/-- The weighted product of query `t` with key `s`. -/
def score (t s : Fin 128) : EReal := (∑ a : Fin 64, X.q t a * X.k s a) * Ideal.exp (X.logD t s - X.mt S t)

def num (t c : Fin 128) : EReal :=
  (∑ s : Fin 128, X.score S t s * X.v s c) + X.wPrev S t * ∑ a : Fin 64, X.q t a * S.C a c

def den (t : Fin 128) : EReal :=
  (∑ s : Fin 128, X.score S t s) + X.wPrev S t * ∑ a : Fin 64, X.q t a * S.n a

/-- What the head emits at step `t`. -/
def out (t c : Fin 128) : EReal :=
  Ideal.div (X.num S t c) (max (abs' (X.den S t)) (Ideal.exp (-X.mt S t)))

/-- The log weight of step `s` in the memory handed on. -/
def logW (s : Fin 128) : EReal := X.e - X.b s + X.i s

def mNew : EReal := max (X.e + S.m) (top X.logW)

def keep : EReal := Ideal.exp (X.e + S.m - X.mNew S)

def w (s : Fin 128) : EReal := Ideal.exp (X.logW s - X.mNew S)

/-- The memory handed on. -/
def next : St where
  C := fun a c => X.keep S * S.C a c + ∑ s : Fin 128, X.w S s * X.k s a * X.v s c
  n := fun a => X.keep S * S.n a + ∑ s : Fin 128, X.w S s * X.k s a
  m := X.mNew S

/-! ## A chunk read from its last step to its first -/

/-- The same chunk with its steps listed in the other order. -/
def flip : Chunk where
  sees t s := X.sees t.rev s.rev
  b t := X.b t.rev
  i t := X.i t.rev
  e := X.e
  q t := X.q t.rev
  k t := X.k t.rev
  v t := X.v t.rev

theorem sum_rev (g : Fin 128 → EReal) : ∑ s : Fin 128, g s.rev = ∑ s, g s :=
  Equiv.sum_comp Fin.revPerm g

theorem top_rev (g : Fin 128 → EReal) : top (fun s => g s.rev) = top g := by
  unfold top
  have h := Finset.fold_map (op := max) (b := (⊥ : EReal)) (f := g) (g := (Fin.revPerm (n := 128)).toEmbedding)
    (s := Finset.univ)
  rw [Finset.map_univ_equiv] at h
  exact h.symm

theorem flip_logD (t s : Fin 128) : X.flip.logD t s = X.logD t.rev s.rev := rfl

theorem flip_mt (t : Fin 128) : X.flip.mt S t = X.mt S t.rev :=
  congrArg (max _) (top_rev (X.logD t.rev))

theorem flip_wPrev (t : Fin 128) : X.flip.wPrev S t = X.wPrev S t.rev := by
  unfold wPrev; rw [flip_mt]; rfl

theorem flip_score (t s : Fin 128) : X.flip.score S t s = X.score S t.rev s.rev := by
  unfold score; rw [flip_mt]; rfl

theorem flip_num (t c : Fin 128) : X.flip.num S t c = X.num S t.rev c := by
  unfold num
  simp only [flip_score, flip_wPrev]
  exact congrArg₂ (· + ·) (sum_rev fun s => X.score S t.rev s * X.v s c) rfl

theorem flip_den (t : Fin 128) : X.flip.den S t = X.den S t.rev := by
  unfold den
  simp only [flip_score, flip_wPrev]
  exact congrArg₂ (· + ·) (sum_rev fun s => X.score S t.rev s) rfl

/-- The steps of the flipped chunk emit the same, in the other order. -/
theorem flip_out (t c : Fin 128) : X.flip.out S t c = X.out S t.rev c := by
  unfold out; rw [flip_num, flip_den, flip_mt]

theorem flip_mNew : X.flip.mNew S = X.mNew S :=
  congrArg (max _) (top_rev X.logW)

theorem flip_keep : X.flip.keep S = X.keep S := by
  unfold keep; rw [flip_mNew]; rfl

theorem flip_w (s : Fin 128) : X.flip.w S s = X.w S s.rev := by
  unfold w; rw [flip_mNew]; rfl

/-- The flipped chunk hands on the same memory. -/
theorem flip_next : X.flip.next S = X.next S := by
  unfold next
  simp only [flip_w, flip_keep, flip_mNew]
  congr 1
  · funext a c
    exact congrArg _ (sum_rev fun s => X.w S s * X.k s a * X.v s c)
  · funext a
    exact congrArg _ (sum_rev fun s => X.w S s * X.k s a)

end Chunk

/-! ## A chunk from its gates -/

/-- A chunk whose steps see themselves and the earlier ones; `f` the log forget gates. -/
def fwd (f i : Fin 128 → EReal) (q k : Fin 128 → Fin 64 → EReal) (v : Fin 128 → Fin 128 → EReal) : Chunk where
  sees t s := decide (s ≤ t)
  b t := ∑ s, if s ≤ t then f s else 0
  i := i
  e := ∑ s, f s
  q := q
  k := k
  v := v

/-- A chunk whose steps see themselves and the later ones. -/
def bwd (f i : Fin 128 → EReal) (q k : Fin 128 → Fin 64 → EReal) (v : Fin 128 → Fin 128 → EReal) : Chunk where
  sees t s := decide (t ≤ s)
  b t := ∑ s, if t ≤ s then f s else 0
  i := i
  e := ∑ s, f s
  q := q
  k := k
  v := v

/-- Flipped, a chunk whose steps see the later ones is one whose steps see the earlier ones. -/
theorem bwd_flip (f i : Fin 128 → EReal) (q k : Fin 128 → Fin 64 → EReal) (v : Fin 128 → Fin 128 → EReal) :
    (bwd f i q k v).flip =
      fwd (fun s => f s.rev) (fun s => i s.rev) (fun s => q s.rev) (fun s => k s.rev) (fun s => v s.rev) := by
  unfold bwd fwd Chunk.flip
  congr 1
  · funext t s
    simp only [Fin.rev_le_rev]
  · funext t
    refine (Chunk.sum_rev fun s => if t.rev ≤ s then f s else 0).symm.trans ?_
    simp only [Fin.rev_le_rev]
  · exact (Chunk.sum_rev f).symm

theorem bwd_next (f i : Fin 128 → EReal) (q k : Fin 128 → Fin 64 → EReal) (v : Fin 128 → Fin 128 → EReal) (S : St) :
    (bwd f i q k v).next S =
      (fwd (fun s => f s.rev) (fun s => i s.rev) (fun s => q s.rev) (fun s => k s.rev) (fun s => v s.rev)).next S := by
  rw [← bwd_flip, Chunk.flip_next]

theorem bwd_out (f i : Fin 128 → EReal) (q k : Fin 128 → Fin 64 → EReal) (v : Fin 128 → Fin 128 → EReal) (S : St)
    (t c : Fin 128) :
    (bwd f i q k v).out S t c =
      (fwd (fun s => f s.rev) (fun s => i s.rev) (fun s => q s.rev) (fun s => k s.rev) (fun s => v s.rev)).out S t.rev c := by
  rw [← bwd_flip, Chunk.flip_out, Fin.rev_rev]

/-! ## The log-sigmoid, written two ways -/

/-- `log σ(x)`, from the absolute value. -/
def logSig (x : EReal) : EReal := min x 0 - Ideal.log (1 + Ideal.exp (0 - abs' x))

theorem exp_bot : Ideal.exp ⊥ = 0 := rfl

theorem log_one_add_exp (x : EReal) : ∃ r : ℝ, Ideal.log (1 + Ideal.exp (-abs' x)) = r := by
  have key : ∀ e : ℝ, 0 ≤ e → ∃ r : ℝ, Ideal.log (1 + (e : EReal)) = r := fun e he => by
    refine ⟨Real.log (1 + e), ?_⟩
    rw [← EReal.coe_one, ← EReal.coe_add]
    show (if 1 + e ≤ 0 then (⊥ : EReal) else ((Real.log (1 + e) : ℝ) : EReal)) = _
    rw [if_neg (by linarith)]
  unfold abs'
  induction x using EReal.rec with
  | bot =>
    have h := key 0 le_rfl
    rw [EReal.neg_bot, max_eq_right bot_le, EReal.neg_top, exp_bot]
    exact h
  | top =>
    have h := key 0 le_rfl
    rw [EReal.neg_top, max_eq_left bot_le, EReal.neg_top, exp_bot]
    exact h
  | coe r =>
    rw [← EReal.coe_neg, ← EReal.coe_strictMono.monotone.map_max, ← EReal.coe_neg]
    exact key _ (Real.exp_pos _).le

/-- The log-sigmoid is minus the stabilised logarithm of `exp (-x) + exp 0`. -/
theorem logSig_eq (x : EReal) :
    logSig x = -(max (-x) 0 + Ideal.log (1 + Ideal.exp (-abs' (-x - 0)))) := by
  have habs : abs' (-x - 0) = abs' x := by
    unfold abs'; rw [sub_zero, neg_neg, max_comm]
  obtain ⟨r, hr⟩ := log_one_add_exp x
  unfold logSig
  rw [zero_sub, habs, hr, EReal.neg_add (Or.inr (EReal.coe_ne_top r)) (Or.inr (EReal.coe_ne_bot r)),
    ← EReal.min_neg_neg, neg_neg, neg_zero]

end Cert.Scan
-- ==== Proof.KernelHead.lean ====
/-
  What the kernel does for one head in one chunk, as one function of the head's slices: the same for every head
  and both directions. Each value is read at an index as the mathematics of Spec.lean.
-/
module

public import proofs.«01_k».proof.Defs
public import proofs.«01_k».proof.Proof.Gen.KernelIdeal.Skeleton
public import proofs.«01_k».proof.Proof.Spec
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.KernelIdeal.Head

open Cert.KernelIdeal Cert.KernelIdeal.Gen Cert.Scan

/-! ## The head's values -/

section Values

variable (tri : IVec S128x128 1) (qk v : Vec Ideal S128x128 .f32) (bc ic : FVec Ideal S128x1 .f32)
  (br ir : FVec Ideal S1x128 .f32) (be m : FVec Ideal S1x1 .f32) (C : FVec Ideal S64x128 .f32) (n : FVec Ideal S1x64 .f32)

/-- The scaled queries. -/
def q : FVec Ideal S128x64 .f32 :=
  mulf (extractStridedSlice S128x64 ![0, 0] qk slices_S128x128_o0_0_S128x64)
    (broadcast S128x64 (Scalar.ofBits .f32 0x3E000000#32))

/-- The keys. -/
def k : FVec Ideal S128x64 .f32 := extractStridedSlice S128x64 ![0, 64] qk slices_S128x128_o0_64_S128x64

/-- The keys, transposed. -/
def kt : FVec Ideal S64x128 .f32 :=
  extractStridedSlice S64x128 ![64, 0] (transpose S128x128 [1, 0] qk transposes_S128x128_p1_0_S128x128)
    slices_S128x128_o64_0_S64x128

def logD : FVec Ideal S128x128 .f32 :=
  select tri
    (addf (subf (broadcastTo S128x128 bc broadcasts_S128x1_S128x128) (broadcastTo S128x128 br broadcasts_S1x128_S128x128))
      (broadcastTo S128x128 ir broadcasts_S1x128_S128x128))
    (broadcast S128x128 (Scalar.ofBits .f32 0xFF800000#32))

def inter : FVec Ideal S128x1 .f32 := addf bc (broadcastTo S128x1 m broadcasts_S1x1_S128x1)

def mt : FVec Ideal S128x1 .f32 :=
  maximumf (inter bc m)
    (shapeCast S128x1 (multiReduction .maximumf [1] S128 (logD tri bc br ir) 0xFF800000#32 reduces_S128x128_S128 (.inl rfl) rfl)
      shapeCasts_S128_S128x1)

def wPrev : FVec Ideal S128x1 .f32 := exp (subf (inter bc m) (mt tri bc br ir m))

def score : FVec Ideal S128x128 .f32 :=
  mulf
    (matmul dot_S128x64_S128x64_S128x128_1_1_0_0_n_n none (truncf .bf16 (q qk) bitsLt_bf16_f32)
      (truncf .bf16 (k qk) bitsLt_bf16_f32) (constant S128x128 .f32 0x00000000#32))
    (exp (subf (logD tri bc br ir) (broadcastTo S128x128 (mt tri bc br ir m) broadcasts_S128x1_S128x128)))

def num : FVec Ideal S128x128 .f32 :=
  addf
    (matmul dot_S128x128_S128x128_S128x128_1_0_0_1_n_n none (truncf .bf16 (score tri qk bc br ir m) bitsLt_bf16_f32)
      (truncf .bf16 v bitsLt_bf16_f32) (constant S128x128 .f32 0x00000000#32))
    (mulf (broadcastTo S128x128 (wPrev tri bc br ir m) broadcasts_S128x1_S128x128)
      (matmul dot_S128x64_S64x128_S128x128_1_0_0_1_n_n none (truncf .bf16 (q qk) bitsLt_bf16_f32)
        (truncf .bf16 C bitsLt_bf16_f32) (constant S128x128 .f32 0x00000000#32)))

def den : FVec Ideal S128x1 .f32 :=
  addf
    (shapeCast S128x1 (multiReduction .add [1] S128 (score tri qk bc br ir m) 0x00000000#32 reduces_S128x128_S128 (.inl rfl) rfl)
      shapeCasts_S128_S128x1)
    (mulf (wPrev tri bc br ir m)
      (shapeCast S128x1
        (multiReduction .add [1] S128 (mulf (q qk) (broadcastTo S128x64 n broadcasts_S1x64_S128x64)) 0x00000000#32
          reduces_S128x64_S128 (.inl rfl) rfl)
        shapeCasts_S128_S128x1))

/-- What the head emits. -/
def out : FVec Ideal S128x128 .f32 :=
  divf (num tri qk v bc br ir m C)
    (broadcastTo S128x128
      (maximumf (absf (den tri qk bc br ir m n))
        (exp (subf (broadcast S128x1 (Scalar.ofBits .f32 0x00000000#32)) (mt tri bc br ir m))))
      broadcasts_S128x1_S128x128)

def logWRow : FVec Ideal S1x128 .f32 := addf (subf (broadcastTo S1x128 be broadcasts_S1x1_S1x128) br) ir

def mNew : FVec Ideal S1x1 .f32 :=
  maximumf (addf be m)
    (shapeCast S1x1 (multiReduction .maximumf [1] S1 (logWRow br ir be) 0xFF800000#32 reduces_S1x128_S1 (.inl rfl) rfl)
      shapeCasts_S1_S1x1)

def keep : FVec Ideal S1x1 .f32 := exp (subf (addf be m) (mNew br ir be m))

def wCol : FVec Ideal S128x1 .f32 :=
  exp (subf (addf (subf (broadcastTo S128x1 be broadcasts_S1x1_S128x1) bc) ic)
    (broadcastTo S128x1 (mNew br ir be m) broadcasts_S1x1_S128x1))

def wRow : FVec Ideal S1x128 .f32 :=
  exp (subf (logWRow br ir be) (broadcastTo S1x128 (mNew br ir be m) broadcasts_S1x1_S1x128))

/-- The memory handed on. -/
def cNew : FVec Ideal S64x128 .f32 :=
  addf (mulf (broadcastTo S64x128 (keep br ir be m) broadcasts_S1x1_S64x128) C)
    (matmul dot_S64x128_S128x128_S64x128_1_0_0_1_n_n none
      (truncf .bf16 (mulf (kt qk) (broadcastTo S64x128 (wRow br ir be m) broadcasts_S1x128_S64x128)) bitsLt_bf16_f32)
      (truncf .bf16 v bitsLt_bf16_f32) (constant S64x128 .f32 0x00000000#32))

/-- The normaliser handed on. -/
def nNew : FVec Ideal S1x64 .f32 :=
  addf (mulf (broadcastTo S1x64 (keep br ir be m) broadcasts_S1x1_S1x64) n)
    (shapeCast S1x64
      (multiReduction .add [0] S64 (mulf (broadcastTo S128x64 (wCol bc ic br ir be m) broadcasts_S128x1_S128x64) (k qk))
        0x00000000#32 reduces_S128x64_S64 (.inl rfl) rfl)
      shapeCasts_S64_S1x64)

/-- The stabiliser handed on, on every lane. -/
def mLanes : FVec Ideal S1x128 .f32 :=
  broadcastTo S1x128 (shapeCast S1x1 (mNew br ir be m) shapeCasts_S1x1_S1x1) broadcasts_S1x1_S1x128

end Values

/-! ## The values at an index -/

section AtIndex

variable {tri : IVec S128x128 1} {qk v : Vec Ideal S128x128 .f32} {bc ic : FVec Ideal S128x1 .f32}
  {br ir : FVec Ideal S1x128 .f32} {be m : FVec Ideal S1x1 .f32} {C : FVec Ideal S64x128 .f32} {n : FVec Ideal S1x64 .f32}
  {X : Chunk} {S : St}

/-- The slices hold the chunk and the state. -/
structure Holds (tri : IVec S128x128 1) (qk v : Vec Ideal S128x128 .f32) (bc ic : FVec Ideal S128x1 .f32)
    (br ir : FVec Ideal S1x128 .f32) (be m : FVec Ideal S1x1 .f32) (C : FVec Ideal S64x128 .f32)
    (n : FVec Ideal S1x64 .f32) (X : Chunk) (S : St) : Prop where
  tri : ∀ t s, tri (ix2 t s) = if X.sees t s then 1#1 else 0#1
  q : ∀ t a, Head.q qk (ix2 t a) = X.q t a
  k : ∀ t a, Head.k qk (ix2 t a) = X.k t a
  v : ∀ t c, v (ix2 t c) = X.v t c
  bc : ∀ t, bc (ix2 t 0) = X.b t
  ic : ∀ t, ic (ix2 t 0) = X.i t
  br : ∀ t, br (ix2 0 t) = X.b t
  ir : ∀ t, ir (ix2 0 t) = X.i t
  be : be (ix2 0 0) = X.e
  m : m (ix2 0 0) = S.m
  C : ∀ a c, C (ix2 a c) = S.C a c
  n : ∀ a, n (ix2 0 a) = S.n a

variable (H : Holds tri qk v bc ic br ir be m C n X S)

include H

omit H in
theorem bot_bits : Ideal.ofBits .f32 0xFF800000#32 = ⊥ := by
  simp [Ideal.ofBits, Ideal.ieee]

theorem logD_at (t s : Fin 128) : logD tri bc br ir (ix2 t s) = X.logD t s := by
  pointwise [logD]
  rw [H.tri, H.bc, H.br, H.ir, bot_bits]
  unfold Chunk.logD
  cases X.sees t s <;> rfl

theorem inter_at (t : Fin 128) : inter bc m (ix2 t 0) = X.inter S t := by
  pointwise [inter]
  rw [H.bc, H.m]
  rfl

theorem mt_at (t : Fin 128) : mt tri bc br ir m (ix2 t 0) = X.mt S t := by
  pointwise [mt]
  rw [inter_at H, bot_bits]
  simp only [logD_at H]
  rfl

theorem wPrev_at (t : Fin 128) : wPrev tri bc br ir m (ix2 t 0) = X.wPrev S t := by
  pointwise [wPrev]
  rw [inter_at H, mt_at H]
  rfl

theorem score_at (t s : Fin 128) : score tri qk bc br ir m (ix2 t s) = X.score S t s := by
  pointwise [score]
  simp only [H.q, H.k, logD_at H, mt_at H]
  rfl

theorem num_at (t c : Fin 128) : num tri qk v bc br ir m C (ix2 t c) = X.num S t c := by
  pointwise [num]
  simp only [score_at H, wPrev_at H, H.q, H.C, H.v]
  rfl

theorem den_at (t : Fin 128) : den tri qk bc br ir m n (ix2 t 0) = X.den S t := by
  pointwise [den]
  simp only [score_at H, wPrev_at H, H.q, H.n]
  rfl

theorem out_at (t c : Fin 128) : out tri qk v bc br ir m C n (ix2 t c) = X.out S t c := by
  pointwise [out]
  simp only [num_at H, den_at H, mt_at H, Ideal.ofBits_zero_f32, zero_sub]
  rfl

theorem logWRow_at (s : Fin 128) : logWRow br ir be (ix2 0 s) = X.logW s := by
  pointwise [logWRow]
  rw [H.be, H.br, H.ir]
  rfl

theorem mNew_at : mNew br ir be m (ix2 0 0) = X.mNew S := by
  pointwise [mNew]
  rw [H.be, H.m, bot_bits]
  simp only [logWRow_at H]
  rfl

theorem keep_at : keep br ir be m (ix2 0 0) = X.keep S := by
  pointwise [keep]
  rw [H.be, H.m, mNew_at H]
  rfl

theorem wCol_at (s : Fin 128) : wCol bc ic br ir be m (ix2 s 0) = X.w S s := by
  pointwise [wCol]
  rw [H.be, H.bc, H.ic, mNew_at H]
  rfl

theorem wRow_at (s : Fin 128) : wRow br ir be m (ix2 0 s) = X.w S s := by
  pointwise [wRow]
  rw [logWRow_at H, mNew_at H]
  rfl

theorem kt_at (a : Fin 64) (s : Fin 128) : kt qk (ix2 a s) = X.k s a := by
  rw [← H.k]
  pointwise [kt, k]

theorem cNew_at (a : Fin 64) (c : Fin 128) : cNew qk v br ir be m C (ix2 a c) = (X.next S).C a c := by
  pointwise [cNew]
  simp only [kt_at H, keep_at H, wRow_at H, H.C, H.v, mul_comm (X.k _ a)]
  rfl

theorem nNew_at (a : Fin 64) : nNew qk bc ic br ir be m n (ix2 0 a) = (X.next S).n a := by
  pointwise [nNew]
  simp only [keep_at H, wCol_at H, H.k, H.n]
  rfl

theorem mLanes_at (l : Fin 128) : mLanes br ir be m (ix2 0 l) = (X.next S).m := by
  pointwise [mLanes]
  exact mNew_at H

end AtIndex

end Cert.KernelIdeal.Head
-- ==== Proof.Rows.lean ====
/-
  The scan over the whole sequence: the gates, queries, keys and values of every step, the chunks of either direction,
  the state after each chunk, and the output of every step.
-/
module

public import proofs.«01_k».proof.Proof.Spec
public import Idealize.ShloMosaic.Lib.Pointwise.Index

@[expose] public section

set_option maxRecDepth 16384

noncomputable section

open Idealize.ShloMosaic Idealize.ShloMosaic.TcCoe Idealize.SL.Sem

namespace Cert.Scan

/-- A gate's value, capped at 15. -/
def cap (x : EReal) : EReal :=
  Ideal.ofBits .f32 0x41700000#32 * Ideal.tanh (Ideal.div x (Ideal.ofBits .f32 0x41700000#32))

/-- The lane of head `h`'s gate `j` (0 the input gate, 1 the forget gate) of direction `d`. -/
def lane (d j : Fin 2) (h : Fin 8) : Fin 128 := ⟨16 * d.val + 8 * j.val + h.val, by omega⟩

/-- Column `c` of head `h` among the 1024 columns of eight heads. -/
def col (h : Fin 8) (c : Fin 128) : Fin 1024 := ⟨128 * h.val + c.val, by omega⟩

/-- The position in the sequence of direction `d`'s step `n`: the backward direction starts at the end. -/
def pos (d : Fin 2) (n : Fin 16384) : Fin 16384 :=
  match d with
  | 0 => n
  | 1 => n.rev

/-- Step `r` of chunk `j`. -/
def step (j : ℕ) (r : Fin 128) : Fin 16384 := ⟨(128 * j + r.val) % 16384, Nat.mod_lt _ (by norm_num)⟩

section

variable (za : (⟨2, ![16384, 3200]⟩ : Shape).Idx → EReal) (bias : (⟨2, ![1, 128]⟩ : Shape).Idx → EReal)
  (c0 : (⟨4, ![2, 8, 64, 128]⟩ : Shape).Idx → EReal) (n0 : (⟨4, ![2, 8, 1, 64]⟩ : Shape).Idx → EReal)
  (m0 : (⟨4, ![2, 8, 1, 128]⟩ : Shape).Idx → EReal)

/-- The capped gate at position `n` on lane `l`. -/
def gate (n : Fin 16384) (l : Fin 128) : EReal := cap (za (ix2 n ⟨3072 + l.val, by omega⟩) + bias (ix2 0 l))

def qAt (h : Fin 8) (n : Fin 16384) (a : Fin 64) : EReal :=
  za (ix2 n ⟨128 * h.val + a.val, by omega⟩) * Ideal.ofBits .f32 0x3E000000#32

def kAt (h : Fin 8) (n : Fin 16384) (a : Fin 64) : EReal := za (ix2 n ⟨128 * h.val + (64 + a.val), by omega⟩)

def vAt (h : Fin 8) (n : Fin 16384) (c : Fin 128) : EReal := za (ix2 n ⟨1024 + (128 * h.val + c.val), by omega⟩)

/-- Chunk `j` of head `h` in direction `d`, its steps in the direction's own order. -/
def chunkAt (d : Fin 2) (h : Fin 8) (j : ℕ) : Chunk :=
  fwd (fun r => logSig (gate za bias (pos d (step j r)) (lane d 1 h)))
    (fun r => gate za bias (pos d (step j r)) (lane d 0 h))
    (fun r => qAt za h (pos d (step j r))) (fun r => kAt za h (pos d (step j r))) (fun r => vAt za h (pos d (step j r)))

/-- The state the scan starts from. -/
def first (d : Fin 2) (h : Fin 8) : St :=
  ⟨fun a c => c0 (ix4 d h a c), fun a => n0 (ix4 d h 0 a), m0 (ix4 d h 0 0)⟩

/-- The state after `j` chunks. -/
def state (d : Fin 2) (h : Fin 8) : ℕ → St
  | 0 => first c0 n0 m0 d h
  | j + 1 => (chunkAt za bias d h j).next (state d h j)

/-- The scan's output at step `r` of chunk `j`. -/
def emit (d : Fin 2) (h : Fin 8) (j : ℕ) (r c : Fin 128) : EReal :=
  (chunkAt za bias d h j).out (state za bias c0 n0 m0 d h j) r c

/-- The scan's output at position `n` of the sequence. -/
def emitAt (d : Fin 2) (n : Fin 16384) (h : Fin 8) (c : Fin 128) : EReal :=
  emit za bias c0 n0 m0 d h ((pos d n).val / 128) ⟨(pos d n).val % 128, Nat.mod_lt _ (by norm_num)⟩ c

end

end Cert.Scan
-- ==== Proof.KernelGates.lean ====
/-
  The gates of one chunk, as the kernel computes them for all eight heads at once: the input gates, the log forget
  gates and their running sums, by column and by row, for either direction.
-/
module

public import proofs.«01_k».proof.Proof.KernelHead
public import proofs.«01_k».proof.Proof.Rows

@[expose] public section

set_option maxRecDepth 16384

noncomputable section

open Idealize.ShloMosaic Idealize.ShloMosaic.TcCoe Idealize.SL.Sem

namespace Cert.Scan

/-- A chunk of direction `d`: forward, its steps see the earlier ones; backward, the later ones. -/
def chunk (d : Fin 2) (f i : Fin 128 → EReal) (q k : Fin 128 → Fin 64 → EReal) (v : Fin 128 → Fin 128 → EReal) : Chunk :=
  match d with
  | 0 => fwd f i q k v
  | 1 => bwd f i q k v

/-- Which steps a step of direction `d` sees. -/
def sees (d : Fin 2) (t s : Fin 128) : Bool :=
  match d with
  | 0 => decide (s ≤ t)
  | 1 => decide (t ≤ s)

theorem chunk_sees (d : Fin 2) (f i : Fin 128 → EReal) (q k : Fin 128 → Fin 64 → EReal) (v : Fin 128 → Fin 128 → EReal) :
    (chunk d f i q k v).sees = sees d := by
  match d with
  | 0 => rfl
  | 1 => rfl

theorem chunk_b (d : Fin 2) (f i : Fin 128 → EReal) (q k : Fin 128 → Fin 64 → EReal) (v : Fin 128 → Fin 128 → EReal)
    (t : Fin 128) : (chunk d f i q k v).b t = ∑ s, if sees d t s then f s else 0 := by
  match d with
  | 0 => simp [chunk, fwd, sees]
  | 1 => simp [chunk, bwd, sees]

theorem chunk_rest (d : Fin 2) (f i : Fin 128 → EReal) (q k : Fin 128 → Fin 64 → EReal) (v : Fin 128 → Fin 128 → EReal) :
    (chunk d f i q k v).e = (∑ s, f s) ∧ (chunk d f i q k v).i = i ∧ (chunk d f i q k v).q = q
      ∧ (chunk d f i q k v).k = k ∧ (chunk d f i q k v).v = v := by
  match d with
  | 0 => exact ⟨rfl, rfl, rfl, rfl, rfl⟩
  | 1 => exact ⟨rfl, rfl, rfl, rfl, rfl⟩

end Cert.Scan

namespace Cert.KernelIdeal.Gates

open Cert.KernelIdeal Cert.KernelIdeal.Gen Cert.Scan

variable (d : Fin 2) (G : Vec Ideal S128x128 .f32) (B : Vec Ideal S1x128 .f32)

/-- The steps that a step sees, as bits. -/
def tri : IVec S128x128 1 :=
  match d with
  | 0 => cmpi .sge (iota .tc S128x128 32 [0] iota_S128x128_d0_w32) (iota .tc S128x128 32 [1] iota_S128x128_d1_w32)
  | 1 => cmpi .sle (iota .tc S128x128 32 [0] iota_S128x128_d0_w32) (iota .tc S128x128 32 [1] iota_S128x128_d1_w32)

/-- The same as numbers. -/
def trif : FVec Ideal S128x128 .f32 := sitofp .f32 (extui 32 (tri d) natLt_1_32)

/-- The capped gates. -/
def capped : FVec Ideal S128x128 .f32 :=
  mulf (broadcast S128x128 (Scalar.ofBits .f32 0x41700000#32))
    (tanh (divf (addf G (broadcastTo S128x128 B broadcasts_S1x128_S128x128))
      (broadcast S128x128 (Scalar.ofBits .f32 0x41700000#32))))

theorem slices_cols : S128x128.Slices ![0, 16 * d.val] S128x16 := by
  revert d; decide

theorem slices_rows : S128x128.Slices ![16 * d.val, 0] S16x128 := by
  revert d; decide

/-- The direction's sixteen gates, by column. -/
def cols : FVec Ideal S128x16 .f32 := extractStridedSlice S128x16 ![0, 16 * d.val] (capped G B) (slices_cols d)

/-- The direction's sixteen gates, by row. -/
def rows : FVec Ideal S16x128 .f32 :=
  extractStridedSlice S16x128 ![16 * d.val, 0] (transpose S128x128 [1, 0] (capped G B) transposes_S128x128_p1_0_S128x128)
    (slices_rows d)

def iCol : FVec Ideal S128x8 .f32 := extractStridedSlice S128x8 ![0, 0] (cols d G B) slices_S128x16_o0_0_S128x8

def iRow : FVec Ideal S8x128 .f32 := extractStridedSlice S8x128 ![0, 0] (rows d G B) slices_S16x128_o0_0_S8x128

/-- The kernel's log-sigmoid of every entry. -/
def lsig {s : Shape} (x : FVec Ideal s .f32) : FVec Ideal s .f32 :=
  subf (minimumf x (broadcast s (Scalar.ofBits .f32 0x00000000#32)))
    (log (addf (broadcast s (Scalar.ofBits .f32 0x3F800000#32))
      (exp (subf (broadcast s (Scalar.ofBits .f32 0x00000000#32)) (absf x)))))

def fCol : FVec Ideal S128x8 .f32 :=
  lsig (extractStridedSlice S128x8 ![0, 8] (cols d G B) slices_S128x16_o0_8_S128x8)

def fRow : FVec Ideal S8x128 .f32 :=
  lsig (extractStridedSlice S8x128 ![8, 0] (rows d G B) slices_S16x128_o8_0_S8x128)

def bCol : FVec Ideal S128x8 .f32 :=
  matmul dot_S128x128_S128x8_S128x8_1_0_0_1_n_n (some .fp32) (trif d) (fCol d G B) (constant S128x8 .f32 0x00000000#32)

def bRow : FVec Ideal S8x128 .f32 :=
  matmul dot_S8x128_S128x128_S8x128_1_1_0_0_n_n (some .fp32) (fRow d G B) (trif d) (constant S8x128 .f32 0x00000000#32)

def bTot : FVec Ideal S1x8 .f32 :=
  shapeCast S1x8 (multiReduction .add [0] S8 (fCol d G B) 0x00000000#32 reduces_S128x8_S8 (.inl rfl) rfl) shapeCasts_S8_S1x8

/-! ## At an index -/

/-- The capped gate of step `t` on lane `l`. -/
def g (t l : Fin 128) : EReal := cap (G (ix2 t l) + B (ix2 0 l))

theorem capped_at (t l : Fin 128) : capped G B (ix2 t l) = g G B t l := by
  pointwise [capped]
  rfl

theorem iCol_at (t : Fin 128) (h : Fin 8) : iCol d G B (ix2 t h) = g G B t (lane d 0 h) := by
  rw [← capped_at]
  pointwise [iCol, cols]
  exact congrArg (fun l => capped G B (ix2 t l)) (Fin.ext (by simp [lane]))

theorem iRow_at (t : Fin 128) (h : Fin 8) : iRow d G B (ix2 h t) = g G B t (lane d 0 h) := by
  rw [← capped_at]
  pointwise [iRow, rows]
  exact congrArg (fun l => capped G B (ix2 t l)) (Fin.ext (by simp [lane]))

theorem lsig_at {s : Shape} (x : FVec Ideal s .f32) (i : s.Idx) : lsig x i = logSig (x i) := by
  unfold lsig logSig
  show min (x i) (Ideal.ofBits .f32 0#32) - Ideal.log (Ideal.ofBits .f32 0x3F800000#32 + Ideal.exp (Ideal.ofBits .f32 0#32 - max (x i) (-x i))) = _
  rw [Ideal.ofBits_zero_f32, Ideal.ofBits_one_f32]

theorem fCol_at (t : Fin 128) (h : Fin 8) : fCol d G B (ix2 t h) = logSig (g G B t (lane d 1 h)) := by
  unfold fCol
  rw [lsig_at, ← capped_at]
  pointwise [cols]
  exact congrArg (fun l => logSig (capped G B (ix2 t l))) (Fin.ext (by simp [lane]; try omega))

theorem fRow_at (t : Fin 128) (h : Fin 8) : fRow d G B (ix2 h t) = logSig (g G B t (lane d 1 h)) := by
  unfold fRow
  rw [lsig_at, ← capped_at]
  pointwise [rows]
  exact congrArg (fun l => logSig (capped G B (ix2 t l))) (Fin.ext (by simp [lane]; try omega))

theorem toInt_small (t : Fin 128) : (BitVec.ofNat 32 t.val).toInt = (t.val : ℤ) := by
  revert t; decide

theorem cmp_sge (t s : Fin 128) :
    IntOp.cmpi .sge (BitVec.ofNat 32 t.val) (BitVec.ofNat 32 s.val) = if sees 0 t s = true then 1#1 else 0#1 := by
  show BitVec.ofBool (BitVec.sle (BitVec.ofNat 32 s.val) (BitVec.ofNat 32 t.val)) = _
  rw [BitVec.sle, toInt_small, toInt_small]
  by_cases h : s ≤ t
  · have : (s.val : ℤ) ≤ t.val := by exact_mod_cast h
    simp [sees, h]
  · have : ¬ (s.val : ℤ) ≤ t.val := by exact_mod_cast h
    simp [sees, h]

theorem cmp_sle (t s : Fin 128) :
    IntOp.cmpi .sle (BitVec.ofNat 32 t.val) (BitVec.ofNat 32 s.val) = if sees 1 t s = true then 1#1 else 0#1 :=
  cmp_sge s t

theorem tri_at (t s : Fin 128) : tri d (ix2 t s) = if sees d t s then 1#1 else 0#1 := by
  match d with
  | 0 =>
    pointwise [tri]
    exact cmp_sge t s
  | 1 =>
    pointwise [tri]
    exact cmp_sle t s

theorem trif_at (t s : Fin 128) : trif d (ix2 t s) = if sees d t s then 1 else 0 := by
  pointwise [trif]
  rw [tri_at]
  by_cases h : sees d t s = true
  · rw [if_pos h, if_pos h]
    show (((1 : ℤ) : ℝ) : EReal) = 1
    norm_num
  · rw [if_neg h, if_neg h]
    show (((0 : ℤ) : ℝ) : EReal) = 0
    norm_num

theorem bCol_at (t : Fin 128) (h : Fin 8) :
    bCol d G B (ix2 t h) = ∑ s, if sees d t s then logSig (g G B s (lane d 1 h)) else 0 := by
  pointwise [bCol]
  simp only [trif_at, fCol_at, ite_mul, one_mul, zero_mul]

theorem bRow_at (t : Fin 128) (h : Fin 8) :
    bRow d G B (ix2 h t) = ∑ s, if sees d t s then logSig (g G B s (lane d 1 h)) else 0 := by
  pointwise [bRow]
  simp only [trif_at, fRow_at, mul_ite, mul_one, mul_zero]

theorem bTot_at (h : Fin 8) : bTot d G B (ix2 0 h) = ∑ s, logSig (g G B s (lane d 1 h)) := by
  pointwise [bTot]
  simp only [fCol_at]

end Cert.KernelIdeal.Gates
-- ==== Proof.KernelPieces.lean ====
/-
  What the kernel stores at one grid point: for each head its output, matrix, normaliser and maximum, as lists of stores
  over the loads of the head's operands.
-/
module

public import proofs.«01_k».proof.Proof.KernelGates
public import proofs.«01_k».proof.Proof.Gen.KernelIdeal.Value

@[expose] public section

set_option maxRecDepth 16384

noncomputable section

open Idealize.ShloMosaic Idealize.ShloMosaic.TcCoe Idealize.SL.Sem

namespace Cert.KernelIdeal.Gates

open Cert.KernelIdeal Cert.KernelIdeal.Gen Cert.Scan

/-! ## One head's slices and results -/

section Slot

variable (d : Fin 2) (Q V : Vec Ideal S128x128 .f32) (G : Vec Ideal S128x128 .f32) (B : Vec Ideal S1x128 .f32)
  (C : Vec Ideal S1x1x64x128 .f32) (N : Vec Ideal S1x1x1x64 .f32) (M : Vec Ideal S1x1x1x128 .f32) (h : Fin 8)

theorem slices_c : S128x8.Slices ![0, h.val] S128x1 := by
  revert h; decide

theorem slices_r : S8x128.Slices ![h.val, 0] S1x128 := by
  revert h; decide

theorem slices_e : S1x8.Slices ![0, h.val] S1x1 := by
  revert h; decide

def bc : FVec Ideal S128x1 .f32 := extractStridedSlice S128x1 ![0, h.val] (bCol d G B) (slices_c h)

def ic : FVec Ideal S128x1 .f32 := extractStridedSlice S128x1 ![0, h.val] (iCol d G B) (slices_c h)

def br : FVec Ideal S1x128 .f32 := extractStridedSlice S1x128 ![h.val, 0] (bRow d G B) (slices_r h)

def ir : FVec Ideal S1x128 .f32 := extractStridedSlice S1x128 ![h.val, 0] (iRow d G B) (slices_r h)

def be : FVec Ideal S1x1 .f32 := extractStridedSlice S1x1 ![0, h.val] (bTot d G B) (slices_e h)

def mIn : FVec Ideal S1x1 .f32 :=
  extractStridedSlice S1x1 ![0, 0] (shapeCast S1x128 M shapeCasts_S1x1x1x128_S1x128) slices_S1x128_o0_0_S1x1

def cIn : FVec Ideal S64x128 .f32 := shapeCast S64x128 C shapeCasts_S1x1x64x128_S64x128

def nIn : FVec Ideal S1x64 .f32 := shapeCast S1x64 N shapeCasts_S1x1x1x64_S1x64

/-- What the head stores in its columns of the output. -/
def hPart : Vec Ideal S1x128x128 .f32 :=
  shapeCast S1x128x128 (Head.out (tri d) Q V (bc d G B h) (br d G B h) (ir d G B h) (mIn M) (cIn C) (nIn N))
    shapeCasts_S128x128_S1x128x128

/-- What the head stores in its matrix. -/
def cPart : Vec Ideal S1x1x64x128 .f32 :=
  shapeCast S1x1x64x128 (Head.cNew Q V (br d G B h) (ir d G B h) (be d G B h) (mIn M) (cIn C))
    shapeCasts_S64x128_S1x1x64x128

/-- What the head stores in its normaliser. -/
def nPart : Vec Ideal S1x1x1x64 .f32 :=
  shapeCast S1x1x1x64 (Head.nNew Q (bc d G B h) (ic d G B h) (br d G B h) (ir d G B h) (be d G B h) (mIn M) (nIn N))
    shapeCasts_S1x64_S1x1x1x64

/-- What the head stores in its maximum. -/
def mPart : Vec Ideal S1x1x1x128 .f32 :=
  shapeCast S1x1x1x128 (Head.mLanes (br d G B h) (ir d G B h) (be d G B h) (mIn M)) shapeCasts_S1x128_S1x1x1x128

end Slot

/-! ## Stores, head by head -/

theorem inb4 {A B : ℕ} (d : Fin 2) (k : ℕ) (hk : k < 8) :
    ∀ a, (![d.val, k, 0, 0] : Fin 4 → ℕ) a + (![1, 1, A, B] : Fin 4 → ℕ) a ≤ (![2, 8, A, B] : Fin 4 → ℕ) a := by
  intro a
  fin_cases a <;> simp <;> omega

/-- The stores of the first `k` heads of direction `d` in an array of the state, the newest first, over `L`. -/
def stack {A B : ℕ} (d : Fin 2) (w : Fin 8 → (⟨4, ![1, 1, A, B]⟩ : Shape).Idx → Elt Ideal .f32)
    (L : List (View.Piece (Elt Ideal) ⟨4, ![2, 8, A, B]⟩ .f32)) :
    (k : ℕ) → k ≤ 8 → List (View.Piece (Elt Ideal) ⟨4, ![2, 8, A, B]⟩ .f32)
  | 0, _ => L
  | k + 1, hk => ⟨Rect.unit ![d.val, k, 0, 0] ![1, 1, A, B] (inb4 d k hk), w ⟨k, hk⟩⟩ :: stack d w L k (Nat.le_of_succ_le hk)

theorem inb3 (k : ℕ) (hk : k < 8) :
    ∀ a, (![0, 0, 128 * k] : Fin 3 → ℕ) a + (![1, 128, 128] : Fin 3 → ℕ) a ≤ (![1, 128, 1024] : Fin 3 → ℕ) a := by
  intro a
  fin_cases a <;> simp <;> omega

/-- The stores of the first `k` heads in the output's block, the newest first. -/
def strip (w : Fin 8 → S1x128x128.Idx → Elt Ideal .f32) :
    (k : ℕ) → k ≤ 8 → List (View.Piece (Elt Ideal) S1x128x1024 .f32)
  | 0, _ => []
  | k + 1, hk => ⟨Rect.unit ![0, 0, 128 * k] ![1, 128, 128] (inb3 k hk), w ⟨k, hk⟩⟩ :: strip w k (Nat.le_of_succ_le hk)

theorem inb2 (h : Fin 8) :
    ∀ a, (![0, 128 * h.val] : Fin 2 → ℕ) a + (![128, 128] : Fin 2 → ℕ) a ≤ (![128, 1024] : Fin 2 → ℕ) a := by
  intro a
  fin_cases a <;> simp <;> omega

section Loads

variable {s : Shape} (arg : Memref sig .tc .vmem S128x1024 .f32) (harg : arg.IsWhole) (x : Vec Ideal S128x1024 .f32)

/-- Head `h`'s columns of a block of 1024. -/
def ldCols (h : Fin 8) : Vec Ideal S128x128 .f32 :=
  View.readAt (Elt Ideal) arg.view (Rect.unit (s := S128x1024) ![0, 128 * h.val] S128x128.size (inb2 h)).toLoadRect (harg.unread x)

/-- The gates' block. -/
def ldG (arg : Memref sig .tc .vmem S128x128 .f32) (harg : arg.IsWhole) (x : Vec Ideal S128x128 .f32) :
    Vec Ideal S128x128 .f32 :=
  View.readAt (Elt Ideal) arg.view (Rect.unit ![0, 0] S128x128.size inb_S128x128_S128x128_0_0).toLoadRect (harg.unread x)

/-- The bias. -/
def ldB (arg : Memref sig .tc .vmem S1x128 .f32) (harg : arg.IsWhole) (x : Vec Ideal S1x128 .f32) :
    Vec Ideal S1x128 .f32 :=
  View.readAt (Elt Ideal) arg.view (Rect.unit ![0, 0] S1x128.size inb_S1x128_S1x128_0_0).toLoadRect (harg.unread x)

/-- Head `h` of direction `d` of an array of the state that holds `x`. -/
def ldS {A B : ℕ} (arg : Memref sig .tc .vmem ⟨4, ![2, 8, A, B]⟩ .f32) (f : arg.view.ty.Contents (Elt Ideal))
    (d : Fin 2) (h : Fin 8) : Vec Ideal ⟨4, ![1, 1, A, B]⟩ .f32 :=
  View.readAt (Elt Ideal) arg.view (Rect.unit (s := ⟨4, ![2, 8, A, B]⟩) ![d.val, h.val, 0, 0] (⟨4, ![1, 1, A, B]⟩ : Shape).size (inb4 d h.val h.isLt)).toLoadRect f

end Loads

/-! ## The first point of the forward direction

There the state is first copied in whole, and each head's loads read over the stores made so far. -/

section First

variable (A B : ℕ)

theorem inb4w {A B : ℕ} :
    ∀ a, (![0, 0, 0, 0] : Fin 4 → ℕ) a + (![2, 8, A, B] : Fin 4 → ℕ) a ≤ (![2, 8, A, B] : Fin 4 → ℕ) a := by
  intro a
  fin_cases a <;> simp

/-- The stores of the first `k` heads over the copy `init` of the whole array, head `k`'s made from what the stores
before it leave at its place. -/
def grow {A B : ℕ} (arg : Memref sig .tc .vmem ⟨4, ![2, 8, A, B]⟩ .f32)
    (part : (k : ℕ) → k < 8 → Vec Ideal ⟨4, ![1, 1, A, B]⟩ .f32 → Vec Ideal ⟨4, ![1, 1, A, B]⟩ .f32)
    (init : Vec Ideal ⟨4, ![2, 8, A, B]⟩ .f32) :
    (k : ℕ) → k ≤ 8 → List (View.Piece (Elt Ideal) ⟨4, ![2, 8, A, B]⟩ .f32)
  | 0, _ => [⟨Rect.unit ![0, 0, 0, 0] ![2, 8, A, B] inb4w, init⟩]
  | k + 1, hk =>
    ⟨Rect.unit ![0, k, 0, 0] ![1, 1, A, B] (inb4 0 k hk),
      part k hk (arg.view.readCov (grow arg part init k (Nat.le_of_succ_le hk))
        (Rect.unit (s := ⟨4, ![2, 8, A, B]⟩) ![0, k, 0, 0] (⟨4, ![1, 1, A, B]⟩ : Shape).size (inb4 0 k hk)).toLoadRect)⟩
      :: grow arg part init k (Nat.le_of_succ_le hk)

/-- Head `k`'s place as `grow`'s stores before it leave it. -/
def seen {A B : ℕ} (arg : Memref sig .tc .vmem ⟨4, ![2, 8, A, B]⟩ .f32)
    (part : (k : ℕ) → k < 8 → Vec Ideal ⟨4, ![1, 1, A, B]⟩ .f32 → Vec Ideal ⟨4, ![1, 1, A, B]⟩ .f32)
    (init : Vec Ideal ⟨4, ![2, 8, A, B]⟩ .f32) (k : ℕ) (hk : k < 8) : Vec Ideal ⟨4, ![1, 1, A, B]⟩ .f32 :=
  arg.view.readCov (grow arg part init k (Nat.le_of_lt hk))
    (Rect.unit (s := ⟨4, ![2, 8, A, B]⟩) ![0, k, 0, 0] (⟨4, ![1, 1, A, B]⟩ : Shape).size (inb4 0 k hk)).toLoadRect

/-- The whole of an array of the state. -/
def ldW {A B : ℕ} (arg : Memref sig .tc .vmem ⟨4, ![2, 8, A, B]⟩ .f32) (f : arg.view.ty.Contents (Elt Ideal)) :
    Vec Ideal ⟨4, ![2, 8, A, B]⟩ .f32 :=
  View.readAt (Elt Ideal) arg.view
    (Rect.unit (s := ⟨4, ![2, 8, A, B]⟩) ![0, 0, 0, 0] (⟨4, ![2, 8, A, B]⟩ : Shape).size inb4w).toLoadRect f

end First

end Cert.KernelIdeal.Gates
-- ==== Proof.KernelLists.lean ====
/-
  The lists of stores of each case of the kernel's body: at the first point of the forward direction (A), at its later
  points (B), at the points of the backward direction (C).
-/
module

public import proofs.«01_k».proof.Proof.KernelPieces
public import proofs.«01_k».proof.Proof.Gen.KernelIdeal.Value

@[expose] public section

set_option maxRecDepth 16384

noncomputable section

open Idealize.ShloMosaic Idealize.ShloMosaic.TcCoe Idealize.SL.Sem

namespace Cert.KernelIdeal.Gates

open Cert.KernelIdeal Cert.KernelIdeal.Gen Cert.Scan

theorem listA_m (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32) :
    (kernelRun0_A (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6).2.2.2.1
      = grow arg12 (fun k hk M => mPart 0 (ldG arg4 harg4 x2) (ldB arg5 harg5 x3) M ⟨k, hk⟩) (ldW arg8 (harg8.unread x6)) 8 (by omega) := by
  unfold kernelRun0_A
  dsimp only
  rfl

theorem listA_c (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32) :
    (kernelRun0_A (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6).2.1
      = grow arg10 (fun k hk C => cPart 0 (ldCols arg2 harg2 x0 ⟨k, hk⟩) (ldCols arg3 harg3 x1 ⟨k, hk⟩) (ldG arg4 harg4 x2) (ldB arg5 harg5 x3) C (seen arg12 (fun k hk M => mPart 0 (ldG arg4 harg4 x2) (ldB arg5 harg5 x3) M ⟨k, hk⟩) (ldW arg8 (harg8.unread x6)) k hk) ⟨k, hk⟩) (ldW arg6 (harg6.unread x4)) 8 (by omega) := by
  unfold kernelRun0_A
  dsimp only
  rfl

theorem listA_n (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32) :
    (kernelRun0_A (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6).2.2.1
      = grow arg11 (fun k hk N => nPart 0 (ldCols arg2 harg2 x0 ⟨k, hk⟩) (ldG arg4 harg4 x2) (ldB arg5 harg5 x3) N (seen arg12 (fun k hk M => mPart 0 (ldG arg4 harg4 x2) (ldB arg5 harg5 x3) M ⟨k, hk⟩) (ldW arg8 (harg8.unread x6)) k hk) ⟨k, hk⟩) (ldW arg7 (harg7.unread x5)) 8 (by omega) := by
  unfold kernelRun0_A
  dsimp only
  rfl

theorem listA_h (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32) :
    (kernelRun0_A (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6).1
      = strip (fun h => hPart 0 (ldCols arg2 harg2 x0 h) (ldCols arg3 harg3 x1 h) (ldG arg4 harg4 x2) (ldB arg5 harg5 x3) (seen arg10 (fun k hk C => cPart 0 (ldCols arg2 harg2 x0 ⟨k, hk⟩) (ldCols arg3 harg3 x1 ⟨k, hk⟩) (ldG arg4 harg4 x2) (ldB arg5 harg5 x3) C (seen arg12 (fun k hk M => mPart 0 (ldG arg4 harg4 x2) (ldB arg5 harg5 x3) M ⟨k, hk⟩) (ldW arg8 (harg8.unread x6)) k hk) ⟨k, hk⟩) (ldW arg6 (harg6.unread x4)) h.val h.isLt) (seen arg11 (fun k hk N => nPart 0 (ldCols arg2 harg2 x0 ⟨k, hk⟩) (ldG arg4 harg4 x2) (ldB arg5 harg5 x3) N (seen arg12 (fun k hk M => mPart 0 (ldG arg4 harg4 x2) (ldB arg5 harg5 x3) M ⟨k, hk⟩) (ldW arg8 (harg8.unread x6)) k hk) ⟨k, hk⟩) (ldW arg7 (harg7.unread x5)) h.val h.isLt) (seen arg12 (fun k hk M => mPart 0 (ldG arg4 harg4 x2) (ldB arg5 harg5 x3) M ⟨k, hk⟩) (ldW arg8 (harg8.unread x6)) h.val h.isLt) h) 8 (by omega) := by
  unfold kernelRun0_A
  dsimp only
  rfl

theorem listB_m (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_B (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).2.2.2.1
      = stack 0 (fun h => mPart 0 (ldG arg4 harg4 x2) (ldB arg5 harg5 x3) (ldS arg12 (harg12.unread xo10) 0 h) h) [] 8 (by omega) := by
  unfold kernelRun0_B
  dsimp only
  rfl

theorem listB_c (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_B (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).2.1
      = stack 0 (fun h => cPart 0 (ldCols arg2 harg2 x0 h) (ldCols arg3 harg3 x1 h) (ldG arg4 harg4 x2) (ldB arg5 harg5 x3) (ldS arg10 (harg10.unread xo8) 0 h) (ldS arg12 (harg12.unread xo10) 0 h) h) [] 8 (by omega) := by
  unfold kernelRun0_B
  dsimp only
  rfl

theorem listB_n (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_B (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).2.2.1
      = stack 0 (fun h => nPart 0 (ldCols arg2 harg2 x0 h) (ldG arg4 harg4 x2) (ldB arg5 harg5 x3) (ldS arg11 (harg11.unread xo9) 0 h) (ldS arg12 (harg12.unread xo10) 0 h) h) [] 8 (by omega) := by
  unfold kernelRun0_B
  dsimp only
  rfl

theorem listB_h (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_B (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).1
      = strip (fun h => hPart 0 (ldCols arg2 harg2 x0 h) (ldCols arg3 harg3 x1 h) (ldG arg4 harg4 x2) (ldB arg5 harg5 x3) (ldS arg10 (harg10.unread xo8) 0 h) (ldS arg11 (harg11.unread xo9) 0 h) (ldS arg12 (harg12.unread xo10) 0 h) h) 8 (by omega) := by
  unfold kernelRun0_B
  dsimp only
  rfl

theorem listC_m (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_C (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).2.2.2.1
      = stack 1 (fun h => mPart 1 (ldG arg4 harg4 x2) (ldB arg5 harg5 x3) (ldS arg12 (harg12.unread xo10) 1 h) h) [] 8 (by omega) := by
  unfold kernelRun0_C
  dsimp only
  rfl

theorem listC_c (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_C (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).2.1
      = stack 1 (fun h => cPart 1 (ldCols arg2 harg2 x0 h) (ldCols arg3 harg3 x1 h) (ldG arg4 harg4 x2) (ldB arg5 harg5 x3) (ldS arg10 (harg10.unread xo8) 1 h) (ldS arg12 (harg12.unread xo10) 1 h) h) [] 8 (by omega) := by
  unfold kernelRun0_C
  dsimp only
  rfl

theorem listC_n (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_C (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).2.2.1
      = stack 1 (fun h => nPart 1 (ldCols arg2 harg2 x0 h) (ldG arg4 harg4 x2) (ldB arg5 harg5 x3) (ldS arg11 (harg11.unread xo9) 1 h) (ldS arg12 (harg12.unread xo10) 1 h) h) [] 8 (by omega) := by
  unfold kernelRun0_C
  dsimp only
  rfl

theorem listC_h (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32) :
    (kernelRun0_C (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10).1
      = strip (fun h => hPart 1 (ldCols arg2 harg2 x0 h) (ldCols arg3 harg3 x1 h) (ldG arg4 harg4 x2) (ldB arg5 harg5 x3) (ldS arg10 (harg10.unread xo8) 1 h) (ldS arg11 (harg11.unread xo9) 1 h) (ldS arg12 (harg12.unread xo10) 1 h) h) 8 (by omega) := by
  unfold kernelRun0_C
  dsimp only
  rfl

end Cert.KernelIdeal.Gates
-- ==== Proof.KernelPoint.lean ====
/-
  One grid point of the kernel at an index: each head's output and its state after the chunk, as the output and the next
  state of the head's chunk.
-/
module

public import proofs.«01_k».proof.Proof.KernelPieces
public import Idealize.ShloMosaic.Lib.WritesUnit
public import Idealize.ShloMosaic.Lib.Pipeline.ValueKit.Tiles

@[expose] public section

set_option maxRecDepth 16384

noncomputable section

open Idealize.ShloMosaic Idealize.ShloMosaic.TcCoe Idealize.SL.Sem

namespace Cert.KernelIdeal.Gates

open Cert.KernelIdeal Cert.KernelIdeal.Gen Cert.Scan

/-! ## Reading the lists of stores -/

section Read

variable {κ : Kind} {sp : Space} {A B : ℕ}

theorem stack_read (v : View sig κ sp ⟨4, ![2, 8, A, B]⟩ .f32) (f : v.ty.Contents (Elt Ideal)) (d : Fin 2)
    (w : Fin 8 → (⟨4, ![1, 1, A, B]⟩ : Shape).Idx → Elt Ideal .f32)
    (L : List (View.Piece (Elt Ideal) ⟨4, ![2, 8, A, B]⟩ .f32)) (k : ℕ) (hk : k ≤ 8)
    (e : Fin 2) (h : Fin 8) (a : Fin A) (b : Fin B) :
    v.read (Elt Ideal) (v.writes (Elt Ideal) f (stack d w L k hk)) (ix4 e h a b)
      = if e = d ∧ h.val < k then w h (ix4 0 0 a b)
        else v.read (Elt Ideal) (v.writes (Elt Ideal) f L) (ix4 e h a b) := by
  induction k with
  | zero => rw [if_neg (by omega)]; rfl
  | succ k ih =>
    unfold stack
    by_cases he : e = d
    · subst he
      by_cases hh : h.val = k
      · subst hh
        rw [if_pos ⟨rfl, by omega⟩]
        refine View.read_writes_cons_unit_of_mem v f _ _ _ _ (ix4 0 0 a b) rfl ?_
        intro x
        fin_cases x <;> simp
      · rw [View.read_writes_cons_unit_of_not_mem v f _ _ _ _ rfl 1 (by simp; omega), ih]
        by_cases hlt : h.val < k
        · rw [if_pos ⟨rfl, hlt⟩, if_pos ⟨rfl, by omega⟩]
        · rw [if_neg (by omega), if_neg (by omega)]
    · have hv : e.val ≠ d.val := fun h => he (Fin.ext h)
      rw [View.read_writes_cons_unit_of_not_mem v f _ _ _ _ rfl 0 (by simp; omega), ih, if_neg (by tauto), if_neg (by tauto)]

theorem grow_read (v : View sig κ sp ⟨4, ![2, 8, A, B]⟩ .f32) (f : v.ty.Contents (Elt Ideal))
    (arg : Memref sig .tc .vmem ⟨4, ![2, 8, A, B]⟩ .f32)
    (part : (k : ℕ) → k < 8 → Vec Ideal ⟨4, ![1, 1, A, B]⟩ .f32 → Vec Ideal ⟨4, ![1, 1, A, B]⟩ .f32)
    (init : Vec Ideal ⟨4, ![2, 8, A, B]⟩ .f32) (k : ℕ) (hk : k ≤ 8)
    (e : Fin 2) (h : Fin 8) (a : Fin A) (b : Fin B) :
    v.read (Elt Ideal) (v.writes (Elt Ideal) f (grow arg part init k hk)) (ix4 e h a b)
      = if e = 0 ∧ h.val < k then part h.val h.isLt (seen arg part init h.val h.isLt) (ix4 0 0 a b)
        else init (ix4 e h a b) := by
  induction k with
  | zero =>
    rw [if_neg (by omega)]
    unfold grow
    refine View.read_writes_cons_unit_of_mem v f _ _ _ _ (ix4 e h a b) rfl ?_
    intro x
    fin_cases x <;> simp
  | succ k ih =>
    unfold grow
    by_cases he : e = 0
    · subst he
      by_cases hh : h.val = k
      · subst hh
        rw [if_pos ⟨rfl, by omega⟩]
        refine View.read_writes_cons_unit_of_mem v f _ _ _ _ (ix4 0 0 a b) rfl ?_
        intro x
        fin_cases x <;> simp
      · rw [View.read_writes_cons_unit_of_not_mem v f _ _ _ _ rfl 1 (by simp; omega), ih]
        by_cases hlt : h.val < k
        · rw [if_pos ⟨rfl, hlt⟩, if_pos ⟨rfl, by omega⟩]
        · rw [if_neg (by omega), if_neg (by omega)]
    · have hv : e.val ≠ 0 := fun h => he (Fin.ext h)
      rw [View.read_writes_cons_unit_of_not_mem v f _ _ _ _ rfl 0 (by simp; omega), ih, if_neg (by tauto), if_neg (by tauto)]

theorem seen_at (arg : Memref sig .tc .vmem ⟨4, ![2, 8, A, B]⟩ .f32)
    (part : (k : ℕ) → k < 8 → Vec Ideal ⟨4, ![1, 1, A, B]⟩ .f32 → Vec Ideal ⟨4, ![1, 1, A, B]⟩ .f32)
    (init : Vec Ideal ⟨4, ![2, 8, A, B]⟩ .f32) (h : Fin 8) (a : Fin A) (b : Fin B) :
    seen arg part init h.val h.isLt (ix4 0 0 a b) = init (ix4 0 h a b) := by
  unfold seen View.readCov
  rw [View.readAt_eq_ld,
    View.ld_unit_apply_of _ _ _ _ _ (ix4 0 h a b) (by intro x; fin_cases x <;> simp), grow_read, if_neg (by omega)]

theorem strip_read (v : View sig κ sp S1x128x1024 .f32) (f : v.ty.Contents (Elt Ideal))
    (w : Fin 8 → S1x128x128.Idx → Elt Ideal .f32) (k : ℕ) (hk : k ≤ 8) (h : Fin 8) (hh : h.val < k) (t c : Fin 128) :
    v.read (Elt Ideal) (v.writes (Elt Ideal) f (strip w k hk)) (ix3 0 t (col h c)) = w h (ix3 0 t c) := by
  induction k with
  | zero => omega
  | succ k ih =>
    unfold strip
    by_cases hk' : h.val = k
    · subst hk'
      refine View.read_writes_cons_unit_of_mem v f _ _ _ _ (ix3 0 t c) rfl ?_
      intro x
      fin_cases x <;> simp [col]
    · rw [View.read_writes_cons_unit_of_not_mem v f _ _ _ _ rfl 2 (by simp [col]; omega)]
      exact ih _ (by omega)

theorem ldS_at (arg : Memref sig .tc .vmem ⟨4, ![2, 8, A, B]⟩ .f32) (harg : arg.IsWhole)
    (x : Vec Ideal ⟨4, ![2, 8, A, B]⟩ .f32) (d : Fin 2) (h : Fin 8) (a : Fin A) (b : Fin B) :
    ldS arg (harg.unread x) d h (ix4 0 0 a b) = x (ix4 d h a b) := by
  unfold ldS
  rw [View.readAt_eq_ld,
    View.ld_unit_apply_of _ _ _ _ _ (ix4 d h a b) (by intro x; fin_cases x <;> simp), harg.read_unread]

theorem ldW_at (arg : Memref sig .tc .vmem ⟨4, ![2, 8, A, B]⟩ .f32) (harg : arg.IsWhole)
    (x : Vec Ideal ⟨4, ![2, 8, A, B]⟩ .f32) (e : Fin 2) (h : Fin 8) (a : Fin A) (b : Fin B) :
    ldW arg (harg.unread x) (ix4 e h a b) = x (ix4 e h a b) := by
  unfold ldW
  rw [View.readAt_eq_ld,
    View.ld_unit_apply_of _ _ _ _ _ (ix4 e h a b) (by intro x; fin_cases x <;> simp), harg.read_unread]

theorem ldCols_at (arg : Memref sig .tc .vmem S128x1024 .f32) (harg : arg.IsWhole) (x : Vec Ideal S128x1024 .f32)
    (h : Fin 8) (t c : Fin 128) : ldCols arg harg x h (ix2 t c) = x (ix2 t (col h c)) := by
  unfold ldCols
  rw [View.readAt_eq_ld,
    View.ld_unit_apply_of _ _ _ _ _ (ix2 t (col h c)) (by intro x; fin_cases x <;> simp [col]), harg.read_unread]

theorem ldG_eq (arg : Memref sig .tc .vmem S128x128 .f32) (harg : arg.IsWhole) (x : Vec Ideal S128x128 .f32) :
    ldG arg harg x = x := by
  unfold ldG
  rw [View.readAt_eq_ld, View.ld_unit_zero (by funext a; fin_cases a <;> rfl), harg.read_unread]

theorem ldB_eq (arg : Memref sig .tc .vmem S1x128 .f32) (harg : arg.IsWhole) (x : Vec Ideal S1x128 .f32) :
    ldB arg harg x = x := by
  unfold ldB
  rw [View.readAt_eq_ld, View.ld_unit_zero (by funext a; fin_cases a <;> rfl), harg.read_unread]

end Read

/-! ## One head -/

section Point

variable (d : Fin 2) (x0 x1 : Vec Ideal S128x1024 .f32) (x2 : Vec Ideal S128x128 .f32) (x3 : Vec Ideal S1x128 .f32) (h : Fin 8)

/-- Head `h`'s chunk in the point's blocks. -/
def chunkOf : Chunk :=
  chunk d (fun t => logSig (g x2 x3 t (lane d 1 h))) (fun t => g x2 x3 t (lane d 0 h))
    (fun t a => x0 (ix2 t (col h ⟨a.val, by omega⟩)) * Ideal.ofBits .f32 0x3E000000#32)
    (fun t a => x0 (ix2 t (col h ⟨64 + a.val, by omega⟩))) (fun t c => x1 (ix2 t (col h c)))

/-- Head `h`'s state in the arrays of the state. -/
def stOf (C : Vec Ideal S2x8x64x128 .f32) (N : Vec Ideal S2x8x1x64 .f32) (M : Vec Ideal S2x8x1x128 .f32)
    (d : Fin 2) (h : Fin 8) : St :=
  ⟨fun a c => C (ix4 d h a c), fun a => N (ix4 d h 0 a), M (ix4 d h 0 0)⟩

variable (Q V : Vec Ideal S128x128 .f32) (C : Vec Ideal S1x1x64x128 .f32) (N : Vec Ideal S1x1x1x64 .f32)
  (M : Vec Ideal S1x1x1x128 .f32) (S : St)

theorem holds (hQ : ∀ t c, Q (ix2 t c) = x0 (ix2 t (col h c))) (hV : ∀ t c, V (ix2 t c) = x1 (ix2 t (col h c)))
    (hC : ∀ a c, C (ix4 0 0 a c) = S.C a c) (hN : ∀ a, N (ix4 0 0 0 a) = S.n a) (hM : M (ix4 0 0 0 0) = S.m) :
    Head.Holds (tri d) Q V (bc d x2 x3 h) (ic d x2 x3 h) (br d x2 x3 h) (ir d x2 x3 h) (be d x2 x3 h) (mIn M) (cIn C)
      (nIn N) (chunkOf d x0 x1 x2 x3 h) S := by
  have hr := chunk_rest d (fun t => logSig (g x2 x3 t (lane d 1 h))) (fun t => g x2 x3 t (lane d 0 h))
    (fun t a => x0 (ix2 t (col h ⟨a.val, by omega⟩)) * Ideal.ofBits .f32 0x3E000000#32)
    (fun t a => x0 (ix2 t (col h ⟨64 + a.val, by omega⟩))) (fun t c => x1 (ix2 t (col h c)))
  constructor
  · intro t s
    rw [chunkOf, chunk_sees, tri_at]
  · intro t a
    rw [chunkOf, hr.2.2.1]
    pointwise [Head.q]
    rw [hQ]
  · intro t a
    rw [chunkOf, hr.2.2.2.1]
    pointwise [Head.k]
    rw [hQ]
  · intro t c
    rw [chunkOf, hr.2.2.2.2, hV]
  · intro t
    rw [chunkOf, chunk_b, ← bCol_at]
    pointwise [bc]
  · intro t
    rw [chunkOf, hr.2.1]
    show _ = g x2 x3 t (lane d 0 h)
    rw [← iCol_at]
    pointwise [ic]
  · intro t
    rw [chunkOf, chunk_b, ← bRow_at]
    pointwise [br]
  · intro t
    rw [chunkOf, hr.2.1]
    show _ = g x2 x3 t (lane d 0 h)
    rw [← iRow_at]
    pointwise [ir]
  · rw [chunkOf, hr.1, ← bTot_at]
    pointwise [be]
  · pointwise [mIn]
    exact hM
  · intro a c
    pointwise [cIn]
    exact hC a c
  · intro a
    pointwise [nIn]
    exact hN a

section

variable (H : Head.Holds (tri d) Q V (bc d x2 x3 h) (ic d x2 x3 h) (br d x2 x3 h) (ir d x2 x3 h) (be d x2 x3 h) (mIn M)
  (cIn C) (nIn N) (chunkOf d x0 x1 x2 x3 h) S)

include H

theorem hPart_at (t c : Fin 128) :
    hPart d Q V x2 x3 C N M h (ix3 0 t c) = (chunkOf d x0 x1 x2 x3 h).out S t c := by
  rw [← Head.out_at H t c]
  pointwise [hPart]

theorem cPart_at (a : Fin 64) (c : Fin 128) :
    cPart d Q V x2 x3 C M h (ix4 0 0 a c) = ((chunkOf d x0 x1 x2 x3 h).next S).C a c := by
  rw [← Head.cNew_at H a c]
  pointwise [cPart]

theorem nPart_at (a : Fin 64) :
    nPart d Q x2 x3 N M h (ix4 0 0 0 a) = ((chunkOf d x0 x1 x2 x3 h).next S).n a := by
  rw [← Head.nNew_at H a]
  pointwise [nPart]

theorem mPart_at (l : Fin 128) :
    mPart d x2 x3 M h (ix4 0 0 0 l) = ((chunkOf d x0 x1 x2 x3 h).next S).m := by
  rw [← Head.mLanes_at H l]
  pointwise [mPart]

end

end Point

end Cert.KernelIdeal.Gates
-- ==== Proof.KernelOut.lean ====
/-
  What each case of the kernel's body leaves in the output and in the arrays of the state, at an index.
-/
module

public import proofs.«01_k».proof.Proof.KernelLists
public import proofs.«01_k».proof.Proof.KernelPoint
public import proofs.«01_k».proof.Proof.Gen.KernelIdeal.Value

@[expose] public section

set_option maxRecDepth 16384

noncomputable section

open Idealize.ShloMosaic Idealize.ShloMosaic.TcCoe Idealize.SL.Sem

namespace Cert.KernelIdeal.Gates

open Cert.KernelIdeal Cert.KernelIdeal.Gen Cert.Scan

theorem outA_h (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
    (h : Fin 8) (t k : Fin 128) :
    out0_A_7 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 (ix3 0 t (col h k))
      = (chunkOf 0 x0 x1 x2 x3 h).out (stOf x4 x5 x6 0 h) t k := by
  unfold out0_A_7
  rw [listA_h, strip_read _ _ _ _ _ h h.isLt, ldG_eq, ldB_eq]
  exact hPart_at 0 x0 x1 x2 x3 h _ _ _ _ _ _ (holds 0 x0 x1 x2 x3 h (ldCols arg2 harg2 x0 h) (ldCols arg3 harg3 x1 h) (seen arg10 (fun k hk C => cPart 0 (ldCols arg2 harg2 x0 ⟨k, hk⟩) (ldCols arg3 harg3 x1 ⟨k, hk⟩) x2 x3 C (seen arg12 (fun k hk M => mPart 0 x2 x3 M ⟨k, hk⟩) (ldW arg8 (harg8.unread x6)) k hk) ⟨k, hk⟩) (ldW arg6 (harg6.unread x4)) h.val h.isLt) (seen arg11 (fun k hk N => nPart 0 (ldCols arg2 harg2 x0 ⟨k, hk⟩) x2 x3 N (seen arg12 (fun k hk M => mPart 0 x2 x3 M ⟨k, hk⟩) (ldW arg8 (harg8.unread x6)) k hk) ⟨k, hk⟩) (ldW arg7 (harg7.unread x5)) h.val h.isLt) (seen arg12 (fun k hk M => mPart 0 x2 x3 M ⟨k, hk⟩) (ldW arg8 (harg8.unread x6)) h.val h.isLt) (stOf x4 x5 x6 0 h) (ldCols_at arg2 harg2 x0 h) (ldCols_at arg3 harg3 x1 h)
      (fun a c => (seen_at arg10 _ _ h a c).trans (ldW_at arg6 harg6 x4 0 h a c))
      (fun a => (seen_at arg11 _ _ h 0 a).trans (ldW_at arg7 harg7 x5 0 h 0 a))
      ((seen_at arg12 _ _ h 0 0).trans (ldW_at arg8 harg8 x6 0 h 0 0))) t k

theorem outA_c (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
    (e : Fin 2) (h : Fin 8) (a : Fin 64) (k : Fin 128) :
    out0_A_8 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 (ix4 e h a k)
      = if e = 0 then ((chunkOf 0 x0 x1 x2 x3 h).next (stOf x4 x5 x6 0 h)).C a k else x4 (ix4 e h a k) := by
  unfold out0_A_8
  rw [listA_c, grow_read, ldG_eq, ldB_eq]
  by_cases he : e = 0
  · subst he
    rw [if_pos ⟨rfl, h.isLt⟩, if_pos rfl]
    exact cPart_at 0 x0 x1 x2 x3 h _ _ _ _ _ _ (holds 0 x0 x1 x2 x3 h (ldCols arg2 harg2 x0 h) (ldCols arg3 harg3 x1 h) (seen arg10 (fun k hk C => cPart 0 (ldCols arg2 harg2 x0 ⟨k, hk⟩) (ldCols arg3 harg3 x1 ⟨k, hk⟩) x2 x3 C (seen arg12 (fun k hk M => mPart 0 x2 x3 M ⟨k, hk⟩) (ldW arg8 (harg8.unread x6)) k hk) ⟨k, hk⟩) (ldW arg6 (harg6.unread x4)) h.val h.isLt) (seen arg11 (fun k hk N => nPart 0 (ldCols arg2 harg2 x0 ⟨k, hk⟩) x2 x3 N (seen arg12 (fun k hk M => mPart 0 x2 x3 M ⟨k, hk⟩) (ldW arg8 (harg8.unread x6)) k hk) ⟨k, hk⟩) (ldW arg7 (harg7.unread x5)) h.val h.isLt) (seen arg12 (fun k hk M => mPart 0 x2 x3 M ⟨k, hk⟩) (ldW arg8 (harg8.unread x6)) h.val h.isLt) (stOf x4 x5 x6 0 h) (ldCols_at arg2 harg2 x0 h) (ldCols_at arg3 harg3 x1 h)
      (fun a c => (seen_at arg10 _ _ h a c).trans (ldW_at arg6 harg6 x4 0 h a c))
      (fun a => (seen_at arg11 _ _ h 0 a).trans (ldW_at arg7 harg7 x5 0 h 0 a))
      ((seen_at arg12 _ _ h 0 0).trans (ldW_at arg8 harg8 x6 0 h 0 0))) a k
  · rw [if_neg (fun hh => he hh.1), if_neg he]
    exact ldW_at arg6 harg6 x4 e h a k

theorem outA_n (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
    (e : Fin 2) (h : Fin 8) (a : Fin 64) :
    out0_A_9 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 (ix4 e h 0 a)
      = if e = 0 then ((chunkOf 0 x0 x1 x2 x3 h).next (stOf x4 x5 x6 0 h)).n a else x5 (ix4 e h 0 a) := by
  unfold out0_A_9
  rw [listA_n, grow_read, ldG_eq, ldB_eq]
  by_cases he : e = 0
  · subst he
    rw [if_pos ⟨rfl, h.isLt⟩, if_pos rfl]
    exact nPart_at 0 x0 x1 x2 x3 h _ _ _ _ _ _ (holds 0 x0 x1 x2 x3 h (ldCols arg2 harg2 x0 h) (ldCols arg3 harg3 x1 h) (seen arg10 (fun k hk C => cPart 0 (ldCols arg2 harg2 x0 ⟨k, hk⟩) (ldCols arg3 harg3 x1 ⟨k, hk⟩) x2 x3 C (seen arg12 (fun k hk M => mPart 0 x2 x3 M ⟨k, hk⟩) (ldW arg8 (harg8.unread x6)) k hk) ⟨k, hk⟩) (ldW arg6 (harg6.unread x4)) h.val h.isLt) (seen arg11 (fun k hk N => nPart 0 (ldCols arg2 harg2 x0 ⟨k, hk⟩) x2 x3 N (seen arg12 (fun k hk M => mPart 0 x2 x3 M ⟨k, hk⟩) (ldW arg8 (harg8.unread x6)) k hk) ⟨k, hk⟩) (ldW arg7 (harg7.unread x5)) h.val h.isLt) (seen arg12 (fun k hk M => mPart 0 x2 x3 M ⟨k, hk⟩) (ldW arg8 (harg8.unread x6)) h.val h.isLt) (stOf x4 x5 x6 0 h) (ldCols_at arg2 harg2 x0 h) (ldCols_at arg3 harg3 x1 h)
      (fun a c => (seen_at arg10 _ _ h a c).trans (ldW_at arg6 harg6 x4 0 h a c))
      (fun a => (seen_at arg11 _ _ h 0 a).trans (ldW_at arg7 harg7 x5 0 h 0 a))
      ((seen_at arg12 _ _ h 0 0).trans (ldW_at arg8 harg8 x6 0 h 0 0))) a
  · rw [if_neg (fun hh => he hh.1), if_neg he]
    exact ldW_at arg7 harg7 x5 e h 0 a

theorem outA_m (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
    (e : Fin 2) (h : Fin 8) (l : Fin 128) :
    out0_A_10 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 (ix4 e h 0 l)
      = if e = 0 then ((chunkOf 0 x0 x1 x2 x3 h).next (stOf x4 x5 x6 0 h)).m else x6 (ix4 e h 0 l) := by
  unfold out0_A_10
  rw [listA_m, grow_read, ldG_eq, ldB_eq]
  by_cases he : e = 0
  · subst he
    rw [if_pos ⟨rfl, h.isLt⟩, if_pos rfl]
    exact mPart_at 0 x0 x1 x2 x3 h _ _ _ _ _ _ (holds 0 x0 x1 x2 x3 h (ldCols arg2 harg2 x0 h) (ldCols arg3 harg3 x1 h) (seen arg10 (fun k hk C => cPart 0 (ldCols arg2 harg2 x0 ⟨k, hk⟩) (ldCols arg3 harg3 x1 ⟨k, hk⟩) x2 x3 C (seen arg12 (fun k hk M => mPart 0 x2 x3 M ⟨k, hk⟩) (ldW arg8 (harg8.unread x6)) k hk) ⟨k, hk⟩) (ldW arg6 (harg6.unread x4)) h.val h.isLt) (seen arg11 (fun k hk N => nPart 0 (ldCols arg2 harg2 x0 ⟨k, hk⟩) x2 x3 N (seen arg12 (fun k hk M => mPart 0 x2 x3 M ⟨k, hk⟩) (ldW arg8 (harg8.unread x6)) k hk) ⟨k, hk⟩) (ldW arg7 (harg7.unread x5)) h.val h.isLt) (seen arg12 (fun k hk M => mPart 0 x2 x3 M ⟨k, hk⟩) (ldW arg8 (harg8.unread x6)) h.val h.isLt) (stOf x4 x5 x6 0 h) (ldCols_at arg2 harg2 x0 h) (ldCols_at arg3 harg3 x1 h)
      (fun a c => (seen_at arg10 _ _ h a c).trans (ldW_at arg6 harg6 x4 0 h a c))
      (fun a => (seen_at arg11 _ _ h 0 a).trans (ldW_at arg7 harg7 x5 0 h 0 a))
      ((seen_at arg12 _ _ h 0 0).trans (ldW_at arg8 harg8 x6 0 h 0 0))) l
  · rw [if_neg (fun hh => he hh.1), if_neg he]
    exact ldW_at arg8 harg8 x6 e h 0 l

theorem outB_h (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (h : Fin 8) (t k : Fin 128) :
    out0_B_7 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix3 0 t (col h k))
      = (chunkOf 0 x0 x1 x2 x3 h).out (stOf xo8 xo9 xo10 0 h) t k := by
  unfold out0_B_7
  rw [listB_h, strip_read _ _ _ _ _ h h.isLt, ldG_eq, ldB_eq]
  exact hPart_at 0 x0 x1 x2 x3 h _ _ _ _ _ _ (holds 0 x0 x1 x2 x3 h (ldCols arg2 harg2 x0 h) (ldCols arg3 harg3 x1 h) (ldS arg10 (harg10.unread xo8) 0 h) (ldS arg11 (harg11.unread xo9) 0 h) (ldS arg12 (harg12.unread xo10) 0 h) (stOf xo8 xo9 xo10 0 h) (ldCols_at arg2 harg2 x0 h) (ldCols_at arg3 harg3 x1 h)
      (fun a c => ldS_at arg10 harg10 xo8 0 h a c) (fun a => ldS_at arg11 harg11 xo9 0 h 0 a)
      (ldS_at arg12 harg12 xo10 0 h 0 0)) t k

theorem outB_c (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (e : Fin 2) (h : Fin 8) (a : Fin 64) (k : Fin 128) :
    out0_B_8 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix4 e h a k)
      = if e = 0 then ((chunkOf 0 x0 x1 x2 x3 h).next (stOf xo8 xo9 xo10 0 h)).C a k else xo8 (ix4 e h a k) := by
  unfold out0_B_8
  rw [listB_c, stack_read, ldG_eq, ldB_eq]
  by_cases he : e = 0
  · subst he
    rw [if_pos ⟨rfl, h.isLt⟩, if_pos rfl]
    exact cPart_at 0 x0 x1 x2 x3 h _ _ _ _ _ _ (holds 0 x0 x1 x2 x3 h (ldCols arg2 harg2 x0 h) (ldCols arg3 harg3 x1 h) (ldS arg10 (harg10.unread xo8) 0 h) (ldS arg11 (harg11.unread xo9) 0 h) (ldS arg12 (harg12.unread xo10) 0 h) (stOf xo8 xo9 xo10 0 h) (ldCols_at arg2 harg2 x0 h) (ldCols_at arg3 harg3 x1 h)
      (fun a c => ldS_at arg10 harg10 xo8 0 h a c) (fun a => ldS_at arg11 harg11 xo9 0 h 0 a)
      (ldS_at arg12 harg12 xo10 0 h 0 0)) a k
  · rw [if_neg (fun hh => he hh.1), if_neg he, View.writes_nil, harg10.read_unread]

theorem outB_n (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (e : Fin 2) (h : Fin 8) (a : Fin 64) :
    out0_B_9 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix4 e h 0 a)
      = if e = 0 then ((chunkOf 0 x0 x1 x2 x3 h).next (stOf xo8 xo9 xo10 0 h)).n a else xo9 (ix4 e h 0 a) := by
  unfold out0_B_9
  rw [listB_n, stack_read, ldG_eq, ldB_eq]
  by_cases he : e = 0
  · subst he
    rw [if_pos ⟨rfl, h.isLt⟩, if_pos rfl]
    exact nPart_at 0 x0 x1 x2 x3 h _ _ _ _ _ _ (holds 0 x0 x1 x2 x3 h (ldCols arg2 harg2 x0 h) (ldCols arg3 harg3 x1 h) (ldS arg10 (harg10.unread xo8) 0 h) (ldS arg11 (harg11.unread xo9) 0 h) (ldS arg12 (harg12.unread xo10) 0 h) (stOf xo8 xo9 xo10 0 h) (ldCols_at arg2 harg2 x0 h) (ldCols_at arg3 harg3 x1 h)
      (fun a c => ldS_at arg10 harg10 xo8 0 h a c) (fun a => ldS_at arg11 harg11 xo9 0 h 0 a)
      (ldS_at arg12 harg12 xo10 0 h 0 0)) a
  · rw [if_neg (fun hh => he hh.1), if_neg he, View.writes_nil, harg11.read_unread]

theorem outB_m (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (e : Fin 2) (h : Fin 8) (l : Fin 128) :
    out0_B_10 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix4 e h 0 l)
      = if e = 0 then ((chunkOf 0 x0 x1 x2 x3 h).next (stOf xo8 xo9 xo10 0 h)).m else xo10 (ix4 e h 0 l) := by
  unfold out0_B_10
  rw [listB_m, stack_read, ldG_eq, ldB_eq]
  by_cases he : e = 0
  · subst he
    rw [if_pos ⟨rfl, h.isLt⟩, if_pos rfl]
    exact mPart_at 0 x0 x1 x2 x3 h _ _ _ _ _ _ (holds 0 x0 x1 x2 x3 h (ldCols arg2 harg2 x0 h) (ldCols arg3 harg3 x1 h) (ldS arg10 (harg10.unread xo8) 0 h) (ldS arg11 (harg11.unread xo9) 0 h) (ldS arg12 (harg12.unread xo10) 0 h) (stOf xo8 xo9 xo10 0 h) (ldCols_at arg2 harg2 x0 h) (ldCols_at arg3 harg3 x1 h)
      (fun a c => ldS_at arg10 harg10 xo8 0 h a c) (fun a => ldS_at arg11 harg11 xo9 0 h 0 a)
      (ldS_at arg12 harg12 xo10 0 h 0 0)) l
  · rw [if_neg (fun hh => he hh.1), if_neg he, View.writes_nil, harg12.read_unread]

theorem outC_h (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (h : Fin 8) (t k : Fin 128) :
    out0_C_7 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix3 0 t (col h k))
      = (chunkOf 1 x0 x1 x2 x3 h).out (stOf xo8 xo9 xo10 1 h) t k := by
  unfold out0_C_7
  rw [listC_h, strip_read _ _ _ _ _ h h.isLt, ldG_eq, ldB_eq]
  exact hPart_at 1 x0 x1 x2 x3 h _ _ _ _ _ _ (holds 1 x0 x1 x2 x3 h (ldCols arg2 harg2 x0 h) (ldCols arg3 harg3 x1 h) (ldS arg10 (harg10.unread xo8) 1 h) (ldS arg11 (harg11.unread xo9) 1 h) (ldS arg12 (harg12.unread xo10) 1 h) (stOf xo8 xo9 xo10 1 h) (ldCols_at arg2 harg2 x0 h) (ldCols_at arg3 harg3 x1 h)
      (fun a c => ldS_at arg10 harg10 xo8 1 h a c) (fun a => ldS_at arg11 harg11 xo9 1 h 0 a)
      (ldS_at arg12 harg12 xo10 1 h 0 0)) t k

theorem outC_c (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (e : Fin 2) (h : Fin 8) (a : Fin 64) (k : Fin 128) :
    out0_C_8 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix4 e h a k)
      = if e = 1 then ((chunkOf 1 x0 x1 x2 x3 h).next (stOf xo8 xo9 xo10 1 h)).C a k else xo8 (ix4 e h a k) := by
  unfold out0_C_8
  rw [listC_c, stack_read, ldG_eq, ldB_eq]
  by_cases he : e = 1
  · subst he
    rw [if_pos ⟨rfl, h.isLt⟩, if_pos rfl]
    exact cPart_at 1 x0 x1 x2 x3 h _ _ _ _ _ _ (holds 1 x0 x1 x2 x3 h (ldCols arg2 harg2 x0 h) (ldCols arg3 harg3 x1 h) (ldS arg10 (harg10.unread xo8) 1 h) (ldS arg11 (harg11.unread xo9) 1 h) (ldS arg12 (harg12.unread xo10) 1 h) (stOf xo8 xo9 xo10 1 h) (ldCols_at arg2 harg2 x0 h) (ldCols_at arg3 harg3 x1 h)
      (fun a c => ldS_at arg10 harg10 xo8 1 h a c) (fun a => ldS_at arg11 harg11 xo9 1 h 0 a)
      (ldS_at arg12 harg12 xo10 1 h 0 0)) a k
  · rw [if_neg (fun hh => he hh.1), if_neg he, View.writes_nil, harg10.read_unread]

theorem outC_n (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (e : Fin 2) (h : Fin 8) (a : Fin 64) :
    out0_C_9 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix4 e h 0 a)
      = if e = 1 then ((chunkOf 1 x0 x1 x2 x3 h).next (stOf xo8 xo9 xo10 1 h)).n a else xo9 (ix4 e h 0 a) := by
  unfold out0_C_9
  rw [listC_n, stack_read, ldG_eq, ldB_eq]
  by_cases he : e = 1
  · subst he
    rw [if_pos ⟨rfl, h.isLt⟩, if_pos rfl]
    exact nPart_at 1 x0 x1 x2 x3 h _ _ _ _ _ _ (holds 1 x0 x1 x2 x3 h (ldCols arg2 harg2 x0 h) (ldCols arg3 harg3 x1 h) (ldS arg10 (harg10.unread xo8) 1 h) (ldS arg11 (harg11.unread xo9) 1 h) (ldS arg12 (harg12.unread xo10) 1 h) (stOf xo8 xo9 xo10 1 h) (ldCols_at arg2 harg2 x0 h) (ldCols_at arg3 harg3 x1 h)
      (fun a c => ldS_at arg10 harg10 xo8 1 h a c) (fun a => ldS_at arg11 harg11 xo9 1 h 0 a)
      (ldS_at arg12 harg12 xo10 1 h 0 0)) a
  · rw [if_neg (fun hh => he hh.1), if_neg he, View.writes_nil, harg11.read_unread]

theorem outC_m (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S2x8x64x128 .f32) (harg6 : arg6.IsWhole)
  (arg7 : Memref sig .tc .vmem S2x8x1x64 .f32) (harg7 : arg7.IsWhole)
  (arg8 : Memref sig .tc .vmem S2x8x1x128 .f32) (harg8 : arg8.IsWhole)
  (arg9 : Memref sig .tc .vmem S1x128x1024 .f32) (harg9 : arg9.IsWhole)
  (arg10 : Memref sig .tc .vmem S2x8x64x128 .f32) (harg10 : arg10.IsWhole)
  (arg11 : Memref sig .tc .vmem S2x8x1x64 .f32) (harg11 : arg11.IsWhole)
  (arg12 : Memref sig .tc .vmem S2x8x1x128 .f32) (harg12 : arg12.IsWhole) (hc0) (hc1) (hc2) (x0 x1 : Vec Ideal S128x1024 .f32) (x2 : Vec Ideal S128x128 .f32) (x3 : Vec Ideal S1x128 .f32)
  (x4 : Vec Ideal S2x8x64x128 .f32) (x5 : Vec Ideal S2x8x1x64 .f32) (x6 : Vec Ideal S2x8x1x128 .f32)
  (xo8 : Vec Ideal S2x8x64x128 .f32) (xo9 : Vec Ideal S2x8x1x64 .f32) (xo10 : Vec Ideal S2x8x1x128 .f32)
    (e : Fin 2) (h : Fin 8) (l : Fin 128) :
    out0_C_10 (F := Ideal) c i arg2 harg2 arg3 harg3 arg4 harg4 arg5 harg5 arg6 harg6 arg7 harg7 arg8 harg8 arg9 harg9 arg10 harg10 arg11 harg11 arg12 harg12 hc0 hc1 hc2
      x0 x1 x2 x3 x4 x5 x6 xo8 xo9 xo10 (ix4 e h 0 l)
      = if e = 1 then ((chunkOf 1 x0 x1 x2 x3 h).next (stOf xo8 xo9 xo10 1 h)).m else xo10 (ix4 e h 0 l) := by
  unfold out0_C_10
  rw [listC_m, stack_read, ldG_eq, ldB_eq]
  by_cases he : e = 1
  · subst he
    rw [if_pos ⟨rfl, h.isLt⟩, if_pos rfl]
    exact mPart_at 1 x0 x1 x2 x3 h _ _ _ _ _ _ (holds 1 x0 x1 x2 x3 h (ldCols arg2 harg2 x0 h) (ldCols arg3 harg3 x1 h) (ldS arg10 (harg10.unread xo8) 1 h) (ldS arg11 (harg11.unread xo9) 1 h) (ldS arg12 (harg12.unread xo10) 1 h) (stOf xo8 xo9 xo10 1 h) (ldCols_at arg2 harg2 x0 h) (ldCols_at arg3 harg3 x1 h)
      (fun a c => ldS_at arg10 harg10 xo8 1 h a c) (fun a => ldS_at arg11 harg11 xo9 1 h 0 a)
      (ldS_at arg12 harg12 xo10 1 h 0 0)) l
  · rw [if_neg (fun hh => he hh.1), if_neg he, View.writes_nil, harg12.read_unread]

end Cert.KernelIdeal.Gates
-- ==== Proof.KernelRun.lean ====
/-
  The kernel's grid, point by point: the blocks it stages are the scan's rows, and after each point the arrays of the
  state hold the scan's states.
-/
module

public import proofs.«01_k».proof.Proof.KernelOut

@[expose] public section

set_option maxRecDepth 16384

noncomputable section

open Idealize.ShloMosaic Idealize.ShloMosaic.TcCoe Idealize.SL.Sem

namespace Cert.Scan

theorem step_val (j : ℕ) (hj : j < 128) (r : Fin 128) : (step j r).val = 128 * j + r.val :=
  Nat.mod_eq_of_lt (by omega)

theorem pos1_val (n : Fin 16384) : (pos 1 n).val = 16383 - n.val := by
  show n.rev.val = _
  rw [Fin.val_rev]
  omega

end Cert.Scan

namespace Cert.KernelIdeal.Gates

open Cert.KernelIdeal Cert.KernelIdeal.Gen Cert.Scan

/-- The chunk of the sequence that point `t` works on. -/
def cidx (t : ℕ) : ℕ := if t < 128 then t else 255 - t

theorem idx0 : ∀ t : Fin cfg0.N, (cfg0.win 0).index t 0 = cidx t.val ∧ (cfg0.win 0).index t 1 = 0 := by
  decide +kernel
theorem idx1 : ∀ t : Fin cfg0.N, (cfg0.win 1).index t 0 = cidx t.val ∧ (cfg0.win 1).index t 1 = 1 := by
  decide +kernel
theorem idx2 : ∀ t : Fin cfg0.N, (cfg0.win 2).index t 0 = cidx t.val ∧ (cfg0.win 2).index t 1 = 24 := by
  decide +kernel
theorem idx3 : ∀ t : Fin cfg0.N, (cfg0.win 3).index t 0 = 0 ∧ (cfg0.win 3).index t 1 = 0 := by
  decide +kernel
theorem idx4 : ∀ t : Fin cfg0.N, ∀ a, (cfg0.win 4).index t a = 0 := by
  decide +kernel
theorem idx5 : ∀ t : Fin cfg0.N, ∀ a, (cfg0.win 5).index t a = 0 := by
  decide +kernel
theorem idx6 : ∀ t : Fin cfg0.N, ∀ a, (cfg0.win 6).index t a = 0 := by
  decide +kernel

/-- A chunk of direction `d` over the rows `ρ` of the sequence. -/
def chunkOn (za : Vec Ideal S16384x3200 .f32) (bias : Vec Ideal S1x128 .f32) (d : Fin 2) (h : Fin 8)
    (ρ : Fin 128 → Fin 16384) : Chunk :=
  chunk d (fun r => logSig (gate za bias (ρ r) (lane d 1 h))) (fun r => gate za bias (ρ r) (lane d 0 h))
    (fun r => qAt za h (ρ r)) (fun r => kAt za h (ρ r)) (fun r => vAt za h (ρ r))

theorem chunkOf_eq (za : Vec Ideal S16384x3200 .f32) (bias : Vec Ideal S1x128 .f32) (d : Fin 2) (h : Fin 8)
    (ρ : Fin 128 → Fin 16384) (x0 x1 : Vec Ideal S128x1024 .f32) (x2 : Vec Ideal S128x128 .f32)
    (h0 : ∀ (r : Fin 128) (l : Fin 1024), x0 (ix2 r l) = za (ix2 (ρ r) ⟨l.val, by omega⟩))
    (h1 : ∀ (r : Fin 128) (l : Fin 1024), x1 (ix2 r l) = za (ix2 (ρ r) ⟨1024 + l.val, by omega⟩))
    (h2 : ∀ r l : Fin 128, x2 (ix2 r l) = za (ix2 (ρ r) ⟨3072 + l.val, by omega⟩)) :
    chunkOf d x0 x1 x2 bias h = chunkOn za bias d h ρ := by
  unfold chunkOf chunkOn
  congr 1
  · funext r
    unfold g gate
    rw [h2]
  · funext r
    unfold g gate
    rw [h2]
  · funext r a
    rw [h0]
    rfl
  · funext r a
    rw [h0]
    rfl
  · funext r k
    rw [h1]
    rfl

section

variable (m : (ℓ : Loc nD τ sig) → Buf (Elt Ideal) ℓ) (c : Dev nD)

/-- The five arguments, as the kernel finds them. -/
abbrev za : Vec Ideal S16384x3200 .f32 := m ((c : Thread nD τ).loc main_arg0)
abbrev bias : Vec Ideal S1x128 .f32 := m ((c : Thread nD τ).loc main_arg1)
abbrev c0 : Vec Ideal S2x8x64x128 .f32 := m ((c : Thread nD τ).loc main_arg2)
abbrev n0 : Vec Ideal S2x8x1x64 .f32 := m ((c : Thread nD τ).loc main_arg3)
abbrev m0 : Vec Ideal S2x8x1x128 .f32 := m ((c : Thread nD τ).loc main_arg4)

theorem N_lt (t : Fin cfg0.N) : t.val < 256 := lt_of_lt_of_eq t.isLt N_0

theorem cidx_lt (t : Fin cfg0.N) : cidx t.val < 128 := by
  have := N_lt t
  unfold cidx
  split <;> omega

/-- The row of the sequence at row `r` of point `t`'s blocks. -/
def rowAt (t : Fin cfg0.N) (r : Fin 128) : Fin 16384 :=
  ⟨128 * cidx t.val + r.val, by have := cidx_lt t; omega⟩

theorem block0 (t : Fin cfg0.N) (r : Fin 128) (l : Fin 1024) :
    X0_0 m c t (ix2 r l) = (za m c) (ix2 (rowAt t r) ⟨l.val, by omega⟩) := by
  have hi := idx0 t
  unfold X0_0 Pipeline.Window.fill
  rw [dif_pos (moved0_0 t _)]
  unfold iblk
  rw [View.read_apply]
  show V m c main_arg0 _ = m (c.tc.loc main_arg0) _
  unfold V
  congr 1
  funext a
  apply Fin.ext
  match a with
  | ⟨0, _⟩ => show (cfg0.win 0).index t 0 * 128 + 1 * r.val = 128 * cidx t.val + r.val; rw [hi.1]; omega
  | ⟨1, _⟩ => show (cfg0.win 0).index t 1 * 1024 + 1 * l.val = l.val; rw [hi.2]; omega

theorem block1 (t : Fin cfg0.N) (r : Fin 128) (l : Fin 1024) :
    X0_1 m c t (ix2 r l) = (za m c) (ix2 (rowAt t r) ⟨1024 + l.val, by omega⟩) := by
  have hi := idx1 t
  unfold X0_1 Pipeline.Window.fill
  rw [dif_pos (moved0_1 t _)]
  unfold iblk
  rw [View.read_apply]
  show V m c main_arg0 _ = m (c.tc.loc main_arg0) _
  unfold V
  congr 1
  funext a
  apply Fin.ext
  match a with
  | ⟨0, _⟩ => show (cfg0.win 1).index t 0 * 128 + 1 * r.val = 128 * cidx t.val + r.val; rw [hi.1]; omega
  | ⟨1, _⟩ => show (cfg0.win 1).index t 1 * 1024 + 1 * l.val = 1024 + l.val; rw [hi.2]; omega

theorem block2 (t : Fin cfg0.N) (r l : Fin 128) :
    (iblk m c 2 t : Vec Ideal S128x128 .f32) (ix2 r l) = (za m c) (ix2 (rowAt t r) ⟨3072 + l.val, by omega⟩) := by
  have hi := idx2 t
  unfold iblk
  rw [View.read_apply]
  show V m c main_arg0 _ = m (c.tc.loc main_arg0) _
  unfold V
  congr 1
  funext a
  apply Fin.ext
  match a with
  | ⟨0, _⟩ => show (cfg0.win 2).index t 0 * 128 + 1 * r.val = 128 * cidx t.val + r.val; rw [hi.1]; omega
  | ⟨1, _⟩ => show (cfg0.win 2).index t 1 * 128 + 1 * l.val = 3072 + l.val; rw [hi.2]; omega

theorem block3 (t : Fin cfg0.N) : (iblk m c 3 t : Vec Ideal S1x128 .f32) = (bias m c) := by
  have hi := idx3 t
  funext j
  unfold iblk
  rw [View.read_apply]
  show V m c main_arg1 _ = m (c.tc.loc main_arg1) _
  unfold V
  congr 1
  funext a
  apply Fin.ext
  match a with
  | ⟨0, _⟩ => show (cfg0.win 3).index t 0 * 1 + 1 * (j 0).val = (j 0).val; rw [hi.1]; omega
  | ⟨1, _⟩ => show (cfg0.win 3).index t 1 * 128 + 1 * (j 1).val = (j 1).val; rw [hi.2]; omega

theorem block4 (t : Fin cfg0.N) : (iblk m c 4 t : Vec Ideal S2x8x64x128 .f32) = (c0 m c) := by
  have hi := idx4 t
  funext j
  unfold iblk
  rw [View.read_apply]
  show V m c main_arg2 _ = m (c.tc.loc main_arg2) _
  unfold V
  congr 1
  funext a
  apply Fin.ext
  match a with
  | ⟨0, _⟩ => show (cfg0.win 4).index t 0 * 2 + 1 * (j 0).val = (j 0).val; rw [hi 0]; omega
  | ⟨1, _⟩ => show (cfg0.win 4).index t 1 * 8 + 1 * (j 1).val = (j 1).val; rw [hi 1]; omega
  | ⟨2, _⟩ => show (cfg0.win 4).index t 2 * 64 + 1 * (j 2).val = (j 2).val; rw [hi 2]; omega
  | ⟨3, _⟩ => show (cfg0.win 4).index t 3 * 128 + 1 * (j 3).val = (j 3).val; rw [hi 3]; omega

theorem block5 (t : Fin cfg0.N) : (iblk m c 5 t : Vec Ideal S2x8x1x64 .f32) = (n0 m c) := by
  have hi := idx5 t
  funext j
  unfold iblk
  rw [View.read_apply]
  show V m c main_arg3 _ = m (c.tc.loc main_arg3) _
  unfold V
  congr 1
  funext a
  apply Fin.ext
  match a with
  | ⟨0, _⟩ => show (cfg0.win 5).index t 0 * 2 + 1 * (j 0).val = (j 0).val; rw [hi 0]; omega
  | ⟨1, _⟩ => show (cfg0.win 5).index t 1 * 8 + 1 * (j 1).val = (j 1).val; rw [hi 1]; omega
  | ⟨2, _⟩ => show (cfg0.win 5).index t 2 * 1 + 1 * (j 2).val = (j 2).val; rw [hi 2]; omega
  | ⟨3, _⟩ => show (cfg0.win 5).index t 3 * 64 + 1 * (j 3).val = (j 3).val; rw [hi 3]; omega

theorem block6 (t : Fin cfg0.N) : (iblk m c 6 t : Vec Ideal S2x8x1x128 .f32) = (m0 m c) := by
  have hi := idx6 t
  funext j
  unfold iblk
  rw [View.read_apply]
  show V m c main_arg4 _ = m (c.tc.loc main_arg4) _
  unfold V
  congr 1
  funext a
  apply Fin.ext
  match a with
  | ⟨0, _⟩ => show (cfg0.win 6).index t 0 * 2 + 1 * (j 0).val = (j 0).val; rw [hi 0]; omega
  | ⟨1, _⟩ => show (cfg0.win 6).index t 1 * 8 + 1 * (j 1).val = (j 1).val; rw [hi 1]; omega
  | ⟨2, _⟩ => show (cfg0.win 6).index t 2 * 1 + 1 * (j 2).val = (j 2).val; rw [hi 2]; omega
  | ⟨3, _⟩ => show (cfg0.win 6).index t 3 * 128 + 1 * (j 3).val = (j 3).val; rw [hi 3]; omega

/-- What the body computes at point `t`, as a chunk. -/
theorem point_chunk (t : Fin cfg0.N) (d : Fin 2) (h : Fin 8) :
    chunkOf d (X0_0 m c t) (X0_1 m c t) (iblk m c 2 t) (iblk m c 3 t) h = chunkOn (za m c) (bias m c) d h (rowAt t) := by
  rw [block3]
  exact chunkOf_eq (za m c) (bias m c) d h (rowAt t) _ _ _ (block0 m c t) (block1 m c t) (block2 m c t)

theorem chunk_fwd (t : Fin cfg0.N) (ht : t.val < 128) (h : Fin 8) :
    chunkOn (za m c) (bias m c) 0 h (rowAt t) = chunkAt (za m c) (bias m c) 0 h t.val := by
  have hr : rowAt t = fun r => pos 0 (step t.val r) := by
    funext r
    apply Fin.ext
    show 128 * cidx t.val + r.val = (step t.val r).val
    rw [step_val _ ht, cidx, if_pos ht]
  rw [hr]
  rfl

theorem row_bwd (t : Fin cfg0.N) (ht : 128 ≤ t.val) : rowAt t = fun r => pos 1 (step (t.val - 128) r.rev) := by
  have hN := N_lt t
  funext r
  apply Fin.ext
  rw [pos1_val, step_val _ (by omega), Fin.val_rev]
  show 128 * cidx t.val + r.val = _
  rw [cidx, if_neg (by omega)]
  omega

theorem next_bwd (t : Fin cfg0.N) (ht : 128 ≤ t.val) (h : Fin 8) (S : St) :
    (chunkOn (za m c) (bias m c) 1 h (rowAt t)).next S = (chunkAt (za m c) (bias m c) 1 h (t.val - 128)).next S := by
  rw [row_bwd t ht]
  refine (bwd_next _ _ _ _ _ S).trans ?_
  simp only [Fin.rev_rev]
  rfl

theorem out_bwd (t : Fin cfg0.N) (ht : 128 ≤ t.val) (h : Fin 8) (S : St) (r k : Fin 128) :
    (chunkOn (za m c) (bias m c) 1 h (rowAt t)).out S r k = (chunkAt (za m c) (bias m c) 1 h (t.val - 128)).out S r.rev k := by
  rw [row_bwd t ht]
  refine (bwd_out _ _ _ _ _ S r k).trans ?_
  simp only [Fin.rev_rev]
  rfl

/-- The arrays of the state hold, for each direction `e`, the states `s e`. -/
structure Keeps (o : Vec Ideal S1x128x1024 .f32 × Vec Ideal S2x8x64x128 .f32 × Vec Ideal S2x8x1x64 .f32 × Vec Ideal S2x8x1x128 .f32)
    (e : Fin 2) (s : Fin 8 → St) : Prop where
  C : ∀ h a k, o.2.1 (ix4 e h a k) = (s h).C a k
  n : ∀ h a, o.2.2.1 (ix4 e h 0 a) = (s h).n a
  m : ∀ h l, o.2.2.2 (ix4 e h 0 l) = (s h).m

theorem Keeps.st {o} {e : Fin 2} {s : Fin 8 → St} (H : Keeps o e s) (h : Fin 8) :
    stOf o.2.1 o.2.2.1 o.2.2.2 e h = s h := by
  unfold stOf
  have h1 : (fun a k => o.2.1 (ix4 e h a k)) = (s h).C := funext fun a => funext fun k => H.C h a k
  have h2 : (fun a => o.2.2.1 (ix4 e h 0 a)) = (s h).n := funext fun a => H.n h a
  rw [h1, h2, H.m]

/-- The backward direction is as the kernel received it. -/
structure Waits (o : Vec Ideal S1x128x1024 .f32 × Vec Ideal S2x8x64x128 .f32 × Vec Ideal S2x8x1x64 .f32 × Vec Ideal S2x8x1x128 .f32) : Prop where
  C : ∀ h a k, o.2.1 (ix4 1 h a k) = (c0 m c) (ix4 1 h a k)
  n : ∀ h a, o.2.2.1 (ix4 1 h 0 a) = (n0 m c) (ix4 1 h 0 a)
  m : ∀ h l, o.2.2.2 (ix4 1 h 0 l) = (m0 m c) (ix4 1 h 0 l)

theorem Waits.st {o} (H : Waits m c o) (h : Fin 8) :
    stOf o.2.1 o.2.2.1 o.2.2.2 1 h = first (c0 m c) (n0 m c) (m0 m c) 1 h := by
  unfold stOf first
  have h1 : (fun a k => o.2.1 (ix4 1 h a k)) = (fun a k => (c0 m c) (ix4 1 h a k)) := funext fun a => funext fun k => H.C h a k
  have h2 : (fun a => o.2.2.1 (ix4 1 h 0 a)) = (fun a => (n0 m c) (ix4 1 h 0 a)) := funext fun a => H.n h a
  rw [h1, h2, H.m]

theorem one_ne : (1 : Fin 2) ≠ 0 := by decide

theorem state_succ (d : Fin 2) (h : Fin 8) (j : ℕ) :
    state (za m c) (bias m c) (c0 m c) (n0 m c) (m0 m c) d h (j + 1) = (chunkAt (za m c) (bias m c) d h j).next (state (za m c) (bias m c) (c0 m c) (n0 m c) (m0 m c) d h j) := rfl

/-- After the first point. -/
theorem forward_zero (hn : 0 < cfg0.N) :
    Keeps (outsAt0 m c (0) hn) 0 (fun h => state (za m c) (bias m c) (c0 m c) (n0 m c) (m0 m c) 0 h (0 + 1))
      ∧ Waits m c (outsAt0 m c (0) hn)
      ∧ ∀ h r k, (outsAt0 m c (0) hn).1 (ix3 0 r (col h k)) = emit (za m c) (bias m c) (c0 m c) (n0 m c) (m0 m c) 0 h (0) r k := by
  have hc (h : Fin 8) := (point_chunk m c ⟨0, hn⟩ 0 h).trans (chunk_fwd m c ⟨0, hn⟩ (by norm_num) h)
  rw [show outsAt0 m c 0 hn = _ from outsAt0_A m c ⟨0, hn⟩ (by norm_num) (by norm_num) (by norm_num)]
  have hs (h : Fin 8) : stOf (iblk m c 4 ⟨0, hn⟩ : Vec Ideal S2x8x64x128 .f32) (iblk m c 5 ⟨0, hn⟩ : Vec Ideal S2x8x1x64 .f32)
      (iblk m c 6 ⟨0, hn⟩ : Vec Ideal S2x8x1x128 .f32) 0 h = state (za m c) (bias m c) (c0 m c) (n0 m c) (m0 m c) 0 h 0 := by
    rw [block4, block5, block6]
    rfl
  refine ⟨⟨fun h a k => ?_, fun h a => ?_, fun h l => ?_⟩, ⟨fun h a k => ?_, fun h a => ?_, fun h l => ?_⟩, fun h r k => ?_⟩
  · dsimp only
    refine (outA_c ..).trans ?_
    rw [if_pos rfl, hc, hs, state_succ]
  · dsimp only
    refine (outA_n ..).trans ?_
    rw [if_pos rfl, hc, hs, state_succ]
  · dsimp only
    refine (outA_m ..).trans ?_
    rw [if_pos rfl, hc, hs, state_succ]
  · dsimp only
    refine (outA_c ..).trans ?_
    rw [if_neg one_ne, block4]
  · dsimp only
    refine (outA_n ..).trans ?_
    rw [if_neg one_ne, block5]
  · dsimp only
    refine (outA_m ..).trans ?_
    rw [if_neg one_ne, block6]
  · dsimp only
    refine (outA_h ..).trans ?_
    rw [hc, hs]
    unfold emit
    rfl

/-- One more point. -/
theorem forward_step (n : ℕ) (hn : n + 1 < cfg0.N) (h128 : n + 1 < 128) (o) (ho : outsAt0 m c n (by omega) = o)
    (hk : Keeps o 0 (fun h => state (za m c) (bias m c) (c0 m c) (n0 m c) (m0 m c) 0 h (n + 1))) (hw : Waits m c o) :
    Keeps (outsAt0 m c (n + 1) hn) 0 (fun h => state (za m c) (bias m c) (c0 m c) (n0 m c) (m0 m c) 0 h (n + 1 + 1))
      ∧ Waits m c (outsAt0 m c (n + 1) hn)
      ∧ ∀ h r k, (outsAt0 m c (n + 1) hn).1 (ix3 0 r (col h k)) = emit (za m c) (bias m c) (c0 m c) (n0 m c) (m0 m c) 0 h (n + 1) r k := by
  subst ho
  have hc (h : Fin 8) := (point_chunk m c ⟨n + 1, hn⟩ 0 h).trans (chunk_fwd m c ⟨n + 1, hn⟩ h128 h)
  rw [show outsAt0 m c (n + 1) hn = _ from
    outsAt0_B m c ⟨n + 1, hn⟩ (by show ¬(n + 1) % 256 = 0; omega) h128 (by show ¬128 ≤ n + 1; omega)]
  have hs (h : Fin 8) := hk.st h
  refine ⟨⟨fun h a k => ?_, fun h a => ?_, fun h l => ?_⟩, ⟨fun h a k => ?_, fun h a => ?_, fun h l => ?_⟩, fun h r k => ?_⟩
  · dsimp only
    refine (outB_c ..).trans ?_
    rw [if_pos rfl, hc, state_succ]
    exact congrArg (fun S => ((chunkAt (za m c) (bias m c) 0 h (n + 1)).next S).C a k) (hs h)
  · dsimp only
    refine (outB_n ..).trans ?_
    rw [if_pos rfl, hc, state_succ]
    exact congrArg (fun S => ((chunkAt (za m c) (bias m c) 0 h (n + 1)).next S).n a) (hs h)
  · dsimp only
    refine (outB_m ..).trans ?_
    rw [if_pos rfl, hc, state_succ]
    exact congrArg (fun S => ((chunkAt (za m c) (bias m c) 0 h (n + 1)).next S).m) (hs h)
  · dsimp only
    refine (outB_c ..).trans ?_
    rw [if_neg one_ne]
    exact hw.C h a k
  · dsimp only
    refine (outB_n ..).trans ?_
    rw [if_neg one_ne]
    exact hw.n h a
  · dsimp only
    refine (outB_m ..).trans ?_
    rw [if_neg one_ne]
    exact hw.m h l
  · dsimp only
    refine (outB_h ..).trans ?_
    rw [hc]
    exact congrArg (fun S => (chunkAt (za m c) (bias m c) 0 h (n + 1)).out S r k) (hs h)

/-- After point `n` of the forward direction. -/
theorem forward (n : ℕ) (hn : n < cfg0.N) (h128 : n < 128) :
    Keeps (outsAt0 m c (n) hn) 0 (fun h => state (za m c) (bias m c) (c0 m c) (n0 m c) (m0 m c) 0 h (n + 1))
      ∧ Waits m c (outsAt0 m c (n) hn)
      ∧ ∀ h r k, (outsAt0 m c (n) hn).1 (ix3 0 r (col h k)) = emit (za m c) (bias m c) (c0 m c) (n0 m c) (m0 m c) 0 h (n) r k := by
  induction n with
  | zero => exact forward_zero m c hn
  | succ n ih =>
    obtain ⟨hk, hw, -⟩ := ih (by omega) (by omega)
    exact forward_step m c n hn h128 (outsAt0 m c n (by omega)) rfl hk hw

theorem zero_ne : (0 : Fin 2) ≠ 1 := by decide

theorem outs_congr {n n' : ℕ} {hn : n < cfg0.N} {hn' : n' < cfg0.N} (h : n = n') :
    outsAt0 m c n hn = outsAt0 m c n' hn' := by
  subst h
  rfl

/-- One point of the backward direction, from what the point before leaves. -/
theorem backward_step (j : ℕ) (hn : 128 + j < cfg0.N) (o) (ho : outsAt0 m c (128 + j - 1) (by omega) = o)
    (h0 : Keeps o 0 (fun h => state (za m c) (bias m c) (c0 m c) (n0 m c) (m0 m c) 0 h 128))
    (h1 : ∀ h, stOf o.2.1 o.2.2.1 o.2.2.2 1 h = state (za m c) (bias m c) (c0 m c) (n0 m c) (m0 m c) 1 h j) :
    Keeps (outsAt0 m c (128 + j) hn) 0 (fun h => state (za m c) (bias m c) (c0 m c) (n0 m c) (m0 m c) 0 h 128)
      ∧ Keeps (outsAt0 m c (128 + j) hn) 1 (fun h => state (za m c) (bias m c) (c0 m c) (n0 m c) (m0 m c) 1 h (j + 1))
      ∧ ∀ h r k, (outsAt0 m c (128 + j) hn).1 (ix3 0 r (col h k)) = emit (za m c) (bias m c) (c0 m c) (n0 m c) (m0 m c) 1 h j r.rev k := by
  subst ho
  have hN : 128 + j < 256 := N_lt ⟨128 + j, hn⟩
  have hc (h : Fin 8) := point_chunk m c ⟨128 + j, hn⟩ 1 h
  have hj : (⟨128 + j, hn⟩ : Fin cfg0.N).val - 128 = j := Nat.add_sub_cancel_left ..
  have hnext (h : Fin 8) (S : St) : (chunkOn (za m c) (bias m c) 1 h (rowAt ⟨128 + j, hn⟩)).next S = (chunkAt (za m c) (bias m c) 1 h j).next S :=
    (next_bwd m c ⟨128 + j, hn⟩ (Nat.le_add_right ..) h S).trans (by rw [hj])
  have hout (h : Fin 8) (S : St) (r k : Fin 128) :
      (chunkOn (za m c) (bias m c) 1 h (rowAt ⟨128 + j, hn⟩)).out S r k = (chunkAt (za m c) (bias m c) 1 h j).out S r.rev k :=
    (out_bwd m c ⟨128 + j, hn⟩ (Nat.le_add_right ..) h S r k).trans (by rw [hj])
  rw [show outsAt0 m c (128 + j) hn = _ from
    outsAt0_C m c ⟨128 + j, hn⟩ (by show ¬(128 + j) % 256 = 0; omega) (by show ¬128 + j < 128; omega) (Nat.le_add_right ..)]
  refine ⟨⟨fun h a k => ?_, fun h a => ?_, fun h l => ?_⟩, ⟨fun h a k => ?_, fun h a => ?_, fun h l => ?_⟩, fun h r k => ?_⟩
  · dsimp only
    refine (outC_c ..).trans ?_
    rw [if_neg zero_ne]
    exact h0.C h a k
  · dsimp only
    refine (outC_n ..).trans ?_
    rw [if_neg zero_ne]
    exact h0.n h a
  · dsimp only
    refine (outC_m ..).trans ?_
    rw [if_neg zero_ne]
    exact h0.m h l
  · dsimp only
    refine (outC_c ..).trans ?_
    rw [if_pos rfl, hc, hnext]
    exact congrArg (fun S => ((chunkAt (za m c) (bias m c) 1 h j).next S).C a k) (h1 h)
  · dsimp only
    refine (outC_n ..).trans ?_
    rw [if_pos rfl, hc, hnext]
    exact congrArg (fun S => ((chunkAt (za m c) (bias m c) 1 h j).next S).n a) (h1 h)
  · dsimp only
    refine (outC_m ..).trans ?_
    rw [if_pos rfl, hc, hnext]
    exact congrArg (fun S => ((chunkAt (za m c) (bias m c) 1 h j).next S).m) (h1 h)
  · dsimp only
    refine (outC_h ..).trans ?_
    rw [hc, hout]
    exact congrArg (fun S => (chunkAt (za m c) (bias m c) 1 h j).out S r.rev k) (h1 h)

/-- After point `128 + j`. -/
theorem backward (j : ℕ) (hn : 128 + j < cfg0.N) :
    Keeps (outsAt0 m c (128 + j) hn) 0 (fun h => state (za m c) (bias m c) (c0 m c) (n0 m c) (m0 m c) 0 h 128)
      ∧ Keeps (outsAt0 m c (128 + j) hn) 1 (fun h => state (za m c) (bias m c) (c0 m c) (n0 m c) (m0 m c) 1 h (j + 1))
      ∧ ∀ h r k, (outsAt0 m c (128 + j) hn).1 (ix3 0 r (col h k)) = emit (za m c) (bias m c) (c0 m c) (n0 m c) (m0 m c) 1 h j r.rev k := by
  induction j with
  | zero =>
    obtain ⟨hk, hw, -⟩ := forward m c 127 (by omega) (by norm_num)
    exact backward_step m c 0 hn (outsAt0 m c 127 (by omega)) (outs_congr m c (by omega)) hk (fun h => hw.st m c h)
  | succ j ih =>
    obtain ⟨hk, hb, -⟩ := ih (by omega)
    exact backward_step m c (j + 1) hn (outsAt0 m c (128 + j) (by omega)) (outs_congr m c (by omega)) hk (fun h => hb.st h)

end

end Cert.KernelIdeal.Gates
-- ==== Proof.Results.lean ====
/-
  The four results of the scan, as arrays: its outputs, and its state after the last chunk.
-/
module

public import proofs.«01_k».proof.Proof.Rows

@[expose] public section

set_option maxRecDepth 16384

noncomputable section

open Idealize.ShloMosaic Idealize.ShloMosaic.TcCoe Idealize.SL.Sem

namespace Cert.Scan

variable (za : (⟨2, ![16384, 3200]⟩ : Shape).Idx → EReal) (bias : (⟨2, ![1, 128]⟩ : Shape).Idx → EReal)
  (c0 : (⟨4, ![2, 8, 64, 128]⟩ : Shape).Idx → EReal) (n0 : (⟨4, ![2, 8, 1, 64]⟩ : Shape).Idx → EReal)
  (m0 : (⟨4, ![2, 8, 1, 128]⟩ : Shape).Idx → EReal)

/-- The four results, as arrays. -/
def resH : (⟨3, ![2, 16384, 1024]⟩ : Shape).Idx → EReal := fun i =>
  emitAt za bias c0 n0 m0 (i 0) (i 1) ⟨(i 2).val / 128, Nat.div_lt_of_lt_mul (i 2).isLt⟩
    ⟨(i 2).val % 128, Nat.mod_lt _ (by norm_num)⟩

def resC : (⟨4, ![2, 8, 64, 128]⟩ : Shape).Idx → EReal := fun i =>
  (state za bias c0 n0 m0 (i 0) (i 1) 128).C (i 2) (i 3)

def resN : (⟨4, ![2, 8, 1, 64]⟩ : Shape).Idx → EReal := fun i =>
  (state za bias c0 n0 m0 (i 0) (i 1) 128).n (i 3)

def resM : (⟨4, ![2, 8, 1, 128]⟩ : Shape).Idx → EReal := fun i =>
  (state za bias c0 n0 m0 (i 0) (i 1) 128).m

theorem resH_at (d : Fin 2) (n : Fin 16384) (h : Fin 8) (k : Fin 128) (j : ℕ) (hj : j < 128) (r : Fin 128)
    (hp : (pos d n).val = 128 * j + r.val) (l : Fin 1024) (hl : l.val = 128 * h.val + k.val) :
    resH za bias c0 n0 m0 (ix3 d n l) = emit za bias c0 n0 m0 d h j r k := by
  show emitAt za bias c0 n0 m0 d n ⟨l.val / 128, _⟩ ⟨l.val % 128, _⟩ = _
  have h1 : (⟨l.val / 128, Nat.div_lt_of_lt_mul l.isLt⟩ : Fin 8) = h := Fin.ext (by show l.val / 128 = h.val; omega)
  have h2 : (⟨l.val % 128, Nat.mod_lt _ (by norm_num)⟩ : Fin 128) = k := Fin.ext (by show l.val % 128 = k.val; omega)
  rw [h1, h2]
  unfold emitAt
  have h3 : (pos d n).val / 128 = j := by omega
  have h4 : (⟨(pos d n).val % 128, Nat.mod_lt _ (by norm_num)⟩ : Fin 128) = r := Fin.ext (by show (pos d n).val % 128 = r.val; omega)
  rw [h3, h4]

end Cert.Scan
-- ==== Proof.KernelArrays.lean ====
/-
  The kernel's four results: the scan's outputs, and its state after the last chunk.
-/
module

public import proofs.«01_k».proof.Proof.KernelRun
public import proofs.«01_k».proof.Proof.Results

@[expose] public section

set_option maxRecDepth 16384

noncomputable section

open Idealize.ShloMosaic Idealize.ShloMosaic.TcCoe Idealize.SL.Sem

namespace Cert.KernelIdeal.Gates

open Cert.KernelIdeal Cert.KernelIdeal.Gen Cert.KernelIdeal.Value Cert.Scan

theorem idx7 : ∀ t : Fin cfg0.N, (cfg0.win 7).index t 0 = (if t.val < 128 then 0 else 1)
    ∧ (cfg0.win 7).index t 1 = cidx t.val ∧ (cfg0.win 7).index t 2 = 0 := by
  decide +kernel
theorem idx8 : ∀ t : Fin cfg0.N, ∀ a, (cfg0.win 8).index t a = 0 := by
  decide +kernel
theorem idx9 : ∀ t : Fin cfg0.N, ∀ a, (cfg0.win 9).index t a = 0 := by
  decide +kernel
theorem idx10 : ∀ t : Fin cfg0.N, ∀ a, (cfg0.win 10).index t a = 0 := by
  decide +kernel

theorem flush7 : ∀ t : Fin cfg0.N, (cfg0.win 7).flush t = true := by decide +kernel
theorem flush8 : ∀ t : Fin cfg0.N, (cfg0.win 8).flush t = decide (t.val = 255) := by decide +kernel
theorem flush9 : ∀ t : Fin cfg0.N, (cfg0.win 9).flush t = decide (t.val = 255) := by decide +kernel
theorem flush10 : ∀ t : Fin cfg0.N, (cfg0.win 10).flush t = decide (t.val = 255) := by decide +kernel

section

variable (m : (ℓ : Loc nD τ sig) → Buf (Elt Ideal) ℓ) (c : Dev nD)

abbrev outH : Vec Ideal S2x16384x1024 .f32 := resH (za m c) (bias m c) (c0 m c) (n0 m c) (m0 m c)
abbrev outC : Vec Ideal S2x8x64x128 .f32 := resC (za m c) (bias m c) (c0 m c) (n0 m c) (m0 m c)
abbrev outN : Vec Ideal S2x8x1x64 .f32 := resN (za m c) (bias m c) (c0 m c) (n0 m c) (m0 m c)
abbrev outM : Vec Ideal S2x8x1x128 .f32 := resM (za m c) (bias m c) (c0 m c) (n0 m c) (m0 m c)

/-- The direction of point `t`. -/
def dirOf (t : Fin cfg0.N) : Fin 2 := if t.val < 128 then 0 else 1

theorem outs_h (t : Fin cfg0.N) (r : Fin 128) (l : Fin 1024) :
    (outsAt0 m c t.val t.isLt).1 (ix3 0 r l) = outH m c (ix3 (dirOf t) (rowAt t r) l) := by
  have hN := N_lt t
  have hl : l = col ⟨l.val / 128, Nat.div_lt_of_lt_mul l.isLt⟩ ⟨l.val % 128, Nat.mod_lt _ (by norm_num)⟩ :=
    Fin.ext (by show l.val = 128 * (l.val / 128) + l.val % 128; omega)
  by_cases ht : t.val < 128
  · have hr : (rowAt t r).val = 128 * t.val + r.val := by
      show 128 * cidx t.val + r.val = _
      rw [cidx, if_pos ht]
    have hd : dirOf t = 0 := if_pos ht
    rw [hd]
    refine Eq.trans ?_ (resH_at _ _ _ _ _ 0 (rowAt t r) ⟨l.val / 128, Nat.div_lt_of_lt_mul l.isLt⟩
      ⟨l.val % 128, Nat.mod_lt _ (by norm_num)⟩ t.val ht r hr l (congrArg Fin.val hl)).symm
    refine Eq.trans ?_ ((forward m c t.val t.isLt ht).2.2 _ r _)
    rw [← hl]
  · have hr : (pos 1 (rowAt t r)).val = 128 * (t.val - 128) + r.rev.val := by
      rw [pos1_val, Fin.val_rev]
      show 16383 - (128 * cidx t.val + r.val) = _
      rw [cidx, if_neg ht]
      omega
    have hd : dirOf t = 1 := if_neg ht
    rw [hd]
    refine Eq.trans ?_ (resH_at _ _ _ _ _ 1 (rowAt t r) ⟨l.val / 128, Nat.div_lt_of_lt_mul l.isLt⟩
      ⟨l.val % 128, Nat.mod_lt _ (by norm_num)⟩ (t.val - 128) (by omega) r.rev hr l (congrArg Fin.val hl)).symm
    have hj : t.val = 128 + (t.val - 128) := by omega
    rw [outs_congr m c (hn' := by omega) hj]
    refine Eq.trans ?_ ((backward m c (t.val - 128) (by omega)).2.2 _ r _)
    rw [← hl]

theorem array7 : (dats m 0 c).arrAt 7 cfg0.N = outH m c := by
  refine Pipeline.Dat.arrAt_eq_of_cover (dats m 0 c) 7 (outH m c) (fun t _ => ?_) (fun i => ?_)
  · obtain ⟨h0, h1, h2⟩ := idx7 t
    rw [flushed7]
    funext y
    have hy : y = (ix3 0 (y 1) (y 2) : S1x128x1024.Idx) := by
      funext a
      match a with
      | ⟨0, _⟩ => exact Fin.ext (Nat.lt_one_iff.mp (y 0).isLt)
      | ⟨1, _⟩ => rfl
      | ⟨2, _⟩ => rfl
    rw [View.read_apply]
    show (outsAt0 m c t.val t.isLt).1 y = outH m c _
    refine (congrArg (outsAt0 m c t.val t.isLt).1 hy).trans ((outs_h m c t (y 1) (y 2)).trans (congrArg (outH m c) ?_))
    funext a
    apply Fin.ext
    match a with
    | ⟨0, _⟩ =>
      show (dirOf t).val = (cfg0.win 7).index t 0 * 1 + 1 * (y 0).val
      have : (y 0).val = 0 := Nat.lt_one_iff.mp (y 0).isLt
      rw [h0, this, dirOf]
      split <;> rfl
    | ⟨1, _⟩ =>
      show 128 * cidx t.val + (y 1).val = (cfg0.win 7).index t 1 * 128 + 1 * (y 1).val
      rw [h1]
      omega
    | ⟨2, _⟩ =>
      show (y 2).val = (cfg0.win 7).index t 2 * 1024 + 1 * (y 2).val
      rw [h2]
      omega
  · have i1 : (i 1).val < 16384 := (i 1).isLt
    have i0 : (i 0).val < 2 := (i 0).isLt
    have hN : cfg0.N = 256 := N_0
    let t : Fin cfg0.N := ⟨if (i 0).val = 0 then (i 1).val / 128 else 255 - (i 1).val / 128, by split <;> omega⟩
    have ht : t.val = if (i 0).val = 0 then (i 1).val / 128 else 255 - (i 1).val / 128 := rfl
    obtain ⟨h0, h1, h2⟩ := idx7 t
    refine ⟨t, flush7 t, Finset.mem_map.mpr
      ⟨(ix3 0 ⟨(i 1).val % 128, Nat.mod_lt _ (by norm_num)⟩ (i 2) : S1x128x1024.Idx), Finset.mem_univ _, ?_⟩⟩
    funext a
    apply Fin.ext
    match a with
    | ⟨0, _⟩ =>
      show (cfg0.win 7).index t 0 * 1 + 1 * 0 = (i 0).val
      by_cases h : (i 0).val = 0
      · rw [if_pos h] at ht
        rw [h0, if_pos (by omega), h]
      · rw [if_neg h] at ht
        have h' : (i 0).val = 1 := by omega
        rw [h0, if_neg (by omega), h']
    | ⟨1, _⟩ =>
      show (cfg0.win 7).index t 1 * 128 + 1 * ((i 1).val % 128) = (i 1).val
      by_cases h : (i 0).val = 0
      · rw [if_pos h] at ht
        rw [h1, cidx, if_pos (by omega), ht]
        omega
      · rw [if_neg h] at ht
        rw [h1, cidx, if_neg (by omega), ht]
        omega
    | ⟨2, _⟩ =>
      show (cfg0.win 7).index t 2 * 1024 + 1 * (i 2).val = (i 2).val
      rw [h2]
      omega

/-- After the last point both directions hold their last states. -/
theorem last_point (t : Fin cfg0.N) (ht : t.val = 255) (e : Fin 2) :
    Keeps (outsAt0 m c t.val t.isLt) e (fun h => state (za m c) (bias m c) (c0 m c) (n0 m c) (m0 m c) e h 128) := by
  have hN : cfg0.N = 256 := N_0
  rw [outs_congr m c (hn' := by omega) (show t.val = 128 + 127 from ht)]
  match e with
  | 0 => exact (backward m c 127 (by omega)).1
  | 1 => exact (backward m c 127 (by omega)).2.1

theorem array8 : (dats m 0 c).arrAt 8 cfg0.N = outC m c := by
  refine Pipeline.Dat.arrAt_eq_of_cover (dats m 0 c) 8 (outC m c) (fun t hf => ?_) (fun i => ?_)
  · have ht : t.val = 255 := of_decide_eq_true ((flush8 t).symm.trans hf)
    have hi := idx8 t
    rw [flushed8]
    funext y
    have hy : y = (ix4 (y 0) (y 1) (y 2) (y 3) : S2x8x64x128.Idx) := by
      funext a
      match a with
      | ⟨0, _⟩ => rfl
      | ⟨1, _⟩ => rfl
      | ⟨2, _⟩ => rfl
      | ⟨3, _⟩ => rfl
    rw [View.read_apply]
    show (outsAt0 m c t.val t.isLt).2.1 y = outC m c _
    refine (congrArg (outsAt0 m c t.val t.isLt).2.1 hy).trans (((last_point m c t ht (y 0)).C (y 1) (y 2) (y 3)).trans (congrArg (outC m c) (?_ : y = _)))
    funext a
    apply Fin.ext
    match a with
    | ⟨0, _⟩ => show (y 0).val = (cfg0.win 8).index t 0 * 2 + 1 * (y 0).val; rw [hi 0]; omega
    | ⟨1, _⟩ => show (y 1).val = (cfg0.win 8).index t 1 * 8 + 1 * (y 1).val; rw [hi 1]; omega
    | ⟨2, _⟩ => show (y 2).val = (cfg0.win 8).index t 2 * 64 + 1 * (y 2).val; rw [hi 2]; omega
    | ⟨3, _⟩ => show (y 3).val = (cfg0.win 8).index t 3 * 128 + 1 * (y 3).val; rw [hi 3]; omega
  · have hN : cfg0.N = 256 := N_0
    let t : Fin cfg0.N := ⟨255, by omega⟩
    have hi := idx8 t
    refine ⟨t, (flush8 t).trans rfl, Finset.mem_map.mpr ⟨(i : S2x8x64x128.Idx), Finset.mem_univ _, ?_⟩⟩
    funext a
    apply Fin.ext
    match a with
    | ⟨0, _⟩ => show (cfg0.win 8).index t 0 * 2 + 1 * (i 0).val = (i 0).val; rw [hi 0]; omega
    | ⟨1, _⟩ => show (cfg0.win 8).index t 1 * 8 + 1 * (i 1).val = (i 1).val; rw [hi 1]; omega
    | ⟨2, _⟩ => show (cfg0.win 8).index t 2 * 64 + 1 * (i 2).val = (i 2).val; rw [hi 2]; omega
    | ⟨3, _⟩ => show (cfg0.win 8).index t 3 * 128 + 1 * (i 3).val = (i 3).val; rw [hi 3]; omega

theorem array9 : (dats m 0 c).arrAt 9 cfg0.N = outN m c := by
  refine Pipeline.Dat.arrAt_eq_of_cover (dats m 0 c) 9 (outN m c) (fun t hf => ?_) (fun i => ?_)
  · have ht : t.val = 255 := of_decide_eq_true ((flush9 t).symm.trans hf)
    have hi := idx9 t
    rw [flushed9]
    funext y
    have hy : y = (ix4 (y 0) (y 1) 0 (y 3) : S2x8x1x64.Idx) := by
      funext a
      match a with
      | ⟨0, _⟩ => rfl
      | ⟨1, _⟩ => rfl
      | ⟨2, _⟩ => exact Fin.ext (Nat.lt_one_iff.mp (y 2).isLt)
      | ⟨3, _⟩ => rfl
    rw [View.read_apply]
    show (outsAt0 m c t.val t.isLt).2.2.1 y = outN m c _
    refine (congrArg (outsAt0 m c t.val t.isLt).2.2.1 hy).trans (((last_point m c t ht (y 0)).n (y 1) (y 3)).trans (congrArg (outN m c) (?_ : y = _)))
    funext a
    apply Fin.ext
    match a with
    | ⟨0, _⟩ => show (y 0).val = (cfg0.win 9).index t 0 * 2 + 1 * (y 0).val; rw [hi 0]; omega
    | ⟨1, _⟩ => show (y 1).val = (cfg0.win 9).index t 1 * 8 + 1 * (y 1).val; rw [hi 1]; omega
    | ⟨2, _⟩ => show (y 2).val = (cfg0.win 9).index t 2 * 1 + 1 * (y 2).val; rw [hi 2]; omega
    | ⟨3, _⟩ => show (y 3).val = (cfg0.win 9).index t 3 * 64 + 1 * (y 3).val; rw [hi 3]; omega
  · have hN : cfg0.N = 256 := N_0
    let t : Fin cfg0.N := ⟨255, by omega⟩
    have hi := idx9 t
    refine ⟨t, (flush9 t).trans rfl, Finset.mem_map.mpr ⟨(i : S2x8x1x64.Idx), Finset.mem_univ _, ?_⟩⟩
    funext a
    apply Fin.ext
    match a with
    | ⟨0, _⟩ => show (cfg0.win 9).index t 0 * 2 + 1 * (i 0).val = (i 0).val; rw [hi 0]; omega
    | ⟨1, _⟩ => show (cfg0.win 9).index t 1 * 8 + 1 * (i 1).val = (i 1).val; rw [hi 1]; omega
    | ⟨2, _⟩ => show (cfg0.win 9).index t 2 * 1 + 1 * (i 2).val = (i 2).val; rw [hi 2]; omega
    | ⟨3, _⟩ => show (cfg0.win 9).index t 3 * 64 + 1 * (i 3).val = (i 3).val; rw [hi 3]; omega

theorem array10 : (dats m 0 c).arrAt 10 cfg0.N = outM m c := by
  refine Pipeline.Dat.arrAt_eq_of_cover (dats m 0 c) 10 (outM m c) (fun t hf => ?_) (fun i => ?_)
  · have ht : t.val = 255 := of_decide_eq_true ((flush10 t).symm.trans hf)
    have hi := idx10 t
    rw [flushed10]
    funext y
    have hy : y = (ix4 (y 0) (y 1) 0 (y 3) : S2x8x1x128.Idx) := by
      funext a
      match a with
      | ⟨0, _⟩ => rfl
      | ⟨1, _⟩ => rfl
      | ⟨2, _⟩ => exact Fin.ext (Nat.lt_one_iff.mp (y 2).isLt)
      | ⟨3, _⟩ => rfl
    rw [View.read_apply]
    show (outsAt0 m c t.val t.isLt).2.2.2 y = outM m c _
    refine (congrArg (outsAt0 m c t.val t.isLt).2.2.2 hy).trans (((last_point m c t ht (y 0)).m (y 1) (y 3)).trans (congrArg (outM m c) (?_ : y = _)))
    funext a
    apply Fin.ext
    match a with
    | ⟨0, _⟩ => show (y 0).val = (cfg0.win 10).index t 0 * 2 + 1 * (y 0).val; rw [hi 0]; omega
    | ⟨1, _⟩ => show (y 1).val = (cfg0.win 10).index t 1 * 8 + 1 * (y 1).val; rw [hi 1]; omega
    | ⟨2, _⟩ => show (y 2).val = (cfg0.win 10).index t 2 * 1 + 1 * (y 2).val; rw [hi 2]; omega
    | ⟨3, _⟩ => show (y 3).val = (cfg0.win 10).index t 3 * 128 + 1 * (y 3).val; rw [hi 3]; omega
  · have hN : cfg0.N = 256 := N_0
    let t : Fin cfg0.N := ⟨255, by omega⟩
    have hi := idx10 t
    refine ⟨t, (flush10 t).trans rfl, Finset.mem_map.mpr ⟨(i : S2x8x1x128.Idx), Finset.mem_univ _, ?_⟩⟩
    funext a
    apply Fin.ext
    match a with
    | ⟨0, _⟩ => show (cfg0.win 10).index t 0 * 2 + 1 * (i 0).val = (i 0).val; rw [hi 0]; omega
    | ⟨1, _⟩ => show (cfg0.win 10).index t 1 * 8 + 1 * (i 1).val = (i 1).val; rw [hi 1]; omega
    | ⟨2, _⟩ => show (cfg0.win 10).index t 2 * 1 + 1 * (i 2).val = (i 2).val; rw [hi 2]; omega
    | ⟨3, _⟩ => show (cfg0.win 10).index t 3 * 128 + 1 * (i 3).val = (i 3).val; rw [hi 3]; omega

end

end Cert.KernelIdeal.Gates
-- ==== Proof.RefInputs.lean ====
/-
  What the reference prepares before its loop: queries, keys, values and gates of both directions, cut into chunks.
-/
module

public import proofs.«01_k».proof.Proof.Rows
public import proofs.«01_k».proof.Proof.Gen.ReferenceIdeal.Step
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.Ref

open Cert.ReferenceIdeal Cert.ReferenceIdeal.Gen Cert.ReferenceIdeal.Step Cert.Scan

variable (za : FVec Ideal S16384x3200 .f32) (bias : FVec Ideal S1x128 .f32) (n0 : FVec Ideal S2x8x1x64 .f32)
  (m0 : FVec Ideal S2x8x1x128 .f32)

theorem qRow_at (h : Fin 8) (n : Fin 16384) (a : Fin 64) :
    (A_main_v5 (F := Ideal) za bias n0 m0) (ix3 h n a) = qAt za h n a := by
  pointwise [A_main_v5, A_main_v3, A_main_v2, A_main_v1, A_main_v0, K_main_v4, K_main_cst]
  unfold qAt
  exact congrArg (fun z => za (ix2 n z) * Ideal.ofBits .f32 0x3E000000#32) (Fin.ext (by show h.val * 128 + a.val = 128 * h.val + a.val; omega))

theorem kRow_at (h : Fin 8) (n : Fin 16384) (a : Fin 64) :
    (A_main_v6 (F := Ideal) za bias n0 m0) (ix3 h n a) = kAt za h n a := by
  pointwise [A_main_v6, A_main_v2, A_main_v1, A_main_v0]
  unfold kAt
  exact congrArg (fun z => za (ix2 n z)) (Fin.ext (by show h.val * 128 + (64 + a.val) = 128 * h.val + (64 + a.val); omega))

theorem vRow_at (h : Fin 8) (n : Fin 16384) (c : Fin 128) :
    (A_main_v9 (F := Ideal) za bias n0 m0) (ix3 h n c) = vAt za h n c := by
  pointwise [A_main_v9, A_main_v8, A_main_v7]
  unfold vAt
  exact congrArg (fun z => za (ix2 n z)) (Fin.ext (by show 1024 + (h.val * 128 + c.val) = 1024 + (128 * h.val + c.val); omega))

theorem gates_at (d j : Fin 2) (h : Fin 8) (n : Fin 16384) :
    (A_main_v23 (F := Ideal) za bias n0 m0) (ix4 d j h n) = gate za bias n (lane d j h) := by
  pointwise [A_main_v23, A_main_v22, A_main_v20, A_main_v19, A_main_v17, A_main_v16, A_main_v15, A_main_v14, A_main_v13, A_main_v12, A_main_v11, A_main_v10,
    K_main_v21, K_main_cst_1, K_main_v18, K_main_cst_0]
  unfold gate cap
  have h1 : (⟨3072 + (d.val * 16 + j.val * 8 + h.val), by omega⟩ : Fin 3200) = ⟨3072 + (lane d j h).val, by have := (lane d j h).isLt; omega⟩ :=
    Fin.ext (by show 3072 + (d.val * 16 + j.val * 8 + h.val) = 3072 + (16 * d.val + 8 * j.val + h.val); omega)
  have h2 : (⟨d.val * 16 + j.val * 8 + h.val, by omega⟩ : Fin 128) = lane d j h :=
    Fin.ext (by show d.val * 16 + j.val * 8 + h.val = 16 * d.val + 8 * j.val + h.val; omega)
  rw [h1, h2]

theorem logf_at (d : Fin 2) (h : Fin 8) (n : Fin 16384) :
    (A_main_v40 (F := Ideal) za bias n0 m0) (ix3 d h n) = logSig ((A_main_v23 (F := Ideal) za bias n0 m0) (ix4 d 1 h n)) := by
  pointwise [A_main_v40, A_main_v39, A_main_v38, A_main_v37, A_main_v36, A_main_v35, A_main_v34, A_main_v33, A_main_v31, A_main_v30, A_main_v28, A_main_v26, A_main_v25, A_main_v24,
    K_main_v27, K_main_v29, K_main_v32, K_main_cst_2]
  rw [logSig_eq, if_neg (fun h' => h' rfl), sub_zero]
  rfl

theorem step_val' (j r : Fin 128) : (step j.val r).val = 128 * j.val + r.val := by
  show (128 * j.val + r.val) % 16384 = _
  omega

theorem stack64_at (x : FVec Ideal S8x16384x64 .f32) (d : Fin 2) (h : Fin 8) (n : Fin 16384) (a : Fin 64) :
    concatenate S2x8x16384x64 0 [⟨S1x8x16384x64, broadcastInDim S1x8x16384x64 ![1, 2, 3] bcast_S8x16384x64_S1x8x16384x64_1_2_3 x⟩,
      ⟨S1x8x16384x64, broadcastInDim S1x8x16384x64 ![1, 2, 3] bcast_S8x16384x64_S1x8x16384x64_1_2_3 (Host.reverse [1] x)⟩]
      concatenates_S1x8x16384x64_S1x8x16384x64_S2x8x16384x64_d0 (ix4 d h n a) = x (ix3 h (pos d n) a) := by
  match d with
  | 0 =>
    pointwise
    rfl
  | 1 =>
    pointwise
    rfl

/-- Cutting the steps into chunks, chunks first. -/
theorem cut64_at (y : FVec Ideal S2x8x16384x64 .f32) (j : Fin 128) (d : Fin 2) (h : Fin 8) (r : Fin 128) (a : Fin 64) :
    transpose S128x2x8x128x64 [2, 0, 1, 3, 4] (shapeCast S2x8x128x128x64 y shapeCasts_S2x8x16384x64_S2x8x128x128x64)
      transposes_S2x8x128x128x64_S128x2x8x128x64_2_0_1_3_4 (ix5 j d h r a) = y (ix4 d h (step j.val r) a) := by
  refine (transpose_apply _ _ _ _ (ix5 d h j r a : S2x8x128x128x64.Idx) (fun b => by
    match b with
    | ⟨0, _⟩ => rfl
    | ⟨1, _⟩ => rfl
    | ⟨2, _⟩ => rfl
    | ⟨3, _⟩ => rfl
    | ⟨4, _⟩ => rfl)).trans (shapeCast_apply _ _ _ _ ?_)
  rw [Shape.rowMajor_val_four, Shape.rowMajor_val_five]
  show ((d.val * 8 + h.val) * 16384 + (step j.val r).val) * 64 + a.val = (((d.val * 8 + h.val) * 128 + j.val) * 128 + r.val) * 64 + a.val
  rw [step_val' j r]
  omega

theorem stack128_at (x : FVec Ideal S8x16384x128 .f32) (d : Fin 2) (h : Fin 8) (n : Fin 16384) (a : Fin 128) :
    concatenate S2x8x16384x128 0 [⟨S1x8x16384x128, broadcastInDim S1x8x16384x128 ![1, 2, 3] bcast_S8x16384x128_S1x8x16384x128_1_2_3 x⟩,
      ⟨S1x8x16384x128, broadcastInDim S1x8x16384x128 ![1, 2, 3] bcast_S8x16384x128_S1x8x16384x128_1_2_3 (Host.reverse [1] x)⟩]
      concatenates_S1x8x16384x128_S1x8x16384x128_S2x8x16384x128_d0 (ix4 d h n a) = x (ix3 h (pos d n) a) := by
  match d with
  | 0 =>
    pointwise
    rfl
  | 1 =>
    pointwise
    rfl

/-- Cutting the steps into chunks, chunks first. -/
theorem cut128_at (y : FVec Ideal S2x8x16384x128 .f32) (j : Fin 128) (d : Fin 2) (h : Fin 8) (r : Fin 128) (a : Fin 128) :
    transpose S128x2x8x128x128 [2, 0, 1, 3, 4] (shapeCast S2x8x128x128x128 y shapeCasts_S2x8x16384x128_S2x8x128x128x128)
      transposes_S2x8x128x128x128_S128x2x8x128x128_2_0_1_3_4 (ix5 j d h r a) = y (ix4 d h (step j.val r) a) := by
  refine (transpose_apply _ _ _ _ (ix5 d h j r a : S2x8x128x128x128.Idx) (fun b => by
    match b with
    | ⟨0, _⟩ => rfl
    | ⟨1, _⟩ => rfl
    | ⟨2, _⟩ => rfl
    | ⟨3, _⟩ => rfl
    | ⟨4, _⟩ => rfl)).trans (shapeCast_apply _ _ _ _ ?_)
  rw [Shape.rowMajor_val_four, Shape.rowMajor_val_five]
  show ((d.val * 8 + h.val) * 16384 + (step j.val r).val) * 128 + a.val = (((d.val * 8 + h.val) * 128 + j.val) * 128 + r.val) * 128 + a.val
  rw [step_val' j r]
  omega

theorem cutG_at (y : FVec Ideal S2x8x16384 .f32) (j : Fin 128) (d : Fin 2) (h : Fin 8) (r : Fin 128) :
    transpose S128x2x8x128 [2, 0, 1, 3] (shapeCast S2x8x128x128 y shapeCasts_S2x8x16384_S2x8x128x128)
      transposes_S2x8x128x128_S128x2x8x128_2_0_1_3 (ix4 j d h r) = y (ix3 d h (step j.val r)) := by
  refine (transpose_apply _ _ _ _ (ix4 d h j r : S2x8x128x128.Idx) (fun b => by
    match b with
    | ⟨0, _⟩ => rfl
    | ⟨1, _⟩ => rfl
    | ⟨2, _⟩ => rfl
    | ⟨3, _⟩ => rfl)).trans (shapeCast_apply _ _ _ _ ?_)
  rw [Shape.rowMajor_val_three, Shape.rowMajor_val_four]
  show (d.val * 8 + h.val) * 16384 + (step j.val r).val = ((d.val * 8 + h.val) * 128 + j.val) * 128 + r.val
  rw [step_val' j r]
  omega

theorem qs0_at (j : Fin 128) (d : Fin 2) (h : Fin 8) (r : Fin 128) (a : Fin 64) :
    (A_main_v48 (F := Ideal) za bias n0 m0) (ix5 j d h r a) = qAt za h (pos d (step j.val r)) a := by
  have h1 : A_main_v48 (F := Ideal) za bias n0 m0 = transpose S128x2x8x128x64 [2, 0, 1, 3, 4] (shapeCast S2x8x128x128x64
      (A_main_v46 (F := Ideal) za bias n0 m0) shapeCasts_S2x8x16384x64_S2x8x128x128x64) transposes_S2x8x128x128x64_S128x2x8x128x64_2_0_1_3_4 := rfl
  rw [h1, cut64_at]
  exact (stack64_at (A_main_v5 (F := Ideal) za bias n0 m0) d h _ a).trans (qRow_at za bias n0 m0 h _ a)

theorem ks0_at (j : Fin 128) (d : Fin 2) (h : Fin 8) (r : Fin 128) (a : Fin 64) :
    (A_main_v54 (F := Ideal) za bias n0 m0) (ix5 j d h r a) = kAt za h (pos d (step j.val r)) a := by
  have h1 : A_main_v54 (F := Ideal) za bias n0 m0 = transpose S128x2x8x128x64 [2, 0, 1, 3, 4] (shapeCast S2x8x128x128x64
      (A_main_v52 (F := Ideal) za bias n0 m0) shapeCasts_S2x8x16384x64_S2x8x128x128x64) transposes_S2x8x128x128x64_S128x2x8x128x64_2_0_1_3_4 := rfl
  rw [h1, cut64_at]
  exact (stack64_at (A_main_v6 (F := Ideal) za bias n0 m0) d h _ a).trans (kRow_at za bias n0 m0 h _ a)

theorem vs0_at (j : Fin 128) (d : Fin 2) (h : Fin 8) (r : Fin 128) (a : Fin 128) :
    (A_main_v60 (F := Ideal) za bias n0 m0) (ix5 j d h r a) = vAt za h (pos d (step j.val r)) a := by
  have h1 : A_main_v60 (F := Ideal) za bias n0 m0 = transpose S128x2x8x128x128 [2, 0, 1, 3, 4] (shapeCast S2x8x128x128x128
      (A_main_v58 (F := Ideal) za bias n0 m0) shapeCasts_S2x8x16384x128_S2x8x128x128x128) transposes_S2x8x128x128x128_S128x2x8x128x128_2_0_1_3_4 := rfl
  rw [h1, cut128_at]
  exact (stack128_at (A_main_v9 (F := Ideal) za bias n0 m0) d h _ a).trans (vRow_at za bias n0 m0 h _ a)

theorem isRow_at (d : Fin 2) (h : Fin 8) (n : Fin 16384) :
    (A_main_v68 (F := Ideal) za bias n0 m0) (ix3 d h n) = gate za bias (pos d n) (lane d 0 h) := by
  match d with
  | 0 =>
    pointwise [A_main_v68, A_main_v67, A_main_v66, A_main_v65, A_main_v64, A_main_v63, A_main_v62, A_main_v61]
    exact gates_at za bias n0 m0 0 0 h _
  | 1 =>
    pointwise [A_main_v68, A_main_v67, A_main_v66, A_main_v65, A_main_v64, A_main_v63, A_main_v62, A_main_v61]
    exact gates_at za bias n0 m0 1 0 h _

theorem is0_at (j : Fin 128) (d : Fin 2) (h : Fin 8) (r : Fin 128) :
    (A_main_v70 (F := Ideal) za bias n0 m0) (ix4 j d h r) = gate za bias (pos d (step j.val r)) (lane d 0 h) := by
  have h1 : A_main_v70 (F := Ideal) za bias n0 m0 = transpose S128x2x8x128 [2, 0, 1, 3] (shapeCast S2x8x128x128
      (A_main_v68 (F := Ideal) za bias n0 m0) shapeCasts_S2x8x16384_S2x8x128x128) transposes_S2x8x128x128_S128x2x8x128_2_0_1_3 := rfl
  rw [h1, cutG_at]
  exact isRow_at za bias n0 m0 d h _

theorem fsRow_at (d : Fin 2) (h : Fin 8) (n : Fin 16384) :
    (A_main_v78 (F := Ideal) za bias n0 m0) (ix3 d h n) = logSig (gate za bias (pos d n) (lane d 1 h)) := by
  match d with
  | 0 =>
    pointwise [A_main_v78, A_main_v77, A_main_v76, A_main_v75, A_main_v74, A_main_v73, A_main_v72, A_main_v71]
    exact (logf_at za bias n0 m0 0 h _).trans (congrArg logSig (gates_at za bias n0 m0 0 1 h _))
  | 1 =>
    pointwise [A_main_v78, A_main_v77, A_main_v76, A_main_v75, A_main_v74, A_main_v73, A_main_v72, A_main_v71]
    exact (logf_at za bias n0 m0 1 h _).trans (congrArg logSig (gates_at za bias n0 m0 1 1 h _))

theorem fs0_at (j : Fin 128) (d : Fin 2) (h : Fin 8) (r : Fin 128) :
    (A_main_v80 (F := Ideal) za bias n0 m0) (ix4 j d h r) = logSig (gate za bias (pos d (step j.val r)) (lane d 1 h)) := by
  have h1 : A_main_v80 (F := Ideal) za bias n0 m0 = transpose S128x2x8x128 [2, 0, 1, 3] (shapeCast S2x8x128x128
      (A_main_v78 (F := Ideal) za bias n0 m0) shapeCasts_S2x8x16384_S2x8x128x128) transposes_S2x8x128x128_S128x2x8x128_2_0_1_3 := rfl
  rw [h1, cutG_at]
  exact fsRow_at za bias n0 m0 d h _

theorem n81_at (d : Fin 2) (h : Fin 8) (a : Fin 64) : (A_main_v81 (F := Ideal) za bias n0 m0) (ix3 d h a) = n0 (ix4 d h 0 a) := by
  pointwise [A_main_v81]

theorem m83_at (d : Fin 2) (h : Fin 8) : (A_main_v83 (F := Ideal) za bias n0 m0) (ix2 d h) = m0 (ix4 d h 0 0) := by
  pointwise [A_main_v83, A_main_v82]

/-- Which steps a step sees: itself and those before it. -/
theorem mask0_at (t u : Fin 128) : (K_main_v42 (F := Ideal)) (ix2 t u) = 1#1 ↔ u ≤ t := by
  pointwise [K_main_v42, K_main_call0_v5, K_main_call0_c_0, K_main_call0_v4, K_main_call0_v3, K_main_call0_v2, K_main_call0_v1, K_main_call0_c, K_main_call0_v0, K_main_v41, K_main_c]
  revert t u
  decide +kernel

end Cert.Ref
-- ==== Proof.RefStep.lean ====
/-
  One chunk step of the reference, both directions and all heads at once, as functions of the arrays it reads,
  and that at every direction and head it is the specification's step.
-/
module

public import proofs.«01_k».proof.Proof.Spec
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Ref

open Cert.ReferenceIdeal Cert.ReferenceIdeal.Gen Cert.Scan

abbrev SQ := FVec Ideal S2x8x128x64 .f32
abbrev SV := FVec Ideal S2x8x128x128 .f32
abbrev SG := FVec Ideal S2x8x128 .f32
abbrev SN := FVec Ideal S2x8x64 .f32
abbrev SC := FVec Ideal S2x8x64x128 .f32
abbrev SM := FVec Ideal S2x8 .f32

/-- An array over the steps, along the rows of a square. -/
def down (x : SG) : SV :=
  broadcastInDim S2x8x128x128 ![0, 1, 2, 3] bcast_S2x8x128x1_S2x8x128x128_0_1_2_3 (broadcastInDim S2x8x128x1 ![0, 1, 2] bcast_S2x8x128_S2x8x128x1_0_1_2 x)

/-- The same along the columns. -/
def across (x : SG) : SV :=
  broadcastInDim S2x8x128x128 ![0, 1, 2, 3] bcast_S2x8x1x128_S2x8x128x128_0_1_2_3 (broadcastInDim S2x8x1x128 ![0, 1, 3] bcast_S2x8x128_S2x8x1x128_0_1_3 x)

/-- One number per head, at every step. -/
def each (x : SM) : SG :=
  broadcastInDim S2x8x128 ![0, 1, 2] bcast_S2x8x1_S2x8x128_0_1_2 (broadcastInDim S2x8x1 ![0, 1] bcast_S2x8_S2x8x1_0_1 x)

def rLogD (tri : IVec S128x128 1) (b i : SG) : SV :=
  select (broadcastInDim S2x8x128x128 ![2, 3] bcast_S128x128_S2x8x128x128_2_3 tri) (addf (subf (down b) (across b)) (across i))
    (broadcastInDim S2x8x128x128 ![] bcast_S_S2x8x128x128 (id (constant S_ .f32 0xFF800000#32)))

def rInter (b : SG) (m : SM) : SG := addf b (each m)

def rMt (D : SV) (r : SG) : SG :=
  maximumf r (Host.reduce FloatOps.maximumf D (constant S_ .f32 0xFF800000#32) reducesTo_S2x8x128x128_S2x8x128_d3 h_S_)

def rW (x y : SG) : SG := Host.exp (subf x y)

def rScore (q k : SQ) (D : SV) (mt : SG) : SV :=
  mulf (Host.dotGeneral dot_S2x8x128x64_S2x8x128x64_S2x8x128x128_3_3_2_2_01_01 none q k) (Host.exp (subf D (down mt)))

def rNum (s v : SV) (w : SG) (q : SQ) (C : SC) : SV :=
  addf (Host.dotGeneral dot_S2x8x128x128_S2x8x128x128_S2x8x128x128_3_2_2_3_01_01 none s v)
    (mulf (down w) (Host.dotGeneral dot_S2x8x128x64_S2x8x64x128_S2x8x128x128_3_2_2_3_01_01 none q C))

def rDen (s : SV) (w : SG) (q : SQ) (n : SN) : SG :=
  addf (Host.reduceAdd s (constant S_ .f32 0x00000000#32) reducesTo_S2x8x128x128_S2x8x128_d3 h_S_)
    (mulf w (Host.dotGeneral dot_S2x8x128x64_S2x8x64_S2x8x128_3_2_2_n_01_01 none q n))

def rOut (num : SV) (den mt : SG) : SV :=
  Host.divf num (down (maximumf (Host.absf den) (Host.exp (Host.negf mt))))

def rEnd (b : SG) : SM :=
  shapeCast S2x8 (extractStridedSlice S2x8x1 ![0, 0, 127] b slices_S2x8x128_S2x8x1_0_0_127) shapeCasts_S2x8x1_S2x8

def rLogW (e : SM) (b i : SG) : SG := addf (subf (each e) b) i

def rM (e m : SM) (lw : SG) : SM :=
  maximumf (addf e m) (Host.reduce FloatOps.maximumf lw (constant S_ .f32 0xFF800000#32) reducesTo_S2x8x128_S2x8_d2 h_S_)

def rKeep (e m mn : SM) : SM := Host.exp (subf (addf e m) mn)

def rC (keep : SM) (C : SC) (w : SG) (k : SQ) (v : SV) : SC :=
  addf (mulf (broadcastInDim S2x8x64x128 ![0, 1, 2, 3] bcast_S2x8x1x1_S2x8x64x128_0_1_2_3 (broadcastInDim S2x8x1x1 ![0, 1] bcast_S2x8_S2x8x1x1_0_1 keep)) C)
    (Host.dotGeneral dot_S2x8x128x64_S2x8x128x128_S2x8x64x128_2_2_3_3_01_01 none
      (mulf (broadcastInDim S2x8x128x64 ![0, 1, 2, 3] bcast_S2x8x128x1_S2x8x128x64_0_1_2_3 (broadcastInDim S2x8x128x1 ![0, 1, 2] bcast_S2x8x128_S2x8x128x1_0_1_2 w)) k) v)

def rN (keep : SM) (n : SN) (w : SG) (k : SQ) : SN :=
  addf (mulf (broadcastInDim S2x8x64 ![0, 1, 2] bcast_S2x8x1_S2x8x64_0_1_2 (broadcastInDim S2x8x1 ![0, 1] bcast_S2x8_S2x8x1_0_1 keep)) n)
    (Host.dotGeneral dot_S2x8x128_S2x8x128x64_S2x8x64_2_2_n_3_01_01 none w k)

section At

variable (tri : IVec S128x128 1) (b i : SG) (q k : SQ) (v s D num : SV) (w mt den r lw : SG) (C : SC) (n : SN) (m e mn keep : SM)

theorem bits_top : Ideal.ofBits .f32 0xFF800000#32 = ⊥ := by
  simp [Ideal.ofBits, Ideal.ieee]

theorem rLogD_at (d : Fin 2) (h : Fin 8) (t u : Fin 128) : rLogD tri b i (ix4 d h t u)
    = if tri (ix2 t u) = 1#1 then b (ix3 d h t) - b (ix3 d h u) + i (ix3 d h u) else ⊥ := by
  pointwise [rLogD, down, across]
  exact congrArg (Scalar.select (tri (ix2 t u)) (b (ix3 d h t) - b (ix3 d h u) + i (ix3 d h u)))
    (bits_top : id (constant (F := Ideal) S_ .f32 0xFF800000#32) ix0 = ⊥)

theorem each_at (d : Fin 2) (h : Fin 8) (t : Fin 128) : each m (ix3 d h t) = m (ix2 d h) := by
  pointwise [each]

theorem rInter_at (d : Fin 2) (h : Fin 8) (t : Fin 128) : rInter b m (ix3 d h t) = b (ix3 d h t) + m (ix2 d h) := by
  pointwise [rInter, each]

theorem rMt_at (d : Fin 2) (h : Fin 8) (t : Fin 128) : rMt D r (ix3 d h t) = max (r (ix3 d h t)) (top fun u => D (ix4 d h t u)) := by
  pointwise [rMt]
  rw [bits_top]
  rfl

theorem rW_at (x y : SG) (d : Fin 2) (h : Fin 8) (t : Fin 128) : rW x y (ix3 d h t) = Ideal.exp (x (ix3 d h t) - y (ix3 d h t)) := by
  pointwise [rW]

theorem rScore_at (d : Fin 2) (h : Fin 8) (t u : Fin 128) : rScore q k D mt (ix4 d h t u)
    = (∑ a : Fin 64, q (ix4 d h t a) * k (ix4 d h u a)) * Ideal.exp (D (ix4 d h t u) - mt (ix3 d h t)) := by
  pointwise [rScore, down]

theorem rNum_at (d : Fin 2) (h : Fin 8) (t c : Fin 128) : rNum s v w q C (ix4 d h t c)
    = (∑ u : Fin 128, s (ix4 d h t u) * v (ix4 d h u c)) + w (ix3 d h t) * ∑ a : Fin 64, q (ix4 d h t a) * C (ix4 d h a c) := by
  pointwise [rNum, down]

theorem rDen_at (d : Fin 2) (h : Fin 8) (t : Fin 128) : rDen s w q n (ix3 d h t)
    = (∑ u : Fin 128, s (ix4 d h t u)) + w (ix3 d h t) * ∑ a : Fin 64, q (ix4 d h t a) * n (ix3 d h a) := by
  pointwise [rDen]

theorem rOut_at (d : Fin 2) (h : Fin 8) (t c : Fin 128) : rOut num den mt (ix4 d h t c)
    = Ideal.div (num (ix4 d h t c)) (max (abs' (den (ix3 d h t))) (Ideal.exp (-mt (ix3 d h t)))) := by
  pointwise [rOut, down]
  rfl

theorem rEnd_at (d : Fin 2) (h : Fin 8) : rEnd b (ix2 d h) = b (ix3 d h 127) := by
  pointwise [rEnd]

theorem rLogW_at (d : Fin 2) (h : Fin 8) (u : Fin 128) : rLogW e b i (ix3 d h u) = e (ix2 d h) - b (ix3 d h u) + i (ix3 d h u) := by
  pointwise [rLogW, each]

theorem rM_at (d : Fin 2) (h : Fin 8) : rM e m lw (ix2 d h) = max (e (ix2 d h) + m (ix2 d h)) (top fun u => lw (ix3 d h u)) := by
  pointwise [rM]
  rw [bits_top]
  rfl

theorem rKeep_at (d : Fin 2) (h : Fin 8) : rKeep e m mn (ix2 d h) = Ideal.exp (e (ix2 d h) + m (ix2 d h) - mn (ix2 d h)) := by
  pointwise [rKeep]

theorem rC_at (d : Fin 2) (h : Fin 8) (a : Fin 64) (c : Fin 128) : rC keep C w k v (ix4 d h a c)
    = keep (ix2 d h) * C (ix4 d h a c) + ∑ u : Fin 128, w (ix3 d h u) * k (ix4 d h u a) * v (ix4 d h u c) := by
  pointwise [rC]

theorem rN_at (d : Fin 2) (h : Fin 8) (a : Fin 64) : rN keep n w k (ix3 d h a)
    = keep (ix2 d h) * n (ix3 d h a) + ∑ u : Fin 128, w (ix3 d h u) * k (ix4 d h u a) := by
  pointwise [rN]

end At

end Cert.Ref
-- ==== Proof.RefCumsum.lean ====
/-
  The reference's running sum over the steps of a chunk: a window as long as the chunk, padded on its left, holds at
  step `t` the entries up to and including `t`.
-/
module

public import proofs.«01_k».proof.Proof.Spec
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Ref

open Cert.ReferenceIdeal Cert.ReferenceIdeal.Gen

/-- A left fold that adds, from zero, is the sum. -/
theorem fold_sum {N : ℕ} (g : Fin N → EReal) : (List.finRange N).foldl (fun r n => r + g n) 0 = ∑ n, g n := by
  rw [Fin.sum_univ_def, List.sum_eq_foldl, List.foldl_map]

/-- The window at `t` sums the entries up to `t`. -/
theorem shift_sum (x : Fin 128 → EReal) (t : Fin 128) :
    (∑ w : Fin 128, if h : 127 ≤ t.val + w.val then x ⟨t.val + w.val - 127, by omega⟩ else 0) = ∑ s, if s ≤ t then x s else 0 := by
  rw [← Finset.sum_filter]
  rw [← Finset.sum_subset (Finset.filter_subset (fun w : Fin 128 => 127 ≤ t.val + w.val) Finset.univ)
    (fun w _ hw => dif_neg fun h => hw (Finset.mem_filter.mpr ⟨Finset.mem_univ _, h⟩))]
  refine Finset.sum_bij' (fun w _ => ⟨t.val + w.val - 127, by omega⟩) (fun s hs => ⟨s.val + 127 - t.val, ?_⟩) ?_ ?_ ?_ ?_ ?_
  · have := Fin.le_def.mp (Finset.mem_filter.mp hs).2
    omega
  · intro w hw
    have := (Finset.mem_filter.mp hw).2
    exact Finset.mem_filter.mpr ⟨Finset.mem_univ _, Fin.le_def.mpr (by show t.val + w.val - 127 ≤ t.val; omega)⟩
  · intro s hs
    have := Fin.le_def.mp (Finset.mem_filter.mp hs).2
    exact Finset.mem_filter.mpr ⟨Finset.mem_univ _, by show 127 ≤ t.val + (s.val + 127 - t.val); omega⟩
  · intro w hw
    have := (Finset.mem_filter.mp hw).2
    exact Fin.ext (by show t.val + w.val - 127 + 127 - t.val = w.val; omega)
  · intro s hs
    have := Fin.le_def.mp (Finset.mem_filter.mp hs).2
    exact Fin.ext (by show t.val + (s.val + 127 - t.val) - 127 = s.val; omega)
  · intro w hw
    exact dif_pos (Finset.mem_filter.mp hw).2

/-- The places of a window one wide on its first two axes. -/
def placeEquiv : (⟨3, ![1, 1, 128]⟩ : Shape).Idx ≃ Fin 128 where
  toFun i := i 2
  invFun w := ix3 0 0 w
  left_inv i := by
    funext a
    match a with
    | ⟨0, _⟩ => exact (Fin.ext (Nat.lt_one_iff.mp (i 0).isLt)).symm
    | ⟨1, _⟩ => exact (Fin.ext (Nat.lt_one_iff.mp (i 1).isLt)).symm
    | ⟨2, _⟩ => rfl
  right_inv _ := rfl

theorem cumsum_at (x : FVec Ideal S2x8x128 .f32) (init : FVec Ideal S_ .f32) (h0 : init (Shape.Idx.first h_S_) = 0)
    (d : Fin 2) (h : Fin 8) (t : Fin 128) :
    Host.reduceWindowAdd ![1, 1, 128] ![1, 1, 1] ![0, 0, 127] ![0, 0, 0] x init reduceWindows_S2x8x128_S2x8x128_w1s1p0_0_w1s1p0_0_w128s1p127_0 h_S_ (ix3 d h t)
      = ∑ s, if s ≤ t then x (ix3 d h s) else 0 := by
  show Host.reduceWindow (· + ·) ![1, 1, 128] ![1, 1, 1] ![0, 0, 127] ![0, 0, 0] x (fun _ : S_.Idx => init (Shape.Idx.first h_S_))
    reduceWindows_S2x8x128_S2x8x128_w1s1p0_0_w1s1p0_0_w128s1p127_0 h_S_ (ix3 d h t) = _
  unfold Host.reduceWindow
  rw [h0]
  refine (fold_sum _).trans ?_
  rw [← shift_sum (fun s => x (ix3 d h s)) t]
  refine Fintype.sum_equiv ((⟨3, ![1, 1, 128]⟩ : Shape).rowMajor.symm.trans placeEquiv) _ _ fun n => ?_
  let i : (⟨3, ![1, 1, 128]⟩ : Shape).Idx := (⟨3, ![1, 1, 128]⟩ : Shape).rowMajor.symm n
  have i0 : (i 0).val = 0 := Nat.lt_one_iff.mp (i 0).isLt
  have i1 : (i 1).val = 0 := Nat.lt_one_iff.mp (i 1).isLt
  have i2 : (i 2).val < 128 := (i 2).isLt
  have hd := d.isLt
  have hh := h.isLt
  have ht := t.isLt
  show _ = if h' : 127 ≤ t.val + (i 2).val then x (ix3 d h ⟨t.val + (i 2).val - 127, _⟩) else 0
  split
  · next hin =>
    have h2 : 127 ≤ t.val * 1 + (i 2).val := (hin 2).1
    rw [dif_pos (by omega)]
    refine congrArg x (funext fun a => Fin.ext ?_)
    match a with
    | ⟨0, _⟩ => show d.val * 1 + (i 0).val - 0 = d.val; omega
    | ⟨1, _⟩ => show h.val * 1 + (i 1).val - 0 = h.val; omega
    | ⟨2, _⟩ => show t.val * 1 + (i 2).val - 127 = t.val + (i 2).val - 127; omega
  · next hin =>
    rw [dif_neg]
    intro hle
    refine hin fun a => ?_
    match a with
    | ⟨0, _⟩ => show 0 ≤ d.val * 1 + (i 0).val ∧ d.val * 1 + (i 0).val - 0 < 2; omega
    | ⟨1, _⟩ => show 0 ≤ h.val * 1 + (i 1).val ∧ h.val * 1 + (i 1).val - 0 < 8; omega
    | ⟨2, _⟩ => show 127 ≤ t.val * 1 + (i 2).val ∧ t.val * 1 + (i 2).val - 127 < 128; omega

end Cert.Ref
-- ==== Proof.RefChunk.lean ====
/-
  One trip of the reference's loop, at each direction and head: it reads a chunk and the state, hands on the
  specification's next state and writes the specification's outputs.
-/
module

public import proofs.«01_k».proof.Proof.RefStep
public import proofs.«01_k».proof.Proof.RefCumsum
public import Idealize.ShloMosaic.Lib.DynamicIndex

@[expose] public section

set_option maxRecDepth 16384

noncomputable section

open Idealize.ShloMosaic Idealize.ShloMosaic.TcCoe Idealize.SL.Sem

namespace Cert.Ref

open Cert.ReferenceIdeal Cert.ReferenceIdeal.Gen Cert.ReferenceIdeal.Value Cert.Scan

variable (V : Valuation τ sig (Elt Ideal))

/-! ## The carried arrays -/

def qs : FVec Ideal S128x2x8x128x64 .f32 := V (Proc.devRef .tc main_v85_0)
def ks : FVec Ideal S128x2x8x128x64 .f32 := V (Proc.devRef .tc main_v85_1)
def vs : FVec Ideal S128x2x8x128x128 .f32 := V (Proc.devRef .tc main_v85_2)
def is : FVec Ideal S128x2x8x128 .f32 := V (Proc.devRef .tc main_v85_3)
def fs : FVec Ideal S128x2x8x128 .f32 := V (Proc.devRef .tc main_v85_4)
def mask : IVec S128x128 1 := V (Proc.devRef .tc main_v85_5)
def counter : IVec S_ 32 := V (Proc.devRef .tc main_v85_6)
def cC : SC := V (Proc.devRef .tc main_v85_7)
def cN : SN := V (Proc.devRef .tc main_v85_8)
def cM : SM := V (Proc.devRef .tc main_v85_9)
def hs : FVec Ideal S128x2x8x128x128 .f32 := V (Proc.devRef .tc main_v85_10)

/-! ## The chunk of a trip -/

def start5 : Fin 5 → ℤ := fun k =>
  (((![counter V, constantI S_ 32 0#32, constantI S_ 32 0#32, constantI S_ 32 0#32, constantI S_ 32 0#32] : Fin 5 → IVec S_ 32)) k (Shape.Idx.first h_S_)).toInt

def start4 : Fin 4 → ℤ := fun k =>
  (((![counter V, constantI S_ 32 0#32, constantI S_ 32 0#32, constantI S_ 32 0#32] : Fin 4 → IVec S_ 32)) k (Shape.Idx.first h_S_)).toInt

def cq : SQ := shapeCast S2x8x128x64 (Host.dynamicSlice S1x2x8x128x64 (qs V) (start5 V) sliceFits_S128x2x8x128x64_S1x2x8x128x64) shapeCasts_S1x2x8x128x64_S2x8x128x64
def ck : SQ := shapeCast S2x8x128x64 (Host.dynamicSlice S1x2x8x128x64 (ks V) (start5 V) sliceFits_S128x2x8x128x64_S1x2x8x128x64) shapeCasts_S1x2x8x128x64_S2x8x128x64
def cv : SV := shapeCast S2x8x128x128 (Host.dynamicSlice S1x2x8x128x128 (vs V) (start5 V) sliceFits_S128x2x8x128x128_S1x2x8x128x128) shapeCasts_S1x2x8x128x128_S2x8x128x128
def ci : SG := shapeCast S2x8x128 (Host.dynamicSlice S1x2x8x128 (is V) (start4 V) sliceFits_S128x2x8x128_S1x2x8x128) shapeCasts_S1x2x8x128_S2x8x128
def cf : SG := shapeCast S2x8x128 (Host.dynamicSlice S1x2x8x128 (fs V) (start4 V) sliceFits_S128x2x8x128_S1x2x8x128) shapeCasts_S1x2x8x128_S2x8x128

section Counter

variable (j : ℕ) (hj : j < 128) (hc : counter V = constantI S_ 32 (BitVec.ofNat 32 j))

include hj hc

theorem toInt_small : (BitVec.ofNat 32 j).toInt = (j : ℤ) := by
  have h : (BitVec.ofNat 32 j).toNat = j := by
    rw [BitVec.toNat_ofNat]
    omega
  rw [BitVec.toInt_eq_toNat_of_lt (by omega), h]

theorem start5_eq : start5 V = ![(j : ℤ), 0, 0, 0, 0] := by
  funext k
  unfold start5
  rw [hc]
  match k with
  | ⟨0, _⟩ => exact toInt_small V j hj hc
  | ⟨1, _⟩ => rfl
  | ⟨2, _⟩ => rfl
  | ⟨3, _⟩ => rfl
  | ⟨4, _⟩ => rfl

theorem start4_eq : start4 V = ![(j : ℤ), 0, 0, 0] := by
  funext k
  unfold start4
  rw [hc]
  match k with
  | ⟨0, _⟩ => exact toInt_small V j hj hc
  | ⟨1, _⟩ => rfl
  | ⟨2, _⟩ => rfl
  | ⟨3, _⟩ => rfl

/-- One chunk lies inside the 128. -/
theorem fits_S1x2x8x128x64 : S128x2x8x128x64.Slices ![j, 0, 0, 0, 0] S1x2x8x128x64 :=
  ⟨rfl, fun a => by
    match a with
    | ⟨0, _⟩ => show j + 1 ≤ 128; omega
    | ⟨1, _⟩ => exact Nat.le_of_eq (Nat.zero_add _)
    | ⟨2, _⟩ => exact Nat.le_of_eq (Nat.zero_add _)
    | ⟨3, _⟩ => exact Nat.le_of_eq (Nat.zero_add _)
    | ⟨4, _⟩ => exact Nat.le_of_eq (Nat.zero_add _)⟩

theorem cq_at (d : Fin 2) (h : Fin 8) (r : Fin 128) (a : Fin 64) : cq V (ix4 d h r a) = qs V (ix5 ⟨j, hj⟩ d h r a) := by
  unfold cq
  rw [start5_eq V j hj hc, Host.dynamicSlice_eq_extractStridedSlice _ (qs V) _ ![j, 0, 0, 0, 0] _ (fits_S1x2x8x128x64 V j hj hc) (fun k => by
    match k with
    | ⟨0, _⟩ => rfl
    | ⟨1, _⟩ => rfl
    | ⟨2, _⟩ => rfl
    | ⟨3, _⟩ => rfl
    | ⟨4, _⟩ => rfl)]
  pointwise

theorem ck_at (d : Fin 2) (h : Fin 8) (r : Fin 128) (a : Fin 64) : ck V (ix4 d h r a) = ks V (ix5 ⟨j, hj⟩ d h r a) := by
  unfold ck
  rw [start5_eq V j hj hc, Host.dynamicSlice_eq_extractStridedSlice _ (ks V) _ ![j, 0, 0, 0, 0] _ (fits_S1x2x8x128x64 V j hj hc) (fun k => by
    match k with
    | ⟨0, _⟩ => rfl
    | ⟨1, _⟩ => rfl
    | ⟨2, _⟩ => rfl
    | ⟨3, _⟩ => rfl
    | ⟨4, _⟩ => rfl)]
  pointwise

theorem fits_S1x2x8x128x128 : S128x2x8x128x128.Slices ![j, 0, 0, 0, 0] S1x2x8x128x128 :=
  ⟨rfl, fun a => by
    match a with
    | ⟨0, _⟩ => show j + 1 ≤ 128; omega
    | ⟨1, _⟩ => exact Nat.le_of_eq (Nat.zero_add _)
    | ⟨2, _⟩ => exact Nat.le_of_eq (Nat.zero_add _)
    | ⟨3, _⟩ => exact Nat.le_of_eq (Nat.zero_add _)
    | ⟨4, _⟩ => exact Nat.le_of_eq (Nat.zero_add _)⟩

theorem cv_at (d : Fin 2) (h : Fin 8) (r a : Fin 128) : cv V (ix4 d h r a) = vs V (ix5 ⟨j, hj⟩ d h r a) := by
  unfold cv
  rw [start5_eq V j hj hc, Host.dynamicSlice_eq_extractStridedSlice _ (vs V) _ ![j, 0, 0, 0, 0] _ (fits_S1x2x8x128x128 V j hj hc) (fun k => by
    match k with
    | ⟨0, _⟩ => rfl
    | ⟨1, _⟩ => rfl
    | ⟨2, _⟩ => rfl
    | ⟨3, _⟩ => rfl
    | ⟨4, _⟩ => rfl)]
  pointwise

theorem fits_S1x2x8x128 : S128x2x8x128.Slices ![j, 0, 0, 0] S1x2x8x128 :=
  ⟨rfl, fun a => by
    match a with
    | ⟨0, _⟩ => show j + 1 ≤ 128; omega
    | ⟨1, _⟩ => exact Nat.le_of_eq (Nat.zero_add _)
    | ⟨2, _⟩ => exact Nat.le_of_eq (Nat.zero_add _)
    | ⟨3, _⟩ => exact Nat.le_of_eq (Nat.zero_add _)⟩

theorem ci_at (d : Fin 2) (h : Fin 8) (r : Fin 128) : ci V (ix3 d h r) = is V (ix4 ⟨j, hj⟩ d h r) := by
  unfold ci
  rw [start4_eq V j hj hc, Host.dynamicSlice_eq_extractStridedSlice _ (is V) _ ![j, 0, 0, 0] _ (fits_S1x2x8x128 V j hj hc) (fun k => by
    match k with
    | ⟨0, _⟩ => rfl
    | ⟨1, _⟩ => rfl
    | ⟨2, _⟩ => rfl
    | ⟨3, _⟩ => rfl)]
  pointwise

theorem cf_at (d : Fin 2) (h : Fin 8) (r : Fin 128) : cf V (ix3 d h r) = fs V (ix4 ⟨j, hj⟩ d h r) := by
  unfold cf
  rw [start4_eq V j hj hc, Host.dynamicSlice_eq_extractStridedSlice _ (fs V) _ ![j, 0, 0, 0] _ (fits_S1x2x8x128 V j hj hc) (fun k => by
    match k with
    | ⟨0, _⟩ => rfl
    | ⟨1, _⟩ => rfl
    | ⟨2, _⟩ => rfl
    | ⟨3, _⟩ => rfl)]
  pointwise

end Counter

/-! ## The trip -/

def chunkOf (d : Fin 2) (h : Fin 8) : Chunk :=
  fwd (fun r => cf V (ix3 d h r)) (fun r => ci V (ix3 d h r)) (fun r a => cq V (ix4 d h r a)) (fun r a => ck V (ix4 d h r a))
    (fun r c => cv V (ix4 d h r c))

def stOf (d : Fin 2) (h : Fin 8) : St where
  C a c := cC V (ix4 d h a c)
  n a := cN V (ix3 d h a)
  m := cM V (ix2 d h)

def tB : SG := res_main_while0b_v106 V
def tD : SV := res_main_while0b_v115 V
def tI : SG := res_main_while0b_v118 V
def tMt : SG := res_main_while0b_v120 V
def tW : SG := res_main_while0b_v122 V
def tS : SV := res_main_while0b_v128 V
def tE : SM := res_main_while0b_v147 V
def tL : SG := res_main_while0b_v151 V
def tM : SM := res_main_while0b_v154 V
def tWn : SG := res_main_while0b_v158 V
def tK : SM := res_main_while0b_v161 V

/-- What the trip writes as its outputs. -/
def tOut : SV := rOut (rNum (tS V) (cv V) (tW V) (cq V) (cC V)) (rDen (tS V) (tW V) (cq V) (cN V)) (tMt V)

variable (d : Fin 2) (h : Fin 8)

/-- Where the running sum starts. -/
def zeroS : FVec Ideal S_ .f32 := broadcastInDim S_ ![] bcast_S_S_ (constant S_ .f32 0x00000000#32)

theorem zeroS_first : zeroS (Shape.Idx.first h_S_) = 0 := by
  show Ideal.ofBits .f32 0x00000000#32 = 0
  exact Ideal.ofBits_zero_f32

theorem tB_eq : tB V = Host.reduceWindowAdd ![1, 1, 128] ![1, 1, 1] ![0, 0, 127] ![0, 0, 0] (cf V) zeroS
    reduceWindows_S2x8x128_S2x8x128_w1s1p0_0_w1s1p0_0_w128s1p127_0 h_S_ := rfl

theorem tB_at (t : Fin 128) : tB V (ix3 d h t) = (chunkOf V d h).b t := by
  rw [tB_eq, cumsum_at (cf V) zeroS zeroS_first d h t]
  rfl

theorem tE_at : tE V (ix2 d h) = (chunkOf V d h).e := by
  have h1 : tE V = rEnd (tB V) := rfl
  rw [h1, rEnd_at, tB_at]
  unfold chunkOf fwd
  dsimp only
  exact Finset.sum_congr rfl fun s _ => if_pos (Fin.le_last s)

section Mask

variable (hm : ∀ t u : Fin 128, mask V (ix2 t u) = 1#1 ↔ u ≤ t)

include hm

theorem tD_at (t u : Fin 128) : tD V (ix4 d h t u) = (chunkOf V d h).logD t u := by
  refine (rLogD_at (mask V) (tB V) (ci V) d h t u).trans ?_
  rw [tB_at, tB_at]
  show _ = if decide (u ≤ t) = true then _ else _
  by_cases hu : u ≤ t
  · rw [if_pos ((hm t u).2 hu), if_pos (decide_eq_true hu)]
    rfl
  · rw [if_neg (fun h' => hu ((hm t u).1 h')), if_neg (by simpa using hu)]

omit hm in
theorem tI_at (t : Fin 128) : tI V (ix3 d h t) = (chunkOf V d h).inter (stOf V d h) t := by
  refine (rInter_at (tB V) (cM V) d h t).trans ?_
  rw [tB_at]
  rfl

theorem tMt_at (t : Fin 128) : tMt V (ix3 d h t) = (chunkOf V d h).mt (stOf V d h) t := by
  refine (rMt_at (tD V) (tI V) d h t).trans ?_
  rw [tI_at]
  simp only [tD_at V d h hm]
  rfl

theorem tW_at (t : Fin 128) : tW V (ix3 d h t) = (chunkOf V d h).wPrev (stOf V d h) t := by
  refine (rW_at (tI V) (tMt V) d h t).trans ?_
  rw [tI_at, tMt_at V d h hm]
  rfl

theorem tS_at (t u : Fin 128) : tS V (ix4 d h t u) = (chunkOf V d h).score (stOf V d h) t u := by
  refine (rScore_at (cq V) (ck V) (tD V) (tMt V) d h t u).trans ?_
  rw [tD_at V d h hm, tMt_at V d h hm]
  rfl

theorem tOut_at (t c : Fin 128) : tOut V (ix4 d h t c) = (chunkOf V d h).out (stOf V d h) t c := by
  refine (rOut_at _ _ _ d h t c).trans ?_
  rw [rNum_at, rDen_at, tMt_at V d h hm, tW_at V d h hm]
  simp only [tS_at V d h hm]
  rfl

end Mask

theorem tL_at (u : Fin 128) : tL V (ix3 d h u) = (chunkOf V d h).logW u := by
  refine (rLogW_at (tB V) (ci V) (tE V) d h u).trans ?_
  rw [tB_at, tE_at]
  rfl

theorem tM_at : tM V (ix2 d h) = (chunkOf V d h).mNew (stOf V d h) := by
  refine (rM_at (tL V) (cM V) (tE V) d h).trans ?_
  rw [tE_at]
  simp only [tL_at]
  rfl

theorem tWn_at (u : Fin 128) : tWn V (ix3 d h u) = (chunkOf V d h).w (stOf V d h) u := by
  refine (rW_at (tL V) (each (tM V)) d h u).trans ?_
  rw [each_at, tL_at, tM_at]
  rfl

theorem tK_at : tK V (ix2 d h) = (chunkOf V d h).keep (stOf V d h) := by
  refine (rKeep_at (cM V) (tE V) (tM V) d h).trans ?_
  rw [tE_at, tM_at]
  rfl

/-! ## The state after it -/

theorem counter_step (j : ℕ) (hc : counter V = constantI S_ 32 (BitVec.ofNat 32 j)) :
    counter (STEP V) = constantI S_ 32 (BitVec.ofNat 32 (j + 1)) := by
  have h1 : counter (STEP V) = addi (counter V) (constantI S_ 32 1#32) := STEP_main_v85_6 V
  rw [h1, hc]
  funext i
  exact (BitVec.ofNat_add j 1).symm

theorem qs_step : qs (STEP V) = qs V := STEP_main_v85_0 V
theorem ks_step : ks (STEP V) = ks V := STEP_main_v85_1 V
theorem vs_step : vs (STEP V) = vs V := STEP_main_v85_2 V
theorem is_step : is (STEP V) = is V := STEP_main_v85_3 V
theorem fs_step : fs (STEP V) = fs V := STEP_main_v85_4 V
theorem mask_step : mask (STEP V) = mask V := STEP_main_v85_5 V

theorem stOf_step : stOf (STEP V) d h = (chunkOf V d h).next (stOf V d h) := by
  have h7 : cC (STEP V) = rC (tK V) (cC V) (tWn V) (ck V) (cv V) := STEP_main_v85_7 V
  have h8 : cN (STEP V) = rN (tK V) (cN V) (tWn V) (ck V) := STEP_main_v85_8 V
  have h9 : cM (STEP V) = tM V := STEP_main_v85_9 V
  refine St.ext ?_ ?_ ?_
  · funext a c
    show cC (STEP V) (ix4 d h a c) = _
    rw [h7, rC_at, tK_at]
    simp only [tWn_at]
    rfl
  · funext a
    show cN (STEP V) (ix3 d h a) = _
    rw [h8, rN_at, tK_at]
    simp only [tWn_at]
    rfl
  · show cM (STEP V) (ix2 d h) = _
    rw [h9, tM_at]
    rfl

theorem hs_step (j : ℕ) (hj : j < 128) (hc : counter V = constantI S_ 32 (BitVec.ofNat 32 j)) (i : Fin 128) (r c : Fin 128) :
    hs (STEP V) (ix5 i d h r c) = if i.val = j then tOut V (ix4 d h r c) else hs V (ix5 i d h r c) := by
  have h10 : hs (STEP V) = Host.dynamicUpdateSlice (hs V)
      (broadcastInDim S1x2x8x128x128 ![1, 2, 3, 4] bcast_S2x8x128x128_S1x2x8x128x128_1_2_3_4 (tOut V)) (start5 V)
      updateFits_S128x2x8x128x128_S1x2x8x128x128 := STEP_main_v85_10 V
  rw [h10, start5_eq V j hj hc, Host.dynamicUpdateSlice_eq_updateSlice (hs V) _ _ _ ![j, 0, 0, 0, 0] (fun a => by
    match a with
    | ⟨0, _⟩ => show (min (max (j : ℤ) 0) ((128 - 1 : ℕ) : ℤ)).toNat = j; omega
    | ⟨1, _⟩ => rfl
    | ⟨2, _⟩ => rfl
    | ⟨3, _⟩ => rfl
    | ⟨4, _⟩ => rfl) (fits_S1x2x8x128x128 V j hj hc)]
  pointwise
  by_cases hi : i.val = j
  · rw [dif_pos (by omega), if_pos hi]
  · rw [dif_neg (by omega), if_neg hi]

end Cert.Ref
-- ==== Proof.RefRun.lean ====
/-
  The reference's loop, trip by trip, and its four results.
-/
module

public import proofs.«01_k».proof.Proof.RefInputs
public import proofs.«01_k».proof.Proof.RefChunk

@[expose] public section

set_option maxRecDepth 16384

noncomputable section

open Idealize.ShloMosaic Idealize.ShloMosaic.TcCoe Idealize.SL.Sem Idealize.ShloMosaic.StableHlo

namespace Cert.Ref

open Cert.ReferenceIdeal Cert.ReferenceIdeal.Gen Cert.ReferenceIdeal.Value Cert.ReferenceIdeal.Step Cert.Scan

section Trips

variable (za : FVec Ideal S16384x3200 .f32) (bias : FVec Ideal S1x128 .f32) (c0 : FVec Ideal S2x8x64x128 .f32)
  (n0 : FVec Ideal S2x8x1x64 .f32) (m0 : FVec Ideal S2x8x1x128 .f32)

/-- What the loop's arrays hold before trip `j`. -/
structure Before (V : Valuation τ sig (Elt Ideal)) (j : ℕ) : Prop where
  counter : counter V = constantI S_ 32 (BitVec.ofNat 32 j)
  q : qs V = A_main_v48 (F := Ideal) za bias n0 m0
  k : ks V = A_main_v54 (F := Ideal) za bias n0 m0
  v : vs V = A_main_v60 (F := Ideal) za bias n0 m0
  i : is V = A_main_v70 (F := Ideal) za bias n0 m0
  f : fs V = A_main_v80 (F := Ideal) za bias n0 m0
  mask : mask V = K_main_v42 (F := Ideal)
  st : ∀ d h, stOf V d h = state za bias c0 n0 m0 d h j
  hs : ∀ (i : Fin 128) d h r c, i.val < j → hs V (ix5 i d h r c) = emit za bias c0 n0 m0 d h i.val r c

variable {za bias c0 n0 m0}

theorem chunk_eq {V : Valuation τ sig (Elt Ideal)} {j : ℕ} (B : Before za bias c0 n0 m0 V j) (hj : j < 128) (d : Fin 2) (h : Fin 8) :
    chunkOf V d h = chunkAt za bias d h j := by
  unfold chunkOf chunkAt
  have e1 : (fun r => cf V (ix3 d h r)) = fun r => logSig (gate za bias (pos d (step j r)) (lane d 1 h)) := by
    funext r
    rw [cf_at V j hj B.counter, B.f, fs0_at]
  have e2 : (fun r => ci V (ix3 d h r)) = fun r => gate za bias (pos d (step j r)) (lane d 0 h) := by
    funext r
    rw [ci_at V j hj B.counter, B.i, is0_at]
  have e3 : (fun r a => cq V (ix4 d h r a)) = fun r a => qAt za h (pos d (step j r)) a := by
    funext r a
    rw [cq_at V j hj B.counter, B.q, qs0_at]
  have e4 : (fun r a => ck V (ix4 d h r a)) = fun r a => kAt za h (pos d (step j r)) a := by
    funext r a
    rw [ck_at V j hj B.counter, B.k, ks0_at]
  have e5 : (fun r c => cv V (ix4 d h r c)) = fun r c => vAt za h (pos d (step j r)) c := by
    funext r c
    rw [cv_at V j hj B.counter, B.v, vs0_at]
  rw [e1, e2, e3, e4, e5]

theorem before_step {V : Valuation τ sig (Elt Ideal)} {j : ℕ} (B : Before za bias c0 n0 m0 V j) (hj : j < 128) :
    Before za bias c0 n0 m0 (STEP V) (j + 1) where
  counter := counter_step V j B.counter
  q := (qs_step V).trans B.q
  k := (ks_step V).trans B.k
  v := (vs_step V).trans B.v
  i := (is_step V).trans B.i
  f := (fs_step V).trans B.f
  mask := (mask_step V).trans B.mask
  st d h := by
    rw [stOf_step, chunk_eq B hj, B.st]
    rfl
  hs i d h r c hi := by
    rw [hs_step V d h j hj B.counter]
    by_cases hij : i.val = j
    · rw [if_pos hij, tOut_at V d h (fun t u => by rw [B.mask]; exact mask0_at t u), chunk_eq B hj, B.st, hij]
      rfl
    · rw [if_neg hij]
      exact B.hs i d h r c (by omega)

theorem before_all {V : Valuation τ sig (Elt Ideal)} (B : Before za bias c0 n0 m0 V 0) :
    ∀ j ≤ 128, Before za bias c0 n0 m0 (STEP^[j] V) j
  | 0, _ => B
  | j + 1, hj => by
    rw [Function.iterate_succ_apply']
    exact before_step (before_all B j (by omega)) (by omega)

end Trips

/-! ## The start -/

variable (m : (ℓ : Loc nD τ sig) → Buf (Elt Ideal) ℓ) (c : Dev nD)

abbrev aZ : FVec Ideal S16384x3200 .f32 := m ((c.tc : Thread nD τ).loc main_arg0)
abbrev aB : FVec Ideal S1x128 .f32 := m ((c.tc : Thread nD τ).loc main_arg1)
abbrev aC : FVec Ideal S2x8x64x128 .f32 := m ((c.tc : Thread nD τ).loc main_arg2)
abbrev aN : FVec Ideal S2x8x1x64 .f32 := m ((c.tc : Thread nD τ).loc main_arg3)
abbrev aM : FVec Ideal S2x8x1x128 .f32 := m ((c.tc : Thread nD τ).loc main_arg4)

/-- The loop's arrays at its entry, as they were computed. -/
structure Entry (V : Valuation τ sig (Elt Ideal)) : Prop where
  counter : V (Proc.devRef .tc main_v85_6) = constantI S_ 32 0#32
  q : V (Proc.devRef .tc main_v85_0) = A_main_v48 (F := Ideal) (aZ m c) (aB m c) (aN m c) (aM m c)
  k : V (Proc.devRef .tc main_v85_1) = A_main_v54 (F := Ideal) (aZ m c) (aB m c) (aN m c) (aM m c)
  v : V (Proc.devRef .tc main_v85_2) = A_main_v60 (F := Ideal) (aZ m c) (aB m c) (aN m c) (aM m c)
  i : V (Proc.devRef .tc main_v85_3) = A_main_v70 (F := Ideal) (aZ m c) (aB m c) (aN m c) (aM m c)
  f : V (Proc.devRef .tc main_v85_4) = A_main_v80 (F := Ideal) (aZ m c) (aB m c) (aN m c) (aM m c)
  mask : V (Proc.devRef .tc main_v85_5) = K_main_v42 (F := Ideal)
  C : V (Proc.devRef .tc main_v85_7) = aC m c
  n : V (Proc.devRef .tc main_v85_8) = A_main_v81 (F := Ideal) (aZ m c) (aB m c) (aN m c) (aM m c)
  m : V (Proc.devRef .tc main_v85_9) = A_main_v83 (F := Ideal) (aZ m c) (aB m c) (aN m c) (aM m c)

set_option maxRecDepth 65536 in
set_option maxHeartbeats 1000000 in
theorem entry : Entry m c (entryContents preI m c) := by
  constructor <;> (simp only [entryContents, afterL_cons, afterL_nil]; after_reads_simp) <;> rfl

theorem before_zero : Before (aZ m c) (aB m c) (aC m c) (aN m c) (aM m c) (entryContents preI m c) 0 where
  counter := (entry m c).counter
  q := (entry m c).q
  k := (entry m c).k
  v := (entry m c).v
  i := (entry m c).i
  f := (entry m c).f
  mask := (entry m c).mask
  st d h := by
    have hC : cC (entryContents preI m c) = aC m c := (entry m c).C
    have hn : cN (entryContents preI m c) = A_main_v81 (F := Ideal) (aZ m c) (aB m c) (aN m c) (aM m c) := (entry m c).n
    have hm : cM (entryContents preI m c) = A_main_v83 (F := Ideal) (aZ m c) (aB m c) (aN m c) (aM m c) := (entry m c).m
    refine St.ext ?_ ?_ ?_
    · funext a k
      show cC (entryContents preI m c) (ix4 d h a k) = _
      rw [hC]
      rfl
    · funext a
      show cN (entryContents preI m c) (ix3 d h a) = _
      rw [hn, n81_at]
      rfl
    · show cM (entryContents preI m c) (ix2 d h) = _
      rw [hm, m83_at]
      rfl
  hs i d h r c hi := absurd hi (Nat.not_lt_zero _)

/-! ## The results -/

abbrev last : Valuation τ sig (Elt Ideal) := STEP^[128] (entryContents preI m c)

theorem before_last : Before (aZ m c) (aB m c) (aC m c) (aN m c) (aM m c) (last m c) 128 :=
  before_all (before_zero m c) 128 le_rfl

end Cert.Ref
-- ==== Proof.RefResult.lean ====
/-
  The reference's four results are the scan's outputs and last states.
-/
module

public import proofs.«01_k».proof.Proof.RefRun
public import proofs.«01_k».proof.Proof.Results

@[expose] public section

set_option maxRecDepth 16384

noncomputable section

open Idealize.ShloMosaic Idealize.ShloMosaic.TcCoe Idealize.SL.Sem

namespace Cert.Ref

open Cert.ReferenceIdeal Cert.ReferenceIdeal.Gen Cert.ReferenceIdeal.Value Cert.Scan

/-- The chunks of the outputs laid end to end. -/
def joined (H : FVec Ideal S128x2x8x128x128 .f32) : FVec Ideal S2x8x16384x128 .f32 :=
  shapeCast _ (transpose S2x8x128x128x128 [1, 2, 0, 3, 4] H transposes_S128x2x8x128x128_S2x8x128x128x128_1_2_0_3_4) shapeCasts_S2x8x128x128x128_S2x8x16384x128

theorem joined_at (H : FVec Ideal S128x2x8x128x128 .f32) (d : Fin 2) (h : Fin 8) (n : Fin 16384) (c : Fin 128) :
    joined H (ix4 d h n c) = H (ix5 ⟨n.val / 128, by omega⟩ d h ⟨n.val % 128, by omega⟩ c) := by
  refine (shapeCast_apply _ _ _ (ix5 d h ⟨n.val / 128, by omega⟩ ⟨n.val % 128, by omega⟩ c : S2x8x128x128x128.Idx) ?_).trans
    (transpose_apply _ _ _ _ _ (fun b => by
      match b with
      | ⟨0, _⟩ => rfl
      | ⟨1, _⟩ => rfl
      | ⟨2, _⟩ => rfl
      | ⟨3, _⟩ => rfl
      | ⟨4, _⟩ => rfl))
  rw [Shape.rowMajor_val_four, Shape.rowMajor_val_five]
  show (((d.val * 8 + h.val) * 128 + n.val / 128) * 128 + n.val % 128) * 128 + c.val = ((d.val * 8 + h.val) * 16384 + n.val) * 128 + c.val
  omega

/-- The second direction turned round, and the heads side by side. -/
def outRows (G : FVec Ideal S2x8x16384x128 .f32) : FVec Ideal S2x16384x1024 .f32 :=
  shapeCast _ (transpose S2x16384x8x128 [0, 2, 1, 3] (concatenate S2x8x16384x128 0
    [⟨S1x8x16384x128, (broadcastInDim S1x8x16384x128 ![1, 2, 3] bcast_S8x16384x128_S1x8x16384x128_1_2_3 (shapeCast S8x16384x128 (extractStridedSlice S1x8x16384x128 ![0, 0, 0, 0] G slices_S2x8x16384x128_S1x8x16384x128_0_0_0_0) shapeCasts_S1x8x16384x128_S8x16384x128))⟩,
     ⟨S1x8x16384x128, (broadcastInDim S1x8x16384x128 ![1, 2, 3] bcast_S8x16384x128_S1x8x16384x128_1_2_3 (Host.reverse [1] (shapeCast S8x16384x128 (extractStridedSlice S1x8x16384x128 ![1, 0, 0, 0] G slices_S2x8x16384x128_S1x8x16384x128_1_0_0_0) shapeCasts_S1x8x16384x128_S8x16384x128)))⟩]
    concatenates_S1x8x16384x128_S1x8x16384x128_S2x8x16384x128_d0) transposes_S2x8x16384x128_S2x16384x8x128_0_2_1_3) shapeCasts_S2x16384x8x128_S2x16384x1024

theorem outRows_at (G : FVec Ideal S2x8x16384x128 .f32) (d : Fin 2) (n : Fin 16384) (l : Fin 1024) :
    outRows G (ix3 d n l) = G (ix4 d ⟨l.val / 128, by omega⟩ (pos d n) ⟨l.val % 128, by omega⟩) := by
  match d with
  | 0 =>
    pointwise [outRows]
    rfl
  | 1 =>
    pointwise [outRows]
    rfl

variable (m : (ℓ : Loc nD τ sig) → Buf (Elt Ideal) ℓ) (c : Dev nD)

theorem result_h : (out_main_v97 (last m c) : FVec Ideal S2x16384x1024 .f32) = resH (aZ m c) (aB m c) (aC m c) (aN m c) (aM m c) := by
  have h1 : (out_main_v97 (last m c) : FVec Ideal S2x16384x1024 .f32) = outRows (joined (hs (last m c))) := rfl
  rw [h1]
  funext i
  have hi : i = (ix3 (i 0) (i 1) (i 2) : S2x16384x1024.Idx) := by
    funext a
    match a with
    | ⟨0, _⟩ => rfl
    | ⟨1, _⟩ => rfl
    | ⟨2, _⟩ => rfl
  have hp : (pos (i 0) (i 1)).val / 128 < 128 := Nat.div_lt_of_lt_mul (pos (i 0) (i 1)).isLt
  refine (congrArg (outRows (joined (hs (last m c)))) hi).trans ((outRows_at _ _ _ _).trans ((joined_at _ _ _ _ _).trans ?_))
  exact (before_last m c).hs ⟨(pos (i 0) (i 1)).val / 128, hp⟩ (i 0) _ _ _ hp

theorem result_c : (cC (last m c)) = resC (aZ m c) (aB m c) (aC m c) (aN m c) (aM m c) := by
  funext i
  have hi : i = (ix4 (i 0) (i 1) (i 2) (i 3) : S2x8x64x128.Idx) := by
    funext a
    match a with
    | ⟨0, _⟩ => rfl
    | ⟨1, _⟩ => rfl
    | ⟨2, _⟩ => rfl
    | ⟨3, _⟩ => rfl
  refine (congrArg (cC (last m c)) hi).trans ?_
  exact congrFun (congrFun (congrArg St.C ((before_last m c).st (i 0) (i 1))) (i 2)) (i 3)

theorem spreadN_at (x : SN) (d : Fin 2) (h : Fin 8) (a : Fin 64) :
    broadcastInDim S2x8x1x64 ![0, 1, 3] bcast_S2x8x64_S2x8x1x64_0_1_3 x (ix4 d h 0 a) = x (ix3 d h a) := by
  pointwise

theorem spreadM_at (x : SM) (d : Fin 2) (h : Fin 8) (l : Fin 128) :
    broadcastInDim S2x8x1x128 ![0, 1, 2, 3] bcast_S2x8x1x1_S2x8x1x128_0_1_2_3 (broadcastInDim S2x8x1x1 ![0, 1] bcast_S2x8_S2x8x1x1_0_1 x) (ix4 d h 0 l) = x (ix2 d h) := by
  pointwise

theorem result_n : (out_main_v98 (last m c) : FVec Ideal S2x8x1x64 .f32) = resN (aZ m c) (aB m c) (aC m c) (aN m c) (aM m c) := by
  funext i
  have hi : i = (ix4 (i 0) (i 1) 0 (i 3) : S2x8x1x64.Idx) := by
    funext a
    match a with
    | ⟨0, _⟩ => rfl
    | ⟨1, _⟩ => rfl
    | ⟨2, _⟩ => exact Fin.ext (Nat.lt_one_iff.mp (i 2).isLt)
    | ⟨3, _⟩ => rfl
  refine (congrArg (out_main_v98 (last m c) : FVec Ideal S2x8x1x64 .f32) hi).trans ((spreadN_at (cN (last m c)) _ _ _).trans ?_)
  exact congrFun (congrArg St.n ((before_last m c).st (i 0) (i 1))) (i 3)

theorem result_m : (out_main_v100 (last m c) : FVec Ideal S2x8x1x128 .f32) = resM (aZ m c) (aB m c) (aC m c) (aN m c) (aM m c) := by
  funext i
  have hi : i = (ix4 (i 0) (i 1) 0 (i 3) : S2x8x1x128.Idx) := by
    funext a
    match a with
    | ⟨0, _⟩ => rfl
    | ⟨1, _⟩ => rfl
    | ⟨2, _⟩ => exact Fin.ext (Nat.lt_one_iff.mp (i 2).isLt)
    | ⟨3, _⟩ => rfl
  refine (congrArg (out_main_v100 (last m c) : FVec Ideal S2x8x1x128 .f32) hi).trans ((spreadM_at (cM (last m c)) _ _ _).trans ?_)
  exact congrArg St.m ((before_last m c).st (i 0) (i 1))

end Cert.Ref
-- ==== Proof.Products.lean ====
/-
  Products of matrices, entry by entry.
-/
module

public import Idealize.ShloMosaic.PureOps.Ideal
public import Mathlib.Data.EReal.Operations
public import Mathlib.Data.EReal.Inv
public import Mathlib.Algebra.BigOperators.Fin
public import Mathlib.Data.Fin.Rev
public import Idealize.ShloMosaic.Lib.Pointwise.Index

@[expose] public section

set_option maxRecDepth 16384

noncomputable section

open Idealize.ShloMosaic Idealize.ShloMosaic.TcCoe Idealize.SL.Sem

namespace Cert

/-- Entry `(p, q)` of the product of `x` and `w`. -/
def prod {M K N : ℕ} (x : FVec Ideal ⟨2, ![M, K]⟩ .f32) (w : FVec Ideal ⟨2, ![K, N]⟩ .f32) (p : Fin M) (q : Fin N) : EReal :=
  ∑ k : Fin K, x (ix2 p k) * w (ix2 k q)

end Cert
-- ==== Proof.GatesValue.lean ====
/-
  The projection onto the merge gates: block by block, the columns of one product.
-/
module

public import proofs.«01_k».proof.Proof.Products
public import proofs.«01_k».proof.Proof.Gen.GatesKernel.Frame
public import proofs.«01_k».proof.Proof.Gen.GatesKernelIdeal.Value
public import proofs.«01_k».proof.Proof.Gen.GatesRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.GatesKernelIdeal.Block

open Cert.GatesKernelIdeal Cert.GatesKernelIdeal.Gen Cert.GatesKernelIdeal.Value

theorem idx0 : ∀ t : Fin cfg0.N, (cfg0.win 0).index t 0 = t.val / 12 ∧ (cfg0.win 0).index t 1 = 0 := by
  decide +kernel
theorem idx1 : ∀ t : Fin cfg0.N, (cfg0.win 1).index t 0 = 0 ∧ (cfg0.win 1).index t 1 = t.val % 12 := by
  decide +kernel
theorem idx2 : ∀ t : Fin cfg0.N, (cfg0.win 2).index t 0 = t.val / 12 ∧ (cfg0.win 2).index t 1 = t.val % 12 := by
  decide +kernel
theorem flush2 : ∀ t : Fin cfg0.N, (cfg0.win 2).flush t = true := by decide +kernel

theorem N_lt (t : Fin cfg0.N) : t.val < 384 := lt_of_lt_of_eq t.isLt N_0

variable (m : (ℓ : Loc nD τ sig) → Buf (Elt Ideal) ℓ) (c : Dev nD)

abbrev hx : FVec Ideal S16384x4096 .f32 := m ((c : Thread nD τ).loc main_arg0)
abbrev w : FVec Ideal S4096x21952 .f32 := m ((c : Thread nD τ).loc main_arg1)

/-- The whole result. -/
def out : FVec Ideal S16384x12288 .f32 := fun i =>
  prod (hx m c) (w m c) (i 0) ⟨9664 + (i 1).val, by have h : (i 1).val < 12288 := (i 1).isLt; omega⟩

/-- The rows and the columns of point `t`'s block. -/
def row (t : Fin cfg0.N) (r : Fin 512) : Fin 16384 := ⟨512 * (t.val / 12) + r.val, by have := N_lt t; omega⟩
def column (t : Fin cfg0.N) (l : Fin 1024) : Fin 21952 := ⟨9664 + (1024 * (t.val % 12) + l.val), by omega⟩

theorem left : (V m c main_v0 : FVec Ideal S16384x4096 .bf16) = hx m c := by
  refine (show _ = truncf .bf16 (hx m c) bitsLt_bf16_f32 from ?_).trans rfl
  dsimp only [V]
  after_results

theorem right : (V m c main_v2 : FVec Ideal S4096x12288 .bf16) = extractStridedSlice S4096x12288 ![0, 9664] (w m c) slices_S4096x21952_S4096x12288_0_9664 := by
  refine (show _ = truncf .bf16 (extractStridedSlice S4096x12288 ![0, 9664] (w m c) slices_S4096x21952_S4096x12288_0_9664 : FVec Ideal S4096x12288 .f32) bitsLt_bf16_f32 from ?_).trans rfl
  dsimp only [V]
  after_results

theorem pay_at (a : Vec Ideal S512x4096 .bf16) (b : Vec Ideal S4096x1024 .bf16) (r : Fin 512) (l : Fin 1024) :
    k0_pay1 a b (ix2 r l) = ∑ k : Fin 4096, (a : FVec Ideal S512x4096 .bf16) (ix2 r k) * (b : FVec Ideal S4096x1024 .bf16) (ix2 k l) := by
  pointwise [k0_pay1]

theorem block0 (t : Fin cfg0.N) (r : Fin 512) (k : Fin 4096) :
    (iblk m c 0 t : FVec Ideal S512x4096 .bf16) (ix2 r k) = hx m c (ix2 (row t r) k) := by
  obtain ⟨h0, h1⟩ := idx0 t
  unfold iblk
  rw [View.read_apply]
  show (V m c main_v0 : FVec Ideal S16384x4096 .bf16) _ = hx m c _
  rw [left]
  refine congrArg (hx m c) ?_
  funext a
  apply Fin.ext
  match a with
  | ⟨0, _⟩ => show (cfg0.win 0).index t 0 * 512 + 1 * r.val = 512 * (t.val / 12) + r.val; rw [h0]; omega
  | ⟨1, _⟩ => show (cfg0.win 0).index t 1 * 4096 + 1 * k.val = k.val; rw [h1]; omega

theorem block1 (t : Fin cfg0.N) (k : Fin 4096) (l : Fin 1024) :
    (iblk m c 1 t : FVec Ideal S4096x1024 .bf16) (ix2 k l) = w m c (ix2 k (column t l)) := by
  obtain ⟨h0, h1⟩ := idx1 t
  unfold iblk
  rw [View.read_apply]
  show (V m c main_v2 : FVec Ideal S4096x12288 .bf16) _ = w m c _
  rw [right]
  refine congrArg (w m c) ?_
  funext a
  apply Fin.ext
  match a with
  | ⟨0, _⟩ => show 0 + ((cfg0.win 1).index t 0 * 4096 + 1 * k.val) = k.val; rw [h0]; omega
  | ⟨1, _⟩ => show 9664 + ((cfg0.win 1).index t 1 * 1024 + 1 * l.val) = 9664 + (1024 * (t.val % 12) + l.val); rw [h1]; omega

theorem whole (a : Vec Ideal S512x4096 .bf16) (b : Vec Ideal S4096x1024 .bf16) : out0_2 a b = k0_pay1 a b := by
  have hz : (![0, 0] : Fin 2 → ℕ) = fun _ => 0 := by decide
  unfold out0_2
  refine (View.canon_unit_zero hz _ _).trans ?_
  rw [View.ld_unit_zero hz _ a, View.ld_unit_zero hz _ b]

theorem point (t : Fin cfg0.N) (r : Fin 512) (l : Fin 1024) :
    (out0_2 (iblk m c 0 t) (iblk m c 1 t) : FVec Ideal S512x1024 .f32) (ix2 r l) = prod (hx m c) (w m c) (row t r) (column t l) := by
  rw [whole]
  refine (pay_at _ _ r l).trans (Finset.sum_congr rfl fun k _ => ?_)
  rw [block0, block1]

theorem array2 : (dats m 0 c).arrAt 2 cfg0.N = out m c := by
  refine Pipeline.Dat.arrAt_eq_of_cover (dats m 0 c) 2 (out m c) (fun t _ => ?_) (fun i => ?_)
  · obtain ⟨h0, h1⟩ := idx2 t
    rw [flushed2]
    funext y
    have hy : y = (ix2 (y 0) (y 1) : S512x1024.Idx) := by
      funext a
      match a with
      | ⟨0, _⟩ => rfl
      | ⟨1, _⟩ => rfl
    rw [View.read_apply]
    refine (congrArg (out0_2 (iblk m c 0 t) (iblk m c 1 t) : FVec Ideal S512x1024 .f32) hy).trans ((point m c t (y 0) (y 1)).trans ?_)
    show _ = prod (hx m c) (w m c) _ _
    refine congrArg₂ (prod (hx m c) (w m c)) (Fin.ext ?_) (Fin.ext ?_)
    · show 512 * (t.val / 12) + (y 0).val = (cfg0.win 2).index t 0 * 512 + 1 * (y 0).val
      rw [h0]
      omega
    · show 9664 + (1024 * (t.val % 12) + (y 1).val) = 9664 + ((cfg0.win 2).index t 1 * 1024 + 1 * (y 1).val)
      rw [h1]
      omega
  · have i0 : (i 0).val < 16384 := (i 0).isLt
    have i1 : (i 1).val < 12288 := (i 1).isLt
    let t : Fin cfg0.N := ⟨12 * ((i 0).val / 512) + (i 1).val / 1024, lt_of_lt_of_eq (by omega) N_0.symm⟩
    have ht : t.val = 12 * ((i 0).val / 512) + (i 1).val / 1024 := rfl
    obtain ⟨h0, h1⟩ := idx2 t
    refine ⟨t, flush2 t, Finset.mem_map.mpr
      ⟨(ix2 ⟨(i 0).val % 512, Nat.mod_lt _ (by norm_num)⟩ ⟨(i 1).val % 1024, Nat.mod_lt _ (by norm_num)⟩ : S512x1024.Idx), Finset.mem_univ _, ?_⟩⟩
    funext a
    apply Fin.ext
    match a with
    | ⟨0, _⟩ =>
      show (cfg0.win 2).index t 0 * 512 + 1 * ((i 0).val % 512) = (i 0).val
      rw [h0, ht]
      omega
    | ⟨1, _⟩ =>
      show (cfg0.win 2).index t 1 * 1024 + 1 * ((i 1).val % 1024) = (i 1).val
      rw [h1, ht]
      omega

end Cert.GatesKernelIdeal.Block

namespace Cert.GatesRefIdeal.Whole

open Cert.GatesRefIdeal Cert.GatesRefIdeal.Gen

def result (x : FVec Ideal S16384x4096 .f32) (w : FVec Ideal S4096x21952 .f32) : FVec Ideal S16384x12288 .f32 :=
  extractStridedSlice S16384x12288 ![0, 9664] (Host.dotGeneral dot_S16384x4096_S4096x21952_S16384x21952_1_0_0_1_n_n none x w) slices_S16384x21952_S16384x12288_0_9664

theorem result_at (x : FVec Ideal S16384x4096 .f32) (w : FVec Ideal S4096x21952 .f32) (p : Fin 16384) (q : Fin 12288) :
    result x w (ix2 p q) = prod x w p ⟨9664 + q.val, by omega⟩ := by
  pointwise [result, prod]

end Cert.GatesRefIdeal.Whole

namespace Cert.Proof

theorem frame_gates : Cert.quiescent_GatesRefIdeal (hGatesRefIdeal := Cert.GatesRefIdeal.Gen.facts) := fun m ρ _ =>
  (θ_run Cert.GatesRefIdeal.defs _ _).mono (fun r h => ⟨fun c => (h c).2,
      Idealize.ShloMosaic.sem_eq_zero_of_no_sems (by decide) r.2⟩)
    (Cert.GatesRefIdeal.Value.run (F := Ideal) m ρ)

theorem algebraic_gates : Cert.algebraic_GatesKernelIdeal_GatesRefIdeal (hGatesKernelIdeal := Cert.GatesKernelIdeal.Gen.facts)
    (hGatesRefIdeal := Cert.GatesRefIdeal.Gen.facts) := by
  intro m ρ m' ρ' _ heq
  refine ⟨Cert.GatesKernelIdeal.Block.out m, ?_, ?_⟩
  · refine (θ_run _ _ _).mono (fun r h c => ?_) (Cert.GatesKernelIdeal.Value.run_blocks (F := Ideal) m ρ)
    obtain ⟨h0, ha⟩ := h c
    exact ⟨h0.trans (Cert.GatesKernelIdeal.Block.array2 m c), ha⟩
  · refine (θ_run _ _ _).mono (fun r h c => ?_) (Cert.GatesRefIdeal.Value.run (F := Ideal) m' ρ')
    obtain ⟨h0, ha⟩ := h c
    refine ⟨h0.trans ?_, ha⟩
    obtain ⟨e0, e1⟩ := heq c
    rw [e0, e1]
    show Cert.GatesRefIdeal.Whole.result (Cert.GatesKernelIdeal.Block.hx m c) (Cert.GatesKernelIdeal.Block.w m c) = _
    funext i
    have hi : i = (ix2 (i 0) (i 1) : Cert.GatesKernelIdeal.S16384x12288.Idx) := by
      funext a
      match a with
      | ⟨0, _⟩ => rfl
      | ⟨1, _⟩ => rfl
    exact (congrArg (Cert.GatesRefIdeal.Whole.result (Cert.GatesKernelIdeal.Block.hx m c) (Cert.GatesKernelIdeal.Block.w m c)) hi).trans
      (Cert.GatesRefIdeal.Whole.result_at _ _ _ _)

end Cert.Proof
-- ==== Proof.OutputValue.lean ====
/-
  The output projection onto the gated residual, block by block.
-/
module

public import proofs.«01_k».proof.Proof.Products
public import proofs.«01_k».proof.Proof.Gen.OutputKernel.Frame
public import proofs.«01_k».proof.Proof.Gen.OutputKernelIdeal.Value
public import proofs.«01_k».proof.Proof.Gen.OutputRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.OutputKernelIdeal.Block

open Cert.OutputKernelIdeal Cert.OutputKernelIdeal.Gen Cert.OutputKernelIdeal.Value

theorem idx0 : ∀ t : Fin cfg0.N, (cfg0.win 0).index t 0 = t.val / 4 ∧ (cfg0.win 0).index t 1 = 0 := by
  decide +kernel
theorem idx1 : ∀ t : Fin cfg0.N, (cfg0.win 1).index t 0 = 0 ∧ (cfg0.win 1).index t 1 = t.val % 4 := by
  decide +kernel
theorem idx2 : ∀ t : Fin cfg0.N, (cfg0.win 2).index t 0 = t.val / 4 ∧ (cfg0.win 2).index t 1 = t.val % 4 := by
  decide +kernel
theorem idx3 : ∀ t : Fin cfg0.N, (cfg0.win 3).index t 0 = 0 ∧ (cfg0.win 3).index t 1 = t.val % 4 := by
  decide +kernel
theorem idx4 : ∀ t : Fin cfg0.N, (cfg0.win 4).index t 0 = t.val / 4 ∧ (cfg0.win 4).index t 1 = t.val % 4 := by
  decide +kernel
theorem flush4 : ∀ t : Fin cfg0.N, (cfg0.win 4).flush t = true := by decide +kernel

theorem N_lt (t : Fin cfg0.N) : t.val < 128 := lt_of_lt_of_eq t.isLt N_0

variable (m : (ℓ : Loc nD τ sig) → Buf (Elt Ideal) ℓ) (c : Dev nD)

abbrev merged : FVec Ideal S16384x4096 .f32 := m ((c : Thread nD τ).loc main_arg0)
abbrev w : FVec Ideal S4096x4096 .f32 := m ((c : Thread nD τ).loc main_arg1)
abbrev x : FVec Ideal S16384x4096 .f32 := m ((c : Thread nD τ).loc main_arg2)
abbrev gate : FVec Ideal S4096 .f32 := m ((c : Thread nD τ).loc main_arg3)

/-- One entry of the result. -/
def entry (p : Fin 16384) (q : Fin 4096) : EReal :=
  x m c (ix2 p q) + gate m c (ix1 q) * prod (merged m c) (w m c) p q

/-- The whole result. -/
def out : FVec Ideal S16384x4096 .f32 := fun i => entry m c (i 0) (i 1)

/-- The rows and the columns of point `t`'s block. -/
def row (t : Fin cfg0.N) (r : Fin 512) : Fin 16384 := ⟨512 * (t.val / 4) + r.val, by have := N_lt t; omega⟩
def column (t : Fin cfg0.N) (l : Fin 1024) : Fin 4096 := ⟨1024 * (t.val % 4) + l.val, by omega⟩

theorem left : (V m c main_v0 : FVec Ideal S16384x4096 .bf16) = merged m c := by
  refine (show _ = truncf .bf16 (merged m c) bitsLt_bf16_f32 from ?_).trans rfl
  dsimp only [V]
  after_results

theorem right : (V m c main_v1 : FVec Ideal S4096x4096 .bf16) = w m c := by
  refine (show _ = truncf .bf16 (w m c) bitsLt_bf16_f32 from ?_).trans rfl
  dsimp only [V]
  after_results

theorem gates : (V m c main_v2 : FVec Ideal S1x4096 .f32) = shapeCast S1x4096 (gate m c) shapeCasts_S4096_S1x4096 := by
  dsimp only [V]
  after_results
  rfl

theorem gates_at (g : FVec Ideal S4096 .f32) (q : Fin 4096) :
    shapeCast S1x4096 g shapeCasts_S4096_S1x4096 (ix2 0 q) = g (ix1 q) := by
  pointwise

theorem pay_at (u : Vec Ideal S512x1024 .f32) (g : Vec Ideal S1x1024 .f32) (a : Vec Ideal S512x4096 .bf16) (b : Vec Ideal S4096x1024 .bf16)
    (r : Fin 512) (l : Fin 1024) :
    k0_pay1 u g a b (ix2 r l) = (u : FVec Ideal S512x1024 .f32) (ix2 r l) + (g : FVec Ideal S1x1024 .f32) (ix2 0 l)
      * ∑ k : Fin 4096, (a : FVec Ideal S512x4096 .bf16) (ix2 r k) * (b : FVec Ideal S4096x1024 .bf16) (ix2 k l) := by
  pointwise [k0_pay1]

theorem block0 (t : Fin cfg0.N) (r : Fin 512) (k : Fin 4096) :
    (iblk m c 0 t : FVec Ideal S512x4096 .bf16) (ix2 r k) = merged m c (ix2 (row t r) k) := by
  obtain ⟨h0, h1⟩ := idx0 t
  unfold iblk
  rw [View.read_apply]
  show (V m c main_v0 : FVec Ideal S16384x4096 .bf16) _ = merged m c _
  rw [left]
  refine congrArg (merged m c) ?_
  funext a
  apply Fin.ext
  match a with
  | ⟨0, _⟩ => show (cfg0.win 0).index t 0 * 512 + 1 * r.val = 512 * (t.val / 4) + r.val; rw [h0]; omega
  | ⟨1, _⟩ => show (cfg0.win 0).index t 1 * 4096 + 1 * k.val = k.val; rw [h1]; omega

theorem block1 (t : Fin cfg0.N) (k : Fin 4096) (l : Fin 1024) :
    (iblk m c 1 t : FVec Ideal S4096x1024 .bf16) (ix2 k l) = w m c (ix2 k (column t l)) := by
  obtain ⟨h0, h1⟩ := idx1 t
  unfold iblk
  rw [View.read_apply]
  show (V m c main_v1 : FVec Ideal S4096x4096 .bf16) _ = w m c _
  rw [right]
  refine congrArg (w m c) ?_
  funext a
  apply Fin.ext
  match a with
  | ⟨0, _⟩ => show (cfg0.win 1).index t 0 * 4096 + 1 * k.val = k.val; rw [h0]; omega
  | ⟨1, _⟩ => show (cfg0.win 1).index t 1 * 1024 + 1 * l.val = 1024 * (t.val % 4) + l.val; rw [h1]; omega

theorem block2 (t : Fin cfg0.N) (r : Fin 512) (l : Fin 1024) :
    (iblk m c 2 t : FVec Ideal S512x1024 .f32) (ix2 r l) = x m c (ix2 (row t r) (column t l)) := by
  obtain ⟨h0, h1⟩ := idx2 t
  unfold iblk
  rw [View.read_apply]
  show (V m c main_arg2 : FVec Ideal S16384x4096 .f32) _ = x m c _
  rw [V_main_arg2]
  refine congrArg (x m c) ?_
  funext a
  apply Fin.ext
  match a with
  | ⟨0, _⟩ => show (cfg0.win 2).index t 0 * 512 + 1 * r.val = 512 * (t.val / 4) + r.val; rw [h0]; omega
  | ⟨1, _⟩ => show (cfg0.win 2).index t 1 * 1024 + 1 * l.val = 1024 * (t.val % 4) + l.val; rw [h1]; omega

theorem block3 (t : Fin cfg0.N) (l : Fin 1024) :
    (iblk m c 3 t : FVec Ideal S1x1024 .f32) (ix2 0 l) = gate m c (ix1 (column t l)) := by
  obtain ⟨h0, h1⟩ := idx3 t
  unfold iblk
  rw [View.read_apply]
  show (V m c main_v2 : FVec Ideal S1x4096 .f32) _ = gate m c _
  rw [gates, ← gates_at (gate m c) (column t l)]
  refine congrArg (shapeCast S1x4096 (gate m c) shapeCasts_S4096_S1x4096) ?_
  funext a
  apply Fin.ext
  match a with
  | ⟨0, _⟩ => show (cfg0.win 3).index t 0 * 1 + 1 * 0 = 0; rw [h0]
  | ⟨1, _⟩ => show (cfg0.win 3).index t 1 * 1024 + 1 * l.val = 1024 * (t.val % 4) + l.val; rw [h1]; omega

theorem whole (a : Vec Ideal S512x4096 .bf16) (b : Vec Ideal S4096x1024 .bf16) (u : Vec Ideal S512x1024 .f32) (g : Vec Ideal S1x1024 .f32) :
    out0_4 a b u g = k0_pay1 u g a b := by
  have hz : (![0, 0] : Fin 2 → ℕ) = fun _ => 0 := by decide
  unfold out0_4
  refine (View.canon_unit_zero hz _ _).trans ?_
  rw [View.ld_unit_zero hz _ a, View.ld_unit_zero hz _ b, View.ld_unit_zero hz _ u, View.ld_unit_zero hz _ g]

theorem point (t : Fin cfg0.N) (r : Fin 512) (l : Fin 1024) :
    (out0_4 (iblk m c 0 t) (iblk m c 1 t) (iblk m c 2 t) (iblk m c 3 t) : FVec Ideal S512x1024 .f32) (ix2 r l)
      = entry m c (row t r) (column t l) := by
  rw [whole]
  refine (pay_at _ _ _ _ r l).trans ?_
  rw [block2, block3]
  refine congrArg (_ + _ * ·) (Finset.sum_congr rfl fun k _ => ?_)
  rw [block0, block1]

theorem array4 : (dats m 0 c).arrAt 4 cfg0.N = out m c := by
  refine Pipeline.Dat.arrAt_eq_of_cover (dats m 0 c) 4 (out m c) (fun t _ => ?_) (fun i => ?_)
  · obtain ⟨h0, h1⟩ := idx4 t
    rw [flushed4]
    funext y
    have hy : y = (ix2 (y 0) (y 1) : S512x1024.Idx) := by
      funext a
      match a with
      | ⟨0, _⟩ => rfl
      | ⟨1, _⟩ => rfl
    rw [View.read_apply]
    refine (congrArg (out0_4 (iblk m c 0 t) (iblk m c 1 t) (iblk m c 2 t) (iblk m c 3 t) : FVec Ideal S512x1024 .f32) hy).trans
      ((point m c t (y 0) (y 1)).trans ?_)
    show _ = entry m c _ _
    refine congrArg₂ (entry m c) (Fin.ext ?_) (Fin.ext ?_)
    · show 512 * (t.val / 4) + (y 0).val = (cfg0.win 4).index t 0 * 512 + 1 * (y 0).val
      rw [h0]
      omega
    · show 1024 * (t.val % 4) + (y 1).val = (cfg0.win 4).index t 1 * 1024 + 1 * (y 1).val
      rw [h1]
      omega
  · have i0 : (i 0).val < 16384 := (i 0).isLt
    have i1 : (i 1).val < 4096 := (i 1).isLt
    let t : Fin cfg0.N := ⟨4 * ((i 0).val / 512) + (i 1).val / 1024, lt_of_lt_of_eq (by omega) N_0.symm⟩
    have ht : t.val = 4 * ((i 0).val / 512) + (i 1).val / 1024 := rfl
    obtain ⟨h0, h1⟩ := idx4 t
    refine ⟨t, flush4 t, Finset.mem_map.mpr
      ⟨(ix2 ⟨(i 0).val % 512, Nat.mod_lt _ (by norm_num)⟩ ⟨(i 1).val % 1024, Nat.mod_lt _ (by norm_num)⟩ : S512x1024.Idx), Finset.mem_univ _, ?_⟩⟩
    funext a
    apply Fin.ext
    match a with
    | ⟨0, _⟩ =>
      show (cfg0.win 4).index t 0 * 512 + 1 * ((i 0).val % 512) = (i 0).val
      rw [h0, ht]
      omega
    | ⟨1, _⟩ =>
      show (cfg0.win 4).index t 1 * 1024 + 1 * ((i 1).val % 1024) = (i 1).val
      rw [h1, ht]
      omega

end Cert.OutputKernelIdeal.Block

namespace Cert.OutputRefIdeal.Whole

open Cert.OutputRefIdeal Cert.OutputRefIdeal.Gen

def result (a : FVec Ideal S16384x4096 .f32) (w : FVec Ideal S4096x4096 .f32) (x : FVec Ideal S16384x4096 .f32) (g : FVec Ideal S4096 .f32) :
    FVec Ideal S16384x4096 .f32 :=
  addf x (mulf (broadcastInDim S16384x4096 ![0, 1] bcast_S1x4096_S16384x4096_0_1 (broadcastInDim S1x4096 ![1] bcast_S4096_S1x4096_1 g))
    (Host.dotGeneral dot_S16384x4096_S4096x4096_S16384x4096_1_0_0_1_n_n none a w))

theorem result_at (a : FVec Ideal S16384x4096 .f32) (w : FVec Ideal S4096x4096 .f32) (x : FVec Ideal S16384x4096 .f32)
    (g : FVec Ideal S4096 .f32) (p : Fin 16384) (q : Fin 4096) :
    result a w x g (ix2 p q) = x (ix2 p q) + g (ix1 q) * prod a w p q := by
  pointwise [result, prod]

end Cert.OutputRefIdeal.Whole

namespace Cert.Proof

theorem frame_output : Cert.quiescent_OutputRefIdeal (hOutputRefIdeal := Cert.OutputRefIdeal.Gen.facts) := fun m ρ _ =>
  (θ_run Cert.OutputRefIdeal.defs _ _).mono (fun r h => ⟨fun c => (h c).2,
      Idealize.ShloMosaic.sem_eq_zero_of_no_sems (by decide) r.2⟩)
    (Cert.OutputRefIdeal.Value.run (F := Ideal) m ρ)

open Cert.OutputKernelIdeal.Block Cert.OutputRefIdeal.Whole in
theorem algebraic_output : Cert.algebraic_OutputKernelIdeal_OutputRefIdeal (hOutputKernelIdeal := Cert.OutputKernelIdeal.Gen.facts)
    (hOutputRefIdeal := Cert.OutputRefIdeal.Gen.facts) := by
  intro m ρ m' ρ' _ heq
  refine ⟨out m, ?_, ?_⟩
  · refine (θ_run _ _ _).mono (fun r h c => ?_) (Cert.OutputKernelIdeal.Value.run_blocks (F := Ideal) m ρ)
    obtain ⟨h0, ha⟩ := h c
    exact ⟨h0.trans (array4 m c), ha⟩
  · refine (θ_run _ _ _).mono (fun r h c => ?_) (Cert.OutputRefIdeal.Value.run (F := Ideal) m' ρ')
    obtain ⟨h0, ha⟩ := h c
    refine ⟨h0.trans ?_, ha⟩
    obtain ⟨e0, e1, e2, e3⟩ := heq c
    rw [e0, e1, e2, e3]
    show result (merged m c) (w m c) (x m c) (gate m c) = _
    funext i
    have hi : i = (ix2 (i 0) (i 1) : Cert.OutputKernelIdeal.S16384x4096.Idx) := by
      funext a
      match a with
      | ⟨0, _⟩ => rfl
      | ⟨1, _⟩ => rfl
    exact (congrArg (result (merged m c) (w m c) (x m c) (gate m c)) hi).trans (result_at _ _ _ _ _ _)

end Cert.Proof
-- ==== Proof.MergeValue.lean ====
/-
  The three gated branch projections added up, block by block.
-/
module

public import proofs.«01_k».proof.Proof.Products
public import proofs.«01_k».proof.Proof.Gen.MergeKernel.Frame
public import proofs.«01_k».proof.Proof.Gen.MergeKernelIdeal.Value
public import proofs.«01_k».proof.Proof.Gen.MergeRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.Merge

/-- One branch's term of one entry: the sigmoid of the gate times the branch's projection by its weights. -/
def term {n : ℕ} {e : ℕ} (b : Fin 3) (y : (⟨2, ![n, 1024]⟩ : Shape).Idx → EReal) (w : (⟨3, ![3, 1024, e]⟩ : Shape).Idx → EReal)
    (g : EReal) (p : Fin n) (q : Fin e) : EReal :=
  Ideal.logistic g * ∑ k : Fin 1024, y (ix2 p k) * w (ix3 b k q)

end Cert.Merge

namespace Cert.MergeKernelIdeal.Block

open Cert.MergeKernelIdeal Cert.MergeKernelIdeal.Gen Cert.MergeKernelIdeal.Value Cert.Merge

theorem idx0 : ∀ t : Fin cfg0.N, (cfg0.win 0).index t 0 = t.val / 4 ∧ (cfg0.win 0).index t 1 = 0 := by
  decide +kernel
theorem idx1 : ∀ t : Fin cfg0.N, (cfg0.win 1).index t 0 = t.val / 4 ∧ (cfg0.win 1).index t 1 = 0 := by
  decide +kernel
theorem idx2 : ∀ t : Fin cfg0.N, (cfg0.win 2).index t 0 = t.val / 4 ∧ (cfg0.win 2).index t 1 = 0 := by
  decide +kernel
theorem idx3 : ∀ t : Fin cfg0.N,
    (cfg0.win 3).index t 0 = 0 ∧ (cfg0.win 3).index t 1 = 0 ∧ (cfg0.win 3).index t 2 = t.val % 4 := by
  decide +kernel
theorem idx4 : ∀ t : Fin cfg0.N, (cfg0.win 4).index t 0 = t.val / 4 ∧ (cfg0.win 4).index t 1 = 0 + t.val % 4 := by
  decide +kernel
theorem idx5 : ∀ t : Fin cfg0.N, (cfg0.win 5).index t 0 = t.val / 4 ∧ (cfg0.win 5).index t 1 = 4 + t.val % 4 := by
  decide +kernel
theorem idx6 : ∀ t : Fin cfg0.N, (cfg0.win 6).index t 0 = t.val / 4 ∧ (cfg0.win 6).index t 1 = 8 + t.val % 4 := by
  decide +kernel
theorem idx7 : ∀ t : Fin cfg0.N, (cfg0.win 7).index t 0 = t.val / 4 ∧ (cfg0.win 7).index t 1 = t.val % 4 := by
  decide +kernel
theorem flush7 : ∀ t : Fin cfg0.N, (cfg0.win 7).flush t = true := by decide +kernel

theorem N_lt (t : Fin cfg0.N) : t.val < 128 := lt_of_lt_of_eq t.isLt N_0

variable (m : (ℓ : Loc nD τ sig) → Buf (Elt Ideal) ℓ) (c : Dev nD)

abbrev ya : FVec Ideal S16384x1024 .f32 := m ((c : Thread nD τ).loc main_arg0)
abbrev yb : FVec Ideal S16384x1024 .f32 := m ((c : Thread nD τ).loc main_arg1)
abbrev yr : FVec Ideal S16384x1024 .f32 := m ((c : Thread nD τ).loc main_arg2)
abbrev w : FVec Ideal S3x1024x4096 .f32 := m ((c : Thread nD τ).loc main_arg3)
abbrev zg : FVec Ideal S16384x12288 .f32 := m ((c : Thread nD τ).loc main_arg4)

/-- The gate of branch `b` at one entry: the branches' gates stand side by side. -/
def gate (b : Fin 3) (p : Fin 16384) (q : Fin 4096) : EReal := zg m c (ix2 p ⟨4096 * b.val + q.val, by omega⟩)

/-- One entry of the result. -/
def entry (p : Fin 16384) (q : Fin 4096) : EReal :=
  term 0 (ya m c) (w m c) (gate m c 0 p q) p q + term 1 (yb m c) (w m c) (gate m c 1 p q) p q
    + term 2 (yr m c) (w m c) (gate m c 2 p q) p q

/-- The whole result. -/
def out : FVec Ideal S16384x4096 .bf16 := fun i => entry m c (i 0) (i 1)

/-- The rows and the columns of point `t`'s block. -/
def row (t : Fin cfg0.N) (r : Fin 512) : Fin 16384 := ⟨512 * (t.val / 4) + r.val, by have := N_lt t; omega⟩
def column (t : Fin cfg0.N) (l : Fin 1024) : Fin 4096 := ⟨1024 * (t.val % 4) + l.val, by omega⟩

theorem weights : (V m c main_v0 : FVec Ideal S3x1024x4096 .bf16) = w m c := by
  refine (show _ = truncf .bf16 (w m c) bitsLt_bf16_f32 from ?_).trans rfl
  dsimp only [V]
  after_results

theorem pay_at (g0 a0 : Vec Ideal S512x1024 .f32) (w0 : Vec Ideal S1x1024x1024 .bf16) (g1 a1 : Vec Ideal S512x1024 .f32)
    (w1 : Vec Ideal S1x1024x1024 .bf16) (g2 a2 : Vec Ideal S512x1024 .f32) (w2 : Vec Ideal S1x1024x1024 .bf16)
    (r : Fin 512) (l : Fin 1024) :
    k0_pay1 g0 a0 w0 g1 a1 w1 g2 a2 w2 (ix2 r l)
      = Ideal.logistic ((g0 : FVec Ideal S512x1024 .f32) (ix2 r l))
          * ∑ k : Fin 1024, (a0 : FVec Ideal S512x1024 .f32) (ix2 r k) * (w0 : FVec Ideal S1x1024x1024 .bf16) (ix3 0 k l)
        + Ideal.logistic ((g1 : FVec Ideal S512x1024 .f32) (ix2 r l))
          * ∑ k : Fin 1024, (a1 : FVec Ideal S512x1024 .f32) (ix2 r k) * (w1 : FVec Ideal S1x1024x1024 .bf16) (ix3 0 k l)
        + Ideal.logistic ((g2 : FVec Ideal S512x1024 .f32) (ix2 r l))
          * ∑ k : Fin 1024, (a2 : FVec Ideal S512x1024 .f32) (ix2 r k) * (w2 : FVec Ideal S1x1024x1024 .bf16) (ix3 0 k l) := by
  pointwise [k0_pay1]

theorem block0 (t : Fin cfg0.N) (r : Fin 512) (k : Fin 1024) :
    (iblk m c 0 t : FVec Ideal S512x1024 .f32) (ix2 r k) = ya m c (ix2 (row t r) k) := by
  obtain ⟨h0, h1⟩ := idx0 t
  unfold iblk
  rw [View.read_apply]
  show (V m c main_arg0 : FVec Ideal S16384x1024 .f32) _ = ya m c _
  rw [V_main_arg0]
  refine congrArg (ya m c) ?_
  funext a
  apply Fin.ext
  match a with
  | ⟨0, _⟩ => show (cfg0.win 0).index t 0 * 512 + 1 * r.val = 512 * (t.val / 4) + r.val; rw [h0]; omega
  | ⟨1, _⟩ => show (cfg0.win 0).index t 1 * 1024 + 1 * k.val = k.val; rw [h1]; omega

theorem block1 (t : Fin cfg0.N) (r : Fin 512) (k : Fin 1024) :
    (iblk m c 1 t : FVec Ideal S512x1024 .f32) (ix2 r k) = yb m c (ix2 (row t r) k) := by
  obtain ⟨h0, h1⟩ := idx1 t
  unfold iblk
  rw [View.read_apply]
  show (V m c main_arg1 : FVec Ideal S16384x1024 .f32) _ = yb m c _
  rw [V_main_arg1]
  refine congrArg (yb m c) ?_
  funext a
  apply Fin.ext
  match a with
  | ⟨0, _⟩ => show (cfg0.win 1).index t 0 * 512 + 1 * r.val = 512 * (t.val / 4) + r.val; rw [h0]; omega
  | ⟨1, _⟩ => show (cfg0.win 1).index t 1 * 1024 + 1 * k.val = k.val; rw [h1]; omega

theorem block2 (t : Fin cfg0.N) (r : Fin 512) (k : Fin 1024) :
    (iblk m c 2 t : FVec Ideal S512x1024 .f32) (ix2 r k) = yr m c (ix2 (row t r) k) := by
  obtain ⟨h0, h1⟩ := idx2 t
  unfold iblk
  rw [View.read_apply]
  show (V m c main_arg2 : FVec Ideal S16384x1024 .f32) _ = yr m c _
  rw [V_main_arg2]
  refine congrArg (yr m c) ?_
  funext a
  apply Fin.ext
  match a with
  | ⟨0, _⟩ => show (cfg0.win 2).index t 0 * 512 + 1 * r.val = 512 * (t.val / 4) + r.val; rw [h0]; omega
  | ⟨1, _⟩ => show (cfg0.win 2).index t 1 * 1024 + 1 * k.val = k.val; rw [h1]; omega

theorem block3 (t : Fin cfg0.N) (b : Fin 3) (k l : Fin 1024) :
    (iblk m c 3 t : FVec Ideal S3x1024x1024 .bf16) (ix3 b k l) = w m c (ix3 b k (column t l)) := by
  obtain ⟨h0, h1, h2⟩ := idx3 t
  unfold iblk
  rw [View.read_apply]
  show (V m c main_v0 : FVec Ideal S3x1024x4096 .bf16) _ = w m c _
  rw [weights]
  refine congrArg (w m c) ?_
  funext a
  apply Fin.ext
  match a with
  | ⟨0, _⟩ => show (cfg0.win 3).index t 0 * 3 + 1 * b.val = b.val; rw [h0]; omega
  | ⟨1, _⟩ => show (cfg0.win 3).index t 1 * 1024 + 1 * k.val = k.val; rw [h1]; omega
  | ⟨2, _⟩ => show (cfg0.win 3).index t 2 * 1024 + 1 * l.val = 1024 * (t.val % 4) + l.val; rw [h2]; omega

theorem block4 (t : Fin cfg0.N) (r : Fin 512) (l : Fin 1024) :
    (iblk m c 4 t : FVec Ideal S512x1024 .f32) (ix2 r l) = gate m c 0 (row t r) (column t l) := by
  obtain ⟨h0, h1⟩ := idx4 t
  unfold iblk
  rw [View.read_apply]
  show (V m c main_arg4 : FVec Ideal S16384x12288 .f32) _ = zg m c _
  rw [V_main_arg4]
  refine congrArg (zg m c) ?_
  funext a
  apply Fin.ext
  match a with
  | ⟨0, _⟩ => show (cfg0.win 4).index t 0 * 512 + 1 * r.val = 512 * (t.val / 4) + r.val; rw [h0]; omega
  | ⟨1, _⟩ =>
    show (cfg0.win 4).index t 1 * 1024 + 1 * l.val = 4096 * 0 + (1024 * (t.val % 4) + l.val)
    rw [h1]
    omega

theorem block5 (t : Fin cfg0.N) (r : Fin 512) (l : Fin 1024) :
    (iblk m c 5 t : FVec Ideal S512x1024 .f32) (ix2 r l) = gate m c 1 (row t r) (column t l) := by
  obtain ⟨h0, h1⟩ := idx5 t
  unfold iblk
  rw [View.read_apply]
  show (V m c main_arg4 : FVec Ideal S16384x12288 .f32) _ = zg m c _
  rw [V_main_arg4]
  refine congrArg (zg m c) ?_
  funext a
  apply Fin.ext
  match a with
  | ⟨0, _⟩ => show (cfg0.win 5).index t 0 * 512 + 1 * r.val = 512 * (t.val / 4) + r.val; rw [h0]; omega
  | ⟨1, _⟩ =>
    show (cfg0.win 5).index t 1 * 1024 + 1 * l.val = 4096 * 1 + (1024 * (t.val % 4) + l.val)
    rw [h1]
    omega

theorem block6 (t : Fin cfg0.N) (r : Fin 512) (l : Fin 1024) :
    (iblk m c 6 t : FVec Ideal S512x1024 .f32) (ix2 r l) = gate m c 2 (row t r) (column t l) := by
  obtain ⟨h0, h1⟩ := idx6 t
  unfold iblk
  rw [View.read_apply]
  show (V m c main_arg4 : FVec Ideal S16384x12288 .f32) _ = zg m c _
  rw [V_main_arg4]
  refine congrArg (zg m c) ?_
  funext a
  apply Fin.ext
  match a with
  | ⟨0, _⟩ => show (cfg0.win 6).index t 0 * 512 + 1 * r.val = 512 * (t.val / 4) + r.val; rw [h0]; omega
  | ⟨1, _⟩ =>
    show (cfg0.win 6).index t 1 * 1024 + 1 * l.val = 4096 * 2 + (1024 * (t.val % 4) + l.val)
    rw [h1]
    omega

theorem slab0 (x : Vec Ideal S3x1024x1024 .bf16) (k l : Fin 1024) :
    (View.ld x r0_1 : FVec Ideal S1x1024x1024 .bf16) (ix3 0 k l) = (x : FVec Ideal S3x1024x1024 .bf16) (ix3 0 k l) := by
  refine congrArg (x : FVec Ideal S3x1024x1024 .bf16) ?_
  funext a
  apply Fin.ext
  match a with
  | ⟨0, _⟩ => show 0 + 1 * 0 = 0; omega
  | ⟨1, _⟩ => show 0 + 1 * k.val = k.val; omega
  | ⟨2, _⟩ => show 0 + 1 * l.val = l.val; omega

theorem slab1 (x : Vec Ideal S3x1024x1024 .bf16) (k l : Fin 1024) :
    (View.ld x r0_2 : FVec Ideal S1x1024x1024 .bf16) (ix3 0 k l) = (x : FVec Ideal S3x1024x1024 .bf16) (ix3 1 k l) := by
  refine congrArg (x : FVec Ideal S3x1024x1024 .bf16) ?_
  funext a
  apply Fin.ext
  match a with
  | ⟨0, _⟩ => show 1 + 1 * 0 = 1; omega
  | ⟨1, _⟩ => show 0 + 1 * k.val = k.val; omega
  | ⟨2, _⟩ => show 0 + 1 * l.val = l.val; omega

theorem slab2 (x : Vec Ideal S3x1024x1024 .bf16) (k l : Fin 1024) :
    (View.ld x r0_3 : FVec Ideal S1x1024x1024 .bf16) (ix3 0 k l) = (x : FVec Ideal S3x1024x1024 .bf16) (ix3 2 k l) := by
  refine congrArg (x : FVec Ideal S3x1024x1024 .bf16) ?_
  funext a
  apply Fin.ext
  match a with
  | ⟨0, _⟩ => show 2 + 1 * 0 = 2; omega
  | ⟨1, _⟩ => show 0 + 1 * k.val = k.val; omega
  | ⟨2, _⟩ => show 0 + 1 * l.val = l.val; omega

theorem whole (x0 x1 x2 : Vec Ideal S512x1024 .f32) (x3 : Vec Ideal S3x1024x1024 .bf16) (x4 x5 x6 : Vec Ideal S512x1024 .f32) :
    out0_7 x0 x1 x2 x3 x4 x5 x6 = k0_pay1 x4 x0 (View.ld x3 r0_1) x5 x1 (View.ld x3 r0_2) x6 x2 (View.ld x3 r0_3) := by
  have hz : (![0, 0] : Fin 2 → ℕ) = fun _ => 0 := by decide
  unfold out0_7
  refine (View.canon_unit_zero hz _ _).trans ?_
  rw [View.ld_unit_zero hz _ x0, View.ld_unit_zero hz _ x1, View.ld_unit_zero hz _ x2,
    View.ld_unit_zero hz _ x4, View.ld_unit_zero hz _ x5, View.ld_unit_zero hz _ x6]

theorem point (t : Fin cfg0.N) (r : Fin 512) (l : Fin 1024) :
    (out0_7 (iblk m c 0 t) (iblk m c 1 t) (iblk m c 2 t) (iblk m c 3 t) (iblk m c 4 t) (iblk m c 5 t) (iblk m c 6 t)
        : FVec Ideal S512x1024 .bf16) (ix2 r l)
      = entry m c (row t r) (column t l) := by
  rw [whole]
  refine (pay_at _ _ _ _ _ _ _ _ _ r l).trans ?_
  rw [block4, block5, block6]
  refine congrArg₂ (· + ·) (congrArg₂ (· + ·)
    (congrArg (_ * ·) (Finset.sum_congr rfl fun k _ => ?_)) (congrArg (_ * ·) (Finset.sum_congr rfl fun k _ => ?_)))
    (congrArg (_ * ·) (Finset.sum_congr rfl fun k _ => ?_))
  · rw [block0, slab0, block3]
  · rw [block1, slab1, block3]
  · rw [block2, slab2, block3]

theorem array7 : (dats m 0 c).arrAt 7 cfg0.N = out m c := by
  refine Pipeline.Dat.arrAt_eq_of_cover (dats m 0 c) 7 (out m c) (fun t _ => ?_) (fun i => ?_)
  · obtain ⟨h0, h1⟩ := idx7 t
    rw [flushed7]
    funext y
    have hy : y = (ix2 (y 0) (y 1) : S512x1024.Idx) := by
      funext a
      match a with
      | ⟨0, _⟩ => rfl
      | ⟨1, _⟩ => rfl
    rw [View.read_apply]
    refine (congrArg (out0_7 (iblk m c 0 t) (iblk m c 1 t) (iblk m c 2 t) (iblk m c 3 t) (iblk m c 4 t) (iblk m c 5 t) (iblk m c 6 t)
      : FVec Ideal S512x1024 .bf16) hy).trans ((point m c t (y 0) (y 1)).trans ?_)
    show _ = entry m c _ _
    refine congrArg₂ (entry m c) (Fin.ext ?_) (Fin.ext ?_)
    · show 512 * (t.val / 4) + (y 0).val = (cfg0.win 7).index t 0 * 512 + 1 * (y 0).val
      rw [h0]
      omega
    · show 1024 * (t.val % 4) + (y 1).val = (cfg0.win 7).index t 1 * 1024 + 1 * (y 1).val
      rw [h1]
      omega
  · have i0 : (i 0).val < 16384 := (i 0).isLt
    have i1 : (i 1).val < 4096 := (i 1).isLt
    let t : Fin cfg0.N := ⟨4 * ((i 0).val / 512) + (i 1).val / 1024, lt_of_lt_of_eq (by omega) N_0.symm⟩
    have ht : t.val = 4 * ((i 0).val / 512) + (i 1).val / 1024 := rfl
    obtain ⟨h0, h1⟩ := idx7 t
    refine ⟨t, flush7 t, Finset.mem_map.mpr
      ⟨(ix2 ⟨(i 0).val % 512, Nat.mod_lt _ (by norm_num)⟩ ⟨(i 1).val % 1024, Nat.mod_lt _ (by norm_num)⟩ : S512x1024.Idx), Finset.mem_univ _, ?_⟩⟩
    funext a
    apply Fin.ext
    match a with
    | ⟨0, _⟩ =>
      show (cfg0.win 7).index t 0 * 512 + 1 * ((i 0).val % 512) = (i 0).val
      rw [h0, ht]
      omega
    | ⟨1, _⟩ =>
      show (cfg0.win 7).index t 1 * 1024 + 1 * ((i 1).val % 1024) = (i 1).val
      rw [h1, ht]
      omega

end Cert.MergeKernelIdeal.Block

namespace Cert.MergeRefIdeal.Whole

open Cert.MergeRefIdeal Cert.MergeRefIdeal.Gen Cert.Merge

/-- The number one in every entry, as the reference's sigmoid writes it. -/
def ones : FVec Ideal S16384x4096 .f32 := broadcastInDim S16384x4096 ![] bcast_S_S16384x4096 (constant S_ .f32 0x3F800000#32)

/-- The sigmoid of the reference. -/
def sigmoid (g : FVec Ideal S16384x4096 .f32) : FVec Ideal S16384x4096 .f32 :=
  Host.divf ones (addf ones (Host.exp (Host.negf g)))

/-- One branch's projection by its own weights. -/
def projected (y : FVec Ideal S16384x1024 .f32) (w : FVec Ideal S1x1024x4096 .f32) : FVec Ideal S16384x4096 .f32 :=
  Host.dotGeneral dot_S16384x1024_S1024x4096_S16384x4096_1_0_0_1_n_n none y (shapeCast S1024x4096 w shapeCasts_S1x1024x4096_S1024x4096)

/-- The gates of branch 0, 1 and 2, and their weights. -/
def gate0 (z : FVec Ideal S16384x12288 .f32) : FVec Ideal S16384x4096 .f32 :=
  extractStridedSlice S16384x4096 ![0, 0] z slices_S16384x12288_S16384x4096_0_0
def weights0 (w : FVec Ideal S3x1024x4096 .f32) : FVec Ideal S1x1024x4096 .f32 :=
  extractStridedSlice S1x1024x4096 ![0, 0, 0] w slices_S3x1024x4096_S1x1024x4096_0_0_0
def gate1 (z : FVec Ideal S16384x12288 .f32) : FVec Ideal S16384x4096 .f32 :=
  extractStridedSlice S16384x4096 ![0, 4096] z slices_S16384x12288_S16384x4096_0_4096
def weights1 (w : FVec Ideal S3x1024x4096 .f32) : FVec Ideal S1x1024x4096 .f32 :=
  extractStridedSlice S1x1024x4096 ![1, 0, 0] w slices_S3x1024x4096_S1x1024x4096_1_0_0
def gate2 (z : FVec Ideal S16384x12288 .f32) : FVec Ideal S16384x4096 .f32 :=
  extractStridedSlice S16384x4096 ![0, 8192] z slices_S16384x12288_S16384x4096_0_8192
def weights2 (w : FVec Ideal S3x1024x4096 .f32) : FVec Ideal S1x1024x4096 .f32 :=
  extractStridedSlice S1x1024x4096 ![2, 0, 0] w slices_S3x1024x4096_S1x1024x4096_2_0_0

def result (y0 y1 y2 : FVec Ideal S16384x1024 .f32) (w : FVec Ideal S3x1024x4096 .f32) (z : FVec Ideal S16384x12288 .f32) :
    FVec Ideal S16384x4096 .bf16 :=
  truncf .bf16
    (addf (addf (addf (broadcastInDim S16384x4096 ![] bcast_S_S16384x4096 (constant S_ .f32 0x00000000#32))
        (mulf (sigmoid (gate0 z)) (projected y0 (weights0 w))))
      (mulf (sigmoid (gate1 z)) (projected y1 (weights1 w))))
      (mulf (sigmoid (gate2 z)) (projected y2 (weights2 w)))) bitsLt_bf16_f32

theorem sigmoid_at (g : FVec Ideal S16384x4096 .f32) (p : Fin 16384) (q : Fin 4096) :
    sigmoid g (ix2 p q) = Ideal.logistic (g (ix2 p q)) := by
  rw [Ideal.logistic]
  pointwise [sigmoid, ones]

theorem projected_at (y : FVec Ideal S16384x1024 .f32) (w : FVec Ideal S1x1024x4096 .f32) (p : Fin 16384) (q : Fin 4096) :
    projected y w (ix2 p q) = ∑ k : Fin 1024, y (ix2 p k) * w (ix3 0 k q) := by
  pointwise [projected]

theorem gate0_at (z : FVec Ideal S16384x12288 .f32) (p : Fin 16384) (q : Fin 4096) :
    gate0 z (ix2 p q) = z (ix2 p ⟨4096 * ((0 : Fin 3) : ℕ) + q.val, by have := q.isLt; show 4096 * 0 + q.val < 12288; omega⟩) := by
  refine extractStridedSlice_apply _ _ _ _ _ fun a => ?_
  match a with
  | ⟨0, _⟩ => exact (Nat.zero_add p.val).symm
  | ⟨1, _⟩ => rfl

theorem weights0_at (w : FVec Ideal S3x1024x4096 .f32) (k : Fin 1024) (q : Fin 4096) : weights0 w (ix3 0 k q) = w (ix3 0 k q) := by
  refine extractStridedSlice_apply _ _ _ _ _ fun a => ?_
  match a with
  | ⟨0, _⟩ => rfl
  | ⟨1, _⟩ => exact (Nat.zero_add k.val).symm
  | ⟨2, _⟩ => exact (Nat.zero_add q.val).symm

theorem term0_at (y : FVec Ideal S16384x1024 .f32) (w : FVec Ideal S3x1024x4096 .f32) (z : FVec Ideal S16384x12288 .f32)
    (p : Fin 16384) (q : Fin 4096) :
    sigmoid (gate0 z) (ix2 p q) * projected y (weights0 w) (ix2 p q)
      = term 0 y w (z (ix2 p ⟨4096 * ((0 : Fin 3) : ℕ) + q.val, by have := q.isLt; show 4096 * 0 + q.val < 12288; omega⟩)) p q := by
  rw [sigmoid_at, projected_at, gate0_at, term]
  exact congrArg (_ * ·) (Finset.sum_congr rfl fun k _ => congrArg (_ * ·) (weights0_at w k q))

theorem gate1_at (z : FVec Ideal S16384x12288 .f32) (p : Fin 16384) (q : Fin 4096) :
    gate1 z (ix2 p q) = z (ix2 p ⟨4096 * ((1 : Fin 3) : ℕ) + q.val, by have := q.isLt; show 4096 * 1 + q.val < 12288; omega⟩) := by
  refine extractStridedSlice_apply _ _ _ _ _ fun a => ?_
  match a with
  | ⟨0, _⟩ => exact (Nat.zero_add p.val).symm
  | ⟨1, _⟩ => rfl

theorem weights1_at (w : FVec Ideal S3x1024x4096 .f32) (k : Fin 1024) (q : Fin 4096) : weights1 w (ix3 0 k q) = w (ix3 1 k q) := by
  refine extractStridedSlice_apply _ _ _ _ _ fun a => ?_
  match a with
  | ⟨0, _⟩ => rfl
  | ⟨1, _⟩ => exact (Nat.zero_add k.val).symm
  | ⟨2, _⟩ => exact (Nat.zero_add q.val).symm

theorem term1_at (y : FVec Ideal S16384x1024 .f32) (w : FVec Ideal S3x1024x4096 .f32) (z : FVec Ideal S16384x12288 .f32)
    (p : Fin 16384) (q : Fin 4096) :
    sigmoid (gate1 z) (ix2 p q) * projected y (weights1 w) (ix2 p q)
      = term 1 y w (z (ix2 p ⟨4096 * ((1 : Fin 3) : ℕ) + q.val, by have := q.isLt; show 4096 * 1 + q.val < 12288; omega⟩)) p q := by
  rw [sigmoid_at, projected_at, gate1_at, term]
  exact congrArg (_ * ·) (Finset.sum_congr rfl fun k _ => congrArg (_ * ·) (weights1_at w k q))

theorem gate2_at (z : FVec Ideal S16384x12288 .f32) (p : Fin 16384) (q : Fin 4096) :
    gate2 z (ix2 p q) = z (ix2 p ⟨4096 * ((2 : Fin 3) : ℕ) + q.val, by have := q.isLt; show 4096 * 2 + q.val < 12288; omega⟩) := by
  refine extractStridedSlice_apply _ _ _ _ _ fun a => ?_
  match a with
  | ⟨0, _⟩ => exact (Nat.zero_add p.val).symm
  | ⟨1, _⟩ => rfl

theorem weights2_at (w : FVec Ideal S3x1024x4096 .f32) (k : Fin 1024) (q : Fin 4096) : weights2 w (ix3 0 k q) = w (ix3 2 k q) := by
  refine extractStridedSlice_apply _ _ _ _ _ fun a => ?_
  match a with
  | ⟨0, _⟩ => rfl
  | ⟨1, _⟩ => exact (Nat.zero_add k.val).symm
  | ⟨2, _⟩ => exact (Nat.zero_add q.val).symm

theorem term2_at (y : FVec Ideal S16384x1024 .f32) (w : FVec Ideal S3x1024x4096 .f32) (z : FVec Ideal S16384x12288 .f32)
    (p : Fin 16384) (q : Fin 4096) :
    sigmoid (gate2 z) (ix2 p q) * projected y (weights2 w) (ix2 p q)
      = term 2 y w (z (ix2 p ⟨4096 * ((2 : Fin 3) : ℕ) + q.val, by have := q.isLt; show 4096 * 2 + q.val < 12288; omega⟩)) p q := by
  rw [sigmoid_at, projected_at, gate2_at, term]
  exact congrArg (_ * ·) (Finset.sum_congr rfl fun k _ => congrArg (_ * ·) (weights2_at w k q))

theorem zero_at (p : Fin 16384) (q : Fin 4096) :
    (broadcastInDim S16384x4096 ![] bcast_S_S16384x4096 (constant S_ .f32 0x00000000#32) : FVec Ideal S16384x4096 .f32) (ix2 p q) = 0 := by
  pointwise

theorem result_at (y0 y1 y2 : FVec Ideal S16384x1024 .f32) (w : FVec Ideal S3x1024x4096 .f32) (z : FVec Ideal S16384x12288 .f32)
    (p : Fin 16384) (q : Fin 4096) :
    result y0 y1 y2 w z (ix2 p q)
      = sigmoid (gate0 z) (ix2 p q) * projected y0 (weights0 w) (ix2 p q)
        + sigmoid (gate1 z) (ix2 p q) * projected y1 (weights1 w) (ix2 p q)
        + sigmoid (gate2 z) (ix2 p q) * projected y2 (weights2 w) (ix2 p q) := by
  show (broadcastInDim S16384x4096 ![] bcast_S_S16384x4096 (constant S_ .f32 0x00000000#32) : FVec Ideal S16384x4096 .f32) (ix2 p q)
      + _ + _ + _ = _
  rw [zero_at, zero_add]
  rfl

end Cert.MergeRefIdeal.Whole

namespace Cert.Proof

theorem frame_merge : Cert.quiescent_MergeRefIdeal (hMergeRefIdeal := Cert.MergeRefIdeal.Gen.facts) := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

open Cert.MergeKernelIdeal.Block Cert.MergeRefIdeal.Whole in
theorem algebraic_merge : Cert.algebraic_MergeKernelIdeal_MergeRefIdeal (hMergeKernelIdeal := Cert.MergeKernelIdeal.Gen.facts)
    (hMergeRefIdeal := Cert.MergeRefIdeal.Gen.facts) := by
  intro m ρ m' ρ' _ heq
  refine ⟨out m, ?_, ?_⟩
  · refine (θ_run _ _ _).mono (fun r h c => ?_) (Cert.MergeKernelIdeal.Value.run_blocks (F := Ideal) m ρ)
    obtain ⟨h0, ha⟩ := h c
    exact ⟨h0.trans (array7 m c), ha⟩
  · refine (θ_run _ _ _).mono (fun r h c => ?_) (Cert.MergeRefIdeal.Value.run (F := Ideal) m' ρ')
    obtain ⟨h0, ha⟩ := h c
    refine ⟨h0.trans ?_, ha⟩
    obtain ⟨e0, e1, e2, e3, e4⟩ := heq c
    rw [e0, e1, e2, e3, e4]
    show result (ya m c) (yb m c) (yr m c) (w m c) (zg m c) = _
    funext i
    have hi : i = (ix2 (i 0) (i 1) : Cert.MergeKernelIdeal.S16384x4096.Idx) := by
      funext a
      match a with
      | ⟨0, _⟩ => rfl
      | ⟨1, _⟩ => rfl
    refine (congrArg (result (ya m c) (yb m c) (yr m c) (w m c) (zg m c)) hi).trans ((result_at _ _ _ _ _ _ _).trans ?_)
    exact congrArg₂ (· + ·) (congrArg₂ (· + ·) (term0_at _ _ _ _ _) (term1_at _ _ _ _ _)) (term2_at _ _ _ _ _)

end Cert.Proof
-- ==== Proof.ColumnsValue.lean ====
/-
  The projection that stores its rows column by column of the token grid, block by block.
-/
module

public import proofs.«01_k».proof.Proof.Products
public import proofs.«01_k».proof.Proof.Gen.ColumnsKernel.Frame
public import proofs.«01_k».proof.Proof.Gen.ColumnsKernelIdeal.Value
public import proofs.«01_k».proof.Proof.Gen.ColumnsRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.ColumnsKernelIdeal.Block

open Cert.ColumnsKernelIdeal Cert.ColumnsKernelIdeal.Gen Cert.ColumnsKernelIdeal.Value

theorem idx0 : ∀ t : Fin cfg0.N, (cfg0.win 0).index t 0 = t.val / 4 ∧ (cfg0.win 0).index t 1 = 0 := by
  decide +kernel
theorem idx1 : ∀ t : Fin cfg0.N, (cfg0.win 1).index t 0 = 0 ∧ (cfg0.win 1).index t 1 = t.val % 4 := by
  decide +kernel
theorem idx2 : ∀ t : Fin cfg0.N,
    (cfg0.win 2).index t 0 = 0 ∧ (cfg0.win 2).index t 1 = t.val / 4 ∧ (cfg0.win 2).index t 2 = t.val % 4 := by
  decide +kernel
theorem flush2 : ∀ t : Fin cfg0.N, (cfg0.win 2).flush t = true := by decide +kernel

theorem N_lt (t : Fin cfg0.N) : t.val < 128 := lt_of_lt_of_eq t.isLt N_0

variable (m : (ℓ : Loc nD τ sig) → Buf (Elt Ideal) ℓ) (c : Dev nD)

abbrev hx : FVec Ideal S16384x4096 .f32 := m ((c : Thread nD τ).loc main_arg0)
abbrev w : FVec Ideal S4096x3584 .f32 := m ((c : Thread nD τ).loc main_arg1)

/-- The token in column `a` and row `b` of the grid of tokens, 64 columns to a row. -/
def token (a : Fin 64) (b : Fin 256) : Fin 16384 := ⟨64 * b.val + a.val, by omega⟩

/-- The whole result: the projection of the token in column `a` and row `b`. -/
def out : FVec Ideal S64x256x3584 .f32 := fun i => prod (hx m c) (w m c) (token (i 0) (i 1)) (i 2)

/-- The rows and the columns of point `t`'s block. -/
def row (t : Fin cfg0.N) (r : Fin 512) : Fin 16384 := ⟨512 * (t.val / 4) + r.val, by have := N_lt t; omega⟩
def column (t : Fin cfg0.N) (l : Fin 896) : Fin 3584 := ⟨896 * (t.val % 4) + l.val, by omega⟩

theorem left : (V m c main_v0 : FVec Ideal S16384x4096 .bf16) = hx m c := by
  refine (show _ = truncf .bf16 (hx m c) bitsLt_bf16_f32 from ?_).trans rfl
  dsimp only [V]
  after_results

theorem right : (V m c main_v1 : FVec Ideal S4096x3584 .bf16) = w m c := by
  refine (show _ = truncf .bf16 (w m c) bitsLt_bf16_f32 from ?_).trans rfl
  dsimp only [V]
  after_results

theorem pay_at (a : Vec Ideal S512x4096 .bf16) (b : Vec Ideal S4096x896 .bf16) (r : Fin 512) (l : Fin 896) :
    k0_pay3 a b (ix2 r l)
      = ∑ k : Fin 4096, (a : FVec Ideal S512x4096 .bf16) (ix2 r k) * (b : FVec Ideal S4096x896 .bf16) (ix2 k l) := by
  pointwise [k0_pay3]

theorem block0 (t : Fin cfg0.N) (r : Fin 512) (k : Fin 4096) :
    (iblk m c 0 t : FVec Ideal S512x4096 .bf16) (ix2 r k) = hx m c (ix2 (row t r) k) := by
  obtain ⟨h0, h1⟩ := idx0 t
  unfold iblk
  rw [View.read_apply]
  show (V m c main_v0 : FVec Ideal S16384x4096 .bf16) _ = hx m c _
  rw [left]
  refine congrArg (hx m c) ?_
  funext a
  apply Fin.ext
  match a with
  | ⟨0, _⟩ => show (cfg0.win 0).index t 0 * 512 + 1 * r.val = 512 * (t.val / 4) + r.val; rw [h0]; omega
  | ⟨1, _⟩ => show (cfg0.win 0).index t 1 * 4096 + 1 * k.val = k.val; rw [h1]; omega

theorem block1 (t : Fin cfg0.N) (k : Fin 4096) (l : Fin 896) :
    (iblk m c 1 t : FVec Ideal S4096x896 .bf16) (ix2 k l) = w m c (ix2 k (column t l)) := by
  obtain ⟨h0, h1⟩ := idx1 t
  unfold iblk
  rw [View.read_apply]
  show (V m c main_v1 : FVec Ideal S4096x3584 .bf16) _ = w m c _
  rw [right]
  refine congrArg (w m c) ?_
  funext a
  apply Fin.ext
  match a with
  | ⟨0, _⟩ => show (cfg0.win 1).index t 0 * 4096 + 1 * k.val = k.val; rw [h0]; omega
  | ⟨1, _⟩ => show (cfg0.win 1).index t 1 * 896 + 1 * l.val = 896 * (t.val % 4) + l.val; rw [h1]; omega

/-- The eight stored pieces are the product's rows, 64 of them to a piece. -/
theorem whole (a : Vec Ideal S512x4096 .bf16) (b : Vec Ideal S4096x896 .bf16) (y : S64x8x896.Idx) :
    out0_2 a b y = k0_pay3 a b (ix2_0 y) := by
  have hz : (![0, 0] : Fin 2 → ℕ) = fun _ => 0 := by decide
  unfold out0_2 k0_pay10
  rw [View.ld_unit_zero hz _ a, View.ld_unit_zero hz _ b]
  exact canon2_eq a b y

theorem point (t : Fin cfg0.N) (y : S64x8x896.Idx) :
    out0_2 (iblk m c 0 t) (iblk m c 1 t) y
      = prod (hx m c) (w m c) (row t ⟨(y 1).val * 64 + (y 0).val, by
          have h0 : (y 0).val < 64 := (y 0).isLt
          have h1 : (y 1).val < 8 := (y 1).isLt
          omega⟩) (column t (y 2)) := by
  rw [whole]
  have hy : ix2_0 y = (ix2 ⟨(y 1).val * 64 + (y 0).val, by
      have h0 : (y 0).val < 64 := (y 0).isLt
      have h1 : (y 1).val < 8 := (y 1).isLt
      omega⟩ (y 2) : S512x896.Idx) := by
    funext a
    match a with
    | ⟨0, _⟩ => rfl
    | ⟨1, _⟩ => rfl
  refine (congrArg (k0_pay3 (iblk m c 0 t) (iblk m c 1 t)) hy).trans ((pay_at _ _ _ _).trans ?_)
  refine Finset.sum_congr rfl fun k _ => ?_
  exact congrArg₂ (· * ·) (block0 m c t _ k) (block1 m c t k (y 2))

theorem array2 : (dats m 0 c).arrAt 2 cfg0.N = out m c := by
  refine Pipeline.Dat.arrAt_eq_of_cover (dats m 0 c) 2 (out m c) (fun t _ => ?_) (fun i => ?_)
  · obtain ⟨h0, h1, h2⟩ := idx2 t
    rw [flushed2]
    funext y
    rw [View.read_apply]
    refine (point m c t y).trans ?_
    show _ = prod (hx m c) (w m c) _ _
    refine congrArg₂ (prod (hx m c) (w m c)) (Fin.ext ?_) (Fin.ext ?_)
    · show 512 * (t.val / 4) + ((y 1).val * 64 + (y 0).val)
        = 64 * ((cfg0.win 2).index t 1 * 8 + 1 * (y 1).val) + ((cfg0.win 2).index t 0 * 64 + 1 * (y 0).val)
      rw [h0, h1]
      omega
    · show 896 * (t.val % 4) + (y 2).val = (cfg0.win 2).index t 2 * 896 + 1 * (y 2).val
      rw [h2]
      omega
  · have i0 : (i 0).val < 64 := (i 0).isLt
    have i1 : (i 1).val < 256 := (i 1).isLt
    have i2 : (i 2).val < 3584 := (i 2).isLt
    let t : Fin cfg0.N := ⟨4 * ((i 1).val / 8) + (i 2).val / 896, lt_of_lt_of_eq (by omega) N_0.symm⟩
    have ht : t.val = 4 * ((i 1).val / 8) + (i 2).val / 896 := rfl
    obtain ⟨h0, h1, h2⟩ := idx2 t
    refine ⟨t, flush2 t, Finset.mem_map.mpr
      ⟨(ix3 (i 0) ⟨(i 1).val % 8, Nat.mod_lt _ (by norm_num)⟩ ⟨(i 2).val % 896, Nat.mod_lt _ (by norm_num)⟩ : S64x8x896.Idx),
        Finset.mem_univ _, ?_⟩⟩
    funext a
    apply Fin.ext
    match a with
    | ⟨0, _⟩ =>
      show (cfg0.win 2).index t 0 * 64 + 1 * (i 0).val = (i 0).val
      rw [h0]
      omega
    | ⟨1, _⟩ =>
      show (cfg0.win 2).index t 1 * 8 + 1 * ((i 1).val % 8) = (i 1).val
      rw [h1, ht]
      omega
    | ⟨2, _⟩ =>
      show (cfg0.win 2).index t 2 * 896 + 1 * ((i 2).val % 896) = (i 2).val
      rw [h2, ht]
      omega

end Cert.ColumnsKernelIdeal.Block

namespace Cert.ColumnsRefIdeal.Whole

open Cert.ColumnsRefIdeal Cert.ColumnsRefIdeal.Gen

def result (a : FVec Ideal S16384x4096 .f32) (w : FVec Ideal S4096x3584 .f32) : FVec Ideal S64x256x3584 .f32 :=
  transpose S64x256x3584 [1, 0, 2]
    (shapeCast S256x64x3584 (Host.dotGeneral dot_S16384x4096_S4096x3584_S16384x3584_1_0_0_1_n_n none a w)
      shapeCasts_S16384x3584_S256x64x3584) transposes_S256x64x3584_S64x256x3584_1_0_2

theorem product_at (a : FVec Ideal S16384x4096 .f32) (w : FVec Ideal S4096x3584 .f32) (p : Fin 16384) (q : Fin 3584) :
    Host.dotGeneral dot_S16384x4096_S4096x3584_S16384x3584_1_0_0_1_n_n none a w (ix2 p q) = prod a w p q := by
  pointwise [prod]

theorem grid_at (u : FVec Ideal S16384x3584 .f32) (a : Fin 64) (b : Fin 256) (q : Fin 3584) :
    transpose S64x256x3584 [1, 0, 2] (shapeCast S256x64x3584 u shapeCasts_S16384x3584_S256x64x3584)
      transposes_S256x64x3584_S64x256x3584_1_0_2 (ix3 a b q) = u (ix2 ⟨64 * b.val + a.val, by omega⟩ q) := by
  refine (transpose_apply _ _ _ _ (ix3 b a q : S256x64x3584.Idx) ?_).trans ?_
  · intro d
    match d with
    | ⟨0, _⟩ => rfl
    | ⟨1, _⟩ => rfl
    | ⟨2, _⟩ => rfl
  · refine shapeCast_apply _ _ _ (ix2 ⟨64 * b.val + a.val, by omega⟩ q : S16384x3584.Idx) ?_
    rw [Shape.rowMajor_val_two, Shape.rowMajor_val_three]
    show (64 * b.val + a.val) * 3584 + q.val = (b.val * 64 + a.val) * 3584 + q.val
    omega

end Cert.ColumnsRefIdeal.Whole

namespace Cert.Proof

theorem frame_columns : Cert.quiescent_ColumnsRefIdeal (hColumnsRefIdeal := Cert.ColumnsRefIdeal.Gen.facts) := fun m ρ _ =>
  (θ_run Cert.ColumnsRefIdeal.defs _ _).mono (fun r h => ⟨fun c => (h c).2,
      Idealize.ShloMosaic.sem_eq_zero_of_no_sems (by decide) r.2⟩)
    (Cert.ColumnsRefIdeal.Value.run (F := Ideal) m ρ)

open Cert.ColumnsKernelIdeal.Block Cert.ColumnsRefIdeal.Whole in
theorem algebraic_columns : Cert.algebraic_ColumnsKernelIdeal_ColumnsRefIdeal (hColumnsKernelIdeal := Cert.ColumnsKernelIdeal.Gen.facts)
    (hColumnsRefIdeal := Cert.ColumnsRefIdeal.Gen.facts) := by
  intro m ρ m' ρ' _ heq
  refine ⟨out m, ?_, ?_⟩
  · refine (θ_run _ _ _).mono (fun r h c => ?_) (Cert.ColumnsKernelIdeal.Value.run_blocks (F := Ideal) m ρ)
    obtain ⟨h0, ha⟩ := h c
    exact ⟨h0.trans (array2 m c), ha⟩
  · refine (θ_run _ _ _).mono (fun r h c => ?_) (Cert.ColumnsRefIdeal.Value.run (F := Ideal) m' ρ')
    obtain ⟨h0, ha⟩ := h c
    refine ⟨h0.trans ?_, ha⟩
    obtain ⟨e0, e1⟩ := heq c
    rw [e0, e1]
    show result (hx m c) (w m c) = _
    funext i
    have hi : i = (ix3 (i 0) (i 1) (i 2) : Cert.ColumnsKernelIdeal.S64x256x3584.Idx) := by
      funext a
      match a with
      | ⟨0, _⟩ => rfl
      | ⟨1, _⟩ => rfl
      | ⟨2, _⟩ => rfl
    exact (congrArg (result (hx m c) (w m c)) hi).trans ((grid_at _ _ _ _).trans (product_at _ _ _ _))

end Cert.Proof
-- ==== Proof.ShortValue.lean ====
/-
  The projection onto the second branch's columns: block by block, the columns of one product.
-/
module

public import proofs.«01_k».proof.Proof.Products
public import proofs.«01_k».proof.Proof.Gen.ShortKernel.Frame
public import proofs.«01_k».proof.Proof.Gen.ShortKernelIdeal.Value
public import proofs.«01_k».proof.Proof.Gen.ShortRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.ShortKernelIdeal.Block

open Cert.ShortKernelIdeal Cert.ShortKernelIdeal.Gen Cert.ShortKernelIdeal.Value

theorem idx0 : ∀ t : Fin cfg0.N, (cfg0.win 0).index t 0 = t.val / 3 ∧ (cfg0.win 0).index t 1 = 0 := by
  decide +kernel
theorem idx1 : ∀ t : Fin cfg0.N, (cfg0.win 1).index t 0 = 0 ∧ (cfg0.win 1).index t 1 = t.val % 3 := by
  decide +kernel
theorem idx2 : ∀ t : Fin cfg0.N, (cfg0.win 2).index t 0 = t.val / 3 ∧ (cfg0.win 2).index t 1 = t.val % 3 := by
  decide +kernel
theorem flush2 : ∀ t : Fin cfg0.N, (cfg0.win 2).flush t = true := by decide +kernel

theorem N_lt (t : Fin cfg0.N) : t.val < 96 := lt_of_lt_of_eq t.isLt N_0

variable (m : (ℓ : Loc nD τ sig) → Buf (Elt Ideal) ℓ) (c : Dev nD)

abbrev hx : FVec Ideal S16384x4096 .f32 := m ((c : Thread nD τ).loc main_arg0)
abbrev w : FVec Ideal S4096x21952 .f32 := m ((c : Thread nD τ).loc main_arg1)

/-- The whole result. -/
def out : FVec Ideal S16384x3072 .f32 := fun i =>
  prod (hx m c) (w m c) (i 0) ⟨3104 + (i 1).val, by have h : (i 1).val < 3072 := (i 1).isLt; omega⟩

/-- The rows and the columns of point `t`'s block. -/
def row (t : Fin cfg0.N) (r : Fin 512) : Fin 16384 := ⟨512 * (t.val / 3) + r.val, by have := N_lt t; omega⟩
def column (t : Fin cfg0.N) (l : Fin 1024) : Fin 21952 := ⟨3104 + (1024 * (t.val % 3) + l.val), by omega⟩

theorem left : (V m c main_v0 : FVec Ideal S16384x4096 .bf16) = hx m c := by
  refine (show _ = truncf .bf16 (hx m c) bitsLt_bf16_f32 from ?_).trans rfl
  dsimp only [V]
  after_results

theorem right : (V m c main_v2 : FVec Ideal S4096x3072 .bf16) = extractStridedSlice S4096x3072 ![0, 3104] (w m c) slices_S4096x21952_S4096x3072_0_3104 := by
  refine (show _ = truncf .bf16 (extractStridedSlice S4096x3072 ![0, 3104] (w m c) slices_S4096x21952_S4096x3072_0_3104 : FVec Ideal S4096x3072 .f32) bitsLt_bf16_f32 from ?_).trans rfl
  dsimp only [V]
  after_results

theorem pay_at (a : Vec Ideal S512x4096 .bf16) (b : Vec Ideal S4096x1024 .bf16) (r : Fin 512) (l : Fin 1024) :
    k0_pay1 a b (ix2 r l) = ∑ k : Fin 4096, (a : FVec Ideal S512x4096 .bf16) (ix2 r k) * (b : FVec Ideal S4096x1024 .bf16) (ix2 k l) := by
  pointwise [k0_pay1]

theorem block0 (t : Fin cfg0.N) (r : Fin 512) (k : Fin 4096) :
    (iblk m c 0 t : FVec Ideal S512x4096 .bf16) (ix2 r k) = hx m c (ix2 (row t r) k) := by
  obtain ⟨h0, h1⟩ := idx0 t
  unfold iblk
  rw [View.read_apply]
  show (V m c main_v0 : FVec Ideal S16384x4096 .bf16) _ = hx m c _
  rw [left]
  refine congrArg (hx m c) ?_
  funext a
  apply Fin.ext
  match a with
  | ⟨0, _⟩ => show (cfg0.win 0).index t 0 * 512 + 1 * r.val = 512 * (t.val / 3) + r.val; rw [h0]; omega
  | ⟨1, _⟩ => show (cfg0.win 0).index t 1 * 4096 + 1 * k.val = k.val; rw [h1]; omega

theorem block1 (t : Fin cfg0.N) (k : Fin 4096) (l : Fin 1024) :
    (iblk m c 1 t : FVec Ideal S4096x1024 .bf16) (ix2 k l) = w m c (ix2 k (column t l)) := by
  obtain ⟨h0, h1⟩ := idx1 t
  unfold iblk
  rw [View.read_apply]
  show (V m c main_v2 : FVec Ideal S4096x3072 .bf16) _ = w m c _
  rw [right]
  refine congrArg (w m c) ?_
  funext a
  apply Fin.ext
  match a with
  | ⟨0, _⟩ => show 0 + ((cfg0.win 1).index t 0 * 4096 + 1 * k.val) = k.val; rw [h0]; omega
  | ⟨1, _⟩ => show 3104 + ((cfg0.win 1).index t 1 * 1024 + 1 * l.val) = 3104 + (1024 * (t.val % 3) + l.val); rw [h1]; omega

theorem whole (a : Vec Ideal S512x4096 .bf16) (b : Vec Ideal S4096x1024 .bf16) : out0_2 a b = k0_pay1 a b := by
  have hz : (![0, 0] : Fin 2 → ℕ) = fun _ => 0 := by decide
  unfold out0_2
  refine (View.canon_unit_zero hz _ _).trans ?_
  rw [View.ld_unit_zero hz _ a, View.ld_unit_zero hz _ b]

theorem point (t : Fin cfg0.N) (r : Fin 512) (l : Fin 1024) :
    (out0_2 (iblk m c 0 t) (iblk m c 1 t) : FVec Ideal S512x1024 .f32) (ix2 r l) = prod (hx m c) (w m c) (row t r) (column t l) := by
  rw [whole]
  refine (pay_at _ _ r l).trans (Finset.sum_congr rfl fun k _ => ?_)
  rw [block0, block1]

theorem array2 : (dats m 0 c).arrAt 2 cfg0.N = out m c := by
  refine Pipeline.Dat.arrAt_eq_of_cover (dats m 0 c) 2 (out m c) (fun t _ => ?_) (fun i => ?_)
  · obtain ⟨h0, h1⟩ := idx2 t
    rw [flushed2]
    funext y
    have hy : y = (ix2 (y 0) (y 1) : S512x1024.Idx) := by
      funext a
      match a with
      | ⟨0, _⟩ => rfl
      | ⟨1, _⟩ => rfl
    rw [View.read_apply]
    refine (congrArg (out0_2 (iblk m c 0 t) (iblk m c 1 t) : FVec Ideal S512x1024 .f32) hy).trans ((point m c t (y 0) (y 1)).trans ?_)
    show _ = prod (hx m c) (w m c) _ _
    refine congrArg₂ (prod (hx m c) (w m c)) (Fin.ext ?_) (Fin.ext ?_)
    · show 512 * (t.val / 3) + (y 0).val = (cfg0.win 2).index t 0 * 512 + 1 * (y 0).val
      rw [h0]
      omega
    · show 3104 + (1024 * (t.val % 3) + (y 1).val) = 3104 + ((cfg0.win 2).index t 1 * 1024 + 1 * (y 1).val)
      rw [h1]
      omega
  · have i0 : (i 0).val < 16384 := (i 0).isLt
    have i1 : (i 1).val < 3072 := (i 1).isLt
    let t : Fin cfg0.N := ⟨3 * ((i 0).val / 512) + (i 1).val / 1024, lt_of_lt_of_eq (by omega) N_0.symm⟩
    have ht : t.val = 3 * ((i 0).val / 512) + (i 1).val / 1024 := rfl
    obtain ⟨h0, h1⟩ := idx2 t
    refine ⟨t, flush2 t, Finset.mem_map.mpr
      ⟨(ix2 ⟨(i 0).val % 512, Nat.mod_lt _ (by norm_num)⟩ ⟨(i 1).val % 1024, Nat.mod_lt _ (by norm_num)⟩ : S512x1024.Idx), Finset.mem_univ _, ?_⟩⟩
    funext a
    apply Fin.ext
    match a with
    | ⟨0, _⟩ =>
      show (cfg0.win 2).index t 0 * 512 + 1 * ((i 0).val % 512) = (i 0).val
      rw [h0, ht]
      omega
    | ⟨1, _⟩ =>
      show (cfg0.win 2).index t 1 * 1024 + 1 * ((i 1).val % 1024) = (i 1).val
      rw [h1, ht]
      omega

end Cert.ShortKernelIdeal.Block

namespace Cert.ShortRefIdeal.Whole

open Cert.ShortRefIdeal Cert.ShortRefIdeal.Gen

def result (x : FVec Ideal S16384x4096 .f32) (w : FVec Ideal S4096x21952 .f32) : FVec Ideal S16384x3072 .f32 :=
  extractStridedSlice S16384x3072 ![0, 3104] (Host.dotGeneral dot_S16384x4096_S4096x21952_S16384x21952_1_0_0_1_n_n none x w) slices_S16384x21952_S16384x3072_0_3104

theorem result_at (x : FVec Ideal S16384x4096 .f32) (w : FVec Ideal S4096x21952 .f32) (p : Fin 16384) (q : Fin 3072) :
    result x w (ix2 p q) = prod x w p ⟨3104 + q.val, by omega⟩ := by
  pointwise [result, prod]

end Cert.ShortRefIdeal.Whole

namespace Cert.Proof

theorem frame_short : Cert.quiescent_ShortRefIdeal (hShortRefIdeal := Cert.ShortRefIdeal.Gen.facts) := fun m ρ _ =>
  (θ_run Cert.ShortRefIdeal.defs _ _).mono (fun r h => ⟨fun c => (h c).2,
      Idealize.ShloMosaic.sem_eq_zero_of_no_sems (by decide) r.2⟩)
    (Cert.ShortRefIdeal.Value.run (F := Ideal) m ρ)

theorem algebraic_short : Cert.algebraic_ShortKernelIdeal_ShortRefIdeal (hShortKernelIdeal := Cert.ShortKernelIdeal.Gen.facts)
    (hShortRefIdeal := Cert.ShortRefIdeal.Gen.facts) := by
  intro m ρ m' ρ' _ heq
  refine ⟨Cert.ShortKernelIdeal.Block.out m, ?_, ?_⟩
  · refine (θ_run _ _ _).mono (fun r h c => ?_) (Cert.ShortKernelIdeal.Value.run_blocks (F := Ideal) m ρ)
    obtain ⟨h0, ha⟩ := h c
    exact ⟨h0.trans (Cert.ShortKernelIdeal.Block.array2 m c), ha⟩
  · refine (θ_run _ _ _).mono (fun r h c => ?_) (Cert.ShortRefIdeal.Value.run (F := Ideal) m' ρ')
    obtain ⟨h0, ha⟩ := h c
    refine ⟨h0.trans ?_, ha⟩
    obtain ⟨e0, e1⟩ := heq c
    rw [e0, e1]
    show Cert.ShortRefIdeal.Whole.result (Cert.ShortKernelIdeal.Block.hx m c) (Cert.ShortKernelIdeal.Block.w m c) = _
    funext i
    have hi : i = (ix2 (i 0) (i 1) : Cert.ShortKernelIdeal.S16384x3072.Idx) := by
      funext a
      match a with
      | ⟨0, _⟩ => rfl
      | ⟨1, _⟩ => rfl
    exact (congrArg (Cert.ShortRefIdeal.Whole.result (Cert.ShortKernelIdeal.Block.hx m c) (Cert.ShortKernelIdeal.Block.w m c)) hi).trans
      (Cert.ShortRefIdeal.Whole.result_at _ _ _ _)

end Cert.Proof
-- ==== Proof.HeadsValue.lean ====
/-
  The projection onto the first branch's columns: block by block, the columns of one product.
-/
module

public import proofs.«01_k».proof.Proof.Products
public import proofs.«01_k».proof.Proof.Gen.HeadsKernel.Frame
public import proofs.«01_k».proof.Proof.Gen.HeadsKernelIdeal.Value
public import proofs.«01_k».proof.Proof.Gen.HeadsRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.HeadsKernelIdeal.Block

open Cert.HeadsKernelIdeal Cert.HeadsKernelIdeal.Gen Cert.HeadsKernelIdeal.Value

theorem idx0 : ∀ t : Fin cfg0.N, (cfg0.win 0).index t 0 = t.val / 5 ∧ (cfg0.win 0).index t 1 = 0 := by
  decide +kernel
theorem idx1 : ∀ t : Fin cfg0.N, (cfg0.win 1).index t 0 = 0 ∧ (cfg0.win 1).index t 1 = t.val % 5 := by
  decide +kernel
theorem idx2 : ∀ t : Fin cfg0.N, (cfg0.win 2).index t 0 = t.val / 5 ∧ (cfg0.win 2).index t 1 = t.val % 5 := by
  decide +kernel
theorem flush2 : ∀ t : Fin cfg0.N, (cfg0.win 2).flush t = true := by decide +kernel

theorem N_lt (t : Fin cfg0.N) : t.val < 160 := lt_of_lt_of_eq t.isLt N_0

variable (m : (ℓ : Loc nD τ sig) → Buf (Elt Ideal) ℓ) (c : Dev nD)

abbrev hx : FVec Ideal S16384x4096 .f32 := m ((c : Thread nD τ).loc main_arg0)
abbrev w : FVec Ideal S4096x3200 .f32 := m ((c : Thread nD τ).loc main_arg1)

/-- The whole result. -/
def out : FVec Ideal S16384x3200 .f32 := fun i =>
  prod (hx m c) (w m c) (i 0) ⟨0 + (i 1).val, by have h : (i 1).val < 3200 := (i 1).isLt; omega⟩

/-- The rows and the columns of point `t`'s block. -/
def row (t : Fin cfg0.N) (r : Fin 512) : Fin 16384 := ⟨512 * (t.val / 5) + r.val, by have := N_lt t; omega⟩
def column (t : Fin cfg0.N) (l : Fin 640) : Fin 3200 := ⟨0 + (640 * (t.val % 5) + l.val), by omega⟩

theorem left : (V m c main_v0 : FVec Ideal S16384x4096 .bf16) = hx m c := by
  refine (show _ = truncf .bf16 (hx m c) bitsLt_bf16_f32 from ?_).trans rfl
  dsimp only [V]
  after_results

theorem right : (V m c main_v1 : FVec Ideal S4096x3200 .bf16) = (w m c) := by
  refine (show _ = truncf .bf16 ((w m c) : FVec Ideal S4096x3200 .f32) bitsLt_bf16_f32 from ?_).trans rfl
  dsimp only [V]
  after_results

theorem pay_at (a : Vec Ideal S512x4096 .bf16) (b : Vec Ideal S4096x640 .bf16) (r : Fin 512) (l : Fin 640) :
    k0_pay1 a b (ix2 r l) = ∑ k : Fin 4096, (a : FVec Ideal S512x4096 .bf16) (ix2 r k) * (b : FVec Ideal S4096x640 .bf16) (ix2 k l) := by
  pointwise [k0_pay1]

theorem block0 (t : Fin cfg0.N) (r : Fin 512) (k : Fin 4096) :
    (iblk m c 0 t : FVec Ideal S512x4096 .bf16) (ix2 r k) = hx m c (ix2 (row t r) k) := by
  obtain ⟨h0, h1⟩ := idx0 t
  unfold iblk
  rw [View.read_apply]
  show (V m c main_v0 : FVec Ideal S16384x4096 .bf16) _ = hx m c _
  rw [left]
  refine congrArg (hx m c) ?_
  funext a
  apply Fin.ext
  match a with
  | ⟨0, _⟩ => show (cfg0.win 0).index t 0 * 512 + 1 * r.val = 512 * (t.val / 5) + r.val; rw [h0]; omega
  | ⟨1, _⟩ => show (cfg0.win 0).index t 1 * 4096 + 1 * k.val = k.val; rw [h1]; omega

theorem block1 (t : Fin cfg0.N) (k : Fin 4096) (l : Fin 640) :
    (iblk m c 1 t : FVec Ideal S4096x640 .bf16) (ix2 k l) = w m c (ix2 k (column t l)) := by
  obtain ⟨h0, h1⟩ := idx1 t
  unfold iblk
  rw [View.read_apply]
  show (V m c main_v1 : FVec Ideal S4096x3200 .bf16) _ = w m c _
  rw [right]
  refine congrArg (w m c) ?_
  funext a
  apply Fin.ext
  match a with
  | ⟨0, _⟩ => show (cfg0.win 1).index t 0 * 4096 + 1 * k.val = k.val; rw [h0]; omega
  | ⟨1, _⟩ => show (cfg0.win 1).index t 1 * 640 + 1 * l.val = 0 + (640 * (t.val % 5) + l.val); rw [h1]; omega

theorem whole (a : Vec Ideal S512x4096 .bf16) (b : Vec Ideal S4096x640 .bf16) : out0_2 a b = k0_pay1 a b := by
  have hz : (![0, 0] : Fin 2 → ℕ) = fun _ => 0 := by decide
  unfold out0_2
  refine (View.canon_unit_zero hz _ _).trans ?_
  rw [View.ld_unit_zero hz _ a, View.ld_unit_zero hz _ b]

theorem point (t : Fin cfg0.N) (r : Fin 512) (l : Fin 640) :
    (out0_2 (iblk m c 0 t) (iblk m c 1 t) : FVec Ideal S512x640 .f32) (ix2 r l) = prod (hx m c) (w m c) (row t r) (column t l) := by
  rw [whole]
  refine (pay_at _ _ r l).trans (Finset.sum_congr rfl fun k _ => ?_)
  rw [block0, block1]

theorem array2 : (dats m 0 c).arrAt 2 cfg0.N = out m c := by
  refine Pipeline.Dat.arrAt_eq_of_cover (dats m 0 c) 2 (out m c) (fun t _ => ?_) (fun i => ?_)
  · obtain ⟨h0, h1⟩ := idx2 t
    rw [flushed2]
    funext y
    have hy : y = (ix2 (y 0) (y 1) : S512x640.Idx) := by
      funext a
      match a with
      | ⟨0, _⟩ => rfl
      | ⟨1, _⟩ => rfl
    rw [View.read_apply]
    refine (congrArg (out0_2 (iblk m c 0 t) (iblk m c 1 t) : FVec Ideal S512x640 .f32) hy).trans ((point m c t (y 0) (y 1)).trans ?_)
    show _ = prod (hx m c) (w m c) _ _
    refine congrArg₂ (prod (hx m c) (w m c)) (Fin.ext ?_) (Fin.ext ?_)
    · show 512 * (t.val / 5) + (y 0).val = (cfg0.win 2).index t 0 * 512 + 1 * (y 0).val
      rw [h0]
      omega
    · show 0 + (640 * (t.val % 5) + (y 1).val) = 0 + ((cfg0.win 2).index t 1 * 640 + 1 * (y 1).val)
      rw [h1]
      omega
  · have i0 : (i 0).val < 16384 := (i 0).isLt
    have i1 : (i 1).val < 3200 := (i 1).isLt
    let t : Fin cfg0.N := ⟨5 * ((i 0).val / 512) + (i 1).val / 640, lt_of_lt_of_eq (by omega) N_0.symm⟩
    have ht : t.val = 5 * ((i 0).val / 512) + (i 1).val / 640 := rfl
    obtain ⟨h0, h1⟩ := idx2 t
    refine ⟨t, flush2 t, Finset.mem_map.mpr
      ⟨(ix2 ⟨(i 0).val % 512, Nat.mod_lt _ (by norm_num)⟩ ⟨(i 1).val % 640, Nat.mod_lt _ (by norm_num)⟩ : S512x640.Idx), Finset.mem_univ _, ?_⟩⟩
    funext a
    apply Fin.ext
    match a with
    | ⟨0, _⟩ =>
      show (cfg0.win 2).index t 0 * 512 + 1 * ((i 0).val % 512) = (i 0).val
      rw [h0, ht]
      omega
    | ⟨1, _⟩ =>
      show (cfg0.win 2).index t 1 * 640 + 1 * ((i 1).val % 640) = (i 1).val
      rw [h1, ht]
      omega

end Cert.HeadsKernelIdeal.Block

namespace Cert.HeadsRefIdeal.Whole

open Cert.HeadsRefIdeal Cert.HeadsRefIdeal.Gen

def result (x : FVec Ideal S16384x4096 .f32) (w : FVec Ideal S4096x3200 .f32) : FVec Ideal S16384x3200 .f32 :=
  Host.dotGeneral dot_S16384x4096_S4096x3200_S16384x3200_1_0_0_1_n_n none x w

theorem result_at (x : FVec Ideal S16384x4096 .f32) (w : FVec Ideal S4096x3200 .f32) (p : Fin 16384) (q : Fin 3200) :
    result x w (ix2 p q) = prod x w p ⟨0 + q.val, by omega⟩ := by
  pointwise [result, prod]

end Cert.HeadsRefIdeal.Whole

namespace Cert.Proof

theorem frame_heads : Cert.quiescent_HeadsRefIdeal (hHeadsRefIdeal := Cert.HeadsRefIdeal.Gen.facts) := fun m ρ _ =>
  (θ_run Cert.HeadsRefIdeal.defs _ _).mono (fun r h => ⟨fun c => (h c).2,
      Idealize.ShloMosaic.sem_eq_zero_of_no_sems (by decide) r.2⟩)
    (Cert.HeadsRefIdeal.Value.run (F := Ideal) m ρ)

theorem algebraic_heads : Cert.algebraic_HeadsKernelIdeal_HeadsRefIdeal (hHeadsKernelIdeal := Cert.HeadsKernelIdeal.Gen.facts)
    (hHeadsRefIdeal := Cert.HeadsRefIdeal.Gen.facts) := by
  intro m ρ m' ρ' _ heq
  refine ⟨Cert.HeadsKernelIdeal.Block.out m, ?_, ?_⟩
  · refine (θ_run _ _ _).mono (fun r h c => ?_) (Cert.HeadsKernelIdeal.Value.run_blocks (F := Ideal) m ρ)
    obtain ⟨h0, ha⟩ := h c
    exact ⟨h0.trans (Cert.HeadsKernelIdeal.Block.array2 m c), ha⟩
  · refine (θ_run _ _ _).mono (fun r h c => ?_) (Cert.HeadsRefIdeal.Value.run (F := Ideal) m' ρ')
    obtain ⟨h0, ha⟩ := h c
    refine ⟨h0.trans ?_, ha⟩
    obtain ⟨e0, e1⟩ := heq c
    rw [e0, e1]
    show Cert.HeadsRefIdeal.Whole.result (Cert.HeadsKernelIdeal.Block.hx m c) (Cert.HeadsKernelIdeal.Block.w m c) = _
    funext i
    have hi : i = (ix2 (i 0) (i 1) : Cert.HeadsKernelIdeal.S16384x3200.Idx) := by
      funext a
      match a with
      | ⟨0, _⟩ => rfl
      | ⟨1, _⟩ => rfl
    exact (congrArg (Cert.HeadsRefIdeal.Whole.result (Cert.HeadsKernelIdeal.Block.hx m c) (Cert.HeadsKernelIdeal.Block.w m c)) hi).trans
      (Cert.HeadsRefIdeal.Whole.result_at _ _ _ _)

end Cert.Proof
-- ==== Proof.Norms.lean ====
/-
  The reciprocal of the root of the mean of a row's squares.
-/
module

public import Idealize.ShloMosaic.Lib.Pointwise

@[expose] public section

set_option maxRecDepth 16384

noncomputable section

open Idealize.ShloMosaic Idealize.ShloMosaic.TcCoe Idealize.SL.Sem

namespace Cert.Norms

/-- The reciprocal of the root of the mean of the squares of `f`, `d` being the words of its length. -/
def inverse {n : ℕ} (d : BitVec 32) (f : Fin n → EReal) : EReal :=
  Ideal.rsqrt (Ideal.div (∑ k, f k * f k) (Ideal.ofBits .f32 d) + Ideal.ofBits .f32 0x358637BD#32)

end Cert.Norms
-- ==== Proof.NormValue.lean ====
/-
  The modulated normalisation, block by block.
-/
module

public import proofs.«01_k».proof.Proof.Norms
public import proofs.«01_k».proof.Proof.Gen.NormKernel.Frame
public import proofs.«01_k».proof.Proof.Gen.NormKernelIdeal.Value
public import proofs.«01_k».proof.Proof.Gen.NormRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.NormKernelIdeal.Block

open Cert.NormKernelIdeal Cert.NormKernelIdeal.Gen Cert.NormKernelIdeal.Value Cert.Norms

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = 0 ∧ (cfg0.win 3).index t 1 = 0 := by decide +kernel
theorem idx4 : ∀ t : Fin cfg0.N, (cfg0.win 4).index t 0 = t.val ∧ (cfg0.win 4).index t 1 = 0 := by decide +kernel
theorem flush4 : ∀ t : Fin cfg0.N, (cfg0.win 4).flush t = true := by decide +kernel

theorem N_lt (t : Fin cfg0.N) : t.val < 64 := lt_of_lt_of_eq t.isLt N_0

variable (m : (ℓ : Loc nD τ sig) → Buf (Elt Ideal) ℓ) (c : Dev nD)

abbrev x : FVec Ideal S16384x4096 .f32 := m ((c : Thread nD τ).loc main_arg0)
abbrev g : FVec Ideal S4096 .f32 := m ((c : Thread nD τ).loc main_arg1)
abbrev shift : FVec Ideal S4096 .f32 := m ((c : Thread nD τ).loc main_arg2)
abbrev scale : FVec Ideal S4096 .f32 := m ((c : Thread nD τ).loc main_arg3)

/-- One entry of the modulated rows. -/
def entry (p : Fin 16384) (q : Fin 4096) : EReal :=
  x m c (ix2 p q) * inverse 0x45800000#32 (fun k : Fin 4096 => x m c (ix2 p k)) * g m c (ix1 q) * (1 + scale m c (ix1 q)) + shift m c (ix1 q)

/-- All of them. -/
def out : FVec Ideal S16384x4096 .bf16 := fun i => entry m c (i 0) (i 1)

/-- The rows of point `t`'s block. -/
def row (t : Fin cfg0.N) (r : Fin 256) : Fin 16384 := ⟨256 * t.val + r.val, by have := N_lt t; omega⟩

theorem line_at (g : FVec Ideal S4096 .f32) (k : Fin 4096) : shapeCast S1x4096 g shapeCasts_S4096_S1x4096 (ix2 0 k) = g (ix1 k) := by
  pointwise

theorem block0 (t : Fin cfg0.N) (r : Fin 256) (k : Fin 4096) :
    (iblk m c 0 t : FVec Ideal S256x4096 .f32) (ix2 r k) = x m c (ix2 (row t r) k) := by
  obtain ⟨h0, h1⟩ := idx0 t
  unfold iblk
  rw [View.read_apply]
  show (V m c main_arg0 : FVec Ideal S16384x4096 .f32) _ = x m c _
  rw [V_main_arg0]
  refine congrArg (x m c) ?_
  funext a
  apply Fin.ext
  match a with
  | ⟨0, _⟩ => show (cfg0.win 0).index t 0 * 256 + 1 * r.val = 256 * t.val + r.val; rw [h0]; try omega
  | ⟨1, _⟩ => show (cfg0.win 0).index t 1 * 4096 + 1 * k.val = k.val; rw [h1]; try omega

theorem line_g : (V m c main_v0 : FVec Ideal S1x4096 .f32) = shapeCast S1x4096 (g m c) shapeCasts_S4096_S1x4096 := by
  dsimp only [V]
  after_results
  rfl

theorem block1 (t : Fin cfg0.N) (k : Fin 4096) :
    (iblk m c 1 t : FVec Ideal S1x4096 .f32) (ix2 0 k) = g m c (ix1 k) := by
  obtain ⟨h0, h1⟩ := idx1 t
  unfold iblk
  rw [View.read_apply]
  show (V m c main_v0 : FVec Ideal S1x4096 .f32) _ = g m c _
  rw [line_g, ← line_at (g m c) k]
  refine congrArg (shapeCast S1x4096 (g m c) shapeCasts_S4096_S1x4096) ?_
  funext a
  apply Fin.ext
  match a with
  | ⟨0, _⟩ => show (cfg0.win 1).index t 0 * 1 + 1 * 0 = 0; rw [h0]; try omega
  | ⟨1, _⟩ => show (cfg0.win 1).index t 1 * 4096 + 1 * k.val = k.val; rw [h1]; try omega

theorem line_shift : (V m c main_v1 : FVec Ideal S1x4096 .f32) = shapeCast S1x4096 (shift m c) shapeCasts_S4096_S1x4096 := by
  dsimp only [V]
  after_results
  rfl

theorem block2 (t : Fin cfg0.N) (k : Fin 4096) :
    (iblk m c 2 t : FVec Ideal S1x4096 .f32) (ix2 0 k) = shift m c (ix1 k) := by
  obtain ⟨h0, h1⟩ := idx2 t
  unfold iblk
  rw [View.read_apply]
  show (V m c main_v1 : FVec Ideal S1x4096 .f32) _ = shift m c _
  rw [line_shift, ← line_at (shift m c) k]
  refine congrArg (shapeCast S1x4096 (shift m c) shapeCasts_S4096_S1x4096) ?_
  funext a
  apply Fin.ext
  match a with
  | ⟨0, _⟩ => show (cfg0.win 2).index t 0 * 1 + 1 * 0 = 0; rw [h0]; try omega
  | ⟨1, _⟩ => show (cfg0.win 2).index t 1 * 4096 + 1 * k.val = k.val; rw [h1]; try omega

theorem line_scale : (V m c main_v2 : FVec Ideal S1x4096 .f32) = shapeCast S1x4096 (scale m c) shapeCasts_S4096_S1x4096 := by
  dsimp only [V]
  after_results
  rfl

theorem block3 (t : Fin cfg0.N) (k : Fin 4096) :
    (iblk m c 3 t : FVec Ideal S1x4096 .f32) (ix2 0 k) = scale m c (ix1 k) := by
  obtain ⟨h0, h1⟩ := idx3 t
  unfold iblk
  rw [View.read_apply]
  show (V m c main_v2 : FVec Ideal S1x4096 .f32) _ = scale m c _
  rw [line_scale, ← line_at (scale m c) k]
  refine congrArg (shapeCast S1x4096 (scale m c) shapeCasts_S4096_S1x4096) ?_
  funext a
  apply Fin.ext
  match a with
  | ⟨0, _⟩ => show (cfg0.win 3).index t 0 * 1 + 1 * 0 = 0; rw [h0]; try omega
  | ⟨1, _⟩ => show (cfg0.win 3).index t 1 * 4096 + 1 * k.val = k.val; rw [h1]; try omega

theorem pay_at (x : Vec Ideal S256x4096 .f32) (g sc sh : Vec Ideal S1x4096 .f32) (r : Fin 256) (q : Fin 4096) :
    k0_pay1 x g sc sh (ix2 r q) = (x : FVec Ideal S256x4096 .f32) (ix2 r q)
        * inverse 0x45800000#32 (fun k : Fin 4096 => (x : FVec Ideal S256x4096 .f32) (ix2 r k))
        * (g : FVec Ideal S1x4096 .f32) (ix2 0 q) * (1 + (sc : FVec Ideal S1x4096 .f32) (ix2 0 q)) + (sh : FVec Ideal S1x4096 .f32) (ix2 0 q) := by
  pointwise [k0_pay1, inverse]

theorem whole4 (a0 : Vec Ideal S256x4096 .f32) (a1 : Vec Ideal S1x4096 .f32) (a2 : Vec Ideal S1x4096 .f32) (a3 : Vec Ideal S1x4096 .f32) :
    out0_4 a0 a1 a2 a3 = k0_pay1 a0 a1 a3 a2 := by
  have hz : (![0, 0] : Fin 2 → ℕ) = fun _ => 0 := by decide
  unfold out0_4
  refine (View.canon_unit_zero hz _ _).trans ?_
  rw [View.ld_unit_zero hz _ a0, View.ld_unit_zero hz _ a1, View.ld_unit_zero hz _ a3, View.ld_unit_zero hz _ a2]

theorem point (t : Fin cfg0.N) (r : Fin 256) (l : Fin 4096) :
    (k0_pay1 (iblk m c 0 t) (iblk m c 1 t) (iblk m c 3 t) (iblk m c 2 t) : FVec Ideal S256x4096 .bf16) (ix2 r l) = entry m c (row t r) l := by
  refine (pay_at _ _ _ _ r l).trans ?_
  rw [block0, block1, block2, block3]
  refine congrArg (x m c (ix2 (row t r) l) * · * g m c (ix1 l) * (1 + scale m c (ix1 l)) + shift m c (ix1 l)) (congrArg (inverse 0x45800000#32) ?_)
  funext k
  exact block0 m c t r k

theorem point4 (t : Fin cfg0.N) (r : Fin 256) (l : Fin 4096) :
    (out0_4 (iblk m c 0 t) (iblk m c 1 t) (iblk m c 2 t) (iblk m c 3 t) : FVec Ideal S256x4096 .bf16) (ix2 r l) = entry m c (row t r) l := by
  rw [whole4]
  exact point m c t r l

theorem array4 : (dats m 0 c).arrAt 4 cfg0.N = out m c := by
  refine Pipeline.Dat.arrAt_eq_of_cover (dats m 0 c) 4 (out m c) (fun t _ => ?_) (fun i => ?_)
  · obtain ⟨h0, h1⟩ := idx4 t
    rw [flushed4]
    funext y
    have hy : y = (ix2 (y 0) (y 1) : S256x4096.Idx) := by
      funext a
      match a with
      | ⟨0, _⟩ => rfl
      | ⟨1, _⟩ => rfl
    rw [View.read_apply]
    refine (congrArg (out0_4 (iblk m c 0 t) (iblk m c 1 t) (iblk m c 2 t) (iblk m c 3 t) : FVec Ideal S256x4096 .bf16) hy).trans
      ((point4 m c t (y 0) (y 1)).trans ?_)
    show _ = entry m c _ _
    refine congrArg₂ (entry m c) (Fin.ext ?_) (Fin.ext ?_)
    · show 256 * t.val + (y 0).val = (cfg0.win 4).index t 0 * 256 + 1 * (y 0).val
      rw [h0]
      omega
    · show (y 1).val = (cfg0.win 4).index t 1 * 4096 + 1 * (y 1).val
      rw [h1]
      omega
  · have i0 : (i 0).val < 16384 := (i 0).isLt
    have i1 : (i 1).val < 4096 := (i 1).isLt
    let t : Fin cfg0.N := ⟨(i 0).val / 256, lt_of_lt_of_eq (by omega) N_0.symm⟩
    have ht : t.val = (i 0).val / 256 := rfl
    obtain ⟨h0, h1⟩ := idx4 t
    refine ⟨t, flush4 t, Finset.mem_map.mpr
      ⟨(ix2 ⟨(i 0).val % 256, Nat.mod_lt _ (by norm_num)⟩ ⟨(i 1).val, i1⟩ : S256x4096.Idx), Finset.mem_univ _, ?_⟩⟩
    funext a
    apply Fin.ext
    match a with
    | ⟨0, _⟩ =>
      show (cfg0.win 4).index t 0 * 256 + 1 * ((i 0).val % 256) = (i 0).val
      rw [h0, ht]
      omega
    | ⟨1, _⟩ =>
      show (cfg0.win 4).index t 1 * 4096 + 1 * (i 1).val = (i 1).val
      rw [h1]
      omega

end Cert.NormKernelIdeal.Block

namespace Cert.NormRefIdeal.Whole

open Cert.NormRefIdeal Cert.NormRefIdeal.Gen Cert.Norms

/-- The rows `x` over the roots of the means of their squares, each column times its `g`. -/
def normed (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf
    (broadcastInDim S16384x1 ![0] bcast_S16384_S16384x1_0 (Host.reduceAdd (mulf x x) (constant S_ .f32 0x00000000#32)
      reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

theorem normed_at (x : FVec Ideal S16384x4096 .f32) (g : FVec Ideal S4096 .f32) (p : Fin 16384) (q : Fin 4096) :
    normed x g (ix2 p q) = x (ix2 p q) * inverse 0x45800000#32 (fun k : Fin 4096 => x (ix2 p k)) * g (ix1 q) := by
  pointwise [normed, inverse]

/-- The same, modulated. -/
def modulated (x : FVec Ideal S16384x4096 .f32) (g sh sc : FVec Ideal S4096 .f32) : FVec Ideal S16384x4096 .f32 :=
  addf (mulf (normed x g) (broadcastInDim S16384x4096 ![0, 1] bcast_S1x4096_S16384x4096_0_1 (broadcastInDim S1x4096 ![1] bcast_S4096_S1x4096_1
    (addf (broadcastInDim S4096 ![] bcast_S_S4096 (constant S_ .f32 0x3F800000#32)) sc))))
    (broadcastInDim S16384x4096 ![0, 1] bcast_S1x4096_S16384x4096_0_1 (broadcastInDim S1x4096 ![1] bcast_S4096_S1x4096_1 sh))

theorem modulated_at (x : FVec Ideal S16384x4096 .f32) (g sh sc : FVec Ideal S4096 .f32) (p : Fin 16384) (q : Fin 4096) :
    modulated x g sh sc (ix2 p q)
      = x (ix2 p q) * inverse 0x45800000#32 (fun k : Fin 4096 => x (ix2 p k)) * g (ix1 q) * (1 + sc (ix1 q)) + sh (ix1 q) := by
  refine Eq.trans (b := normed x g (ix2 p q) * (1 + sc (ix1 q)) + sh (ix1 q)) ?_ (by rw [normed_at])
  pointwise [modulated]

/-- The result, rounded. -/
def result (x : FVec Ideal S16384x4096 .f32) (g sh sc : FVec Ideal S4096 .f32) : FVec Ideal S16384x4096 .bf16 :=
  truncf .bf16 (modulated x g sh sc) bitsLt_bf16_f32

theorem result_at (p : Fin 16384) (q : Fin 4096) (x : FVec Ideal S16384x4096 .f32) (g sh sc : FVec Ideal S4096 .f32) :
    result x g sh sc (ix2 p q)
      = x (ix2 p q) * inverse 0x45800000#32 (fun k : Fin 4096 => x (ix2 p k)) * g (ix1 q) * (1 + sc (ix1 q)) + sh (ix1 q) :=
  modulated_at x g sh sc p q

end Cert.NormRefIdeal.Whole

namespace Cert.Proof

theorem frame_norm : Cert.quiescent_NormRefIdeal (hNormRefIdeal := Cert.NormRefIdeal.Gen.facts) := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)

open Cert.NormKernelIdeal.Block Cert.NormRefIdeal.Whole in
theorem algebraic_norm : Cert.algebraic_NormKernelIdeal_NormRefIdeal (hNormKernelIdeal := Cert.NormKernelIdeal.Gen.facts)
    (hNormRefIdeal := Cert.NormRefIdeal.Gen.facts) := by
  intro m ρ m' ρ' _ heq
  refine ⟨Cert.NormKernelIdeal.Block.out m, ?_, ?_⟩
  · refine (θ_run _ _ _).mono (fun r h c => ?_) (Cert.NormKernelIdeal.Value.run_blocks (F := Ideal) m ρ)
    obtain ⟨h0, ha⟩ := h c
    exact ⟨h0.trans (array4 m c), ha⟩
  · refine (θ_run _ _ _).mono (fun r h c => ?_) (Cert.NormRefIdeal.Value.run (F := Ideal) m' ρ')
    obtain ⟨h0, ha⟩ := h c
    obtain ⟨e0, e1, e2, e3⟩ := heq c
    refine ⟨h0.trans ?_, ha⟩
    · rw [e0, e1, e2, e3]
      show result (Cert.NormKernelIdeal.Block.x m c) (Cert.NormKernelIdeal.Block.g m c) (Cert.NormKernelIdeal.Block.shift m c) (Cert.NormKernelIdeal.Block.scale m c) = _
      funext i
      have hi : i = (ix2 (i 0) (i 1) : Cert.NormKernelIdeal.S16384x4096.Idx) := by
        funext a
        match a with
        | ⟨0, _⟩ => rfl
        | ⟨1, _⟩ => rfl
      exact (congrArg (result (Cert.NormKernelIdeal.Block.x m c) (Cert.NormKernelIdeal.Block.g m c) (Cert.NormKernelIdeal.Block.shift m c) (Cert.NormKernelIdeal.Block.scale m c)) hi).trans (result_at _ _ _ _ _ _)

end Cert.Proof
-- ==== Proof.RouterValue.lean ====
/-
  The modulated normalisation before the experts, and the router's logits, block by block.
-/
module

public import proofs.«01_k».proof.Proof.Norms
public import proofs.«01_k».proof.Proof.Gen.RouterKernel.Frame
public import proofs.«01_k».proof.Proof.Gen.RouterKernelIdeal.Value
public import proofs.«01_k».proof.Proof.Gen.RouterRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.RouterKernelIdeal.Block

open Cert.RouterKernelIdeal Cert.RouterKernelIdeal.Gen Cert.RouterKernelIdeal.Value Cert.Norms

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = 0 ∧ (cfg0.win 3).index t 1 = 0 := by decide +kernel
theorem idx4 : ∀ t : Fin cfg0.N, (cfg0.win 4).index t 0 = 0 ∧ (cfg0.win 4).index t 1 = 0 := by decide +kernel
theorem idx5 : ∀ t : Fin cfg0.N, (cfg0.win 5).index t 0 = 0 ∧ (cfg0.win 5).index t 1 = 0 := by decide +kernel
theorem idx6 : ∀ t : Fin cfg0.N, (cfg0.win 6).index t 0 = t.val ∧ (cfg0.win 6).index t 1 = 0 := by decide +kernel
theorem idx7 : ∀ t : Fin cfg0.N, (cfg0.win 7).index t 0 = t.val ∧ (cfg0.win 7).index t 1 = 0 := by decide +kernel
theorem flush6 : ∀ t : Fin cfg0.N, (cfg0.win 6).flush t = true := by decide +kernel
theorem flush7 : ∀ t : Fin cfg0.N, (cfg0.win 7).flush t = true := by decide +kernel

theorem N_lt (t : Fin cfg0.N) : t.val < 64 := lt_of_lt_of_eq t.isLt N_0

variable (m : (ℓ : Loc nD τ sig) → Buf (Elt Ideal) ℓ) (c : Dev nD)

abbrev x : FVec Ideal S16384x4096 .f32 := m ((c : Thread nD τ).loc main_arg0)
abbrev g : FVec Ideal S4096 .f32 := m ((c : Thread nD τ).loc main_arg1)
abbrev shift : FVec Ideal S4096 .f32 := m ((c : Thread nD τ).loc main_arg2)
abbrev scale : FVec Ideal S4096 .f32 := m ((c : Thread nD τ).loc main_arg3)
abbrev w : FVec Ideal S4096x128 .f32 := m ((c : Thread nD τ).loc main_arg4)
abbrev b : FVec Ideal S1x128 .f32 := m ((c : Thread nD τ).loc main_arg5)

/-- One entry of the modulated rows. -/
def entry (p : Fin 16384) (q : Fin 4096) : EReal :=
  x m c (ix2 p q) * inverse 0x45800000#32 (fun k : Fin 4096 => x m c (ix2 p k)) * g m c (ix1 q) * (1 + scale m c (ix1 q)) + shift m c (ix1 q)

/-- All of them. -/
def out : FVec Ideal S16384x4096 .bf16 := fun i => entry m c (i 0) (i 1)

/-- One logit. -/
def logit (p : Fin 16384) (q : Fin 128) : EReal := ∑ k : Fin 4096, entry m c p k * w m c (ix2 k q) + b m c (ix2 0 q)

/-- All of them. -/
def logits : FVec Ideal S16384x128 .f32 := fun i => logit m c (i 0) (i 1)

/-- The rows of point `t`'s block. -/
def row (t : Fin cfg0.N) (r : Fin 256) : Fin 16384 := ⟨256 * t.val + r.val, by have := N_lt t; omega⟩

theorem line_at (g : FVec Ideal S4096 .f32) (k : Fin 4096) : shapeCast S1x4096 g shapeCasts_S4096_S1x4096 (ix2 0 k) = g (ix1 k) := by
  pointwise

theorem block0 (t : Fin cfg0.N) (r : Fin 256) (k : Fin 4096) :
    (iblk m c 0 t : FVec Ideal S256x4096 .f32) (ix2 r k) = x m c (ix2 (row t r) k) := by
  obtain ⟨h0, h1⟩ := idx0 t
  unfold iblk
  rw [View.read_apply]
  show (V m c main_arg0 : FVec Ideal S16384x4096 .f32) _ = x m c _
  rw [V_main_arg0]
  refine congrArg (x m c) ?_
  funext a
  apply Fin.ext
  match a with
  | ⟨0, _⟩ => show (cfg0.win 0).index t 0 * 256 + 1 * r.val = 256 * t.val + r.val; rw [h0]; try omega
  | ⟨1, _⟩ => show (cfg0.win 0).index t 1 * 4096 + 1 * k.val = k.val; rw [h1]; try omega

theorem line_g : (V m c main_v0 : FVec Ideal S1x4096 .f32) = shapeCast S1x4096 (g m c) shapeCasts_S4096_S1x4096 := by
  dsimp only [V]
  after_results
  rfl

theorem block1 (t : Fin cfg0.N) (k : Fin 4096) :
    (iblk m c 1 t : FVec Ideal S1x4096 .f32) (ix2 0 k) = g m c (ix1 k) := by
  obtain ⟨h0, h1⟩ := idx1 t
  unfold iblk
  rw [View.read_apply]
  show (V m c main_v0 : FVec Ideal S1x4096 .f32) _ = g m c _
  rw [line_g, ← line_at (g m c) k]
  refine congrArg (shapeCast S1x4096 (g m c) shapeCasts_S4096_S1x4096) ?_
  funext a
  apply Fin.ext
  match a with
  | ⟨0, _⟩ => show (cfg0.win 1).index t 0 * 1 + 1 * 0 = 0; rw [h0]; try omega
  | ⟨1, _⟩ => show (cfg0.win 1).index t 1 * 4096 + 1 * k.val = k.val; rw [h1]; try omega

theorem line_shift : (V m c main_v1 : FVec Ideal S1x4096 .f32) = shapeCast S1x4096 (shift m c) shapeCasts_S4096_S1x4096 := by
  dsimp only [V]
  after_results
  rfl

theorem block2 (t : Fin cfg0.N) (k : Fin 4096) :
    (iblk m c 2 t : FVec Ideal S1x4096 .f32) (ix2 0 k) = shift m c (ix1 k) := by
  obtain ⟨h0, h1⟩ := idx2 t
  unfold iblk
  rw [View.read_apply]
  show (V m c main_v1 : FVec Ideal S1x4096 .f32) _ = shift m c _
  rw [line_shift, ← line_at (shift m c) k]
  refine congrArg (shapeCast S1x4096 (shift m c) shapeCasts_S4096_S1x4096) ?_
  funext a
  apply Fin.ext
  match a with
  | ⟨0, _⟩ => show (cfg0.win 2).index t 0 * 1 + 1 * 0 = 0; rw [h0]; try omega
  | ⟨1, _⟩ => show (cfg0.win 2).index t 1 * 4096 + 1 * k.val = k.val; rw [h1]; try omega

theorem line_scale : (V m c main_v2 : FVec Ideal S1x4096 .f32) = shapeCast S1x4096 (scale m c) shapeCasts_S4096_S1x4096 := by
  dsimp only [V]
  after_results
  rfl

theorem block3 (t : Fin cfg0.N) (k : Fin 4096) :
    (iblk m c 3 t : FVec Ideal S1x4096 .f32) (ix2 0 k) = scale m c (ix1 k) := by
  obtain ⟨h0, h1⟩ := idx3 t
  unfold iblk
  rw [View.read_apply]
  show (V m c main_v2 : FVec Ideal S1x4096 .f32) _ = scale m c _
  rw [line_scale, ← line_at (scale m c) k]
  refine congrArg (shapeCast S1x4096 (scale m c) shapeCasts_S4096_S1x4096) ?_
  funext a
  apply Fin.ext
  match a with
  | ⟨0, _⟩ => show (cfg0.win 3).index t 0 * 1 + 1 * 0 = 0; rw [h0]; try omega
  | ⟨1, _⟩ => show (cfg0.win 3).index t 1 * 4096 + 1 * k.val = k.val; rw [h1]; try omega

theorem block4 (t : Fin cfg0.N) (k : Fin 4096) (l : Fin 128) :
    (iblk m c 4 t : FVec Ideal S4096x128 .f32) (ix2 k l) = w m c (ix2 k l) := by
  obtain ⟨h0, h1⟩ := idx4 t
  unfold iblk
  rw [View.read_apply]
  show (V m c main_arg4 : FVec Ideal S4096x128 .f32) _ = w m c _
  rw [V_main_arg4]
  refine congrArg (w m c) ?_
  funext a
  apply Fin.ext
  match a with
  | ⟨0, _⟩ => show (cfg0.win 4).index t 0 * 4096 + 1 * k.val = k.val; rw [h0]; try omega
  | ⟨1, _⟩ => show (cfg0.win 4).index t 1 * 128 + 1 * l.val = l.val; rw [h1]; try omega

theorem block5 (t : Fin cfg0.N) (l : Fin 128) :
    (iblk m c 5 t : FVec Ideal S1x128 .f32) (ix2 0 l) = b m c (ix2 0 l) := by
  obtain ⟨h0, h1⟩ := idx5 t
  unfold iblk
  rw [View.read_apply]
  show (V m c main_arg5 : FVec Ideal S1x128 .f32) _ = b m c _
  rw [V_main_arg5]
  refine congrArg (b m c) ?_
  funext a
  apply Fin.ext
  match a with
  | ⟨0, _⟩ => show (cfg0.win 5).index t 0 * 1 + 1 * 0 = 0; rw [h0]; try omega
  | ⟨1, _⟩ => show (cfg0.win 5).index t 1 * 128 + 1 * l.val = l.val; rw [h1]; try omega

theorem pay_at (x : Vec Ideal S256x4096 .f32) (g sc sh : Vec Ideal S1x4096 .f32) (r : Fin 256) (q : Fin 4096) :
    k0_pay1 x g sc sh (ix2 r q) = (x : FVec Ideal S256x4096 .f32) (ix2 r q)
        * inverse 0x45800000#32 (fun k : Fin 4096 => (x : FVec Ideal S256x4096 .f32) (ix2 r k))
        * (g : FVec Ideal S1x4096 .f32) (ix2 0 q) * (1 + (sc : FVec Ideal S1x4096 .f32) (ix2 0 q)) + (sh : FVec Ideal S1x4096 .f32) (ix2 0 q) := by
  pointwise [k0_pay1, inverse]

theorem pay3_at (x : Vec Ideal S256x4096 .f32) (g sc sh : Vec Ideal S1x4096 .f32) (w : Vec Ideal S4096x128 .f32) (b : Vec Ideal S1x128 .f32)
    (r : Fin 256) (l : Fin 128) :
    k0_pay3 x g sc sh w b (ix2 r l)
      = ∑ k : Fin 4096, k0_pay1 x g sc sh (ix2 r k) * (w : FVec Ideal S4096x128 .f32) (ix2 k l) + (b : FVec Ideal S1x128 .f32) (ix2 0 l) := by
  pointwise [k0_pay3]

theorem whole6 (a0 : Vec Ideal S256x4096 .f32) (a1 : Vec Ideal S1x4096 .f32) (a2 : Vec Ideal S1x4096 .f32) (a3 : Vec Ideal S1x4096 .f32) (a4 : Vec Ideal S4096x128 .f32) (a5 : Vec Ideal S1x128 .f32) :
    out0_6 a0 a1 a2 a3 a4 a5 = k0_pay2 a0 a1 a3 a2 := by
  have hz : (![0, 0] : Fin 2 → ℕ) = fun _ => 0 := by decide
  unfold out0_6
  refine (View.canon_unit_zero hz _ _).trans ?_
  rw [View.ld_unit_zero hz _ a0, View.ld_unit_zero hz _ a1, View.ld_unit_zero hz _ a3, View.ld_unit_zero hz _ a2]

theorem whole7 (a0 : Vec Ideal S256x4096 .f32) (a1 : Vec Ideal S1x4096 .f32) (a2 : Vec Ideal S1x4096 .f32) (a3 : Vec Ideal S1x4096 .f32) (a4 : Vec Ideal S4096x128 .f32) (a5 : Vec Ideal S1x128 .f32) :
    out0_7 a0 a1 a2 a3 a4 a5 = k0_pay3 a0 a1 a3 a2 a4 a5 := by
  have hz : (![0, 0] : Fin 2 → ℕ) = fun _ => 0 := by decide
  unfold out0_7
  refine (View.canon_unit_zero hz _ _).trans ?_
  rw [View.ld_unit_zero hz _ a0, View.ld_unit_zero hz _ a1, View.ld_unit_zero hz _ a3, View.ld_unit_zero hz _ a2, View.ld_unit_zero hz _ a4, View.ld_unit_zero hz _ a5]

theorem point (t : Fin cfg0.N) (r : Fin 256) (l : Fin 4096) :
    (k0_pay1 (iblk m c 0 t) (iblk m c 1 t) (iblk m c 3 t) (iblk m c 2 t) : FVec Ideal S256x4096 .f32) (ix2 r l) = entry m c (row t r) l := by
  refine (pay_at _ _ _ _ r l).trans ?_
  rw [block0, block1, block2, block3]
  refine congrArg (x m c (ix2 (row t r) l) * · * g m c (ix1 l) * (1 + scale m c (ix1 l)) + shift m c (ix1 l)) (congrArg (inverse 0x45800000#32) ?_)
  funext k
  exact block0 m c t r k

theorem point6 (t : Fin cfg0.N) (r : Fin 256) (l : Fin 4096) :
    (out0_6 (iblk m c 0 t) (iblk m c 1 t) (iblk m c 2 t) (iblk m c 3 t) (iblk m c 4 t) (iblk m c 5 t) : FVec Ideal S256x4096 .bf16) (ix2 r l) = entry m c (row t r) l := by
  rw [whole6]
  exact point m c t r l

theorem point7 (t : Fin cfg0.N) (r : Fin 256) (l : Fin 128) :
    (out0_7 (iblk m c 0 t) (iblk m c 1 t) (iblk m c 2 t) (iblk m c 3 t) (iblk m c 4 t) (iblk m c 5 t) : FVec Ideal S256x128 .f32) (ix2 r l) = logit m c (row t r) l := by
  rw [whole7]
  refine (pay3_at _ _ _ _ _ _ r l).trans ?_
  exact congrArg₂ (· + ·) (Finset.sum_congr rfl fun k _ => congrArg₂ (· * ·) (point m c t r k) (block4 m c t k l)) (block5 m c t l)

theorem array6 : (dats m 0 c).arrAt 6 cfg0.N = out m c := by
  refine Pipeline.Dat.arrAt_eq_of_cover (dats m 0 c) 6 (out m c) (fun t _ => ?_) (fun i => ?_)
  · obtain ⟨h0, h1⟩ := idx6 t
    rw [flushed6]
    funext y
    have hy : y = (ix2 (y 0) (y 1) : S256x4096.Idx) := by
      funext a
      match a with
      | ⟨0, _⟩ => rfl
      | ⟨1, _⟩ => rfl
    rw [View.read_apply]
    refine (congrArg (out0_6 (iblk m c 0 t) (iblk m c 1 t) (iblk m c 2 t) (iblk m c 3 t) (iblk m c 4 t) (iblk m c 5 t) : FVec Ideal S256x4096 .bf16) hy).trans
      ((point6 m c t (y 0) (y 1)).trans ?_)
    show _ = entry m c _ _
    refine congrArg₂ (entry m c) (Fin.ext ?_) (Fin.ext ?_)
    · show 256 * t.val + (y 0).val = (cfg0.win 6).index t 0 * 256 + 1 * (y 0).val
      rw [h0]
      omega
    · show (y 1).val = (cfg0.win 6).index t 1 * 4096 + 1 * (y 1).val
      rw [h1]
      omega
  · have i0 : (i 0).val < 16384 := (i 0).isLt
    have i1 : (i 1).val < 4096 := (i 1).isLt
    let t : Fin cfg0.N := ⟨(i 0).val / 256, lt_of_lt_of_eq (by omega) N_0.symm⟩
    have ht : t.val = (i 0).val / 256 := rfl
    obtain ⟨h0, h1⟩ := idx6 t
    refine ⟨t, flush6 t, Finset.mem_map.mpr
      ⟨(ix2 ⟨(i 0).val % 256, Nat.mod_lt _ (by norm_num)⟩ ⟨(i 1).val, i1⟩ : S256x4096.Idx), Finset.mem_univ _, ?_⟩⟩
    funext a
    apply Fin.ext
    match a with
    | ⟨0, _⟩ =>
      show (cfg0.win 6).index t 0 * 256 + 1 * ((i 0).val % 256) = (i 0).val
      rw [h0, ht]
      omega
    | ⟨1, _⟩ =>
      show (cfg0.win 6).index t 1 * 4096 + 1 * (i 1).val = (i 1).val
      rw [h1]
      omega

theorem array7 : (dats m 0 c).arrAt 7 cfg0.N = logits m c := by
  refine Pipeline.Dat.arrAt_eq_of_cover (dats m 0 c) 7 (logits m c) (fun t _ => ?_) (fun i => ?_)
  · obtain ⟨h0, h1⟩ := idx7 t
    rw [flushed7]
    funext y
    have hy : y = (ix2 (y 0) (y 1) : S256x128.Idx) := by
      funext a
      match a with
      | ⟨0, _⟩ => rfl
      | ⟨1, _⟩ => rfl
    rw [View.read_apply]
    refine (congrArg (out0_7 (iblk m c 0 t) (iblk m c 1 t) (iblk m c 2 t) (iblk m c 3 t) (iblk m c 4 t) (iblk m c 5 t) : FVec Ideal S256x128 .f32) hy).trans
      ((point7 m c t (y 0) (y 1)).trans ?_)
    show _ = logit m c _ _
    refine congrArg₂ (logit m c) (Fin.ext ?_) (Fin.ext ?_)
    · show 256 * t.val + (y 0).val = (cfg0.win 7).index t 0 * 256 + 1 * (y 0).val
      rw [h0]
      omega
    · show (y 1).val = (cfg0.win 7).index t 1 * 128 + 1 * (y 1).val
      rw [h1]
      omega
  · have i0 : (i 0).val < 16384 := (i 0).isLt
    have i1 : (i 1).val < 128 := (i 1).isLt
    let t : Fin cfg0.N := ⟨(i 0).val / 256, lt_of_lt_of_eq (by omega) N_0.symm⟩
    have ht : t.val = (i 0).val / 256 := rfl
    obtain ⟨h0, h1⟩ := idx7 t
    refine ⟨t, flush7 t, Finset.mem_map.mpr
      ⟨(ix2 ⟨(i 0).val % 256, Nat.mod_lt _ (by norm_num)⟩ ⟨(i 1).val, i1⟩ : S256x128.Idx), Finset.mem_univ _, ?_⟩⟩
    funext a
    apply Fin.ext
    match a with
    | ⟨0, _⟩ =>
      show (cfg0.win 7).index t 0 * 256 + 1 * ((i 0).val % 256) = (i 0).val
      rw [h0, ht]
      omega
    | ⟨1, _⟩ =>
      show (cfg0.win 7).index t 1 * 128 + 1 * (i 1).val = (i 1).val
      rw [h1]
      omega

end Cert.RouterKernelIdeal.Block

namespace Cert.RouterRefIdeal.Whole

open Cert.RouterRefIdeal Cert.RouterRefIdeal.Gen Cert.Norms

/-- The rows `x` over the roots of the means of their squares, each column times its `g`. -/
def normed (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf
    (broadcastInDim S16384x1 ![0] bcast_S16384_S16384x1_0 (Host.reduceAdd (mulf x x) (constant S_ .f32 0x00000000#32)
      reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

theorem normed_at (x : FVec Ideal S16384x4096 .f32) (g : FVec Ideal S4096 .f32) (p : Fin 16384) (q : Fin 4096) :
    normed x g (ix2 p q) = x (ix2 p q) * inverse 0x45800000#32 (fun k : Fin 4096 => x (ix2 p k)) * g (ix1 q) := by
  pointwise [normed, inverse]

/-- The same, modulated. -/
def modulated (x : FVec Ideal S16384x4096 .f32) (g sh sc : FVec Ideal S4096 .f32) : FVec Ideal S16384x4096 .f32 :=
  addf (mulf (normed x g) (broadcastInDim S16384x4096 ![0, 1] bcast_S1x4096_S16384x4096_0_1 (broadcastInDim S1x4096 ![1] bcast_S4096_S1x4096_1
    (addf (broadcastInDim S4096 ![] bcast_S_S4096 (constant S_ .f32 0x3F800000#32)) sc))))
    (broadcastInDim S16384x4096 ![0, 1] bcast_S1x4096_S16384x4096_0_1 (broadcastInDim S1x4096 ![1] bcast_S4096_S1x4096_1 sh))

theorem modulated_at (x : FVec Ideal S16384x4096 .f32) (g sh sc : FVec Ideal S4096 .f32) (p : Fin 16384) (q : Fin 4096) :
    modulated x g sh sc (ix2 p q)
      = x (ix2 p q) * inverse 0x45800000#32 (fun k : Fin 4096 => x (ix2 p k)) * g (ix1 q) * (1 + sc (ix1 q)) + sh (ix1 q) := by
  refine Eq.trans (b := normed x g (ix2 p q) * (1 + sc (ix1 q)) + sh (ix1 q)) ?_ (by rw [normed_at])
  pointwise [modulated]

/-- The rows, rounded. -/
def result (x : FVec Ideal S16384x4096 .f32) (g sh sc : FVec Ideal S4096 .f32) (w : FVec Ideal S4096x128 .f32) (b : FVec Ideal S1x128 .f32) : FVec Ideal S16384x4096 .bf16 :=
  truncf .bf16 (modulated x g sh sc) bitsLt_bf16_f32

theorem result_at (p : Fin 16384) (q : Fin 4096) (x : FVec Ideal S16384x4096 .f32) (g sh sc : FVec Ideal S4096 .f32) (w : FVec Ideal S4096x128 .f32) (b : FVec Ideal S1x128 .f32) :
    result x g sh sc w b (ix2 p q)
      = x (ix2 p q) * inverse 0x45800000#32 (fun k : Fin 4096 => x (ix2 p k)) * g (ix1 q) * (1 + sc (ix1 q)) + sh (ix1 q) :=
  modulated_at x g sh sc p q

/-- The logits. -/
def scores (x : FVec Ideal S16384x4096 .f32) (g sh sc : FVec Ideal S4096 .f32) (w : FVec Ideal S4096x128 .f32) (b : FVec Ideal S1x128 .f32) : FVec Ideal S16384x128 .f32 :=
  addf (Host.dotGeneral dot_S16384x4096_S4096x128_S16384x128_1_0_0_1_n_n none (modulated x g sh sc) w)
    (broadcastInDim S16384x128 ![0, 1] bcast_S1x128_S16384x128_0_1 b)

theorem scores_at (p : Fin 16384) (q : Fin 128) (x : FVec Ideal S16384x4096 .f32) (g sh sc : FVec Ideal S4096 .f32) (w : FVec Ideal S4096x128 .f32) (b : FVec Ideal S1x128 .f32) :
    scores x g sh sc w b (ix2 p q) = ∑ k : Fin 4096, (x (ix2 p k) * inverse 0x45800000#32 (fun k : Fin 4096 => x (ix2 p k)) * g (ix1 k)
      * (1 + sc (ix1 k)) + sh (ix1 k)) * w (ix2 k q) + b (ix2 0 q) := by
  refine Eq.trans (b := ∑ k : Fin 4096, modulated x g sh sc (ix2 p k) * w (ix2 k q) + b (ix2 0 q)) ?_
    (congrArg (· + b (ix2 0 q)) (Finset.sum_congr rfl fun k _ => congrArg (· * w (ix2 k q)) (modulated_at x g sh sc p k)))
  pointwise [scores]

end Cert.RouterRefIdeal.Whole

namespace Cert.Proof

theorem frame_router : Cert.quiescent_RouterRefIdeal (hRouterRefIdeal := Cert.RouterRefIdeal.Gen.facts) := fun m ρ _ =>
  (θ_run Cert.RouterRefIdeal.defs _ _).mono (fun r h => ⟨fun c => (h c).2.2,
      Idealize.ShloMosaic.sem_eq_zero_of_no_sems (by decide) r.2⟩)
    (Cert.RouterRefIdeal.Value.run (F := Ideal) m ρ)

open Cert.RouterKernelIdeal.Block Cert.RouterRefIdeal.Whole in
theorem algebraic_router : Cert.algebraic_RouterKernelIdeal_RouterRefIdeal (hRouterKernelIdeal := Cert.RouterKernelIdeal.Gen.facts)
    (hRouterRefIdeal := Cert.RouterRefIdeal.Gen.facts) := by
  intro m ρ m' ρ' _ heq
  refine ⟨Cert.RouterKernelIdeal.Block.out m, Cert.RouterKernelIdeal.Block.logits m, ?_, ?_⟩
  · refine (θ_run _ _ _).mono (fun r h c => ?_) (Cert.RouterKernelIdeal.Value.run_blocks (F := Ideal) m ρ)
    obtain ⟨h0, h1, ha⟩ := h c
    exact ⟨h0.trans (array6 m c), h1.trans (array7 m c), ha⟩
  · refine (θ_run _ _ _).mono (fun r h c => ?_) (Cert.RouterRefIdeal.Value.run (F := Ideal) m' ρ')
    obtain ⟨h0, h1, ha⟩ := h c
    obtain ⟨e0, e1, e2, e3, e4, e5⟩ := heq c
    refine ⟨h0.trans ?_, h1.trans ?_, ha⟩
    · rw [e0, e1, e2, e3]
      show result (Cert.RouterKernelIdeal.Block.x m c) (Cert.RouterKernelIdeal.Block.g m c) (Cert.RouterKernelIdeal.Block.shift m c) (Cert.RouterKernelIdeal.Block.scale m c) (Cert.RouterKernelIdeal.Block.w m c) (Cert.RouterKernelIdeal.Block.b m c) = _
      funext i
      have hi : i = (ix2 (i 0) (i 1) : Cert.RouterKernelIdeal.S16384x4096.Idx) := by
        funext a
        match a with
        | ⟨0, _⟩ => rfl
        | ⟨1, _⟩ => rfl
      exact (congrArg (result (Cert.RouterKernelIdeal.Block.x m c) (Cert.RouterKernelIdeal.Block.g m c) (Cert.RouterKernelIdeal.Block.shift m c) (Cert.RouterKernelIdeal.Block.scale m c) (Cert.RouterKernelIdeal.Block.w m c) (Cert.RouterKernelIdeal.Block.b m c)) hi).trans (result_at _ _ _ _ _ _ _ _)
    · rw [e0, e1, e2, e3, e4, e5]
      show scores (Cert.RouterKernelIdeal.Block.x m c) (Cert.RouterKernelIdeal.Block.g m c) (Cert.RouterKernelIdeal.Block.shift m c) (Cert.RouterKernelIdeal.Block.scale m c) (Cert.RouterKernelIdeal.Block.w m c) (Cert.RouterKernelIdeal.Block.b m c) = _
      funext i
      have hi : i = (ix2 (i 0) (i 1) : Cert.RouterKernelIdeal.S16384x128.Idx) := by
        funext a
        match a with
        | ⟨0, _⟩ => rfl
        | ⟨1, _⟩ => rfl
      exact (congrArg (scores (Cert.RouterKernelIdeal.Block.x m c) (Cert.RouterKernelIdeal.Block.g m c) (Cert.RouterKernelIdeal.Block.shift m c) (Cert.RouterKernelIdeal.Block.scale m c) (Cert.RouterKernelIdeal.Block.w m c) (Cert.RouterKernelIdeal.Block.b m c)) hi).trans (scores_at _ _ _ _ _ _ _ _)

end Cert.Proof
-- ==== Proof.FinalValue.lean ====
/-
  The last normalisation, block by block.
-/
module

public import proofs.«01_k».proof.Proof.Norms
public import proofs.«01_k».proof.Proof.Gen.FinalKernel.Frame
public import proofs.«01_k».proof.Proof.Gen.FinalKernelIdeal.Value
public import proofs.«01_k».proof.Proof.Gen.FinalRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.FinalKernelIdeal.Block

open Cert.FinalKernelIdeal Cert.FinalKernelIdeal.Gen Cert.FinalKernelIdeal.Value Cert.Norms

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = 0 ∧ (cfg0.win 3).index t 1 = 0 := by decide +kernel
theorem idx4 : ∀ t : Fin cfg0.N, (cfg0.win 4).index t 0 = t.val ∧ (cfg0.win 4).index t 1 = 0 := by decide +kernel
theorem flush4 : ∀ t : Fin cfg0.N, (cfg0.win 4).flush t = true := by decide +kernel

theorem N_lt (t : Fin cfg0.N) : t.val < 64 := lt_of_lt_of_eq t.isLt N_0

variable (m : (ℓ : Loc nD τ sig) → Buf (Elt Ideal) ℓ) (c : Dev nD)

abbrev x : FVec Ideal S16384x4096 .f32 := m ((c : Thread nD τ).loc main_arg0)
abbrev g : FVec Ideal S4096 .f32 := m ((c : Thread nD τ).loc main_arg1)

/-- The kernel's scale and shift: all zero. -/
def zeros : FVec Ideal S4096 .f32 := broadcastInDim S4096 ![] bcast_S_S4096 (constant S_ .f32 0x00000000#32)

theorem zeros_at (k : Fin 4096) : zeros (ix1 k) = 0 := by
  pointwise [zeros]

/-- One entry of the normalised rows. -/
def entry (p : Fin 16384) (q : Fin 4096) : EReal :=
  x m c (ix2 p q) * inverse 0x45800000#32 (fun k : Fin 4096 => x m c (ix2 p k)) * g m c (ix1 q)

/-- All of them. -/
def out : FVec Ideal S16384x4096 .f32 := fun i => entry m c (i 0) (i 1)

/-- The rows of point `t`'s block. -/
def row (t : Fin cfg0.N) (r : Fin 256) : Fin 16384 := ⟨256 * t.val + r.val, by have := N_lt t; omega⟩

theorem line_at (g : FVec Ideal S4096 .f32) (k : Fin 4096) : shapeCast S1x4096 g shapeCasts_S4096_S1x4096 (ix2 0 k) = g (ix1 k) := by
  pointwise

theorem block0 (t : Fin cfg0.N) (r : Fin 256) (k : Fin 4096) :
    (iblk m c 0 t : FVec Ideal S256x4096 .f32) (ix2 r k) = x m c (ix2 (row t r) k) := by
  obtain ⟨h0, h1⟩ := idx0 t
  unfold iblk
  rw [View.read_apply]
  show (V m c main_arg0 : FVec Ideal S16384x4096 .f32) _ = x m c _
  rw [V_main_arg0]
  refine congrArg (x m c) ?_
  funext a
  apply Fin.ext
  match a with
  | ⟨0, _⟩ => show (cfg0.win 0).index t 0 * 256 + 1 * r.val = 256 * t.val + r.val; rw [h0]; try omega
  | ⟨1, _⟩ => show (cfg0.win 0).index t 1 * 4096 + 1 * k.val = k.val; rw [h1]; try omega

theorem line_g : (V m c main_v1 : FVec Ideal S1x4096 .f32) = shapeCast S1x4096 (g m c) shapeCasts_S4096_S1x4096 := by
  dsimp only [V]
  after_results
  rfl

theorem block1 (t : Fin cfg0.N) (k : Fin 4096) :
    (iblk m c 1 t : FVec Ideal S1x4096 .f32) (ix2 0 k) = g m c (ix1 k) := by
  obtain ⟨h0, h1⟩ := idx1 t
  unfold iblk
  rw [View.read_apply]
  show (V m c main_v1 : FVec Ideal S1x4096 .f32) _ = g m c _
  rw [line_g, ← line_at (g m c) k]
  refine congrArg (shapeCast S1x4096 (g m c) shapeCasts_S4096_S1x4096) ?_
  funext a
  apply Fin.ext
  match a with
  | ⟨0, _⟩ => show (cfg0.win 1).index t 0 * 1 + 1 * 0 = 0; rw [h0]; try omega
  | ⟨1, _⟩ => show (cfg0.win 1).index t 1 * 4096 + 1 * k.val = k.val; rw [h1]; try omega

theorem line_2 : (V m c main_v2 : FVec Ideal S1x4096 .f32) = shapeCast S1x4096 zeros shapeCasts_S4096_S1x4096 := by
  dsimp only [V]
  after_results
  rfl

theorem block2 (t : Fin cfg0.N) (k : Fin 4096) :
    (iblk m c 2 t : FVec Ideal S1x4096 .f32) (ix2 0 k) = (0 : EReal) := by
  obtain ⟨h0, h1⟩ := idx2 t
  unfold iblk
  rw [View.read_apply]
  show (V m c main_v2 : FVec Ideal S1x4096 .f32) _ = (0 : EReal)
  rw [line_2, ← zeros_at k, ← line_at zeros k]
  refine congrArg (shapeCast S1x4096 zeros shapeCasts_S4096_S1x4096) ?_
  funext a
  apply Fin.ext
  match a with
  | ⟨0, _⟩ => show (cfg0.win 2).index t 0 * 1 + 1 * 0 = 0; rw [h0]; try omega
  | ⟨1, _⟩ => show (cfg0.win 2).index t 1 * 4096 + 1 * k.val = k.val; rw [h1]; try omega

theorem line_3 : (V m c main_v3 : FVec Ideal S1x4096 .f32) = shapeCast S1x4096 zeros shapeCasts_S4096_S1x4096 := by
  dsimp only [V]
  after_results
  rfl

theorem block3 (t : Fin cfg0.N) (k : Fin 4096) :
    (iblk m c 3 t : FVec Ideal S1x4096 .f32) (ix2 0 k) = (0 : EReal) := by
  obtain ⟨h0, h1⟩ := idx3 t
  unfold iblk
  rw [View.read_apply]
  show (V m c main_v3 : FVec Ideal S1x4096 .f32) _ = (0 : EReal)
  rw [line_3, ← zeros_at k, ← line_at zeros k]
  refine congrArg (shapeCast S1x4096 zeros shapeCasts_S4096_S1x4096) ?_
  funext a
  apply Fin.ext
  match a with
  | ⟨0, _⟩ => show (cfg0.win 3).index t 0 * 1 + 1 * 0 = 0; rw [h0]; try omega
  | ⟨1, _⟩ => show (cfg0.win 3).index t 1 * 4096 + 1 * k.val = k.val; rw [h1]; try omega

theorem pay_at (x : Vec Ideal S256x4096 .f32) (g sc sh : Vec Ideal S1x4096 .f32) (r : Fin 256) (q : Fin 4096) :
    k0_pay1 x g sc sh (ix2 r q) = (x : FVec Ideal S256x4096 .f32) (ix2 r q)
        * inverse 0x45800000#32 (fun k : Fin 4096 => (x : FVec Ideal S256x4096 .f32) (ix2 r k))
        * (g : FVec Ideal S1x4096 .f32) (ix2 0 q) * (1 + (sc : FVec Ideal S1x4096 .f32) (ix2 0 q)) + (sh : FVec Ideal S1x4096 .f32) (ix2 0 q) := by
  pointwise [k0_pay1, inverse]

theorem whole4 (a0 : Vec Ideal S256x4096 .f32) (a1 : Vec Ideal S1x4096 .f32) (a2 : Vec Ideal S1x4096 .f32) (a3 : Vec Ideal S1x4096 .f32) :
    out0_4 a0 a1 a2 a3 = k0_pay1 a0 a1 a3 a2 := by
  have hz : (![0, 0] : Fin 2 → ℕ) = fun _ => 0 := by decide
  unfold out0_4
  refine (View.canon_unit_zero hz _ _).trans ?_
  rw [View.ld_unit_zero hz _ a0, View.ld_unit_zero hz _ a1, View.ld_unit_zero hz _ a3, View.ld_unit_zero hz _ a2]

theorem point (t : Fin cfg0.N) (r : Fin 256) (l : Fin 4096) :
    (out0_4 (iblk m c 0 t) (iblk m c 1 t) (iblk m c 2 t) (iblk m c 3 t) : FVec Ideal S256x4096 .f32) (ix2 r l) = entry m c (row t r) l := by
  rw [whole4]
  refine (pay_at _ _ _ _ r l).trans ?_
  rw [block0, block1, block2, block3, add_zero, add_zero, mul_one]
  refine congrArg (x m c (ix2 (row t r) l) * · * g m c (ix1 l)) (congrArg (inverse 0x45800000#32) ?_)
  funext k
  exact block0 m c t r k

theorem array4 : (dats m 0 c).arrAt 4 cfg0.N = out m c := by
  refine Pipeline.Dat.arrAt_eq_of_cover (dats m 0 c) 4 (out m c) (fun t _ => ?_) (fun i => ?_)
  · obtain ⟨h0, h1⟩ := idx4 t
    rw [flushed4]
    funext y
    have hy : y = (ix2 (y 0) (y 1) : S256x4096.Idx) := by
      funext a
      match a with
      | ⟨0, _⟩ => rfl
      | ⟨1, _⟩ => rfl
    rw [View.read_apply]
    refine (congrArg (out0_4 (iblk m c 0 t) (iblk m c 1 t) (iblk m c 2 t) (iblk m c 3 t) : FVec Ideal S256x4096 .f32) hy).trans
      ((point m c t (y 0) (y 1)).trans ?_)
    show _ = entry m c _ _
    refine congrArg₂ (entry m c) (Fin.ext ?_) (Fin.ext ?_)
    · show 256 * t.val + (y 0).val = (cfg0.win 4).index t 0 * 256 + 1 * (y 0).val
      rw [h0]
      omega
    · show (y 1).val = (cfg0.win 4).index t 1 * 4096 + 1 * (y 1).val
      rw [h1]
      omega
  · have i0 : (i 0).val < 16384 := (i 0).isLt
    have i1 : (i 1).val < 4096 := (i 1).isLt
    let t : Fin cfg0.N := ⟨(i 0).val / 256, lt_of_lt_of_eq (by omega) N_0.symm⟩
    have ht : t.val = (i 0).val / 256 := rfl
    obtain ⟨h0, h1⟩ := idx4 t
    refine ⟨t, flush4 t, Finset.mem_map.mpr
      ⟨(ix2 ⟨(i 0).val % 256, Nat.mod_lt _ (by norm_num)⟩ ⟨(i 1).val, i1⟩ : S256x4096.Idx), Finset.mem_univ _, ?_⟩⟩
    funext a
    apply Fin.ext
    match a with
    | ⟨0, _⟩ =>
      show (cfg0.win 4).index t 0 * 256 + 1 * ((i 0).val % 256) = (i 0).val
      rw [h0, ht]
      omega
    | ⟨1, _⟩ =>
      show (cfg0.win 4).index t 1 * 4096 + 1 * (i 1).val = (i 1).val
      rw [h1]
      omega

end Cert.FinalKernelIdeal.Block

namespace Cert.FinalRefIdeal.Whole

open Cert.FinalRefIdeal Cert.FinalRefIdeal.Gen Cert.Norms

/-- The rows `x` over the roots of the means of their squares, each column times its `g`. -/
def normed (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf
    (broadcastInDim S16384x1 ![0] bcast_S16384_S16384x1_0 (Host.reduceAdd (mulf x x) (constant S_ .f32 0x00000000#32)
      reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

theorem normed_at (p : Fin 16384) (q : Fin 4096) (x : FVec Ideal S16384x4096 .f32) (g : FVec Ideal S4096 .f32) :
    normed x g (ix2 p q) = x (ix2 p q) * inverse 0x45800000#32 (fun k : Fin 4096 => x (ix2 p k)) * g (ix1 q) := by
  pointwise [normed, inverse]

end Cert.FinalRefIdeal.Whole

namespace Cert.Proof

theorem frame_final : Cert.quiescent_FinalRefIdeal (hFinalRefIdeal := Cert.FinalRefIdeal.Gen.facts) := fun m ρ _ =>
  (θ_run Cert.FinalRefIdeal.defs _ _).mono (fun r h => ⟨fun c => (h c).2,
      Idealize.ShloMosaic.sem_eq_zero_of_no_sems (by decide) r.2⟩)
    (Cert.FinalRefIdeal.Value.run (F := Ideal) m ρ)

open Cert.FinalKernelIdeal.Block Cert.FinalRefIdeal.Whole in
theorem algebraic_final : Cert.algebraic_FinalKernelIdeal_FinalRefIdeal (hFinalKernelIdeal := Cert.FinalKernelIdeal.Gen.facts)
    (hFinalRefIdeal := Cert.FinalRefIdeal.Gen.facts) := by
  intro m ρ m' ρ' _ heq
  refine ⟨Cert.FinalKernelIdeal.Block.out m, ?_, ?_⟩
  · refine (θ_run _ _ _).mono (fun r h c => ?_) (Cert.FinalKernelIdeal.Value.run_blocks (F := Ideal) m ρ)
    obtain ⟨h0, ha⟩ := h c
    exact ⟨h0.trans (array4 m c), ha⟩
  · refine (θ_run _ _ _).mono (fun r h c => ?_) (Cert.FinalRefIdeal.Value.run (F := Ideal) m' ρ')
    obtain ⟨h0, ha⟩ := h c
    obtain ⟨e0, e1⟩ := heq c
    refine ⟨h0.trans ?_, ha⟩
    · rw [e0, e1]
      show normed (Cert.FinalKernelIdeal.Block.x m c) (Cert.FinalKernelIdeal.Block.g m c) = _
      funext i
      have hi : i = (ix2 (i 0) (i 1) : Cert.FinalKernelIdeal.S16384x4096.Idx) := by
        funext a
        match a with
        | ⟨0, _⟩ => rfl
        | ⟨1, _⟩ => rfl
      exact (congrArg (normed (Cert.FinalKernelIdeal.Block.x m c) (Cert.FinalKernelIdeal.Block.g m c)) hi).trans (normed_at _ _ _ _)

end Cert.Proof
-- ==== Proof.CombineValue.lean ====
/-
  The sum of each token's four experts' rows onto the gated residual, block by block.
-/
module

public import proofs.«01_k».proof.Proof.Norms
public import proofs.«01_k».proof.Proof.Gen.CombineKernel.Frame
public import proofs.«01_k».proof.Proof.Gen.CombineKernelIdeal.Value
public import proofs.«01_k».proof.Proof.Gen.CombineRefIdeal.Run
public import proofs.«01_k».proof.Defs
public import Idealize.ShloMosaic.Lib.Pointwise

@[expose] public section

set_option maxRecDepth 16384

noncomputable section

open Idealize.ShloMosaic Idealize.ShloMosaic.TcCoe Idealize.SL.Sem

namespace Cert.CombineKernelIdeal.Block

open Cert.CombineKernelIdeal Cert.CombineKernelIdeal.Gen Cert.CombineKernelIdeal.Value Cert.Norms

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = t.val ∧ (cfg0.win 2).index t 1 = 0 := by decide +kernel
theorem idx3 : ∀ t : Fin cfg0.N, (cfg0.win 3).index t 0 = t.val + 64 ∧ (cfg0.win 3).index t 1 = 0 := by decide +kernel
theorem idx4 : ∀ t : Fin cfg0.N, (cfg0.win 4).index t 0 = t.val + 128 ∧ (cfg0.win 4).index t 1 = 0 := by decide +kernel
theorem idx5 : ∀ t : Fin cfg0.N, (cfg0.win 5).index t 0 = t.val + 192 ∧ (cfg0.win 5).index t 1 = 0 := by decide +kernel
theorem idx6 : ∀ t : Fin cfg0.N, (cfg0.win 6).index t 0 = t.val ∧ (cfg0.win 6).index t 1 = 0 := by decide +kernel
theorem flush6 : ∀ t : Fin cfg0.N, (cfg0.win 6).flush t = true := by decide +kernel

theorem N_lt (t : Fin cfg0.N) : t.val < 64 := lt_of_lt_of_eq t.isLt N_0

variable (m : (ℓ : Loc nD τ sig) → Buf (Elt Ideal) ℓ) (c : Dev nD)

abbrev x : FVec Ideal S16384x4096 .f32 := m ((c : Thread nD τ).loc main_arg0)
abbrev gate : FVec Ideal S4096 .f32 := m ((c : Thread nD τ).loc main_arg1)
abbrev ys : FVec Ideal S65536x4096 .f32 := m ((c : Thread nD τ).loc main_arg2)

/-- The row of token `p` among its `j`-th choices. -/
def chosen (j : Fin 4) (p : Fin 16384) : Fin 65536 := ⟨j.val * 16384 + p.val, by omega⟩

/-- One entry of the result. -/
def entry (p : Fin 16384) (q : Fin 4096) : EReal :=
  x m c (ix2 p q) + gate m c (ix1 q) * ∑ j : Fin 4, ys m c (ix2 (chosen j p) q)

/-- All of them. -/
def out : FVec Ideal S16384x4096 .f32 := fun i => entry m c (i 0) (i 1)

/-- The rows of point `t`'s block. -/
def row (t : Fin cfg0.N) (r : Fin 256) : Fin 16384 := ⟨256 * t.val + r.val, by have := N_lt t; omega⟩

theorem line_at (g : FVec Ideal S4096 .f32) (k : Fin 4096) : shapeCast S1x4096 g shapeCasts_S4096_S1x4096 (ix2 0 k) = g (ix1 k) := by
  pointwise

theorem block0 (t : Fin cfg0.N) (r : Fin 256) (k : Fin 4096) :
    (iblk m c 0 t : FVec Ideal S256x4096 .f32) (ix2 r k) = x m c (ix2 (row t r) k) := by
  obtain ⟨h0, h1⟩ := idx0 t
  unfold iblk
  rw [View.read_apply]
  show (V m c main_arg0 : FVec Ideal S16384x4096 .f32) _ = x m c _
  rw [V_main_arg0]
  refine congrArg (x m c) ?_
  funext a
  apply Fin.ext
  match a with
  | ⟨0, _⟩ => show (cfg0.win 0).index t 0 * 256 + 1 * r.val = 256 * t.val + r.val; rw [h0]; try omega
  | ⟨1, _⟩ => show (cfg0.win 0).index t 1 * 4096 + 1 * k.val = k.val; rw [h1]; try omega

theorem line_gate : (V m c main_v0 : FVec Ideal S1x4096 .f32) = shapeCast S1x4096 (gate m c) shapeCasts_S4096_S1x4096 := by
  dsimp only [V]
  after_results
  rfl

theorem block1 (t : Fin cfg0.N) (k : Fin 4096) :
    (iblk m c 1 t : FVec Ideal S1x4096 .f32) (ix2 0 k) = gate m c (ix1 k) := by
  obtain ⟨h0, h1⟩ := idx1 t
  unfold iblk
  rw [View.read_apply]
  show (V m c main_v0 : FVec Ideal S1x4096 .f32) _ = gate m c _
  rw [line_gate, ← line_at (gate m c) k]
  refine congrArg (shapeCast S1x4096 (gate m c) shapeCasts_S4096_S1x4096) ?_
  funext a
  apply Fin.ext
  match a with
  | ⟨0, _⟩ => show (cfg0.win 1).index t 0 * 1 + 1 * 0 = 0; rw [h0]; try omega
  | ⟨1, _⟩ => show (cfg0.win 1).index t 1 * 4096 + 1 * k.val = k.val; rw [h1]; try omega

theorem block2 (t : Fin cfg0.N) (r : Fin 256) (k : Fin 4096) :
    (iblk m c 2 t : FVec Ideal S256x4096 .f32) (ix2 r k) = ys m c (ix2 (chosen 0 (row t r)) k) := by
  obtain ⟨h0, h1⟩ := idx2 t
  unfold iblk
  rw [View.read_apply]
  show (V m c main_arg2 : FVec Ideal S65536x4096 .f32) _ = ys m c _
  rw [V_main_arg2]
  refine congrArg (ys m c) ?_
  funext a
  apply Fin.ext
  match a with
  | ⟨0, _⟩ => show (cfg0.win 2).index t 0 * 256 + 1 * r.val = 0 * 16384 + (256 * t.val + r.val); rw [h0]; try omega
  | ⟨1, _⟩ => show (cfg0.win 2).index t 1 * 4096 + 1 * k.val = k.val; rw [h1]; try omega

theorem block3 (t : Fin cfg0.N) (r : Fin 256) (k : Fin 4096) :
    (iblk m c 3 t : FVec Ideal S256x4096 .f32) (ix2 r k) = ys m c (ix2 (chosen 1 (row t r)) k) := by
  obtain ⟨h0, h1⟩ := idx3 t
  unfold iblk
  rw [View.read_apply]
  show (V m c main_arg2 : FVec Ideal S65536x4096 .f32) _ = ys m c _
  rw [V_main_arg2]
  refine congrArg (ys m c) ?_
  funext a
  apply Fin.ext
  match a with
  | ⟨0, _⟩ => show (cfg0.win 3).index t 0 * 256 + 1 * r.val = 1 * 16384 + (256 * t.val + r.val); rw [h0]; try omega
  | ⟨1, _⟩ => show (cfg0.win 3).index t 1 * 4096 + 1 * k.val = k.val; rw [h1]; try omega

theorem block4 (t : Fin cfg0.N) (r : Fin 256) (k : Fin 4096) :
    (iblk m c 4 t : FVec Ideal S256x4096 .f32) (ix2 r k) = ys m c (ix2 (chosen 2 (row t r)) k) := by
  obtain ⟨h0, h1⟩ := idx4 t
  unfold iblk
  rw [View.read_apply]
  show (V m c main_arg2 : FVec Ideal S65536x4096 .f32) _ = ys m c _
  rw [V_main_arg2]
  refine congrArg (ys m c) ?_
  funext a
  apply Fin.ext
  match a with
  | ⟨0, _⟩ => show (cfg0.win 4).index t 0 * 256 + 1 * r.val = 2 * 16384 + (256 * t.val + r.val); rw [h0]; try omega
  | ⟨1, _⟩ => show (cfg0.win 4).index t 1 * 4096 + 1 * k.val = k.val; rw [h1]; try omega

theorem block5 (t : Fin cfg0.N) (r : Fin 256) (k : Fin 4096) :
    (iblk m c 5 t : FVec Ideal S256x4096 .f32) (ix2 r k) = ys m c (ix2 (chosen 3 (row t r)) k) := by
  obtain ⟨h0, h1⟩ := idx5 t
  unfold iblk
  rw [View.read_apply]
  show (V m c main_arg2 : FVec Ideal S65536x4096 .f32) _ = ys m c _
  rw [V_main_arg2]
  refine congrArg (ys m c) ?_
  funext a
  apply Fin.ext
  match a with
  | ⟨0, _⟩ => show (cfg0.win 5).index t 0 * 256 + 1 * r.val = 3 * 16384 + (256 * t.val + r.val); rw [h0]; try omega
  | ⟨1, _⟩ => show (cfg0.win 5).index t 1 * 4096 + 1 * k.val = k.val; rw [h1]; try omega

theorem pay_at (x : Vec Ideal S256x4096 .f32) (g : Vec Ideal S1x4096 .f32) (y0 y1 y2 y3 : Vec Ideal S256x4096 .f32) (r : Fin 256) (q : Fin 4096) :
    k0_pay1 x g y0 y1 y2 y3 (ix2 r q) = (x : FVec Ideal S256x4096 .f32) (ix2 r q) + (g : FVec Ideal S1x4096 .f32) (ix2 0 q)
      * (((y0 : FVec Ideal S256x4096 .f32) (ix2 r q) + (y1 : FVec Ideal S256x4096 .f32) (ix2 r q))
        + ((y2 : FVec Ideal S256x4096 .f32) (ix2 r q) + (y3 : FVec Ideal S256x4096 .f32) (ix2 r q))) := by
  pointwise [k0_pay1]

theorem whole6 (a0 : Vec Ideal S256x4096 .f32) (a1 : Vec Ideal S1x4096 .f32) (a2 : Vec Ideal S256x4096 .f32) (a3 : Vec Ideal S256x4096 .f32) (a4 : Vec Ideal S256x4096 .f32) (a5 : Vec Ideal S256x4096 .f32) :
    out0_6 a0 a1 a2 a3 a4 a5 = k0_pay1 a0 a1 a2 a3 a4 a5 := by
  have hz : (![0, 0] : Fin 2 → ℕ) = fun _ => 0 := by decide
  unfold out0_6
  refine (View.canon_unit_zero hz _ _).trans ?_
  rw [View.ld_unit_zero hz _ a0, View.ld_unit_zero hz _ a1, View.ld_unit_zero hz _ a2, View.ld_unit_zero hz _ a3, View.ld_unit_zero hz _ a4, View.ld_unit_zero hz _ a5]

theorem point (t : Fin cfg0.N) (r : Fin 256) (l : Fin 4096) :
    (out0_6 (iblk m c 0 t) (iblk m c 1 t) (iblk m c 2 t) (iblk m c 3 t) (iblk m c 4 t) (iblk m c 5 t) : FVec Ideal S256x4096 .f32) (ix2 r l) = entry m c (row t r) l := by
  rw [whole6]
  refine (pay_at _ _ _ _ _ _ r l).trans ?_
  rw [block0, block1, block2, block3, block4, block5]
  refine congrArg (x m c (ix2 (row t r) l) + gate m c (ix1 l) * ·) ?_
  rw [Fin.sum_univ_four]
  exact (add_assoc _ _ _).symm

theorem array6 : (dats m 0 c).arrAt 6 cfg0.N = out m c := by
  refine Pipeline.Dat.arrAt_eq_of_cover (dats m 0 c) 6 (out m c) (fun t _ => ?_) (fun i => ?_)
  · obtain ⟨h0, h1⟩ := idx6 t
    rw [flushed6]
    funext y
    have hy : y = (ix2 (y 0) (y 1) : S256x4096.Idx) := by
      funext a
      match a with
      | ⟨0, _⟩ => rfl
      | ⟨1, _⟩ => rfl
    rw [View.read_apply]
    refine (congrArg (out0_6 (iblk m c 0 t) (iblk m c 1 t) (iblk m c 2 t) (iblk m c 3 t) (iblk m c 4 t) (iblk m c 5 t) : FVec Ideal S256x4096 .f32) hy).trans
      ((point m c t (y 0) (y 1)).trans ?_)
    show _ = entry m c _ _
    refine congrArg₂ (entry m c) (Fin.ext ?_) (Fin.ext ?_)
    · show 256 * t.val + (y 0).val = (cfg0.win 6).index t 0 * 256 + 1 * (y 0).val
      rw [h0]
      omega
    · show (y 1).val = (cfg0.win 6).index t 1 * 4096 + 1 * (y 1).val
      rw [h1]
      omega
  · have i0 : (i 0).val < 16384 := (i 0).isLt
    have i1 : (i 1).val < 4096 := (i 1).isLt
    let t : Fin cfg0.N := ⟨(i 0).val / 256, lt_of_lt_of_eq (by omega) N_0.symm⟩
    have ht : t.val = (i 0).val / 256 := rfl
    obtain ⟨h0, h1⟩ := idx6 t
    refine ⟨t, flush6 t, Finset.mem_map.mpr
      ⟨(ix2 ⟨(i 0).val % 256, Nat.mod_lt _ (by norm_num)⟩ ⟨(i 1).val, i1⟩ : S256x4096.Idx), Finset.mem_univ _, ?_⟩⟩
    funext a
    apply Fin.ext
    match a with
    | ⟨0, _⟩ =>
      show (cfg0.win 6).index t 0 * 256 + 1 * ((i 0).val % 256) = (i 0).val
      rw [h0, ht]
      omega
    | ⟨1, _⟩ =>
      show (cfg0.win 6).index t 1 * 4096 + 1 * (i 1).val = (i 1).val
      rw [h1]
      omega

end Cert.CombineKernelIdeal.Block

namespace Cert.CombineRefIdeal.Whole

open Cert.CombineRefIdeal Cert.CombineRefIdeal.Gen

def result (x : FVec Ideal S16384x4096 .f32) (g : FVec Ideal S4096 .f32) (y : FVec Ideal S65536x4096 .f32) : FVec Ideal S16384x4096 .f32 :=
  addf x (mulf (broadcastInDim S16384x4096 ![0, 1] bcast_S1x4096_S16384x4096_0_1 (broadcastInDim S1x4096 ![1] bcast_S4096_S1x4096_1 g))
    (Host.reduceAdd (shapeCast S4x16384x4096 y shapeCasts_S65536x4096_S4x16384x4096) (constant S_ .f32 0x00000000#32)
      reducesTo_S4x16384x4096_S16384x4096_d0 h_S_))

theorem result_at (p : Fin 16384) (q : Fin 4096) (x : FVec Ideal S16384x4096 .f32) (g : FVec Ideal S4096 .f32) (y : FVec Ideal S65536x4096 .f32) :
    result x g y (ix2 p q) = x (ix2 p q) + g (ix1 q) * ∑ j : Fin 4, y (ix2 ⟨j.val * 16384 + p.val, by omega⟩ q) := by
  pointwise [result]

end Cert.CombineRefIdeal.Whole

namespace Cert.Proof

theorem frame_combine : Cert.quiescent_CombineRefIdeal (hCombineRefIdeal := Cert.CombineRefIdeal.Gen.facts) := fun m ρ _ =>
  (θ_run Cert.CombineRefIdeal.defs _ _).mono (fun r h => ⟨fun c => (h c).2,
      Idealize.ShloMosaic.sem_eq_zero_of_no_sems (by decide) r.2⟩)
    (Cert.CombineRefIdeal.Value.run (F := Ideal) m ρ)

open Cert.CombineKernelIdeal.Block Cert.CombineRefIdeal.Whole in
theorem algebraic_combine : Cert.algebraic_CombineKernelIdeal_CombineRefIdeal (hCombineKernelIdeal := Cert.CombineKernelIdeal.Gen.facts)
    (hCombineRefIdeal := Cert.CombineRefIdeal.Gen.facts) := by
  intro m ρ m' ρ' _ heq
  refine ⟨Cert.CombineKernelIdeal.Block.out m, ?_, ?_⟩
  · refine (θ_run _ _ _).mono (fun r h c => ?_) (Cert.CombineKernelIdeal.Value.run_blocks (F := Ideal) m ρ)
    obtain ⟨h0, ha⟩ := h c
    exact ⟨h0.trans (array6 m c), ha⟩
  · refine (θ_run _ _ _).mono (fun r h c => ?_) (Cert.CombineRefIdeal.Value.run (F := Ideal) m' ρ')
    obtain ⟨h0, ha⟩ := h c
    obtain ⟨e0, e1, e2⟩ := heq c
    refine ⟨h0.trans ?_, ha⟩
    · rw [e0, e1, e2]
      show result (Cert.CombineKernelIdeal.Block.x m c) (Cert.CombineKernelIdeal.Block.gate m c) (Cert.CombineKernelIdeal.Block.ys m c) = _
      funext i
      have hi : i = (ix2 (i 0) (i 1) : Cert.CombineKernelIdeal.S16384x4096.Idx) := by
        funext a
        match a with
        | ⟨0, _⟩ => rfl
        | ⟨1, _⟩ => rfl
      exact (congrArg (result (Cert.CombineKernelIdeal.Block.x m c) (Cert.CombineKernelIdeal.Block.gate m c) (Cert.CombineKernelIdeal.Block.ys m c)) hi).trans (result_at _ _ _ _ _)

end Cert.Proof
-- ==== Proof.AdaValue.lean ====
/-
  The modulation's shifts, scales and gates: the product of each layer, block by block.
-/
module

public import proofs.«01_k».proof.Proof.Gen.AdaKernel.Frame
public import proofs.«01_k».proof.Proof.Gen.AdaKernelIdeal.Value
public import proofs.«01_k».proof.Proof.Gen.AdaRefIdeal.Run
public import proofs.«01_k».proof.Defs
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.AdaKernelIdeal.Block

open Cert.AdaKernelIdeal Cert.AdaKernelIdeal.Gen Cert.AdaKernelIdeal.Value

theorem idx0 : ∀ t : Fin cfg0.N, (cfg0.win 0).index t 0 = 0 ∧ (cfg0.win 0).index t 1 = 0 := by decide +kernel
theorem idx1 : ∀ t : Fin cfg0.N, (cfg0.win 1).index t 0 = t.val / 48 ∧ (cfg0.win 1).index t 1 = 0 ∧ (cfg0.win 1).index t 2 = t.val % 48 := by
  decide +kernel
theorem idx2 : ∀ t : Fin cfg0.N, (cfg0.win 2).index t 0 = t.val / 48 ∧ (cfg0.win 2).index t 1 = 0 ∧ (cfg0.win 2).index t 2 = t.val % 48 := by
  decide +kernel
theorem idx3 : ∀ t : Fin cfg0.N, (cfg0.win 3).index t 0 = t.val / 48 ∧ (cfg0.win 3).index t 1 = 0 ∧ (cfg0.win 3).index t 2 = t.val % 48 := by
  decide +kernel
theorem flush3 : ∀ t : Fin cfg0.N, (cfg0.win 3).flush t = true := by decide +kernel

theorem N_lt (t : Fin cfg0.N) : t.val < 96 := lt_of_lt_of_eq t.isLt N_0

variable (m : (ℓ : Loc nD τ sig) → Buf (Elt Ideal) ℓ) (c : Dev nD)

abbrev x : FVec Ideal S8x4096 .f32 := m ((c : Thread nD τ).loc main_arg0)
abbrev w : FVec Ideal S2x4096x24576 .f32 := m ((c : Thread nD τ).loc main_arg1)
abbrev b : FVec Ideal S2x24576 .f32 := m ((c : Thread nD τ).loc main_arg2)

/-- One entry: layer `l`, row `r`, column `q`. -/
def entry (l : Fin 2) (r : Fin 8) (q : Fin 24576) : EReal :=
  (∑ k : Fin 4096, x m c (ix2 r k) * Ideal.logistic (x m c (ix2 r k)) * w m c (ix3 l k q)) + b m c (ix2 l q)

/-- The whole result. -/
def out : FVec Ideal S2x8x24576 .f32 := fun i => entry m c (i 0) (i 1) (i 2)

/-- The layer and the columns of point `t`'s block. -/
def layer (t : Fin cfg0.N) : Fin 2 := ⟨t.val / 48, by have := N_lt t; omega⟩
def column (t : Fin cfg0.N) (l : Fin 512) : Fin 24576 := ⟨512 * (t.val % 48) + l.val, by omega⟩

theorem pay_at (a : Vec Ideal S8x4096 .f32) (u : Vec Ideal S1x4096x512 .f32) (v : Vec Ideal S1x1x512 .f32) (r : Fin 8) (l : Fin 512) :
    k0_pay1 a u v (ix3 0 r l) = (∑ k : Fin 4096, (a : FVec Ideal S8x4096 .f32) (ix2 r k) * Ideal.logistic ((a : FVec Ideal S8x4096 .f32) (ix2 r k))
      * (u : FVec Ideal S1x4096x512 .f32) (ix3 0 k l)) + (v : FVec Ideal S1x1x512 .f32) (ix3 0 0 l) := by
  pointwise [k0_pay1]

theorem block0 (t : Fin cfg0.N) (r : Fin 8) (k : Fin 4096) :
    (iblk m c 0 t : FVec Ideal S8x4096 .f32) (ix2 r k) = x m c (ix2 r k) := by
  obtain ⟨h0, h1⟩ := idx0 t
  unfold iblk
  rw [View.read_apply]
  show (V m c main_arg0 : FVec Ideal S8x4096 .f32) _ = x m c _
  rw [V_main_arg0]
  refine congrArg (x m c) ?_
  funext a
  apply Fin.ext
  match a with
  | ⟨0, _⟩ => show (cfg0.win 0).index t 0 * 8 + 1 * r.val = r.val; rw [h0]; omega
  | ⟨1, _⟩ => show (cfg0.win 0).index t 1 * 4096 + 1 * k.val = k.val; rw [h1]; omega

theorem block1 (t : Fin cfg0.N) (k : Fin 4096) (l : Fin 512) :
    (iblk m c 1 t : FVec Ideal S1x4096x512 .f32) (ix3 0 k l) = w m c (ix3 (layer t) k (column t l)) := by
  obtain ⟨h0, h1, h2⟩ := idx1 t
  unfold iblk
  rw [View.read_apply]
  show (V m c main_arg1 : FVec Ideal S2x4096x24576 .f32) _ = w m c _
  rw [V_main_arg1]
  refine congrArg (w m c) ?_
  funext a
  apply Fin.ext
  match a with
  | ⟨0, _⟩ => show (cfg0.win 1).index t 0 * 1 + 1 * 0 = t.val / 48; rw [h0]; omega
  | ⟨1, _⟩ => show (cfg0.win 1).index t 1 * 4096 + 1 * k.val = k.val; rw [h1]; omega
  | ⟨2, _⟩ => show (cfg0.win 1).index t 2 * 512 + 1 * l.val = 512 * (t.val % 48) + l.val; rw [h2]; omega

theorem lines : (V m c main_v0 : FVec Ideal S2x1x24576 .f32) = shapeCast S2x1x24576 (b m c) shapeCasts_S2x24576_S2x1x24576 := by
  dsimp only [V]
  after_results
  rfl

theorem line_at (b : FVec Ideal S2x24576 .f32) (l : Fin 2) (q : Fin 24576) :
    shapeCast S2x1x24576 b shapeCasts_S2x24576_S2x1x24576 (ix3 l 0 q) = b (ix2 l q) := by
  pointwise

theorem block2 (t : Fin cfg0.N) (l : Fin 512) :
    (iblk m c 2 t : FVec Ideal S1x1x512 .f32) (ix3 0 0 l) = b m c (ix2 (layer t) (column t l)) := by
  obtain ⟨h0, h1, h2⟩ := idx2 t
  unfold iblk
  rw [View.read_apply]
  show (V m c main_v0 : FVec Ideal S2x1x24576 .f32) _ = b m c _
  rw [lines, ← line_at (b m c)]
  refine congrArg (shapeCast S2x1x24576 (b m c) shapeCasts_S2x24576_S2x1x24576) ?_
  funext a
  apply Fin.ext
  match a with
  | ⟨0, _⟩ => show (cfg0.win 2).index t 0 * 1 + 1 * 0 = t.val / 48; rw [h0]; omega
  | ⟨1, _⟩ => show (cfg0.win 2).index t 1 * 1 + 1 * 0 = 0; rw [h1]
  | ⟨2, _⟩ => show (cfg0.win 2).index t 2 * 512 + 1 * l.val = 512 * (t.val % 48) + l.val; rw [h2]; omega

theorem whole (a : Vec Ideal S8x4096 .f32) (u : Vec Ideal S1x4096x512 .f32) (v : Vec Ideal S1x1x512 .f32) : out0_3 a u v = k0_pay1 a u v := by
  have hz : (![0, 0] : Fin 2 → ℕ) = fun _ => 0 := by decide
  have hz3 : (![0, 0, 0] : Fin 3 → ℕ) = fun _ => 0 := by decide
  unfold out0_3
  refine (View.canon_unit_zero hz3 _ _).trans ?_
  rw [View.ld_unit_zero hz _ a, View.ld_unit_zero hz3 _ u, View.ld_unit_zero hz3 _ v]

theorem point (t : Fin cfg0.N) (r : Fin 8) (l : Fin 512) :
    (out0_3 (iblk m c 0 t) (iblk m c 1 t) (iblk m c 2 t) : FVec Ideal S1x8x512 .f32) (ix3 0 r l) = entry m c (layer t) r (column t l) := by
  rw [whole]
  refine (pay_at _ _ _ r l).trans ?_
  unfold entry
  rw [block2]
  refine congrArg (· + b m c (ix2 (layer t) (column t l))) (Finset.sum_congr rfl fun k _ => ?_)
  rw [block0, block1]

theorem array3 : (dats m 0 c).arrAt 3 cfg0.N = out m c := by
  refine Pipeline.Dat.arrAt_eq_of_cover (dats m 0 c) 3 (out m c) (fun t _ => ?_) (fun i => ?_)
  · obtain ⟨h0, h1, h2⟩ := idx3 t
    rw [flushed3]
    funext y
    have y0 : (y 0).val < 1 := (y 0).isLt
    have hy : y = (ix3 0 (y 1) (y 2) : S1x8x512.Idx) := by
      funext a
      match a with
      | ⟨0, _⟩ => exact Fin.ext (show (y 0).val = 0 by omega)
      | ⟨1, _⟩ => rfl
      | ⟨2, _⟩ => rfl
    rw [View.read_apply]
    refine (congrArg (out0_3 (iblk m c 0 t) (iblk m c 1 t) (iblk m c 2 t) : FVec Ideal S1x8x512 .f32) hy).trans ((point m c t (y 1) (y 2)).trans ?_)
    show _ = entry m c _ _ _
    refine congr (congrArg₂ (entry m c) (Fin.ext ?_) (Fin.ext ?_)) (Fin.ext ?_)
    · show t.val / 48 = (cfg0.win 3).index t 0 * 1 + 1 * (y 0).val
      rw [h0]
      omega
    · show (y 1).val = (cfg0.win 3).index t 1 * 8 + 1 * (y 1).val
      rw [h1]
      omega
    · show 512 * (t.val % 48) + (y 2).val = (cfg0.win 3).index t 2 * 512 + 1 * (y 2).val
      rw [h2]
      omega
  · have i0 : (i 0).val < 2 := (i 0).isLt
    have i1 : (i 1).val < 8 := (i 1).isLt
    have i2 : (i 2).val < 24576 := (i 2).isLt
    let t : Fin cfg0.N := ⟨48 * (i 0).val + (i 2).val / 512, lt_of_lt_of_eq (by omega) N_0.symm⟩
    have ht : t.val = 48 * (i 0).val + (i 2).val / 512 := rfl
    obtain ⟨h0, h1, h2⟩ := idx3 t
    refine ⟨t, flush3 t, Finset.mem_map.mpr
      ⟨(ix3 0 ⟨(i 1).val, i1⟩ ⟨(i 2).val % 512, Nat.mod_lt _ (by norm_num)⟩ : S1x8x512.Idx), Finset.mem_univ _, ?_⟩⟩
    funext a
    apply Fin.ext
    match a with
    | ⟨0, _⟩ =>
      show (cfg0.win 3).index t 0 * 1 + 1 * 0 = (i 0).val
      rw [h0, ht]
      omega
    | ⟨1, _⟩ =>
      show (cfg0.win 3).index t 1 * 8 + 1 * (i 1).val = (i 1).val
      rw [h1]
      omega
    | ⟨2, _⟩ =>
      show (cfg0.win 3).index t 2 * 512 + 1 * ((i 2).val % 512) = (i 2).val
      rw [h2, ht]
      omega

end Cert.AdaKernelIdeal.Block

namespace Cert.AdaRefIdeal.Whole

open Cert.AdaRefIdeal Cert.AdaRefIdeal.Gen

/-- The rows, each times its logistic. -/
def gated (x : FVec Ideal S8x4096 .f32) : FVec Ideal S8x4096 .f32 :=
  mulf x (Host.divf (broadcastInDim S8x4096 ![] bcast_S_S8x4096 (constant S_ .f32 0x3F800000#32))
    (addf (broadcastInDim S8x4096 ![] bcast_S_S8x4096 (constant S_ .f32 0x3F800000#32)) (Host.exp (Host.negf x))))

theorem gated_at (x : FVec Ideal S8x4096 .f32) (r : Fin 8) (k : Fin 4096) :
    gated x (ix2 r k) = x (ix2 r k) * Ideal.logistic (x (ix2 r k)) := by
  pointwise [gated, Ideal.logistic]

/-- One layer's product, from the layer's weights and biases. -/
def product (x : FVec Ideal S8x4096 .f32) (w : FVec Ideal S1x4096x24576 .f32) (b : FVec Ideal S1x24576 .f32) : FVec Ideal S1x8x24576 .f32 :=
  broadcastInDim S1x8x24576 ![1, 2] bcast_S8x24576_S1x8x24576_1_2 (addf
    (Host.dotGeneral dot_S8x4096_S4096x24576_S8x24576_1_0_0_1_n_n none (gated x) (shapeCast S4096x24576 w shapeCasts_S1x4096x24576_S4096x24576))
    (broadcastInDim S8x24576 ![0, 1] bcast_S1x24576_S8x24576_0_1 (broadcastInDim S1x24576 ![1] bcast_S24576_S1x24576_1
      (shapeCast S24576 b shapeCasts_S1x24576_S24576))))

theorem product_at (x : FVec Ideal S8x4096 .f32) (w : FVec Ideal S1x4096x24576 .f32) (b : FVec Ideal S1x24576 .f32) (r : Fin 8) (q : Fin 24576) :
    product x w b (ix3 0 r q) = (∑ k : Fin 4096, x (ix2 r k) * Ideal.logistic (x (ix2 r k)) * w (ix3 0 k q)) + b (ix2 0 q) := by
  refine Eq.trans (b := (∑ k : Fin 4096, gated x (ix2 r k) * w (ix3 0 k q)) + b (ix2 0 q)) ?_
    (congrArg (· + b (ix2 0 q)) (Finset.sum_congr rfl fun k _ => congrArg (· * w (ix3 0 k q)) (gated_at x r k)))
  pointwise [product]

/-- Both layers'. -/
def result (x : FVec Ideal S8x4096 .f32) (w : FVec Ideal S2x4096x24576 .f32) (b : FVec Ideal S2x24576 .f32) : FVec Ideal S2x8x24576 .f32 :=
  concatenate S2x8x24576 0 [
    ⟨S1x8x24576, product x (extractStridedSlice S1x4096x24576 ![0, 0, 0] w slices_S2x4096x24576_S1x4096x24576_0_0_0)
      (extractStridedSlice S1x24576 ![0, 0] b slices_S2x24576_S1x24576_0_0)⟩,
    ⟨S1x8x24576, product x (extractStridedSlice S1x4096x24576 ![1, 0, 0] w slices_S2x4096x24576_S1x4096x24576_1_0_0)
      (extractStridedSlice S1x24576 ![1, 0] b slices_S2x24576_S1x24576_1_0)⟩] concatenates_S1x8x24576_S1x8x24576_S2x8x24576_d0

theorem result_at (x : FVec Ideal S8x4096 .f32) (w : FVec Ideal S2x4096x24576 .f32) (b : FVec Ideal S2x24576 .f32) (l : Fin 2) (r : Fin 8) (q : Fin 24576) :
    result x w b (ix3 l r q) = (∑ k : Fin 4096, x (ix2 r k) * Ideal.logistic (x (ix2 r k)) * w (ix3 l k q)) + b (ix2 l q) := by
  unfold result
  match l with
  | ⟨0, _⟩ =>
    refine (concatenate_pair_apply_left (t := S2x8x24576) (s₁ := S1x8x24576) (s₂ := S1x8x24576) 0 _ _ _ _ rfl (ix3 0 r q : S1x8x24576.Idx) (fun a => ?_)).trans ((product_at _ _ _ r q).trans ?_)
    · match a with
      | ⟨0, _⟩ => rfl
      | ⟨1, _⟩ => rfl
      | ⟨2, _⟩ => rfl
    · refine congrArg₂ (· + ·) (Finset.sum_congr rfl fun k _ => congrArg (x (ix2 r k) * Ideal.logistic (x (ix2 r k)) * ·) ?_) ?_
      · pointwise
      · pointwise
  | ⟨1, _⟩ =>
    refine (concatenate_pair_apply_right (t := S2x8x24576) (s₁ := S1x8x24576) (s₂ := S1x8x24576) 0 _ _ _ _ rfl rfl (ix3 0 r q : S1x8x24576.Idx) (fun a ha => ?_) rfl).trans ((product_at _ _ _ r q).trans ?_)
    · match a with
      | ⟨0, _⟩ => exact absurd rfl ha
      | ⟨1, _⟩ => rfl
      | ⟨2, _⟩ => rfl
    · refine congrArg₂ (· + ·) (Finset.sum_congr rfl fun k _ => congrArg (x (ix2 r k) * Ideal.logistic (x (ix2 r k)) * ·) ?_) ?_
      · pointwise
      · pointwise

end Cert.AdaRefIdeal.Whole

namespace Cert.Proof

theorem frame_ada : Cert.quiescent_AdaRefIdeal (hAdaRefIdeal := Cert.AdaRefIdeal.Gen.facts) := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

open Cert.AdaKernelIdeal.Block Cert.AdaRefIdeal.Whole in
theorem algebraic_ada : Cert.algebraic_AdaKernelIdeal_AdaRefIdeal (hAdaKernelIdeal := Cert.AdaKernelIdeal.Gen.facts)
    (hAdaRefIdeal := Cert.AdaRefIdeal.Gen.facts) := by
  intro m ρ m' ρ' _ heq
  refine ⟨out m, ?_, ?_⟩
  · refine (θ_run _ _ _).mono (fun r h c => ?_) (Cert.AdaKernelIdeal.Value.run_blocks (F := Ideal) m ρ)
    obtain ⟨h0, ha⟩ := h c
    exact ⟨h0.trans (array3 m c), ha⟩
  · refine (θ_run _ _ _).mono (fun r h c => ?_) (Cert.AdaRefIdeal.Value.run (F := Ideal) m' ρ')
    obtain ⟨h0, ha⟩ := h c
    refine ⟨h0.trans ?_, ha⟩
    obtain ⟨e0, e1, e2⟩ := heq c
    rw [e0, e1, e2]
    show result (x m c) (w m c) (b m c) = _
    funext i
    have hi : i = (ix3 (i 0) (i 1) (i 2) : Cert.AdaKernelIdeal.S2x8x24576.Idx) := by
      funext a
      match a with
      | ⟨0, _⟩ => rfl
      | ⟨1, _⟩ => rfl
      | ⟨2, _⟩ => rfl
    exact (congrArg (result (x m c) (w m c) (b m c)) hi).trans (result_at _ _ _ _ _ _)

end Cert.Proof
-- ==== Proof.PostValue.lean ====
/-
  The mLSTM branch's end: the sum of the two directions, normalised head by head and gated, block by block.
-/
module

public import proofs.«01_k».proof.Proof.Norms
public import proofs.«01_k».proof.Proof.Gen.PostKernel.Frame
public import proofs.«01_k».proof.Proof.Gen.PostKernelIdeal.Value
public import proofs.«01_k».proof.Proof.Gen.PostRefIdeal.Run
public import proofs.«01_k».proof.Defs
public import Idealize.ShloMosaic.Lib.Pointwise
public import Idealize.ShloMosaic.Lib.Pipeline.Value
public import Idealize.ShloMosaic.Lib.WritesUnit
public import Idealize.ShloMosaic.Lib.Pipeline.ValueKit.Tiles

@[expose] public section

set_option maxRecDepth 16384

noncomputable section

open Idealize.ShloMosaic Idealize.ShloMosaic.TcCoe Idealize.SL.Sem

namespace Cert.PostKernelIdeal.Block

open Cert.PostKernelIdeal Cert.PostKernelIdeal.Gen Cert.PostKernelIdeal.Value Cert.Norms

theorem idx0 : ∀ t : Fin cfg0.N, (cfg0.win 0).index t 0 = 0 ∧ (cfg0.win 0).index t 1 = t.val ∧ (cfg0.win 0).index t 2 = 0 := by decide +kernel
theorem idx1 : ∀ t : Fin cfg0.N, (cfg0.win 1).index t 0 = 1 ∧ (cfg0.win 1).index t 1 = t.val ∧ (cfg0.win 1).index t 2 = 0 := by decide +kernel
theorem idx2 : ∀ t : Fin cfg0.N, (cfg0.win 2).index t 0 = t.val ∧ (cfg0.win 2).index t 1 = 2 := by decide +kernel
theorem idx3 : ∀ t : Fin cfg0.N, (cfg0.win 3).index t 0 = 0 ∧ (cfg0.win 3).index t 1 = 0 := by decide +kernel
theorem idx4 : ∀ t : Fin cfg0.N, (cfg0.win 4).index t 0 = t.val ∧ (cfg0.win 4).index t 1 = 0 := by decide +kernel
theorem flush4 : ∀ t : Fin cfg0.N, (cfg0.win 4).flush t = true := by decide +kernel

theorem N_lt (t : Fin cfg0.N) : t.val < 64 := lt_of_lt_of_eq t.isLt N_0

/-- Column `l` of head `h`, of 128 columns a head. -/
def col (h : Fin 8) (l : Fin 128) : Fin 1024 := ⟨128 * h.val + l.val, by omega⟩

theorem col_mul (h : Fin 8) (l : Fin 128) (hl : h.val * 128 + l.val < 1024) : (⟨h.val * 128 + l.val, hl⟩ : Fin 1024) = col h l :=
  Fin.ext (by simp [col]; omega)

/-! ## What the body stores for each head -/

theorem slices_h (h : Fin 8) : S256x1024.Slices ![0, 128 * h.val] S256x128 := by
  revert h; decide

/-- The sum of the two directions. -/
def both (a b : Vec Ideal S1x256x1024 .f32) : FVec Ideal S256x1024 .f32 :=
  addf (shapeCast S256x1024 a shapeCasts_S1x256x1024_S256x1024) (shapeCast S256x1024 b shapeCasts_S1x256x1024_S256x1024)

/-- Head `h`'s columns of the result. -/
def part (s : FVec Ideal S256x1024 .f32) (h : Fin 8) (g : Vec Ideal S1x128 .f32) (o : Vec Ideal S256x128 .f32) : FVec Ideal S256x128 .f32 :=
  have u : FVec Ideal S256x128 .f32 := extractStridedSlice S256x128 ![0, 128 * h.val] s (slices_h h)
  mulf (mulf (mulf u (broadcastTo S256x128 (rsqrt (addf (divf (shapeCast S256x1
      (multiReduction .add [1] S256 (mulf u u) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 (shapeCast S1x128 g shapeCasts_S1x128_S1x128) broadcasts_S1x128_S256x128)) (logistic o)

theorem both_at (a b : Vec Ideal S1x256x1024 .f32) (r : Fin 256) (k : Fin 1024) :
    both a b (ix2 r k) = (a : FVec Ideal S1x256x1024 .f32) (ix3 0 r k) + (b : FVec Ideal S1x256x1024 .f32) (ix3 0 r k) := by
  pointwise [both]

/-- `part` of the head's own columns. -/
theorem part_of (u : FVec Ideal S256x128 .f32) (g : Vec Ideal S1x128 .f32) (o : Vec Ideal S256x128 .f32) (r : Fin 256) (l : Fin 128) :
    mulf (mulf (mulf u (broadcastTo S256x128 (rsqrt (addf (divf (shapeCast S256x1
        (multiReduction .add [1] S256 (mulf u u) 0x00000000#32 reduces_S256x128_S256 (.inl rfl) rfl) shapeCasts_S256_S256x1)
        (broadcast S256x1 (Scalar.ofBits (F := Ideal) .f32 0x43000000#32))) (broadcast S256x1 (Scalar.ofBits (F := Ideal) .f32 0x358637BD#32)))) broadcasts_S256x1_S256x128))
      (broadcastTo S256x128 (shapeCast S1x128 g shapeCasts_S1x128_S1x128) broadcasts_S1x128_S256x128)) (logistic o) (ix2 r l)
    = u (ix2 r l) * inverse 0x43000000#32 (fun k : Fin 128 => u (ix2 r k)) * (g : FVec Ideal S1x128 .f32) (ix2 0 l)
      * Ideal.logistic ((o : FVec Ideal S256x128 .f32) (ix2 r l)) := by
  pointwise [inverse]

theorem slice_at (s : FVec Ideal S256x1024 .f32) (h : Fin 8) (r : Fin 256) (l : Fin 128) :
    extractStridedSlice S256x128 ![0, 128 * h.val] s (slices_h h) (ix2 r l) = s (ix2 r (col h l)) := by
  refine congrArg s ?_
  funext a
  apply Fin.ext
  match a with
  | ⟨0, _⟩ => show 0 + r.val = r.val; omega
  | ⟨1, _⟩ => rfl

theorem part_at (s : FVec Ideal S256x1024 .f32) (h : Fin 8) (g : Vec Ideal S1x128 .f32) (o : Vec Ideal S256x128 .f32) (r : Fin 256) (l : Fin 128) :
    part s h g o (ix2 r l) = s (ix2 r (col h l)) * inverse 0x43000000#32 (fun k : Fin 128 => s (ix2 r (col h k)))
      * (g : FVec Ideal S1x128 .f32) (ix2 0 l) * Ideal.logistic ((o : FVec Ideal S256x128 .f32) (ix2 r l)) := by
  refine (part_of _ g o r l).trans ?_
  rw [slice_at]
  refine congrArg (s (ix2 r (col h l)) * · * (g : FVec Ideal S1x128 .f32) (ix2 0 l) * Ideal.logistic ((o : FVec Ideal S256x128 .f32) (ix2 r l)))
    (congrArg (inverse 0x43000000#32) ?_)
  funext k
  exact slice_at s h r k

/-! ## The stores -/

theorem inb (k : ℕ) (hk : k < 8) : ∀ a, (![0, 128 * k] : Fin 2 → ℕ) a + (![256, 128] : Fin 2 → ℕ) a ≤ (![256, 1024] : Fin 2 → ℕ) a := by
  intro a
  fin_cases a <;> simp <;> omega

theorem inbLine (k : ℕ) (hk : k < 8) : ∀ a, (![0, 128 * k] : Fin 2 → ℕ) a + (![1, 128] : Fin 2 → ℕ) a ≤ (![1, 1024] : Fin 2 → ℕ) a := by
  intro a
  fin_cases a <;> simp <;> omega

/-- The stores of the first `k` heads, the newest first. -/
def strip (w : Fin 8 → S256x128.Idx → Elt Ideal .f32) : (k : ℕ) → k ≤ 8 → List (View.Piece (Elt Ideal) S256x1024 .f32)
  | 0, _ => []
  | k + 1, hk => ⟨Rect.unit ![0, 128 * k] ![256, 128] (inb k hk), w ⟨k, hk⟩⟩ :: strip w k (Nat.le_of_succ_le hk)

/-- One direction's block. -/
def ldS (arg : Memref sig .tc .vmem S1x256x1024 .f32) (harg : arg.IsWhole) (x : Vec Ideal S1x256x1024 .f32) : Vec Ideal S1x256x1024 .f32 :=
  View.readAt (Elt Ideal) arg.view (Rect.unit ![0, 0, 0] S1x256x1024.size inb_S1x256x1024_S1x256x1024_0_0_0).toLoadRect (harg.unread x)

/-- Head `h`'s columns of the output gates' block. -/
def ldO (arg : Memref sig .tc .vmem S256x1024 .f32) (harg : arg.IsWhole) (x : Vec Ideal S256x1024 .f32) (h : Fin 8) : Vec Ideal S256x128 .f32 :=
  View.readAt (Elt Ideal) arg.view (Rect.unit (s := S256x1024) ![0, 128 * h.val] S256x128.size (inb h.val h.isLt)).toLoadRect (harg.unread x)

/-- Head `h`'s columns of the scales. -/
def ldG (arg : Memref sig .tc .vmem S1x1024 .f32) (harg : arg.IsWhole) (x : Vec Ideal S1x1024 .f32) (h : Fin 8) : Vec Ideal S1x128 .f32 :=
  View.readAt (Elt Ideal) arg.view (Rect.unit (s := S1x1024) ![0, 128 * h.val] S1x128.size (inbLine h.val h.isLt)).toLoadRect (harg.unread x)

theorem ldS_eq (arg : Memref sig .tc .vmem S1x256x1024 .f32) (harg : arg.IsWhole) (x : Vec Ideal S1x256x1024 .f32) : ldS arg harg x = x := by
  unfold ldS
  rw [View.readAt_eq_ld, View.ld_unit_zero (by funext a; fin_cases a <;> rfl), harg.read_unread]

theorem ldO_at (arg : Memref sig .tc .vmem S256x1024 .f32) (harg : arg.IsWhole) (x : Vec Ideal S256x1024 .f32) (h : Fin 8) (r : Fin 256) (l : Fin 128) :
    ldO arg harg x h (ix2 r l) = x (ix2 r (col h l)) := by
  unfold ldO
  rw [View.readAt_eq_ld, View.ld_unit_apply_of _ _ _ _ _ (ix2 r (col h l)) (by intro x; fin_cases x <;> simp [col]), harg.read_unread]

theorem ldG_at (arg : Memref sig .tc .vmem S1x1024 .f32) (harg : arg.IsWhole) (x : Vec Ideal S1x1024 .f32) (h : Fin 8) (l : Fin 128) :
    ldG arg harg x h (ix2 0 l) = x (ix2 0 (col h l)) := by
  unfold ldG
  rw [View.readAt_eq_ld, View.ld_unit_apply_of _ _ _ _ _ (ix2 0 (col h l)) (by intro x; fin_cases x <;> simp [col]), harg.read_unread]

theorem strip_read {κ : Kind} {sp : Space} (v : View sig κ sp S256x1024 .f32) (f : v.ty.Contents (Elt Ideal))
    (w : Fin 8 → S256x128.Idx → Elt Ideal .f32) (k : ℕ) (hk : k ≤ 8) (h : Fin 8) (hh : h.val < k) (r : Fin 256) (l : Fin 128) :
    v.read (Elt Ideal) (v.writes (Elt Ideal) f (strip w k hk)) (ix2 r (col h l)) = w h (ix2 r l) := by
  induction k with
  | zero => omega
  | succ k ih =>
    unfold strip
    by_cases hk' : h.val = k
    · subst hk'
      refine View.read_writes_cons_unit_of_mem v f _ _ _ _ (ix2 r l) rfl ?_
      intro x
      fin_cases x <;> simp [col]
    · rw [View.read_writes_cons_unit_of_not_mem v f _ _ _ _ rfl 1 (by simp [col]; omega)]
      exact ih _ (by omega)

theorem list (c : Dev nD) (i : grid0.Coords) (arg1 : Memref sig .tc .vmem S1x256x1024 .f32) (harg1 : arg1.IsWhole)
    (arg2 : Memref sig .tc .vmem S1x256x1024 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S256x1024 .f32) (harg5 : arg5.IsWhole)
    (x0 x1 : Vec Ideal S1x256x1024 .f32) (x2 : Vec Ideal S256x1024 .f32) (x3 : Vec Ideal S1x1024 .f32) :
    (kernelRun0_A (F := Ideal) c i arg1 harg1 arg2 harg2 arg3 harg3 arg4 harg4 arg5 harg5 x0 x1 x2 x3).1
      = strip (fun h => part (both (ldS arg1 harg1 x0) (ldS arg2 harg2 x1)) h (ldG arg4 harg4 x3 h) (ldO arg3 harg3 x2 h)) 8 (by omega) := by
  unfold kernelRun0_A
  dsimp only
  rfl

/-- What the body leaves in its block, column `l` of head `h`. -/
theorem whole (c : Dev nD) (i : grid0.Coords) (arg1 : Memref sig .tc .vmem S1x256x1024 .f32) (harg1 : arg1.IsWhole)
    (arg2 : Memref sig .tc .vmem S1x256x1024 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S256x1024 .f32) (harg5 : arg5.IsWhole)
    (x0 x1 : Vec Ideal S1x256x1024 .f32) (x2 : Vec Ideal S256x1024 .f32) (x3 : Vec Ideal S1x1024 .f32) (r : Fin 256) (h : Fin 8) (l : Fin 128) :
    out0_A_4 (F := Ideal) c i arg1 harg1 arg2 harg2 arg3 harg3 arg4 harg4 arg5 harg5 x0 x1 x2 x3 (ix2 r (col h l))
      = both x0 x1 (ix2 r (col h l)) * inverse 0x43000000#32 (fun k : Fin 128 => both x0 x1 (ix2 r (col h k)))
        * (x3 : FVec Ideal S1x1024 .f32) (ix2 0 (col h l)) * Ideal.logistic ((x2 : FVec Ideal S256x1024 .f32) (ix2 r (col h l))) := by
  unfold out0_A_4
  rw [list, strip_read _ _ _ _ _ h h.isLt, part_at, ldS_eq, ldS_eq]
  exact congrArg₂ (both x0 x1 (ix2 r (col h l)) * inverse 0x43000000#32 (fun k : Fin 128 => both x0 x1 (ix2 r (col h k))) * · * Ideal.logistic ·)
    (ldG_at arg4 harg4 x3 h l) (ldO_at arg3 harg3 x2 h r l)

/-! ## Blocks -/

variable (m : (ℓ : Loc nD τ sig) → Buf (Elt Ideal) ℓ) (c : Dev nD)

abbrev hd : FVec Ideal S2x16384x1024 .f32 := m ((c : Thread nD τ).loc main_arg0)
abbrev za : FVec Ideal S16384x3200 .f32 := m ((c : Thread nD τ).loc main_arg1)
abbrev g : FVec Ideal S1024 .f32 := m ((c : Thread nD τ).loc main_arg2)

/-- The sum of the directions at token `p`, column `q`. -/
def sum2 (p : Fin 16384) (q : Fin 1024) : EReal := hd m c (ix3 0 p q) + hd m c (ix3 1 p q)

/-- The head of column `q`, and its place in it. -/
def hq (q : Fin 1024) : Fin 8 := ⟨q.val / 128, by omega⟩
def lq (q : Fin 1024) : Fin 128 := ⟨q.val % 128, Nat.mod_lt _ (by norm_num)⟩

theorem col_of (q : Fin 1024) : col (hq q) (lq q) = q := Fin.ext (show 128 * (q.val / 128) + q.val % 128 = q.val by omega)

/-- Column `q` of the output gates, which stand from column 2048 of the projections on. -/
def gate (q : Fin 1024) : Fin 3200 := ⟨2048 + q.val, by omega⟩

/-- One entry of the result. -/
def entry (p : Fin 16384) (q : Fin 1024) : EReal :=
  sum2 m c p q * inverse 0x43000000#32 (fun k : Fin 128 => sum2 m c p (col (hq q) k)) * g m c (ix1 q) * Ideal.logistic (za m c (ix2 p (gate q)))

/-- The whole result. -/
def out : FVec Ideal S16384x1024 .f32 := fun i => entry m c (i 0) (i 1)

/-- The rows of point `t`'s block. -/
def row (t : Fin cfg0.N) (r : Fin 256) : Fin 16384 := ⟨256 * t.val + r.val, by have := N_lt t; omega⟩

theorem block0 (t : Fin cfg0.N) (r : Fin 256) (k : Fin 1024) :
    (iblk m c 0 t : FVec Ideal S1x256x1024 .f32) (ix3 0 r k) = hd m c (ix3 0 (row t r) k) := by
  obtain ⟨h0, h1, h2⟩ := idx0 t
  unfold iblk
  rw [View.read_apply]
  show (V m c main_arg0 : FVec Ideal S2x16384x1024 .f32) _ = hd m c _
  rw [V_main_arg0]
  refine congrArg (hd m c) ?_
  funext a
  apply Fin.ext
  match a with
  | ⟨0, _⟩ => show (cfg0.win 0).index t 0 * 1 + 1 * 0 = 0; rw [h0]
  | ⟨1, _⟩ => show (cfg0.win 0).index t 1 * 256 + 1 * r.val = 256 * t.val + r.val; rw [h1]; omega
  | ⟨2, _⟩ => show (cfg0.win 0).index t 2 * 1024 + 1 * k.val = k.val; rw [h2]; omega

theorem block1 (t : Fin cfg0.N) (r : Fin 256) (k : Fin 1024) :
    (iblk m c 1 t : FVec Ideal S1x256x1024 .f32) (ix3 0 r k) = hd m c (ix3 1 (row t r) k) := by
  obtain ⟨h0, h1, h2⟩ := idx1 t
  unfold iblk
  rw [View.read_apply]
  show (V m c main_arg0 : FVec Ideal S2x16384x1024 .f32) _ = hd m c _
  rw [V_main_arg0]
  refine congrArg (hd m c) ?_
  funext a
  apply Fin.ext
  match a with
  | ⟨0, _⟩ => show (cfg0.win 1).index t 0 * 1 + 1 * 0 = 1; rw [h0]
  | ⟨1, _⟩ => show (cfg0.win 1).index t 1 * 256 + 1 * r.val = 256 * t.val + r.val; rw [h1]; omega
  | ⟨2, _⟩ => show (cfg0.win 1).index t 2 * 1024 + 1 * k.val = k.val; rw [h2]; omega

theorem block2 (t : Fin cfg0.N) (r : Fin 256) (k : Fin 1024) :
    (X0_2 m c t : FVec Ideal S256x1024 .f32) (ix2 r k) = za m c (ix2 (row t r) (gate k)) := by
  obtain ⟨h0, h1⟩ := idx2 t
  unfold X0_2 Pipeline.Window.fill
  rw [dif_pos (moved0_2 t (ix2 r k))]
  unfold iblk
  rw [View.read_apply]
  show (V m c main_arg1 : FVec Ideal S16384x3200 .f32) _ = za m c _
  rw [V_main_arg1]
  refine congrArg (za m c) ?_
  funext a
  apply Fin.ext
  match a with
  | ⟨0, _⟩ => show (cfg0.win 2).index t 0 * 256 + 1 * r.val = 256 * t.val + r.val; rw [h0]; omega
  | ⟨1, _⟩ => show (cfg0.win 2).index t 1 * 1024 + 1 * k.val = 2048 + k.val; rw [h1]; omega

theorem line : (V m c main_v0 : FVec Ideal S1x1024 .f32) = shapeCast S1x1024 (g m c) shapeCasts_S1024_S1x1024 := by
  dsimp only [V]
  after_results
  rfl

theorem line_at (g : FVec Ideal S1024 .f32) (k : Fin 1024) : shapeCast S1x1024 g shapeCasts_S1024_S1x1024 (ix2 0 k) = g (ix1 k) := by
  pointwise

theorem block3 (t : Fin cfg0.N) (k : Fin 1024) :
    (iblk m c 3 t : FVec Ideal S1x1024 .f32) (ix2 0 k) = g m c (ix1 k) := by
  obtain ⟨h0, h1⟩ := idx3 t
  unfold iblk
  rw [View.read_apply]
  show (V m c main_v0 : FVec Ideal S1x1024 .f32) _ = g m c _
  rw [line, ← line_at (g m c) k]
  refine congrArg (shapeCast S1x1024 (g m c) shapeCasts_S1024_S1x1024) ?_
  funext a
  apply Fin.ext
  match a with
  | ⟨0, _⟩ => show (cfg0.win 3).index t 0 * 1 + 1 * 0 = 0; rw [h0]
  | ⟨1, _⟩ => show (cfg0.win 3).index t 1 * 1024 + 1 * k.val = k.val; rw [h1]; omega

theorem blocks (t : Fin cfg0.N) (r : Fin 256) (q : Fin 1024) : both (iblk m c 0 t) (iblk m c 1 t) (ix2 r q) = sum2 m c (row t r) q := by
  refine (both_at _ _ r q).trans ?_
  rw [block0, block1]
  rfl

theorem point (t : Fin cfg0.N) (r : Fin 256) (q : Fin 1024) :
    (outsAt0 m c t : FVec Ideal S256x1024 .f32) (ix2 r q) = entry m c (row t r) q := by
  unfold outsAt0
  refine (congrArg (fun q => out0_A_4 (F := Ideal) c (grid0.coords t) (ms0_0 t) (hs0_0 t) (ms0_1 t) (hs0_1 t) (ms0_2 t) (hs0_2 t) (ms0_3 t)
    (hs0_3 t) (ms0_4 t) (hs0_4 t) (iblk m c 0 t) (iblk m c 1 t) (X0_2 m c t) (iblk m c 3 t) (ix2 r q)) (col_of q).symm).trans ?_
  refine (whole c (grid0.coords t) _ _ _ _ _ _ _ _ _ _ _ _ _ _ r (hq q) (lq q)).trans ?_
  rw [col_of, block2, block3, blocks]
  refine congrArg (sum2 m c (row t r) q * · * g m c (ix1 q) * Ideal.logistic (za m c (ix2 (row t r) (gate q)))) (congrArg (inverse 0x43000000#32) ?_)
  funext k
  exact blocks m c t r _

theorem array4 : (dats m 0 c).arrAt 4 cfg0.N = out m c := by
  refine Pipeline.Dat.arrAt_eq_of_cover (dats m 0 c) 4 (out m c) (fun t _ => ?_) (fun i => ?_)
  · obtain ⟨h0, h1⟩ := idx4 t
    rw [flushed4]
    funext y
    have hy : y = (ix2 (y 0) (y 1) : S256x1024.Idx) := by
      funext a
      match a with
      | ⟨0, _⟩ => rfl
      | ⟨1, _⟩ => rfl
    rw [View.read_apply]
    refine (show _ = (outsAt0 m c t : FVec Ideal S256x1024 .f32) y from rfl).trans ((congrArg (outsAt0 m c t : FVec Ideal S256x1024 .f32) hy).trans
      ((point m c t (y 0) (y 1)).trans ?_))
    show _ = entry m c _ _
    refine congrArg₂ (entry m c) (Fin.ext ?_) (Fin.ext ?_)
    · show 256 * t.val + (y 0).val = (cfg0.win 4).index t 0 * 256 + 1 * (y 0).val
      rw [h0]
      omega
    · show (y 1).val = (cfg0.win 4).index t 1 * 1024 + 1 * (y 1).val
      rw [h1]
      omega
  · have i0 : (i 0).val < 16384 := (i 0).isLt
    have i1 : (i 1).val < 1024 := (i 1).isLt
    let t : Fin cfg0.N := ⟨(i 0).val / 256, lt_of_lt_of_eq (by omega) N_0.symm⟩
    have ht : t.val = (i 0).val / 256 := rfl
    obtain ⟨h0, h1⟩ := idx4 t
    refine ⟨t, flush4 t, Finset.mem_map.mpr
      ⟨(ix2 ⟨(i 0).val % 256, Nat.mod_lt _ (by norm_num)⟩ ⟨(i 1).val, i1⟩ : S256x1024.Idx), Finset.mem_univ _, ?_⟩⟩
    funext a
    apply Fin.ext
    match a with
    | ⟨0, _⟩ =>
      show (cfg0.win 4).index t 0 * 256 + 1 * ((i 0).val % 256) = (i 0).val
      rw [h0, ht]
      omega
    | ⟨1, _⟩ =>
      show (cfg0.win 4).index t 1 * 1024 + 1 * (i 1).val = (i 1).val
      rw [h1]
      omega

end Cert.PostKernelIdeal.Block

namespace Cert.PostRefIdeal.Whole

open Cert.PostRefIdeal Cert.PostRefIdeal.Gen Cert.Norms
open Cert.PostKernelIdeal.Block (col col_mul hq lq col_of gate)

/-- The sum of the directions, in heads. -/
def heads (d : FVec Ideal S2x16384x1024 .f32) : FVec Ideal S16384x8x128 .f32 :=
  shapeCast S16384x8x128 (addf
    (shapeCast S16384x1024 (extractStridedSlice S1x16384x1024 ![0, 0, 0] d slices_S2x16384x1024_S1x16384x1024_0_0_0) shapeCasts_S1x16384x1024_S16384x1024)
    (shapeCast S16384x1024 (extractStridedSlice S1x16384x1024 ![1, 0, 0] d slices_S2x16384x1024_S1x16384x1024_1_0_0) shapeCasts_S1x16384x1024_S16384x1024))
    shapeCasts_S16384x1024_S16384x8x128

theorem heads_at (d : FVec Ideal S2x16384x1024 .f32) (p : Fin 16384) (h : Fin 8) (k : Fin 128) :
    heads d (ix3 p h k) = d (ix3 0 p (col h k)) + d (ix3 1 p (col h k)) := by
  pointwise [heads]
  rw [col_mul]

/-- Each head's row over the root of the mean of its squares. -/
def normed (x : FVec Ideal S16384x8x128 .f32) : FVec Ideal S16384x8x128 .f32 :=
  mulf x (broadcastInDim S16384x8x128 ![0, 1, 2] bcast_S16384x8x1_S16384x8x128_0_1_2 (Host.rsqrt (addf (Host.divf
    (broadcastInDim S16384x8x1 ![0, 1] bcast_S16384x8_S16384x8x1_0_1 (Host.reduceAdd (mulf x x) (constant S_ .f32 0x00000000#32)
      reducesTo_S16384x8x128_S16384x8_d2 h_S_)) (broadcastInDim S16384x8x1 ![] bcast_S_S16384x8x1 (constant S_ .f32 0x43000000#32)))
    (broadcastInDim S16384x8x1 ![] bcast_S_S16384x8x1 (constant S_ .f32 0x358637BD#32)))))

theorem normed_at (x : FVec Ideal S16384x8x128 .f32) (p : Fin 16384) (h : Fin 8) (k : Fin 128) :
    normed x (ix3 p h k) = x (ix3 p h k) * inverse 0x43000000#32 (fun k : Fin 128 => x (ix3 p h k)) := by
  pointwise [normed, inverse]

/-- The rows in columns again, scaled and gated. -/
def gated (x : FVec Ideal S16384x8x128 .f32) (z : FVec Ideal S16384x3200 .f32) (g : FVec Ideal S1024 .f32) : FVec Ideal S16384x1024 .f32 :=
  mulf (mulf (shapeCast S16384x1024 x shapeCasts_S16384x8x128_S16384x1024)
    (broadcastInDim S16384x1024 ![0, 1] bcast_S1x1024_S16384x1024_0_1 (broadcastInDim S1x1024 ![1] bcast_S1024_S1x1024_1 g)))
    (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (extractStridedSlice S16384x1024 ![0, 2048] z slices_S16384x3200_S16384x1024_0_2048)))))

theorem gated_at (x : FVec Ideal S16384x8x128 .f32) (z : FVec Ideal S16384x3200 .f32) (g : FVec Ideal S1024 .f32) (p : Fin 16384) (q : Fin 1024) :
    gated x z g (ix2 p q) = x (ix3 p (hq q) (lq q)) * g (ix1 q) * Ideal.logistic (z (ix2 p (gate q))) := by
  pointwise [gated, Ideal.logistic, hq, lq, gate]

theorem result_at (d : FVec Ideal S2x16384x1024 .f32) (z : FVec Ideal S16384x3200 .f32) (g : FVec Ideal S1024 .f32) (p : Fin 16384) (q : Fin 1024) :
    gated (normed (heads d)) z g (ix2 p q)
      = (d (ix3 0 p q) + d (ix3 1 p q)) * inverse 0x43000000#32 (fun k : Fin 128 => d (ix3 0 p (col (hq q) k)) + d (ix3 1 p (col (hq q) k)))
        * g (ix1 q) * Ideal.logistic (z (ix2 p (gate q))) := by
  rw [gated_at, normed_at, heads_at, col_of]
  refine congrArg ((d (ix3 0 p q) + d (ix3 1 p q)) * · * g (ix1 q) * Ideal.logistic (z (ix2 p (gate q)))) (congrArg (inverse 0x43000000#32) ?_)
  funext k
  exact heads_at d p (hq q) k

end Cert.PostRefIdeal.Whole

namespace Cert.Proof

theorem frame_post : Cert.quiescent_PostRefIdeal (hPostRefIdeal := Cert.PostRefIdeal.Gen.facts) := fun m ρ _ =>
  (θ_run Cert.PostRefIdeal.defs _ _).mono (fun r h => ⟨fun c => (h c).2,
      Idealize.ShloMosaic.sem_eq_zero_of_no_sems (by decide) r.2⟩)
    (Cert.PostRefIdeal.Value.run (F := Ideal) m ρ)

open Cert.PostKernelIdeal.Block Cert.PostRefIdeal.Whole in
theorem algebraic_post : Cert.algebraic_PostKernelIdeal_PostRefIdeal (hPostKernelIdeal := Cert.PostKernelIdeal.Gen.facts)
    (hPostRefIdeal := Cert.PostRefIdeal.Gen.facts) := by
  intro m ρ m' ρ' _ heq
  refine ⟨out m, ?_, ?_⟩
  · refine (θ_run _ _ _).mono (fun r h c => ?_) (Cert.PostKernelIdeal.Value.run_blocks (F := Ideal) m ρ)
    obtain ⟨h0, ha⟩ := h c
    exact ⟨h0.trans (array4 m c), ha⟩
  · refine (θ_run _ _ _).mono (fun r h c => ?_) (Cert.PostRefIdeal.Value.run (F := Ideal) m' ρ')
    obtain ⟨h0, ha⟩ := h c
    refine ⟨h0.trans ?_, ha⟩
    obtain ⟨e0, e1, e2⟩ := heq c
    rw [e0, e1, e2]
    show gated (normed (heads (hd m c))) (za m c) (g m c) = _
    funext i
    have hi : i = (ix2 (i 0) (i 1) : Cert.PostKernelIdeal.S16384x1024.Idx) := by
      funext a
      match a with
      | ⟨0, _⟩ => rfl
      | ⟨1, _⟩ => rfl
    exact (congrArg (gated (normed (heads (hd m c))) (za m c) (g m c)) hi).trans (result_at _ _ _ _ _)

end Cert.Proof
-- ==== Proof.ConvValue.lean ====
/-
  Hyena's short convolution along the sequence: three taps, block by block, with one row of each neighbouring block.
-/
module

public import proofs.«01_k».proof.Proof.Gen.ConvKernel.Frame
public import proofs.«01_k».proof.Proof.Gen.ConvKernelIdeal.Value
public import proofs.«01_k».proof.Proof.Gen.ConvRefIdeal.Run
public import proofs.«01_k».proof.Defs
public import Idealize.ShloMosaic.Lib.Pointwise
public import Idealize.ShloMosaic.Lib.KernelVsHost
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem

namespace Cert.ConvKernelIdeal.Block

open Cert.ConvKernelIdeal Cert.ConvKernelIdeal.Gen Cert.ConvKernelIdeal.Value

theorem idx0 : ∀ t : Fin cfg0.N, (cfg0.win 0).index t 0 = t.val ∧ (cfg0.win 0).index t 1 = 0 := by decide +kernel
theorem idx1 : ∀ t : Fin cfg0.N, (cfg0.win 1).index t 0 = 32 * t.val - 1 ∧ (cfg0.win 1).index t 1 = 0 := by decide +kernel
theorem idx2 : ∀ t : Fin cfg0.N, (cfg0.win 2).index t 0 = min (32 * (t.val + 1)) 2047 ∧ (cfg0.win 2).index t 1 = 0 := by decide +kernel
theorem idx3 : ∀ t : Fin cfg0.N, (cfg0.win 3).index t 0 = 0 ∧ (cfg0.win 3).index t 1 = 0 := by decide +kernel
theorem idx4 : ∀ t : Fin cfg0.N, (cfg0.win 4).index t 0 = 0 ∧ (cfg0.win 4).index t 1 = 0 := by decide +kernel
theorem idx5 : ∀ t : Fin cfg0.N, (cfg0.win 5).index t 0 = t.val ∧ (cfg0.win 5).index t 1 = 0 := by decide +kernel
theorem idx6 : ∀ t : Fin cfg0.N, (cfg0.win 6).index t 0 = t.val ∧ (cfg0.win 6).index t 1 = 0 := by decide +kernel
theorem idx7 : ∀ t : Fin cfg0.N, (cfg0.win 7).index t 0 = t.val ∧ (cfg0.win 7).index t 1 = 0 := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel

/-- There is a block before this one. -/
theorem first : ∀ t : Fin cfg0.N, Scalar.cmpi .sgt (BitVec.ofNat 32 (grid0.coords t 0).val) 0#32 = if t.val = 0 then 0#1 else 1#1 := by decide +kernel
/-- There is a block after this one. -/
theorem last : ∀ t : Fin cfg0.N, Scalar.cmpi .slt (BitVec.ofNat 32 (grid0.coords t 0).val) 63#32 = if t.val = 63 then 0#1 else 1#1 := by decide +kernel

theorem mask0 : ∀ r : Fin 256, IntOp.cmpi .eq (BitVec.ofNat 32 (0 * 256 + r.val)) 0#32 = if r.val = 0 then 1#1 else 0#1 := by decide +kernel
theorem mask255 : ∀ r : Fin 256, IntOp.cmpi .eq (BitVec.ofNat 32 (0 * 256 + r.val)) 255#32 = if r.val = 255 then 1#1 else 0#1 := by decide +kernel

theorem N_lt (t : Fin cfg0.N) : t.val < 64 := lt_of_lt_of_eq t.isLt N_0

/-! ## The body -/

/-- A row of a neighbouring block, or zeros, on every row. -/
def edge (s : BitVec 1) (p : Vec Ideal S1x3072 .f32) : FVec Ideal S256x3072 .f32 :=
  broadcastTo S256x3072 (shapeCast S1x3072 (Scalar.select s p (broadcast S1x3072 (Scalar.ofBits (F := Ideal) .f32 0x00000000#32)) : FVec Ideal S1x3072 .f32)
    shapeCasts_S1x3072_S1x3072) broadcasts_S1x3072_S256x3072

/-- The rows before. -/
def before (s : BitVec 1) (z : Vec Ideal S256x3072 .f32) (p : Vec Ideal S1x3072 .f32) : FVec Ideal S256x3072 .f32 :=
  select (cmpi .eq (iota .tc S256x3072 32 [0] iota_S256x3072_d0_w32) (broadcast S256x3072 0#32)) (edge s p)
    (dynamicRotate 0 1#32 none (z : FVec Ideal S256x3072 .f32) rotates_S256x3072_d0)

/-- The rows after. -/
def after (s : BitVec 1) (z : Vec Ideal S256x3072 .f32) (p : Vec Ideal S1x3072 .f32) : FVec Ideal S256x3072 .f32 :=
  select (cmpi .eq (iota .tc S256x3072 32 [0] iota_S256x3072_d0_w32) (broadcast S256x3072 255#32)) (edge s p)
    (dynamicRotate 0 255#32 none (z : FVec Ideal S256x3072 .f32) rotates_S256x3072_d0)

/-- The three taps and the bias. -/
def taps (u z v : FVec Ideal S256x3072 .f32) (w0 w1 w2 b : Vec Ideal S1x3072 .f32) : FVec Ideal S256x3072 .f32 :=
  addf (addf (addf (mulf u (broadcastTo S256x3072 (w0 : FVec Ideal S1x3072 .f32) broadcasts_S1x3072_S256x3072))
    (mulf z (broadcastTo S256x3072 (w1 : FVec Ideal S1x3072 .f32) broadcasts_S1x3072_S256x3072)))
    (mulf v (broadcastTo S256x3072 (w2 : FVec Ideal S1x3072 .f32) broadcasts_S1x3072_S256x3072)))
    (broadcastTo S256x3072 (shapeCast S1x3072 (b : FVec Ideal S1x3072 .f32) shapeCasts_S1x3072_S1x3072) broadcasts_S1x3072_S256x3072)

theorem body_eq (i : grid0.Coords) (z : Vec Ideal S256x3072 .f32) (p n w0 w1 w2 b : Vec Ideal S1x3072 .f32) :
    k0_pay4 i z p n w0 w1 w2 b = taps (before (Scalar.cmpi .sgt (BitVec.ofNat 32 (i 0).val) 0#32) z p) z
      (after (Scalar.cmpi .slt (BitVec.ofNat 32 (i 0).val) 63#32) z n) w0 w1 w2 b := rfl

theorem edge_at (s : BitVec 1) (p : Vec Ideal S1x3072 .f32) (r : Fin 256) (q : Fin 3072) :
    edge s p (ix2 r q) = Scalar.select s ((p : FVec Ideal S1x3072 .f32) (ix2 0 q)) (0 : EReal) := by
  unfold edge
  by_cases hs : s = 1
  · rw [Scalar.select_of_eq_one hs, Scalar.select_of_eq_one hs]
    pointwise
  · rw [Scalar.select_of_ne_one hs, Scalar.select_of_ne_one hs]
    pointwise

theorem taps_at (u z v : FVec Ideal S256x3072 .f32) (w0 w1 w2 b : Vec Ideal S1x3072 .f32) (r : Fin 256) (q : Fin 3072) :
    taps u z v w0 w1 w2 b (ix2 r q) = u (ix2 r q) * (w0 : FVec Ideal S1x3072 .f32) (ix2 0 q) + z (ix2 r q) * (w1 : FVec Ideal S1x3072 .f32) (ix2 0 q)
      + v (ix2 r q) * (w2 : FVec Ideal S1x3072 .f32) (ix2 0 q) + (b : FVec Ideal S1x3072 .f32) (ix2 0 q) := by
  pointwise [taps]

theorem taps_of (u z v : FVec Ideal S256x3072 .f32) (w0 w1 w2 b : Vec Ideal S1x3072 .f32) (r : Fin 256) (q : Fin 3072)
    {u' z' v' w0' w1' w2' b' : EReal} (hu : u (ix2 r q) = u') (hz : z (ix2 r q) = z') (hv : v (ix2 r q) = v')
    (h0 : (w0 : FVec Ideal S1x3072 .f32) (ix2 0 q) = w0') (h1 : (w1 : FVec Ideal S1x3072 .f32) (ix2 0 q) = w1')
    (h2 : (w2 : FVec Ideal S1x3072 .f32) (ix2 0 q) = w2') (hb : (b : FVec Ideal S1x3072 .f32) (ix2 0 q) = b') :
    taps u z v w0 w1 w2 b (ix2 r q) = u' * w0' + z' * w1' + v' * w2' + b' := by
  rw [taps_at, hu, hz, hv, h0, h1, h2, hb]

theorem before_edge (s : BitVec 1) (z : Vec Ideal S256x3072 .f32) (p : Vec Ideal S1x3072 .f32) (r : Fin 256) (q : Fin 3072) (hr : r.val = 0) :
    before s z p (ix2 r q) = Scalar.select s ((p : FVec Ideal S1x3072 .f32) (ix2 0 q)) (0 : EReal) := by
  refine (Scalar.select_of_eq_one ((mask0 r).trans (if_pos hr)) _ _).trans ?_
  exact edge_at s p r q

theorem before_in (s : BitVec 1) (z : Vec Ideal S256x3072 .f32) (p : Vec Ideal S1x3072 .f32) (r k : Fin 256) (q : Fin 3072) (hk : k.val + 1 = r.val) :
    before s z p (ix2 r q) = (z : FVec Ideal S256x3072 .f32) (ix2 k q) := by
  refine (Scalar.select_of_eq_zero ((mask0 r).trans (if_neg (by omega))) _ _).trans ?_
  refine dynamicRotate_apply 0 1#32 (z : FVec Ideal S256x3072 .f32) rotates_S256x3072_d0 (ix2 r q) (ix2 k q) ?_
  intro a
  match a with
  | ⟨0, _⟩ => show k.val = (r.val + 256 - 1 % 256) % 256; omega
  | ⟨1, _⟩ => rfl

theorem after_edge (s : BitVec 1) (z : Vec Ideal S256x3072 .f32) (p : Vec Ideal S1x3072 .f32) (r : Fin 256) (q : Fin 3072) (hr : r.val = 255) :
    after s z p (ix2 r q) = Scalar.select s ((p : FVec Ideal S1x3072 .f32) (ix2 0 q)) (0 : EReal) := by
  refine (Scalar.select_of_eq_one ((mask255 r).trans (if_pos hr)) _ _).trans ?_
  exact edge_at s p r q

theorem after_in (s : BitVec 1) (z : Vec Ideal S256x3072 .f32) (p : Vec Ideal S1x3072 .f32) (r k : Fin 256) (q : Fin 3072) (hk : r.val + 1 = k.val) :
    after s z p (ix2 r q) = (z : FVec Ideal S256x3072 .f32) (ix2 k q) := by
  refine (Scalar.select_of_eq_zero ((mask255 r).trans (if_neg (by omega))) _ _).trans ?_
  refine dynamicRotate_apply 0 255#32 (z : FVec Ideal S256x3072 .f32) rotates_S256x3072_d0 (ix2 r q) (ix2 k q) ?_
  intro a
  match a with
  | ⟨0, _⟩ => show k.val = (r.val + 256 - 255 % 256) % 256; omega
  | ⟨1, _⟩ => rfl

/-! ## Blocks -/

variable (m : (ℓ : Loc nD τ sig) → Buf (Elt Ideal) ℓ) (c : Dev nD)

abbrev z : FVec Ideal S16384x3072 .f32 := m ((c : Thread nD τ).loc main_arg0)
abbrev w : FVec Ideal S3x3072 .f32 := m ((c : Thread nD τ).loc main_arg1)
abbrev b : FVec Ideal S3072 .f32 := m ((c : Thread nD τ).loc main_arg2)

/-- The row before, zero before the first. -/
def prev (p : Fin 16384) (q : Fin 3072) : EReal := if h : p.val = 0 then 0 else z m c (ix2 ⟨p.val - 1, by omega⟩ q)
/-- The row after, zero after the last. -/
def next (p : Fin 16384) (q : Fin 3072) : EReal := if h : p.val = 16383 then 0 else z m c (ix2 ⟨p.val + 1, by omega⟩ q)

/-- One entry of the convolution. -/
def entry (p : Fin 16384) (q : Fin 3072) : EReal :=
  prev m c p q * w m c (ix2 0 q) + z m c (ix2 p q) * w m c (ix2 1 q) + next m c p q * w m c (ix2 2 q) + b m c (ix1 q)

/-- The three parts of the columns. -/
def third (n : Fin 3) (l : Fin 1024) : Fin 3072 := ⟨1024 * n.val + l.val, by omega⟩

/-- The results. -/
def out (n : Fin 3) : FVec Ideal S16384x1024 .f32 := fun i => entry m c (i 0) (third n (i 1))

/-- The rows of point `t`'s block. -/
def row (t : Fin cfg0.N) (r : Fin 256) : Fin 16384 := ⟨256 * t.val + r.val, by have := N_lt t; omega⟩

theorem block0 (t : Fin cfg0.N) (r : Fin 256) (k : Fin 3072) :
    (iblk m c 0 t : FVec Ideal S256x3072 .f32) (ix2 r k) = z m c (ix2 (row t r) k) := by
  obtain ⟨h0, h1⟩ := idx0 t
  unfold iblk
  rw [View.read_apply]
  show (V m c main_arg0 : FVec Ideal S16384x3072 .f32) _ = z m c _
  rw [V_main_arg0]
  refine congrArg (z m c) ?_
  funext a
  apply Fin.ext
  match a with
  | ⟨0, _⟩ => show (cfg0.win 0).index t 0 * 256 + 1 * r.val = 256 * t.val + r.val; rw [h0]; omega
  | ⟨1, _⟩ => show (cfg0.win 0).index t 1 * 3072 + 1 * k.val = k.val; rw [h1]; omega

theorem block1 (t : Fin cfg0.N) (p : Fin 16384) (hp : p.val + 1 = 256 * t.val) (k : Fin 3072) :
    (iblk m c 1 t : FVec Ideal S8x3072 .f32) (ix2 7 k) = z m c (ix2 p k) := by
  obtain ⟨h0, h1⟩ := idx1 t
  unfold iblk
  rw [View.read_apply]
  show (V m c main_arg0 : FVec Ideal S16384x3072 .f32) _ = z m c _
  rw [V_main_arg0]
  refine congrArg (z m c) ?_
  funext a
  apply Fin.ext
  match a with
  | ⟨0, _⟩ => show (cfg0.win 1).index t 0 * 8 + 1 * 7 = p.val; rw [h0]; omega
  | ⟨1, _⟩ => show (cfg0.win 1).index t 1 * 3072 + 1 * k.val = k.val; rw [h1]; omega

theorem block2 (t : Fin cfg0.N) (p : Fin 16384) (hp : p.val = 256 * (t.val + 1)) (k : Fin 3072) :
    (iblk m c 2 t : FVec Ideal S8x3072 .f32) (ix2 0 k) = z m c (ix2 p k) := by
  obtain ⟨h0, h1⟩ := idx2 t
  unfold iblk
  rw [View.read_apply]
  show (V m c main_arg0 : FVec Ideal S16384x3072 .f32) _ = z m c _
  rw [V_main_arg0]
  refine congrArg (z m c) ?_
  funext a
  apply Fin.ext
  match a with
  | ⟨0, _⟩ => show (cfg0.win 2).index t 0 * 8 + 1 * 0 = p.val; rw [h0]; omega
  | ⟨1, _⟩ => show (cfg0.win 2).index t 1 * 3072 + 1 * k.val = k.val; rw [h1]; omega

theorem block3 (t : Fin cfg0.N) (r : Fin 3) (k : Fin 3072) :
    (iblk m c 3 t : FVec Ideal S3x3072 .f32) (ix2 r k) = w m c (ix2 r k) := by
  obtain ⟨h0, h1⟩ := idx3 t
  unfold iblk
  rw [View.read_apply]
  show (V m c main_arg1 : FVec Ideal S3x3072 .f32) _ = w m c _
  rw [V_main_arg1]
  refine congrArg (w m c) ?_
  funext a
  apply Fin.ext
  match a with
  | ⟨0, _⟩ => show (cfg0.win 3).index t 0 * 3 + 1 * r.val = r.val; rw [h0]; omega
  | ⟨1, _⟩ => show (cfg0.win 3).index t 1 * 3072 + 1 * k.val = k.val; rw [h1]; omega

theorem line : (V m c main_v0 : FVec Ideal S1x3072 .f32) = shapeCast S1x3072 (b m c) shapeCasts_S3072_S1x3072 := by
  dsimp only [V]
  after_results
  rfl

theorem line_at (g : FVec Ideal S3072 .f32) (k : Fin 3072) : shapeCast S1x3072 g shapeCasts_S3072_S1x3072 (ix2 0 k) = g (ix1 k) := by
  pointwise

theorem block4 (t : Fin cfg0.N) (k : Fin 3072) :
    (iblk m c 4 t : FVec Ideal S1x3072 .f32) (ix2 0 k) = b m c (ix1 k) := by
  obtain ⟨h0, h1⟩ := idx4 t
  unfold iblk
  rw [View.read_apply]
  show (V m c main_v0 : FVec Ideal S1x3072 .f32) _ = b m c _
  rw [line, ← line_at (b m c) k]
  refine congrArg (shapeCast S1x3072 (b m c) shapeCasts_S3072_S1x3072) ?_
  funext a
  apply Fin.ext
  match a with
  | ⟨0, _⟩ => show (cfg0.win 4).index t 0 * 1 + 1 * 0 = 0; rw [h0]
  | ⟨1, _⟩ => show (cfg0.win 4).index t 1 * 3072 + 1 * k.val = k.val; rw [h1]; omega

/-! ## What the loads read -/

theorem hz : (![0, 0] : Fin 2 → ℕ) = fun _ => 0 := by decide

theorem ld1 (x : Vec Ideal S8x3072 .f32) (q : Fin 3072) : (View.ld x r0_1 : FVec Ideal S1x3072 .f32) (ix2 0 q) = (x : FVec Ideal S8x3072 .f32) (ix2 7 q) :=
  View.ld_unit_apply_of _ _ _ _ _ (ix2 7 q) (by intro a; fin_cases a <;> simp)
theorem ld2 (x : Vec Ideal S8x3072 .f32) (q : Fin 3072) : (View.ld x r0_2 : FVec Ideal S1x3072 .f32) (ix2 0 q) = (x : FVec Ideal S8x3072 .f32) (ix2 0 q) :=
  View.ld_unit_apply_of _ _ _ _ _ (ix2 0 q) (by intro a; fin_cases a <;> simp)
theorem ld3 (x : Vec Ideal S3x3072 .f32) (q : Fin 3072) : (View.ld x r0_3 : FVec Ideal S1x3072 .f32) (ix2 0 q) = (x : FVec Ideal S3x3072 .f32) (ix2 0 q) :=
  View.ld_unit_apply_of _ _ _ _ _ (ix2 0 q) (by intro a; fin_cases a <;> simp)
theorem ld4 (x : Vec Ideal S3x3072 .f32) (q : Fin 3072) : (View.ld x r0_4 : FVec Ideal S1x3072 .f32) (ix2 0 q) = (x : FVec Ideal S3x3072 .f32) (ix2 1 q) :=
  View.ld_unit_apply_of _ _ _ _ _ (ix2 1 q) (by intro a; fin_cases a <;> simp)
theorem ld5 (x : Vec Ideal S3x3072 .f32) (q : Fin 3072) : (View.ld x r0_5 : FVec Ideal S1x3072 .f32) (ix2 0 q) = (x : FVec Ideal S3x3072 .f32) (ix2 2 q) :=
  View.ld_unit_apply_of _ _ _ _ _ (ix2 2 q) (by intro a; fin_cases a <;> simp)

theorem before_block (t : Fin cfg0.N) (r : Fin 256) (q : Fin 3072) :
    before (Scalar.cmpi .sgt (BitVec.ofNat 32 (grid0.coords t 0).val) 0#32) (iblk m c 0 t) (View.ld (iblk m c 1 t) r0_1) (ix2 r q) = prev m c (row t r) q := by
  have hN := N_lt t
  unfold prev
  by_cases hr : r.val = 0
  · rw [before_edge _ _ _ r q hr, first t]
    by_cases ht : t.val = 0
    · rw [if_pos ht, dif_pos (show (row t r).val = 0 from (show 256 * t.val + r.val = 0 by omega))]
      exact Scalar.select_of_eq_zero rfl _ _
    · rw [if_neg ht, dif_neg (show ¬ (row t r).val = 0 from (show ¬ 256 * t.val + r.val = 0 by omega))]
      refine (Scalar.select_of_eq_one rfl _ _).trans ((ld1 _ q).trans ?_)
      exact block1 m c t _ (show 256 * t.val + r.val - 1 + 1 = 256 * t.val by omega) q
  · rw [before_in _ _ _ r ⟨r.val - 1, by omega⟩ q (show r.val - 1 + 1 = r.val by omega), dif_neg (show ¬ (row t r).val = 0 from (show ¬ 256 * t.val + r.val = 0 by omega)), block0]
    refine congrArg (fun p => z m c (ix2 p q)) (Fin.ext ?_)
    show 256 * t.val + (r.val - 1) = 256 * t.val + r.val - 1
    omega

theorem after_block (t : Fin cfg0.N) (r : Fin 256) (q : Fin 3072) :
    after (Scalar.cmpi .slt (BitVec.ofNat 32 (grid0.coords t 0).val) 63#32) (iblk m c 0 t) (View.ld (iblk m c 2 t) r0_2) (ix2 r q) = next m c (row t r) q := by
  have hN := N_lt t
  unfold next
  by_cases hr : r.val = 255
  · rw [after_edge _ _ _ r q hr, last t]
    by_cases ht : t.val = 63
    · rw [if_pos ht, dif_pos (show (row t r).val = 16383 from (show 256 * t.val + r.val = 16383 by omega))]
      exact Scalar.select_of_eq_zero rfl _ _
    · rw [if_neg ht, dif_neg (show ¬ (row t r).val = 16383 from (show ¬ 256 * t.val + r.val = 16383 by omega))]
      refine (Scalar.select_of_eq_one rfl _ _).trans ((ld2 _ q).trans ?_)
      exact block2 m c t _ (show 256 * t.val + r.val + 1 = 256 * (t.val + 1) by omega) q
  · rw [after_in _ _ _ r ⟨r.val + 1, by omega⟩ q rfl, dif_neg (show ¬ (row t r).val = 16383 from (show ¬ 256 * t.val + r.val = 16383 by omega)), block0]
    rfl

theorem loads (i : grid0.Coords) (x0 : Vec Ideal S256x3072 .f32) (x1 x2 : Vec Ideal S8x3072 .f32) (x3 : Vec Ideal S3x3072 .f32) (x4 : Vec Ideal S1x3072 .f32) :
    k0_pay5 i x0 x1 x2 x3 x4 = k0_pay4 i x0 (View.ld x1 r0_1) (View.ld x2 r0_2) (View.ld x3 r0_3) (View.ld x3 r0_4) (View.ld x3 r0_5) x4 := by
  unfold k0_pay5
  rw [View.ld_unit_zero hz _ x0, View.ld_unit_zero hz _ x4]

/-- The body's value at point `t`. -/
theorem point (t : Fin cfg0.N) (r : Fin 256) (q : Fin 3072) :
    (k0_pay5 (grid0.coords t) (iblk m c 0 t) (iblk m c 1 t) (iblk m c 2 t) (iblk m c 3 t) (iblk m c 4 t) : FVec Ideal S256x3072 .f32) (ix2 r q)
      = entry m c (row t r) q := by
  rw [loads, body_eq]
  exact taps_of _ _ _ _ _ _ _ r q (before_block m c t r q) (block0 m c t r q) (after_block m c t r q)
    ((ld3 _ q).trans (block3 m c t 0 q)) ((ld4 _ q).trans (block3 m c t 1 q)) ((ld5 _ q).trans (block3 m c t 2 q)) (block4 m c t q)

theorem whole5 (t : Fin cfg0.N) (r : Fin 256) (l : Fin 1024) :
    (out0_5 (grid0.coords t) (iblk m c 0 t) (iblk m c 1 t) (iblk m c 2 t) (iblk m c 3 t) (iblk m c 4 t) : FVec Ideal S256x1024 .f32) (ix2 r l)
      = entry m c (row t r) (third 0 l) := by
  unfold out0_5
  refine (congrFun (View.canon_unit_zero hz _ _) (ix2 r l)).trans (Eq.trans ?_ (point m c t r (third 0 l)))
  unfold k0_pay1
  refine congrArg (k0_pay5 (grid0.coords t) (iblk m c 0 t) (iblk m c 1 t) (iblk m c 2 t) (iblk m c 3 t) (iblk m c 4 t) : FVec Ideal S256x3072 .f32) ?_
  funext a
  apply Fin.ext
  match a with
  | ⟨0, _⟩ => show 0 + r.val = r.val; omega
  | ⟨1, _⟩ => show 0 + l.val = 1024 * 0 + l.val; omega

theorem array5 : (dats m 0 c).arrAt 5 cfg0.N = out m c 0 := by
  refine Pipeline.Dat.arrAt_eq_of_cover (dats m 0 c) 5 (out m c 0) (fun t _ => ?_) (fun i => ?_)
  · obtain ⟨h0, h1⟩ := idx5 t
    rw [flushed5]
    funext y
    have hy : y = (ix2 (y 0) (y 1) : S256x1024.Idx) := by
      funext a
      match a with
      | ⟨0, _⟩ => rfl
      | ⟨1, _⟩ => rfl
    rw [View.read_apply]
    refine (show _ = (out0_5 (grid0.coords t) (iblk m c 0 t) (iblk m c 1 t) (iblk m c 2 t) (iblk m c 3 t) (iblk m c 4 t) : FVec Ideal S256x1024 .f32) y from rfl).trans
      ((congrArg (out0_5 (grid0.coords t) (iblk m c 0 t) (iblk m c 1 t) (iblk m c 2 t) (iblk m c 3 t) (iblk m c 4 t) : FVec Ideal S256x1024 .f32) hy).trans
      ((whole5 m c t (y 0) (y 1)).trans ?_))
    show _ = entry m c _ (third 0 _)
    refine congrArg₂ (fun p l => entry m c p (third 0 l)) (Fin.ext ?_) (Fin.ext ?_)
    · show 256 * t.val + (y 0).val = (cfg0.win 5).index t 0 * 256 + 1 * (y 0).val
      rw [h0]
      omega
    · show (y 1).val = (cfg0.win 5).index t 1 * 1024 + 1 * (y 1).val
      rw [h1]
      omega
  · have i0 : (i 0).val < 16384 := (i 0).isLt
    have i1 : (i 1).val < 1024 := (i 1).isLt
    let t : Fin cfg0.N := ⟨(i 0).val / 256, lt_of_lt_of_eq (by omega) N_0.symm⟩
    have ht : t.val = (i 0).val / 256 := rfl
    obtain ⟨h0, h1⟩ := idx5 t
    refine ⟨t, flush5 t, Finset.mem_map.mpr
      ⟨(ix2 ⟨(i 0).val % 256, Nat.mod_lt _ (by norm_num)⟩ ⟨(i 1).val, i1⟩ : S256x1024.Idx), Finset.mem_univ _, ?_⟩⟩
    funext a
    apply Fin.ext
    match a with
    | ⟨0, _⟩ =>
      show (cfg0.win 5).index t 0 * 256 + 1 * ((i 0).val % 256) = (i 0).val
      rw [h0, ht]
      omega
    | ⟨1, _⟩ =>
      show (cfg0.win 5).index t 1 * 1024 + 1 * (i 1).val = (i 1).val
      rw [h1]
      omega

theorem whole6 (t : Fin cfg0.N) (r : Fin 256) (l : Fin 1024) :
    (out0_6 (grid0.coords t) (iblk m c 0 t) (iblk m c 1 t) (iblk m c 2 t) (iblk m c 3 t) (iblk m c 4 t) : FVec Ideal S256x1024 .f32) (ix2 r l)
      = entry m c (row t r) (third 1 l) := by
  unfold out0_6
  refine (congrFun (View.canon_unit_zero hz _ _) (ix2 r l)).trans (Eq.trans ?_ (point m c t r (third 1 l)))
  unfold k0_pay2
  refine congrArg (k0_pay5 (grid0.coords t) (iblk m c 0 t) (iblk m c 1 t) (iblk m c 2 t) (iblk m c 3 t) (iblk m c 4 t) : FVec Ideal S256x3072 .f32) ?_
  funext a
  apply Fin.ext
  match a with
  | ⟨0, _⟩ => show 0 + r.val = r.val; omega
  | ⟨1, _⟩ => show 1024 + l.val = 1024 * 1 + l.val; omega

theorem array6 : (dats m 0 c).arrAt 6 cfg0.N = out m c 1 := by
  refine Pipeline.Dat.arrAt_eq_of_cover (dats m 0 c) 6 (out m c 1) (fun t _ => ?_) (fun i => ?_)
  · obtain ⟨h0, h1⟩ := idx6 t
    rw [flushed6]
    funext y
    have hy : y = (ix2 (y 0) (y 1) : S256x1024.Idx) := by
      funext a
      match a with
      | ⟨0, _⟩ => rfl
      | ⟨1, _⟩ => rfl
    rw [View.read_apply]
    refine (show _ = (out0_6 (grid0.coords t) (iblk m c 0 t) (iblk m c 1 t) (iblk m c 2 t) (iblk m c 3 t) (iblk m c 4 t) : FVec Ideal S256x1024 .f32) y from rfl).trans
      ((congrArg (out0_6 (grid0.coords t) (iblk m c 0 t) (iblk m c 1 t) (iblk m c 2 t) (iblk m c 3 t) (iblk m c 4 t) : FVec Ideal S256x1024 .f32) hy).trans
      ((whole6 m c t (y 0) (y 1)).trans ?_))
    show _ = entry m c _ (third 1 _)
    refine congrArg₂ (fun p l => entry m c p (third 1 l)) (Fin.ext ?_) (Fin.ext ?_)
    · show 256 * t.val + (y 0).val = (cfg0.win 6).index t 0 * 256 + 1 * (y 0).val
      rw [h0]
      omega
    · show (y 1).val = (cfg0.win 6).index t 1 * 1024 + 1 * (y 1).val
      rw [h1]
      omega
  · have i0 : (i 0).val < 16384 := (i 0).isLt
    have i1 : (i 1).val < 1024 := (i 1).isLt
    let t : Fin cfg0.N := ⟨(i 0).val / 256, lt_of_lt_of_eq (by omega) N_0.symm⟩
    have ht : t.val = (i 0).val / 256 := rfl
    obtain ⟨h0, h1⟩ := idx6 t
    refine ⟨t, flush6 t, Finset.mem_map.mpr
      ⟨(ix2 ⟨(i 0).val % 256, Nat.mod_lt _ (by norm_num)⟩ ⟨(i 1).val, i1⟩ : S256x1024.Idx), Finset.mem_univ _, ?_⟩⟩
    funext a
    apply Fin.ext
    match a with
    | ⟨0, _⟩ =>
      show (cfg0.win 6).index t 0 * 256 + 1 * ((i 0).val % 256) = (i 0).val
      rw [h0, ht]
      omega
    | ⟨1, _⟩ =>
      show (cfg0.win 6).index t 1 * 1024 + 1 * (i 1).val = (i 1).val
      rw [h1]
      omega

theorem whole7 (t : Fin cfg0.N) (r : Fin 256) (l : Fin 1024) :
    (out0_7 (grid0.coords t) (iblk m c 0 t) (iblk m c 1 t) (iblk m c 2 t) (iblk m c 3 t) (iblk m c 4 t) : FVec Ideal S256x1024 .f32) (ix2 r l)
      = entry m c (row t r) (third 2 l) := by
  unfold out0_7
  refine (congrFun (View.canon_unit_zero hz _ _) (ix2 r l)).trans (Eq.trans ?_ (point m c t r (third 2 l)))
  unfold k0_pay3
  refine congrArg (k0_pay5 (grid0.coords t) (iblk m c 0 t) (iblk m c 1 t) (iblk m c 2 t) (iblk m c 3 t) (iblk m c 4 t) : FVec Ideal S256x3072 .f32) ?_
  funext a
  apply Fin.ext
  match a with
  | ⟨0, _⟩ => show 0 + r.val = r.val; omega
  | ⟨1, _⟩ => show 2048 + l.val = 1024 * 2 + l.val; omega

theorem array7 : (dats m 0 c).arrAt 7 cfg0.N = out m c 2 := by
  refine Pipeline.Dat.arrAt_eq_of_cover (dats m 0 c) 7 (out m c 2) (fun t _ => ?_) (fun i => ?_)
  · obtain ⟨h0, h1⟩ := idx7 t
    rw [flushed7]
    funext y
    have hy : y = (ix2 (y 0) (y 1) : S256x1024.Idx) := by
      funext a
      match a with
      | ⟨0, _⟩ => rfl
      | ⟨1, _⟩ => rfl
    rw [View.read_apply]
    refine (show _ = (out0_7 (grid0.coords t) (iblk m c 0 t) (iblk m c 1 t) (iblk m c 2 t) (iblk m c 3 t) (iblk m c 4 t) : FVec Ideal S256x1024 .f32) y from rfl).trans
      ((congrArg (out0_7 (grid0.coords t) (iblk m c 0 t) (iblk m c 1 t) (iblk m c 2 t) (iblk m c 3 t) (iblk m c 4 t) : FVec Ideal S256x1024 .f32) hy).trans
      ((whole7 m c t (y 0) (y 1)).trans ?_))
    show _ = entry m c _ (third 2 _)
    refine congrArg₂ (fun p l => entry m c p (third 2 l)) (Fin.ext ?_) (Fin.ext ?_)
    · show 256 * t.val + (y 0).val = (cfg0.win 7).index t 0 * 256 + 1 * (y 0).val
      rw [h0]
      omega
    · show (y 1).val = (cfg0.win 7).index t 1 * 1024 + 1 * (y 1).val
      rw [h1]
      omega
  · have i0 : (i 0).val < 16384 := (i 0).isLt
    have i1 : (i 1).val < 1024 := (i 1).isLt
    let t : Fin cfg0.N := ⟨(i 0).val / 256, lt_of_lt_of_eq (by omega) N_0.symm⟩
    have ht : t.val = (i 0).val / 256 := rfl
    obtain ⟨h0, h1⟩ := idx7 t
    refine ⟨t, flush7 t, Finset.mem_map.mpr
      ⟨(ix2 ⟨(i 0).val % 256, Nat.mod_lt _ (by norm_num)⟩ ⟨(i 1).val, i1⟩ : S256x1024.Idx), Finset.mem_univ _, ?_⟩⟩
    funext a
    apply Fin.ext
    match a with
    | ⟨0, _⟩ =>
      show (cfg0.win 7).index t 0 * 256 + 1 * ((i 0).val % 256) = (i 0).val
      rw [h0, ht]
      omega
    | ⟨1, _⟩ =>
      show (cfg0.win 7).index t 1 * 1024 + 1 * (i 1).val = (i 1).val
      rw [h1]
      omega

end Cert.ConvKernelIdeal.Block

namespace Cert.ConvRefIdeal.Whole

open Cert.ConvRefIdeal Cert.ConvRefIdeal.Gen

/-- The rows with a row of zeros at each end. -/
def padded (z : FVec Ideal S16384x3072 .f32) : FVec Ideal S16386x3072 .f32 :=
  pad S16386x3072 ![1, 0] ![1, 0] ![0, 0] z (sitofp .f32 (constantI S_ 32 0#32)) pads_S16384x3072_S16386x3072_110_000 h_S_

theorem zero_at (j : S_.Idx) : (sitofp .f32 (constantI S_ 32 0#32) : FVec Ideal S_ .f32) j = (0 : EReal) := by
  show (((0#32 : BitVec 32).toInt : ℝ) : EReal) = 0
  simp

theorem padded_out (z : FVec Ideal S16384x3072 .f32) (p : Fin 16386) (q : Fin 3072) (hp : p.val = 0 ∨ p.val = 16385) : padded z (ix2 p q) = (0 : EReal) := by
  unfold padded
  refine (pad_apply_of_not_inside _ _ _ z _ _ _ (ix2 p q) 0 ?_).trans (zero_at _)
  rintro ⟨ha, -, hb⟩
  have ha' : 1 ≤ p.val := ha
  have hb' : (p.val - 1) / 1 < 16384 := hb
  omega

theorem padded_in (z : FVec Ideal S16384x3072 .f32) (p : Fin 16386) (k : Fin 16384) (q : Fin 3072) (hp : p.val = 1 + k.val) : padded z (ix2 p q) = z (ix2 k q) := by
  unfold padded
  refine pad_apply_of_inside _ _ _ z _ _ _ (ix2 p q) (ix2 k q) ?_
  intro a
  match a with
  | ⟨0, _⟩ => show p.val = 1 + k.val * (0 + 1); omega
  | ⟨1, _⟩ => show q.val = 0 + q.val * (0 + 1); omega

/-- One row of the taps, on every row. -/
def tap (w : FVec Ideal S1x3072 .f32) : FVec Ideal S16384x3072 .f32 :=
  broadcastInDim S16384x3072 ![0, 1] bcast_S1x3072_S16384x3072_0_1 (broadcastInDim S1x3072 ![1] bcast_S3072_S1x3072_1
    (shapeCast S3072 w shapeCasts_S1x3072_S3072))

theorem tap_at (w : FVec Ideal S1x3072 .f32) (p : Fin 16384) (q : Fin 3072) : tap w (ix2 p q) = w (ix2 0 q) := by
  pointwise [tap]

/-- All the columns. -/
def conv (z : FVec Ideal S16384x3072 .f32) (w : FVec Ideal S3x3072 .f32) (b : FVec Ideal S3072 .f32) : FVec Ideal S16384x3072 .f32 :=
  addf (addf (addf (mulf (extractStridedSlice S16384x3072 ![0, 0] (padded z) slices_S16386x3072_S16384x3072_0_0)
      (tap (extractStridedSlice S1x3072 ![0, 0] w slices_S3x3072_S1x3072_0_0)))
    (mulf z (tap (extractStridedSlice S1x3072 ![1, 0] w slices_S3x3072_S1x3072_1_0))))
    (mulf (extractStridedSlice S16384x3072 ![2, 0] (padded z) slices_S16386x3072_S16384x3072_2_0)
      (tap (extractStridedSlice S1x3072 ![2, 0] w slices_S3x3072_S1x3072_2_0))))
    (broadcastInDim S16384x3072 ![0, 1] bcast_S1x3072_S16384x3072_0_1 (broadcastInDim S1x3072 ![1] bcast_S3072_S1x3072_1 b))

theorem conv_at (z : FVec Ideal S16384x3072 .f32) (w : FVec Ideal S3x3072 .f32) (b : FVec Ideal S3072 .f32) (p : Fin 16384) (q : Fin 3072) :
    conv z w b (ix2 p q) = padded z (ix2 ⟨p.val, by omega⟩ q) * w (ix2 0 q) + z (ix2 p q) * w (ix2 1 q)
      + padded z (ix2 ⟨2 + p.val, by omega⟩ q) * w (ix2 2 q) + b (ix1 q) := by
  pointwise [conv, tap]

end Cert.ConvRefIdeal.Whole

namespace Cert.Proof

theorem frame_conv : Cert.quiescent_ConvRefIdeal (hConvRefIdeal := Cert.ConvRefIdeal.Gen.facts) := fun m ρ _ =>
  (θ_run Cert.ConvRefIdeal.defs _ _).mono (fun r h => ⟨fun c => (h c).2.2.2,
      Idealize.ShloMosaic.sem_eq_zero_of_no_sems (by decide) r.2⟩)
    (Cert.ConvRefIdeal.Value.run (F := Ideal) m ρ)

open Cert.ConvKernelIdeal.Block Cert.ConvRefIdeal.Whole in
theorem conv_entry (m : (ℓ : Loc Cert.ConvKernelIdeal.nD Cert.ConvKernelIdeal.τ Cert.ConvKernelIdeal.sig) → Buf (Elt Ideal) ℓ) (c : Dev Cert.ConvKernelIdeal.nD)
    (p : Fin 16384) (q : Fin 3072) : conv (z m c) (w m c) (b m c) (ix2 p q) = entry m c p q := by
  rw [conv_at]
  have e0 : padded (z m c) (ix2 ⟨p.val, by omega⟩ q) = prev m c p q := by
    unfold prev
    by_cases h : p.val = 0
    · rw [dif_pos h]
      exact padded_out _ _ q (Or.inl h)
    · rw [dif_neg h]
      exact padded_in _ _ _ q (show p.val = 1 + (p.val - 1) by omega)
  have e1 : padded (z m c) (ix2 ⟨2 + p.val, by omega⟩ q) = next m c p q := by
    unfold next
    by_cases h : p.val = 16383
    · rw [dif_pos h]
      exact padded_out _ _ q (Or.inr (show 2 + p.val = 16385 by omega))
    · rw [dif_neg h]
      exact padded_in _ _ _ q (show 2 + p.val = 1 + (p.val + 1) by omega)
  rw [e0, e1]
  rfl

open Cert.ConvKernelIdeal.Block Cert.ConvRefIdeal.Whole in
theorem conv_part0 (m : (ℓ : Loc Cert.ConvKernelIdeal.nD Cert.ConvKernelIdeal.τ Cert.ConvKernelIdeal.sig) → Buf (Elt Ideal) ℓ) (c : Dev Cert.ConvKernelIdeal.nD) :
    extractStridedSlice Cert.ConvRefIdeal.S16384x1024 ![0, 0] (conv (z m c) (w m c) (b m c)) Cert.ConvRefIdeal.Gen.slices_S16384x3072_S16384x1024_0_0
      = out m c 0 := by
  funext i
  refine Eq.trans (congrArg (conv (z m c) (w m c) (b m c)) ?_) (conv_entry m c (i 0) (third 0 (i 1)))
  funext a
  apply Fin.ext
  match a with
  | ⟨0, _⟩ => show 0 + (i 0).val = (i 0).val; omega
  | ⟨1, _⟩ => show 0 + (i 1).val = 1024 * 0 + (i 1).val; omega

open Cert.ConvKernelIdeal.Block Cert.ConvRefIdeal.Whole in
theorem conv_part1 (m : (ℓ : Loc Cert.ConvKernelIdeal.nD Cert.ConvKernelIdeal.τ Cert.ConvKernelIdeal.sig) → Buf (Elt Ideal) ℓ) (c : Dev Cert.ConvKernelIdeal.nD) :
    extractStridedSlice Cert.ConvRefIdeal.S16384x1024 ![0, 1024] (conv (z m c) (w m c) (b m c)) Cert.ConvRefIdeal.Gen.slices_S16384x3072_S16384x1024_0_1024
      = out m c 1 := by
  funext i
  refine Eq.trans (congrArg (conv (z m c) (w m c) (b m c)) ?_) (conv_entry m c (i 0) (third 1 (i 1)))
  funext a
  apply Fin.ext
  match a with
  | ⟨0, _⟩ => show 0 + (i 0).val = (i 0).val; omega
  | ⟨1, _⟩ => show 1024 + (i 1).val = 1024 * 1 + (i 1).val; omega

open Cert.ConvKernelIdeal.Block Cert.ConvRefIdeal.Whole in
theorem conv_part2 (m : (ℓ : Loc Cert.ConvKernelIdeal.nD Cert.ConvKernelIdeal.τ Cert.ConvKernelIdeal.sig) → Buf (Elt Ideal) ℓ) (c : Dev Cert.ConvKernelIdeal.nD) :
    extractStridedSlice Cert.ConvRefIdeal.S16384x1024 ![0, 2048] (conv (z m c) (w m c) (b m c)) Cert.ConvRefIdeal.Gen.slices_S16384x3072_S16384x1024_0_2048
      = out m c 2 := by
  funext i
  refine Eq.trans (congrArg (conv (z m c) (w m c) (b m c)) ?_) (conv_entry m c (i 0) (third 2 (i 1)))
  funext a
  apply Fin.ext
  match a with
  | ⟨0, _⟩ => show 0 + (i 0).val = (i 0).val; omega
  | ⟨1, _⟩ => show 2048 + (i 1).val = 1024 * 2 + (i 1).val; omega

open Cert.ConvKernelIdeal.Block Cert.ConvRefIdeal.Whole in
theorem algebraic_conv : Cert.algebraic_ConvKernelIdeal_ConvRefIdeal (hConvKernelIdeal := Cert.ConvKernelIdeal.Gen.facts)
    (hConvRefIdeal := Cert.ConvRefIdeal.Gen.facts) := by
  intro m ρ m' ρ' _ heq
  refine ⟨fun c => out m c 0, fun c => out m c 1, fun c => out m c 2, ?_, ?_⟩
  · refine (θ_run _ _ _).mono (fun r h c => ?_) (Cert.ConvKernelIdeal.Value.run_blocks (F := Ideal) m ρ)
    obtain ⟨h0, h1, h2, ha⟩ := h c
    exact ⟨h0.trans (array5 m c), h1.trans (array6 m c), h2.trans (array7 m c), ha⟩
  · refine (θ_run _ _ _).mono (fun r h c => ?_) (Cert.ConvRefIdeal.Value.run (F := Ideal) m' ρ')
    obtain ⟨h0, h1, h2, ha⟩ := h c
    obtain ⟨e0, e1, e2⟩ := heq c
    rw [e0, e1, e2] at h0 h1 h2
    exact ⟨h0.trans (conv_part0 m c), h1.trans (conv_part1 m c), h2.trans (conv_part2 m c), ha⟩

end Cert.Proof
-- ==== Proof.ExpertsSpec.lean ====
/-
  One expert's gated product, entry by entry: what both programs of the experts' call are read as.
-/
module

public import Idealize.ShloMosaic.Lib.Pointwise

@[expose] public section

set_option maxRecDepth 16384

noncomputable section

open Idealize.ShloMosaic Idealize.ShloMosaic.TcCoe Idealize.SL.Sem

namespace Cert.Experts

/-- The columns of the first product stand in groups of 256: 128 gates, then 128 linear parts. -/
def gateColumn (q : Fin 512) : Fin 1024 := ⟨q.val / 128 * 256 + q.val % 128, by omega⟩
def linearColumn (q : Fin 512) : Fin 1024 := ⟨q.val / 128 * 256 + 128 + q.val % 128, by omega⟩

/-- The bound on the gates and on the linear parts, and the slope of the gates' logistic. -/
abbrev limit : EReal := Ideal.ofBits .f32 0x40E00000#32
abbrev floor : EReal := Ideal.ofBits .f32 0xC0E00000#32
abbrev slope : EReal := Ideal.ofBits .f32 0x3FD9DB23#32

/-- A row of the first product, gated. -/
def act (u : Fin 1024 → EReal) (q : Fin 512) : EReal :=
  min (u (gateColumn q)) limit * Ideal.logistic (slope * min (u (gateColumn q)) limit)
    * (max (min (u (linearColumn q)) limit) floor + 1)

theorem floor_le : floor ≤ limit := by
  simp only [floor, limit]
  simp [Ideal.ofBits, Ideal.ieee]
  rw [← EReal.coe_mul, ← EReal.coe_neg]
  exact EReal.coe_le_coe_iff.2 (by norm_num)

/-- Clipping from below first or from above first is the same. -/
theorem clip (v : EReal) : min limit (max floor v) = max (min v limit) floor := by
  rw [min_comm limit, max_comm floor, max_min_distrib_right, max_eq_left floor_le]

/-- One entry of a block's result. -/
def entry (x : Fin 4096 → EReal) (g : Fin 4096 → Fin 1024 → EReal) (b : Fin 1024 → EReal) (d : Fin 512 → EReal)
    (e s : EReal) : EReal :=
  ((∑ q : Fin 512, act (fun f => (∑ k : Fin 4096, x k * g k f) + b f) q * d q) + e) * s

/-- The expert a word names, and the row `r` of block `i`. -/
def who (w : BitVec 32) : Fin 32 := ⟨min w.toInt.toNat 31, by omega⟩
def place (i : Fin 288) (r : Fin 256) : Fin 73728 := ⟨i.val * 256 + r.val, by omega⟩

theorem who_val {w : BitVec 32} (h : w.toNat < 32) : (who w).val = w.toNat := by
  have e : w.toInt = w.toNat := BitVec.toInt_eq_toNat_of_lt (by omega)
  simp only [who]
  rw [e]
  omega

/-- Whether block `i` is among the first `n`. -/
abbrev among (i : Fin 288) (n : BitVec 32) : Prop := (BitVec.ofNat 32 i.val).toInt < n.toInt

end Cert.Experts
-- ==== Proof.ExpertsIdealRun.lean ====
/- The run of `ExpertsKernelIdeal` at any float instance `F`.  The region's blocks are placed by the prefetched table of
   experts, and what the body does at a point is decided by the word of the second table: the pipeline is
   taken at any admissible contents `a` of the two tables, and the launch memory's tables are put in at the
   end (`tables`, `run`).  At an active point the body leaves the gated product of its blocks, at an idle
   one zeros: `left`. -/
module

public import proofs.«01_k».proof.Proof.Gen.ExpertsKernelIdeal.Launch
public import proofs.«01_k».proof.Proof.Gen.ExpertsKernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsKernelIdeal.Run

open Cert.ExpertsKernelIdeal Cert.ExpertsKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The resources the run's assertions speak of. -/
abbrev Res (F : FTy → Type) := MT nD τ sig Unit (Elt F) ℕ (UR sig nD τ) ℕ

variable (m : (ℓ : Loc nD τ sig) → Buf (Elt F) ℓ) (ρ : Dev nD → PrngReg)

/-! ## The arrays when the region is entered -/

/-- Core `c`'s buffers after the host operations before the region. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
theorem main_to_region (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))

/-! ## The two conditions of the body -/

/-- A bit widened and compared with zero is the bit. -/
theorem bit_iff (p : Prop) [Decidable p] :
    Scalar.cmpi .ne (Scalar.extui (BitVec.ofBool (decide p)) : BitVec 32) 0#32 = 1#1 ↔ p := by
  by_cases h : p
  · simp only [h, decide_true, iff_true]; decide
  · simp only [h, decide_false, iff_false]; decide

/-- The body's first condition: `i < n`, as signed words. -/
theorem first_iff (i : grid0.Coords) (v : BitVec 32) :
    k0_cond1 i v = 1#1 ↔ (BitVec.ofNat 32 (i 0).val).toInt < v.toInt := bit_iff _

/-- Its second condition holds exactly where its first fails. -/
theorem second_iff (i : grid0.Coords) (v : BitVec 32) : k0_cond2 i v = 1#1 ↔ ¬ k0_cond1 i v = 1#1 := by
  rw [first_iff, Int.not_lt]
  exact bit_iff _

variable (a : (pcfg0 (F := F)).Adm)

/-- The second table's word: how many of the blocks are active. -/
abbrev word : BitVec 32 := a.1.atD 1 ![0]

theorem never_idle (i : grid0.Coords) : (cfg0 a).idle 6 i = false := by
  show (!(k0_cond1 i (word a) == 1#1) && !(k0_cond2 i (word a) == 1#1)) = false
  by_cases h : k0_cond1 i (word a) = 1#1
  · simp [h]
  · simp [(second_iff i _).mpr h]

/-! ## The windows' blocks -/

/-- Window `w`'s block at point `t`, read off its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

theorem before0_of {c : Dev nD} (dat : Dat τ (Elt F) Unit ℕ (UR sig nD τ) ℕ (cfg0 a) c)
    (hA : dat.A 0 = V m c (Pipeline.arrRef spec0 0)) (hafter : ∀ t, dat.after 0 t = iblk m a c 0 t)
    (t : Fin (cfg0 a).N) (d) : dat.before 0 t d = iblk m a c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 a) c)
    (hA : dat.A 1 = V m c (Pipeline.arrRef spec0 1)) (hafter : ∀ t, dat.after 1 t = iblk m a c 1 t)
    (t : Fin (cfg0 a).N) (d) : dat.before 1 t d = iblk m a c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 a) c)
    (hA : dat.A 2 = V m c (Pipeline.arrRef spec0 2)) (hafter : ∀ t, dat.after 2 t = iblk m a c 2 t)
    (t : Fin (cfg0 a).N) (d) : dat.before 2 t d = iblk m a c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfg0 a) c)
    (hA : dat.A 3 = V m c (Pipeline.arrRef spec0 3)) (hafter : ∀ t, dat.after 3 t = iblk m a c 3 t)
    (t : Fin (cfg0 a).N) (d) : dat.before 3 t d = iblk m a c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfg0 a) c)
    (hA : dat.A 4 = V m c (Pipeline.arrRef spec0 4)) (hafter : ∀ t, dat.after 4 t = iblk m a c 4 t)
    (t : Fin (cfg0 a).N) (d) : dat.before 4 t d = iblk m a c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfg0 a) c)
    (hA : dat.A 5 = V m c (Pipeline.arrRef spec0 5)) (hafter : ∀ t, dat.after 5 t = iblk m a c 5 t)
    (t : Fin (cfg0 a).N) (d) : dat.before 5 t d = iblk m a c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## What the body leaves in the result's buffer -/

abbrev rX : Rect S256x4096 := Rect.unit (s := S256x4096) ![0, 0] S256x4096.size inb_S256x4096_S256x4096_0_0
abbrev rG : Rect S1x4096x1024 := Rect.unit (s := S1x4096x1024) ![0, 0, 0] S1x4096x1024.size inb_S1x4096x1024_S1x4096x1024_0_0_0
abbrev rB : Rect S1x1x1024 := Rect.unit (s := S1x1x1024) ![0, 0, 0] S1x1x1024.size inb_S1x1x1024_S1x1x1024_0_0_0
abbrev rD : Rect S1x1x512x4096 := Rect.unit (s := S1x1x512x4096) ![0, 0, 0, 0] S1x1x512x4096.size inb_S1x1x512x4096_S1x1x512x4096_0_0_0_0
abbrev rE : Rect S1x1x1x4096 := Rect.unit (s := S1x1x1x4096) ![0, 0, 0, 0] S1x1x1x4096.size inb_S1x1x1x4096_S1x1x1x4096_0_0_0_0
abbrev rS : Rect S256x1 := Rect.unit (s := S256x1) ![0, 0] S256x1.size inb_S256x1_S256x1_0_0
abbrev rN : Rect S1 := Rect.unit (s := S1) ![0] S1.size inb_S1_S1_0

/-- At an active point: the gated product of the blocks. -/
def active (x : Vec F S256x4096 .bf16) (g : Vec F S1x4096x1024 .bf16) (b : Vec F S1x1x1024 .f32)
    (d : Vec F S1x1x512x4096 .f32) (e : Vec F S1x1x1x4096 .f32) (s : Vec F S256x1 .f32) : Vec F S256x4096 .f32 :=
  View.canon [⟨rX, k0_pay1 (k0_pay3 (View.ld x rX) (View.ld g rG) (View.ld b rB) (View.ld d rD)) (View.ld e rE) (View.ld s rS)⟩]

/-- At an idle point: zeros. -/
def idle : Vec F S256x4096 .f32 := View.canon [⟨rX, k0_pay2 (F := F)⟩]

theorem covered (p : Vec F S256x4096 .f32) (y : S256x4096.Idx) :
    ∃ pc ∈ ([⟨rX, p⟩] : List (View.Piece (Elt F) S256x4096 .f32)), y ∈ pc.1.set :=
  View.cover_of_tiled [⟨rX, p⟩] S256x4096.size (by rfl) y

/-! ## The body -/

/-- The second table as the body is handed it, and it held at half a share. -/
abbrev tabN : Memref sig .tc .smem S1 .i32 := Memref.whole main_arg1
abbrev HoldsN (c : Dev nD) (f : Buf (Elt F) (tabN.view.loc (c : Thread nD τ))) : sProp (Res F) :=
  tabN.view.loc (c : Thread nD τ) ↦{fullShare.right} f

/-- The word the body reads of it. -/
abbrev wordOf (c : Dev nD) (f : Buf (Elt F) (tabN.view.loc (c : Thread nD τ))) : BitVec 32 :=
  View.readAt (Elt F) tabN.view rN.toLoadRect f (Shape.Idx.first (numel1_S1.symm ▸ Nat.one_pos))

set_option maxHeartbeats 2000000 in
theorem sound_active (c : Dev nD) (E : Set ℕ) (i : grid0.Coords) (arg1 : Memref sig .tc .smem S288 .i32) (harg1 : arg1.IsWhole) (harg2 : tabN.IsWhole)
    (arg3 : Memref sig .tc .vmem S256x4096 .bf16) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x1x512x4096 .f32) (harg6 : arg6.IsWhole) (arg7 : Memref sig .tc .vmem S1x1x1x4096 .f32) (harg7 : arg7.IsWhole) (arg8 : Memref sig .tc .vmem S256x1 .f32) (harg8 : arg8.IsWhole) (arg9 : Memref sig .tc .vmem S256x4096 .f32) (harg9 : arg9.IsWhole)
    (x0 : Vec F S256x4096 .bf16) (x1 : Vec F S1x4096x1024 .bf16) (x2 : Vec F S1x1x1024 .f32) (x3 : Vec F S1x1x512x4096 .f32) (x4 : Vec F S1x1x1x4096 .f32) (x5 : Vec F S256x1 .f32)
    (f : Buf (Elt F) (tabN.view.loc (c : Thread nD τ)))
    (h1 : k0_cond1 i (wordOf c f) = 1#1) (h2 : ¬ k0_cond2 i (wordOf c f) = 1#1) (K : PUnit → sProp (Res F)) :
    iprop(HoldsN c f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(HoldsN c f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (active x0 x1 x2 x3 x4 x5)) -∗ K ⟨⟩))
      ⊢ wp frame (wpE (defs₀ (F := F)) Variants.none c none) E (cc0_experts i arg1 harg1 tabN harg2 arg3 harg3 arg4 harg4 arg5 harg5 arg6 harg6 arg7 harg7 arg8 harg8 arg9 harg9) K := by
  simp only [cc0_experts_eq_skeleton]; unfold cc0_experts_skel; simp only [k0_part1_eq_skeleton (F := F)]; unfold k0_part1_skel
  unfold owns
  iintro ⟨HT, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered (F := F) _)

set_option maxHeartbeats 2000000 in
theorem sound_idle (c : Dev nD) (E : Set ℕ) (i : grid0.Coords) (arg1 : Memref sig .tc .smem S288 .i32) (harg1 : arg1.IsWhole) (harg2 : tabN.IsWhole)
    (arg3 : Memref sig .tc .vmem S256x4096 .bf16) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x1x512x4096 .f32) (harg6 : arg6.IsWhole) (arg7 : Memref sig .tc .vmem S1x1x1x4096 .f32) (harg7 : arg7.IsWhole) (arg8 : Memref sig .tc .vmem S256x1 .f32) (harg8 : arg8.IsWhole) (arg9 : Memref sig .tc .vmem S256x4096 .f32) (harg9 : arg9.IsWhole)
    (x0 : Vec F S256x4096 .bf16) (x1 : Vec F S1x4096x1024 .bf16) (x2 : Vec F S1x1x1024 .f32) (x3 : Vec F S1x1x512x4096 .f32) (x4 : Vec F S1x1x1x4096 .f32) (x5 : Vec F S256x1 .f32)
    (f : Buf (Elt F) (tabN.view.loc (c : Thread nD τ)))
    (h1 : ¬ k0_cond1 i (wordOf c f) = 1#1) (h2 : k0_cond2 i (wordOf c f) = 1#1) (K : PUnit → sProp (Res F)) :
    iprop(HoldsN c f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(HoldsN c f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (idle)) -∗ K ⟨⟩))
      ⊢ wp frame (wpE (defs₀ (F := F)) Variants.none c none) E (cc0_experts i arg1 harg1 tabN harg2 arg3 harg3 arg4 harg4 arg5 harg5 arg6 harg6 arg7 harg7 arg8 harg8 arg9 harg9) K := by
  simp only [cc0_experts_eq_skeleton]; unfold cc0_experts_skel; simp only [k0_part1_eq_skeleton (F := F)]; unfold k0_part1_skel
  unfold owns
  iintro ⟨HT, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered (F := F) _)

/-! ## The proof data -/

/-- What the body leaves in the result's buffer at point `t`. -/
def left (c : Dev nD) (t : Fin (cfg0 a).N) : Vec F S256x4096 .f32 :=
  if k0_cond1 (grid0.coords t) (word a) = 1#1 then
    active (iblk m a c 0 t) (iblk m a c 1 t) (iblk m a c 2 t) (iblk m a c 3 t) (iblk m a c 4 t) (iblk m a c 5 t)
  else idle

/-- The proof data: the arrays as the region finds them, each input's block in place after the body, the result's
    buffer at `left`; carried from point to point are the two tables' halves, unchanged. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => left m a c t
  Φ _ := iprop(Pipeline.ΦA spec0 c ∗ Pipeline.ΦT pre0 a.1 c)
  q _ := fullShare
  owed _ := 0

theorem A_eq (c : Dev nD) (w : Fin (cfg0 a).W) : (dats m a 0 c).A w = V m c (Pipeline.arrRef spec0 w) := by
  dsimp only [dats]

theorem after0 (c : Dev nD) (t : Fin (cfg0 a).N) : (dats m a 0 c).after 0 t = iblk m a c 0 t := by dsimp only [dats]; rfl
theorem after1 (c : Dev nD) (t : Fin (cfg0 a).N) : (dats m a 0 c).after 1 t = iblk m a c 1 t := by dsimp only [dats]; rfl
theorem after2 (c : Dev nD) (t : Fin (cfg0 a).N) : (dats m a 0 c).after 2 t = iblk m a c 2 t := by dsimp only [dats]; rfl
theorem after3 (c : Dev nD) (t : Fin (cfg0 a).N) : (dats m a 0 c).after 3 t = iblk m a c 3 t := by dsimp only [dats]; rfl
theorem after4 (c : Dev nD) (t : Fin (cfg0 a).N) : (dats m a 0 c).after 4 t = iblk m a c 4 t := by dsimp only [dats]; rfl
theorem after5 (c : Dev nD) (t : Fin (cfg0 a).N) : (dats m a 0 c).after 5 t = iblk m a c 5 t := by dsimp only [dats]; rfl
theorem after6 (c : Dev nD) (t : Fin (cfg0 a).N) : (dats m a 0 c).after 6 t = left m a c t := by dsimp only [dats]; rfl
theorem before0 (c : Dev nD) (t : Fin (cfg0 a).N) (d) : (dats m a 0 c).before 0 t d = iblk m a c 0 t :=
  before0_of m a (dats m a 0 c) (A_eq m a c 0) (after0 m a c) t d
theorem before1 (c : Dev nD) (t : Fin (cfg0 a).N) (d) : (dats m a 0 c).before 1 t d = iblk m a c 1 t :=
  before1_of m a (dats m a 0 c) (A_eq m a c 1) (after1 m a c) t d
theorem before2 (c : Dev nD) (t : Fin (cfg0 a).N) (d) : (dats m a 0 c).before 2 t d = iblk m a c 2 t :=
  before2_of m a (dats m a 0 c) (A_eq m a c 2) (after2 m a c) t d
theorem before3 (c : Dev nD) (t : Fin (cfg0 a).N) (d) : (dats m a 0 c).before 3 t d = iblk m a c 3 t :=
  before3_of m a (dats m a 0 c) (A_eq m a c 3) (after3 m a c) t d
theorem before4 (c : Dev nD) (t : Fin (cfg0 a).N) (d) : (dats m a 0 c).before 4 t d = iblk m a c 4 t :=
  before4_of m a (dats m a 0 c) (A_eq m a c 4) (after4 m a c) t d
theorem before5 (c : Dev nD) (t : Fin (cfg0 a).N) (d) : (dats m a 0 c).before 5 t d = iblk m a c 5 t :=
  before5_of m a (dats m a 0 c) (A_eq m a c 5) (after5 m a c) t d

/-! ## The body at a point -/

/-- The current buffer of each window. -/
abbrev buf (t : Fin (cfg0 a).N) (w : Fin 7) := ((cfg0 a).win w).stage ((cfg0 a).slots t w)

/-- The body at point `t`, on the current buffers. -/
abbrev bodyAt (t : Fin (cfg0 a).N) : Prog (TpuEff nD τ sig (Elt F) Λ₀ .tc) PUnit :=
  cc0_experts (grid0.coords t) (Memref.whole main_arg0) (Memref.isWhole_whole _) tabN (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))

/-- What the body is called with at point `t`, -/
def bodyPre (c : Dev nD) (t : Fin (cfg0 a).N) : sProp (Res F) :=
  iprop((dats m a 0 c).Φ t.castSucc ∗ (dats m a 0 c).owesAt () t.castSucc
    ∗ (∃ d, owns (c : Thread nD τ) (buf a t 0) fullShare ((dats m a 0 c).before 0 t d))
    ∗ (∃ d, owns (c : Thread nD τ) (buf a t 1) fullShare ((dats m a 0 c).before 1 t d))
    ∗ (∃ d, owns (c : Thread nD τ) (buf a t 2) fullShare ((dats m a 0 c).before 2 t d))
    ∗ (∃ d, owns (c : Thread nD τ) (buf a t 3) fullShare ((dats m a 0 c).before 3 t d))
    ∗ (∃ d, owns (c : Thread nD τ) (buf a t 4) fullShare ((dats m a 0 c).before 4 t d))
    ∗ (∃ d, owns (c : Thread nD τ) (buf a t 5) fullShare ((dats m a 0 c).before 5 t d))
    ∗ (∃ d, owns (c : Thread nD τ) (buf a t 6) fullShare ((dats m a 0 c).before 6 t d)))

/-- and what it returns. -/
def bodyPost (c : Dev nD) (t : Fin (cfg0 a).N) : sProp (Res F) :=
  iprop((dats m a 0 c).Φ t.succ ∗ (dats m a 0 c).owesAt () t.succ
    ∗ owns (c : Thread nD τ) (buf a t 0) fullShare ((dats m a 0 c).after 0 t)
    ∗ owns (c : Thread nD τ) (buf a t 1) fullShare ((dats m a 0 c).after 1 t)
    ∗ owns (c : Thread nD τ) (buf a t 2) fullShare ((dats m a 0 c).after 2 t)
    ∗ owns (c : Thread nD τ) (buf a t 3) fullShare ((dats m a 0 c).after 3 t)
    ∗ owns (c : Thread nD τ) (buf a t 4) fullShare ((dats m a 0 c).after 4 t)
    ∗ owns (c : Thread nD τ) (buf a t 5) fullShare ((dats m a 0 c).after 5 t)
    ∗ owns (c : Thread nD τ) (buf a t 6) fullShare ((dats m a 0 c).after 6 t))

/-- The tables' halves, one by one. -/
theorem halves (c : Dev nD) : (Pipeline.ΦT pre0 a.1 c : sProp (Res F))
    = iprop((((c : Thread nD τ).loc main_arg0) ↦{fullShare.right} (a.1 0 : Buf (Elt F) ((c : Thread nD τ).loc main_arg0))) ∗ HoldsN c (a.1 1)) := by
  unfold Pipeline.ΦT Pipeline.prefHeld
  rw [show (Finset.univ : Finset (Fin 2)) = insert (0 : Fin 2) {(1 : Fin 2)} from by decide,
    bigSep_insert (by decide), bigSep_singleton]
  rfl

theorem wordOf_eq (c : Dev nD) : wordOf (F := F) c (a.1 1) = word a := by
  have h : ∀ b : Fin 1, (![0] : Fin 1 → Nat) b + 1 ≤ S1.size b := by decide
  have e : word a = a.1 1 (fun b => ⟨(![0] : Fin 1 → Nat) b, h b⟩) := dif_pos h
  rw [e]
  refine congrArg (a.1 1) (funext fun (b : Fin 1) => ?_)
  match b with
  | ⟨0, _⟩ => exact Subsingleton.elim (α := Fin 1) _ _

theorem sound_body (c : Dev nD) (t : Fin (cfg0 a).N) :
    bodyPre m a c t ⊢ wp frame (wpE (defs₀ (F := F)) Variants.none c none) Set.univ (bodyAt a t) (fun _ => bodyPost m a c t) := by
  unfold bodyPre bodyPost bodyAt
  simp only [before0, before1, before2, before3, before4, before5]
  rw [show (dats m a 0 c).Φ t.succ = iprop(Pipeline.ΦA spec0 c ∗ Pipeline.ΦT pre0 a.1 c) from rfl,
    show (dats m a 0 c).Φ t.castSucc = iprop(Pipeline.ΦA spec0 c ∗ Pipeline.ΦT pre0 a.1 c) from rfl,
    show (dats m a 0 c).owesAt () t.succ = (dats m a 0 c).owesAt () t.castSucc from rfl,
    after0, after1, after2, after3, after4, after5, after6, halves]
  iintro ⟨⟨HA, HB, HT⟩, Ho, ⟨%d0, H0⟩, ⟨%d1, H1⟩, ⟨%d2, H2⟩, ⟨%d3, H3⟩, ⟨%d4, H4⟩, ⟨%d5, H5⟩, ⟨%d6, H6⟩⟩
  by_cases h : k0_cond1 (grid0.coords t) (word a) = 1#1
  · rw [show left m a c t = _ from if_pos h]
    iapply (sound_active c Set.univ (grid0.coords t) _ _ _ _ _ _ _ _ _ _ _ _ _ _ _ _ _ (iblk m a c 0 t) (iblk m a c 1 t) (iblk m a c 2 t) (iblk m a c 3 t) (iblk m a c 4 t) (iblk m a c 5 t)
      (a.1 1) (by rw [wordOf_eq]; exact h) (by rw [wordOf_eq]; exact (fun e => (second_iff _ _).mp e h)) _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨HT, H0, H1, H2, H3, H4, H5, H6⟩
    isplitl [HA HB HT]
    · isplitl [HA]; · iexact HA
      isplitl [HB]; · iexact HB
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show left m a c t = _ from if_neg h]
    iapply (sound_idle c Set.univ (grid0.coords t) _ _ _ _ _ _ _ _ _ _ _ _ _ _ _ _ _ (iblk m a c 0 t) (iblk m a c 1 t) (iblk m a c 2 t) (iblk m a c 3 t) (iblk m a c 4 t) (iblk m a c 5 t)
      (a.1 1) (by rw [wordOf_eq]; exact h) (by rw [wordOf_eq]; exact ((second_iff _ _).mpr h)) _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨HT, H0, H1, H2, H3, H4, H5, H6⟩
    isplitl [HA HB HT]
    · isplitl [HA]; · iexact HA
      isplitl [HB]; · iexact HB
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row (t : Fin (cfg0 a).N) :
    defs₀ (F := F) .tc (cfg0 a).body ((cfg0 a).bodyArgs t ((cfg0 a).slots t)) = bodyAt a t := by
  unfold defs₀; rw [Defs.onTc_tc]

theorem body_obligation (c : Dev nD) : BodyObligation (dats (F := F) m a 0 c) (defs₀ (F := F)) Variants.none () Set.univ := fun t => by
  rw [bigSep_W0, bigSep_W0, row, never_idle]
  exact triple_restated (sound_body m a c t) rfl .rfl fun _ => .rfl

/-! ## The launch -/

set_option backward.isDefEq.respectTransparency.types false in
set_option maxHeartbeats 800000 in
/-- Every execution terminates; at the end each window's array is what the proof data say, every other array is as
    the region found it, and every counter is zero: when the tables the region finds are `a`'s. -/
theorem run (ha : ∀ (c : Dev nD) (k : Fin 2), V m c (pre0.ref k) = a.1 k) :
    θ_run defs (onTc (τ := τ) (main (F := F))) (s₀ m ρ)
      (fun r => (Pipeline.FramePost (Pipeline.pin pcfgs (fun _ => a)) (dats m a) 0 (V m)) r ∧ r.2.sem = fun _ => 0) :=
  Pipeline.θ_run_frameP (Q' := _) pcfgs (fun _ => a) (dats m a) (0 : Fin 1) launch0 defs₀ Variants.none m ρ main
    (hbody := fun c => (body_obligation m a c).loose) (hshare := fun c w => by
      unfold Dat.share; split <;> rfl)
    (howed := fun _ _ => rfl) (V := V m) (hmain := main_to_region m Variants.none) (hA := A_eq m a) (hpf := ha) (hΦ := fun _ _ => rfl)

/-! ## The tables of the launch memory -/

/-- The two tables as the region finds them: there is one device. -/
def found : pre0.Contents (Elt F) := fun k => V m (0 : Dev nD) (pre0.ref k)

theorem found_eq (c : Dev nD) (k : Fin 2) : V m c (pre0.ref k) = found m k := by
  obtain rfl : c = 0 := Subsingleton.elim _ _; rfl

/-- The table of experts, word by word. -/
abbrev expert (pf : pre0.Contents (Elt F)) (i : grid0.Coords) : BitVec 32 :=
  pf.at 0 (Rect.unit (s := S288) (k0_off1 i) S1.size (k0_off1_inb i)) numel1_S1

/-- Tables that name experts below 32 are admissible. -/
theorem admissible (pf : pre0.Contents (Elt F)) (h : ∀ x, (pf 0 x : BitVec 32).toNat < 32) : ok0 pf := by
  have he : ∀ i, (expert pf i).toNat < 32 := fun i => h _
  refine ⟨fun i => ⟨fun b => ?_, .inr ?_⟩, fun i => ⟨fun b => ?_, .inl rfl⟩, fun i => ⟨fun b => ?_, .inl rfl⟩, fun i => ⟨fun b => ?_, .inl rfl⟩⟩
  · have := he i
    fin_cases b
    · show ((expert pf i).toNat + 1) * 1 ≤ 32
      omega
    · show (0 + 1) * 4096 ≤ 4096
      decide
    · show (0 + 1) * 1024 ≤ 1024
      decide
  · exact Affine.block_words_dvd (of_decide_eq_true rfl) (by decide)
  · have := he i
    fin_cases b
    · show ((expert pf i).toNat + 1) * 1 ≤ 32
      omega
    · show (0 + 1) * 1 ≤ 1
      decide
    · show (0 + 1) * 1024 ≤ 1024
      decide
  · have := he i
    fin_cases b
    · show (0 + 1) * 1 ≤ 2
      decide
    · show ((expert pf i).toNat + 1) * 1 ≤ 32
      omega
    · show (0 + 1) * 512 ≤ 512
      decide
    · show (0 + 1) * 4096 ≤ 4096
      decide
  · have := he i
    fin_cases b
    · show (0 + 1) * 1 ≤ 2
      decide
    · show ((expert pf i).toNat + 1) * 1 ≤ 32
      omega
    · show (0 + 1) * 1 ≤ 1
      decide
    · show (0 + 1) * 4096 ≤ 4096
      decide

/-- The launch memory's tables, when they name experts below 32. -/
def tables (h : ∀ x, (found m 0 x : BitVec 32).toNat < 32) : (pcfg0 (F := F)).Adm := ⟨found m, admissible _ h⟩

/-- THE FRAME: the arguments end unchanged and every counter is zero. -/
theorem frame (h : ∀ x, (found m 0 x : BitVec 32).toNat < 32) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      ((h.1 c).2 main_arg0 (Pipeline.mem_restRefs_of (win := spec0) main_arg0 (by decide) (by decide))).trans (V_arg0 m c),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).2 main_arg3 (Pipeline.mem_restRefs_of (win := spec0) main_arg3 (by decide) (by decide))).trans (V_arg3 m c),
      ((h.1 c).1 2).trans (((dats m _ 0 c).arrAt_in 2 rfl _).trans ((A_eq m _ c 2).trans (V_arg4 m c))),
      ((h.1 c).1 3).trans (((dats m _ 0 c).arrAt_in 3 rfl _).trans ((A_eq m _ c 3).trans (V_arg5 m c))),
      ((h.1 c).1 4).trans (((dats m _ 0 c).arrAt_in 4 rfl _).trans ((A_eq m _ c 4).trans (V_arg6 m c))),
      ((h.1 c).1 5).trans (((dats m _ 0 c).arrAt_in 5 rfl _).trans ((A_eq m _ c 5).trans (V_arg7 m c)))⟩, h.2⟩)
    (run m ρ (tables m h) (found_eq m))

end Cert.ExpertsKernelIdeal.Run

end
-- ==== Proof.ExpertsBlock.lean ====
/-
  What the body of the experts' call leaves at a point, entry by entry.
-/
module

public import proofs.«01_k».proof.Proof.ExpertsSpec
public import proofs.«01_k».proof.Proof.ExpertsIdealRun

@[expose] public section

set_option maxRecDepth 16384

noncomputable section

open Idealize.ShloMosaic Idealize.ShloMosaic.TcCoe Idealize.SL.Sem

namespace Cert.ExpertsKernelIdeal.Block

open Cert.ExpertsKernelIdeal Cert.ExpertsKernelIdeal.Gen Cert.ExpertsKernelIdeal.Run Cert.Experts

/-- The gates' columns taken together, and the linear parts'. -/
theorem gates_at (u : FVec Ideal S256x1024 .f32) (r : Fin 256) (q : Fin 512) :
    concatenate S256x512 1 [⟨S256x128, extractStridedSlice S256x128 ![0, 0] u slices_S256x1024_o0_0_S256x128⟩,
      ⟨S256x128, extractStridedSlice S256x128 ![0, 256] u slices_S256x1024_o0_256_S256x128⟩,
      ⟨S256x128, extractStridedSlice S256x128 ![0, 512] u slices_S256x1024_o0_512_S256x128⟩,
      ⟨S256x128, extractStridedSlice S256x128 ![0, 768] u slices_S256x1024_o0_768_S256x128⟩]
      concatenates_S256x128_S256x128_S256x128_S256x128_S256x512_d1 (ix2 r q) = u (ix2 r (gateColumn q)) := by
  pointwise
  split_ifs
  all_goals refine congrArg u (congrArg (ix2 r) (Fin.ext ?_))
  all_goals simp only [gateColumn]
  all_goals omega

theorem linears_at (u : FVec Ideal S256x1024 .f32) (r : Fin 256) (q : Fin 512) :
    concatenate S256x512 1 [⟨S256x128, extractStridedSlice S256x128 ![0, 128] u slices_S256x1024_o0_128_S256x128⟩,
      ⟨S256x128, extractStridedSlice S256x128 ![0, 384] u slices_S256x1024_o0_384_S256x128⟩,
      ⟨S256x128, extractStridedSlice S256x128 ![0, 640] u slices_S256x1024_o0_640_S256x128⟩,
      ⟨S256x128, extractStridedSlice S256x128 ![0, 896] u slices_S256x1024_o0_896_S256x128⟩]
      concatenates_S256x128_S256x128_S256x128_S256x128_S256x512_d1 (ix2 r q) = u (ix2 r (linearColumn q)) := by
  pointwise
  split_ifs
  all_goals refine congrArg u (congrArg (ix2 r) (Fin.ext ?_))
  all_goals simp only [linearColumn]
  all_goals omega

/-- The first product with its bias. -/
def first (x : Vec Ideal S256x4096 .bf16) (g : Vec Ideal S1x4096x1024 .bf16) (b : Vec Ideal S1x1x1024 .f32) : FVec Ideal S256x1024 .f32 :=
  addf (matmul dot_S256x4096_S4096x1024_S256x1024_1_0_0_1_n_n none
      (show FVec Ideal S256x4096 .bf16 from shapeCast S256x4096 x shapeCasts_S256x4096_S256x4096)
      (show FVec Ideal S4096x1024 .bf16 from shapeCast S4096x1024 g shapeCasts_S1x4096x1024_S4096x1024) (constant S256x1024 .f32 0x00000000#32))
    (broadcastTo S256x1024 (shapeCast S1x1024 b shapeCasts_S1x1x1024_S1x1024) broadcasts_S1x1024_S256x1024)

theorem first_at (x : Vec Ideal S256x4096 .bf16) (g : Vec Ideal S1x4096x1024 .bf16) (b : Vec Ideal S1x1x1024 .f32)
    (r : Fin 256) (f : Fin 1024) :
    first x g b (ix2 r f) = (∑ k : Fin 4096, (x : FVec Ideal S256x4096 .bf16) (ix2 r k) * (g : FVec Ideal S1x4096x1024 .bf16) (ix3 0 k f))
      + (b : FVec Ideal S1x1x1024 .f32) (ix3 0 0 f) := by
  pointwise [first]

/-- Its gating. -/
def gated (u : FVec Ideal S256x1024 .f32) : FVec Ideal S256x512 .f32 :=
  have v21 : FVec Ideal S256x512 .f32 := concatenate S256x512 1 [⟨S256x128, extractStridedSlice S256x128 ![0, 0] u slices_S256x1024_o0_0_S256x128⟩,
      ⟨S256x128, extractStridedSlice S256x128 ![0, 256] u slices_S256x1024_o0_256_S256x128⟩,
      ⟨S256x128, extractStridedSlice S256x128 ![0, 512] u slices_S256x1024_o0_512_S256x128⟩,
      ⟨S256x128, extractStridedSlice S256x128 ![0, 768] u slices_S256x1024_o0_768_S256x128⟩]
      concatenates_S256x128_S256x128_S256x128_S256x128_S256x512_d1
  have v26 : FVec Ideal S256x512 .f32 := concatenate S256x512 1 [⟨S256x128, extractStridedSlice S256x128 ![0, 128] u slices_S256x1024_o0_128_S256x128⟩,
      ⟨S256x128, extractStridedSlice S256x128 ![0, 384] u slices_S256x1024_o0_384_S256x128⟩,
      ⟨S256x128, extractStridedSlice S256x128 ![0, 640] u slices_S256x1024_o0_640_S256x128⟩,
      ⟨S256x128, extractStridedSlice S256x128 ![0, 896] u slices_S256x1024_o0_896_S256x128⟩]
      concatenates_S256x128_S256x128_S256x128_S256x128_S256x512_d1
  gate2 v21 v26
where
  gate2 (v21 v26 : FVec Ideal S256x512 .f32) : FVec Ideal S256x512 .f32 :=
    mulf (mulf (minimumf v21 (broadcast S256x512 (Scalar.ofBits .f32 0x40E00000#32)))
        (logistic (mulf (broadcast S256x512 (Scalar.ofBits .f32 0x3FD9DB23#32)) (minimumf v21 (broadcast S256x512 (Scalar.ofBits .f32 0x40E00000#32))))))
      (addf (minimumf (broadcast S256x512 (Scalar.ofBits .f32 0x40E00000#32)) (maximumf (broadcast S256x512 (Scalar.ofBits .f32 0xC0E00000#32)) v26))
        (broadcast S256x512 (Scalar.ofBits .f32 0x3F800000#32)))

theorem gate2_at (v w : FVec Ideal S256x512 .f32) (r : Fin 256) (q : Fin 512) :
    gated.gate2 v w (ix2 r q) = min (v (ix2 r q)) limit * Ideal.logistic (slope * min (v (ix2 r q)) limit)
      * (max (min (w (ix2 r q)) limit) floor + 1) := by
  rw [← clip]
  pointwise [gated.gate2]

theorem gated_at (u : FVec Ideal S256x1024 .f32) (r : Fin 256) (q : Fin 512) :
    gated u (ix2 r q) = act (fun f => u (ix2 r f)) q := by
  unfold gated act
  rw [gate2_at, gates_at, linears_at]

/-- The second product. -/
theorem second_at (x : Vec Ideal S256x4096 .bf16) (g : Vec Ideal S1x4096x1024 .bf16) (b : Vec Ideal S1x1x1024 .f32)
    (d : Vec Ideal S1x1x512x4096 .f32) (r : Fin 256) (j : Fin 4096) :
    k0_pay3 x g b d (ix2 r j) = ∑ q : Fin 512, gated (first x g b) (ix2 r q) * (d : FVec Ideal S1x1x512x4096 .f32) (ix4 0 0 q j) := by
  have e : k0_pay3 x g b d = matmul dot_S256x512_S512x4096_S256x4096_1_0_0_1_n_n none (truncf .bf16 (gated (first x g b)) bitsLt_bf16_f32)
      (truncf .bf16 (shapeCast S512x4096 d shapeCasts_S1x1x512x4096_S512x4096) bitsLt_bf16_f32) (constant S256x4096 .f32 0x00000000#32) := by
    unfold k0_pay3 gated gated.gate2 first
    rfl
  rw [e]
  generalize gated (first x g b) = u
  pointwise

theorem weighed_at (u : FVec Ideal S256x4096 .f32) (e : Vec Ideal S1x1x1x4096 .f32) (s : Vec Ideal S256x1 .f32) (r : Fin 256) (j : Fin 4096) :
    k0_pay1 u e s (ix2 r j) = (u (ix2 r j) + (e : FVec Ideal S1x1x1x4096 .f32) (ix4 0 0 0 j)) * (s : FVec Ideal S256x1 .f32) (ix2 r 0) := by
  pointwise [k0_pay1]

theorem zero_at (r : Fin 256) (j : Fin 4096) : k0_pay2 (F := Ideal) (ix2 r j) = 0 := by
  pointwise [k0_pay2]

/-- At an active point. -/
theorem active_at (x : Vec Ideal S256x4096 .bf16) (g : Vec Ideal S1x4096x1024 .bf16) (b : Vec Ideal S1x1x1024 .f32)
    (d : Vec Ideal S1x1x512x4096 .f32) (e : Vec Ideal S1x1x1x4096 .f32) (s : Vec Ideal S256x1 .f32) (r : Fin 256) (j : Fin 4096) :
    (active x g b d e s : FVec Ideal S256x4096 .f32) (ix2 r j)
      = entry (fun k => (x : FVec Ideal S256x4096 .bf16) (ix2 r k)) (fun k f => (g : FVec Ideal S1x4096x1024 .bf16) (ix3 0 k f))
          (fun f => (b : FVec Ideal S1x1x1024 .f32) (ix3 0 0 f)) (fun q => (d : FVec Ideal S1x1x512x4096 .f32) (ix4 0 0 q j))
          ((e : FVec Ideal S1x1x1x4096 .f32) (ix4 0 0 0 j)) ((s : FVec Ideal S256x1 .f32) (ix2 r 0)) := by
  have h2 : (![0, 0] : Fin 2 → ℕ) = fun _ => 0 := by decide
  have h3 : (![0, 0, 0] : Fin 3 → ℕ) = fun _ => 0 := by decide
  have h4 : (![0, 0, 0, 0] : Fin 4 → ℕ) = fun _ => 0 := by decide
  have w : active x g b d e s = k0_pay1 (k0_pay3 x g b d) e s := by
    unfold active
    refine (View.canon_unit_zero h2 _ _).trans ?_
    rw [View.ld_unit_zero h2 _ x, View.ld_unit_zero h3 _ g, View.ld_unit_zero h3 _ b, View.ld_unit_zero h4 _ d,
      View.ld_unit_zero h4 _ e, View.ld_unit_zero h2 _ s]
  rw [w]
  refine (weighed_at _ _ _ r j).trans ?_
  unfold entry
  rw [second_at]
  refine congrArg (fun z => (z + _) * _) (Finset.sum_congr rfl fun q _ => ?_)
  rw [gated_at]
  refine congrArg (fun u => act u q * _) (funext fun f => first_at x g b r f)

/-- At an idle point. -/
theorem idle_at (r : Fin 256) (j : Fin 4096) : (idle (F := Ideal) : FVec Ideal S256x4096 .f32) (ix2 r j) = 0 := by
  have h2 : (![0, 0] : Fin 2 → ℕ) = fun _ => 0 := by decide
  unfold idle
  refine (congrFun (View.canon_unit_zero h2 _ _) (ix2 r j)).trans (zero_at r j)

end Cert.ExpertsKernelIdeal.Block
-- ==== Proof.ExpertsRef.lean ====
/-
  The reference of the experts' call, entry by entry.
-/
module

public import proofs.«01_k».proof.Proof.ExpertsSpec
public import proofs.«01_k».proof.Proof.Gen.ExpertsRefIdeal.Run
public import Idealize.ShloMosaic.Lib.WordCmp

@[expose] public section

set_option maxRecDepth 16384

noncomputable section

open Idealize.ShloMosaic Idealize.ShloMosaic.TcCoe Idealize.SL.Sem

namespace Cert.ExpertsRefIdeal.Whole

open Cert.ExpertsRefIdeal Cert.ExpertsRefIdeal.Gen Cert.Experts

/-! ## Taking planes of an array by a list of words -/

section Planes
variable {α : Type} {N A B R : ℕ}

abbrev planes (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The plane taken for `i` is the one its word names, the word clamped into the range of planes. -/
theorem planes_at (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (i : Fin R) (p : Fin A) (q : Fin B) :
    Host.gather (planes wf) x idx (ix3 i p q)
      = x (ix3 ⟨min (idx (ix2 i 0)).toInt.toNat (N - 1), by omega⟩ p q) := by
  have h0 : (0 : Fin 3) ∉ (planes wf).sKept := fun h => ((GatherDims.mem_sKept _ _).mp h).1 (List.mem_singleton.mpr rfl)
  have h1 : (1 : Fin 3) ∉ (planes wf).startIndexMap := fun h => by simp at h
  have h2 : (2 : Fin 3) ∉ (planes wf).startIndexMap := fun h => by simp at h
  unfold Host.gather
  refine congrArg x (funext fun a => Fin.ext ?_)
  show (planes wf).start (ix3 i p q) idx a + (planes wf).batchCoord (ix3 i p q) a + (planes wf).offCoord (ix3 i p q) a = _
  rw [GatherDims.batchCoord_eq_zero _ _ _ List.not_mem_nil, Nat.add_zero]
  match a with
  | ⟨0, _⟩ =>
    show (planes wf).start (ix3 i p q) idx 0 + (planes wf).offCoord (ix3 i p q) 0 = _
    rw [GatherDims.offCoord_eq_zero _ _ _ h0, Nat.add_zero]
    unfold GatherDims.start
    rw [dif_pos (show (0 : Fin 3) ∈ (planes wf).startIndexMap from List.mem_singleton.mpr rfl)]
    have hsi : (planes wf).siIdx (ix3 i p q) ⟨List.idxOf (0 : Fin 3) (planes wf).startIndexMap,
        List.idxOf_lt_length_iff.2 (List.mem_singleton.mpr rfl)⟩ = ix2 i 0 := by
      funext b
      refine Fin.ext ?_
      match b with
      | ⟨0, _⟩ => rfl
      | ⟨1, _⟩ => rfl
    rw [hsi]
    rfl
  | ⟨1, _⟩ =>
    show (planes wf).start (ix3 i p q) idx 1 + (planes wf).offCoord (ix3 i p q) 1 = _
    unfold GatherDims.start
    rw [dif_neg h1, Nat.zero_add]
    rfl
  | ⟨2, _⟩ =>
    show (planes wf).start (ix3 i p q) idx 2 + (planes wf).offCoord (ix3 i p q) 2 = _
    unfold GatherDims.start
    rw [dif_neg h2, Nat.zero_add]
    rfl

end Planes

/-! ## The words -/

/-- The list of words, those below zero counted from the end. -/
def starts (be : IVec S288 32) : IVec S288x1 32 :=
  broadcastInDim S288x1 ![0] bcast_S288_S288x1_0 (select (cmpi .slt be (broadcastInDim S288 ![] bcast_S_S288 (constantI S_ 32 0#32)))
    (addi be (broadcastInDim S288 ![] bcast_S_S288 (constantI S_ 32 32#32))) be)

theorem starts_at (be : IVec S288 32) (h : ∀ x, (be x).toNat < 32) (i : Fin 288) : starts be (ix2 i 0) = be (ix1 i) := by
  have e : IntOp.cmpi .slt (be (ix1 i)) 0#32 = 0#1 := by
    rw [WordCmp.cmpi_slt_zero]
    have := h (ix1 i)
    rw [decide_eq_false (by omega)]
    rfl
  unfold starts
  pointwise
  rw [e]
  rfl

/-! ## The products -/

/-- The first product with its bias, on the planes already taken. -/
def first (x : FVec Ideal S73728x4096 .f32) (g : FVec Ideal S288x4096x1024 .f32) (b : FVec Ideal S288x1x1024 .f32) : FVec Ideal S288x256x1024 .f32 :=
  addf (Host.dotGeneral dot_S288x256x4096_S288x4096x1024_S288x256x1024_2_1_1_2_0_0 none (shapeCast S288x256x4096 x shapeCasts_S73728x4096_S288x256x4096) g)
    (broadcastInDim S288x256x1024 ![0, 1, 2] bcast_S288x1x1024_S288x256x1024_0_1_2 b)

theorem rows_at (x : FVec Ideal S73728x4096 .f32) (i : Fin 288) (r : Fin 256) (k : Fin 4096) :
    shapeCast S288x256x4096 x shapeCasts_S73728x4096_S288x256x4096 (ix3 i r k) = x (ix2 (place i r) k) := by
  pointwise
  rfl

theorem first_at (x : FVec Ideal S73728x4096 .f32) (g : FVec Ideal S288x4096x1024 .f32) (b : FVec Ideal S288x1x1024 .f32)
    (i : Fin 288) (r : Fin 256) (f : Fin 1024) :
    first x g b (ix3 i r f) = (∑ k : Fin 4096, x (ix2 (place i r) k) * g (ix3 i k f)) + b (ix3 i 0 f) := by
  pointwise [first]
  rfl

/-- The gates' columns, and the linear parts'. -/
def gates (u : FVec Ideal S288x256x1024 .f32) : FVec Ideal S288x256x512 .f32 :=
  shapeCast S288x256x512 (shapeCast S288x256x4x128 (extractStridedSlice S288x256x4x1x128 ![0, 0, 0, 0, 0]
    (shapeCast S288x256x4x2x128 u shapeCasts_S288x256x1024_S288x256x4x2x128) slices_S288x256x4x2x128_S288x256x4x1x128_0_0_0_0_0)
    shapeCasts_S288x256x4x1x128_S288x256x4x128) shapeCasts_S288x256x4x128_S288x256x512

def linears (u : FVec Ideal S288x256x1024 .f32) : FVec Ideal S288x256x512 .f32 :=
  shapeCast S288x256x512 (shapeCast S288x256x4x128 (extractStridedSlice S288x256x4x1x128 ![0, 0, 0, 1, 0]
    (shapeCast S288x256x4x2x128 u shapeCasts_S288x256x1024_S288x256x4x2x128) slices_S288x256x4x2x128_S288x256x4x1x128_0_0_0_1_0)
    shapeCasts_S288x256x4x1x128_S288x256x4x128) shapeCasts_S288x256x4x128_S288x256x512

theorem gates_at (u : FVec Ideal S288x256x1024 .f32) (i : Fin 288) (r : Fin 256) (q : Fin 512) :
    gates u (ix3 i r q) = u (ix3 i r (gateColumn q)) := by
  pointwise [gates]
  rfl

theorem linears_at (u : FVec Ideal S288x256x1024 .f32) (i : Fin 288) (r : Fin 256) (q : Fin 512) :
    linears u (ix3 i r q) = u (ix3 i r (linearColumn q)) := by
  pointwise [linears]
  rfl

/-- The gating. -/
def gate (v w : FVec Ideal S288x256x512 .f32) : FVec Ideal S288x256x512 .f32 :=
  mulf (mulf (minimumf v (broadcastInDim S288x256x512 ![] bcast_S_S288x256x512 (constant S_ .f32 0x40E00000#32)))
      (Host.divf (broadcastInDim S288x256x512 ![] bcast_S_S288x256x512 (constant S_ .f32 0x3F800000#32))
        (addf (broadcastInDim S288x256x512 ![] bcast_S_S288x256x512 (constant S_ .f32 0x3F800000#32))
          (Host.exp (Host.negf (mulf (broadcastInDim S288x256x512 ![] bcast_S_S288x256x512 (constant S_ .f32 0x3FD9DB23#32))
            (minimumf v (broadcastInDim S288x256x512 ![] bcast_S_S288x256x512 (constant S_ .f32 0x40E00000#32)))))))))
    (addf (minimumf (broadcastInDim S288x256x512 ![] bcast_S_S288x256x512 (id (constant S_ .f32 0x40E00000#32)))
      (maximumf (broadcastInDim S288x256x512 ![] bcast_S_S288x256x512 (id (constant S_ .f32 0xC0E00000#32))) w))
      (broadcastInDim S288x256x512 ![] bcast_S_S288x256x512 (constant S_ .f32 0x3F800000#32)))

theorem gate_at (v w : FVec Ideal S288x256x512 .f32) (i : Fin 288) (r : Fin 256) (q : Fin 512) :
    gate v w (ix3 i r q) = min (v (ix3 i r q)) limit * Ideal.logistic (slope * min (v (ix3 i r q)) limit)
      * (max (min (w (ix3 i r q)) limit) floor + 1) := by
  rw [← clip]
  pointwise [gate, Ideal.logistic]
  rfl

/-- The second product with its bias, weighed. -/
def second (h : FVec Ideal S288x256x512 .f32) (d : FVec Ideal S288x512x4096 .f32) (e : FVec Ideal S288x1x4096 .f32)
    (s : FVec Ideal S73728x1 .f32) : FVec Ideal S288x256x4096 .f32 :=
  mulf (addf (Host.dotGeneral dot_S288x256x512_S288x512x4096_S288x256x4096_2_1_1_2_0_0 none h d)
      (broadcastInDim S288x256x4096 ![0, 1, 2] bcast_S288x1x4096_S288x256x4096_0_1_2 e))
    (broadcastInDim S288x256x4096 ![0, 1, 2] bcast_S288x256x1_S288x256x4096_0_1_2 (shapeCast S288x256x1 s shapeCasts_S73728x1_S288x256x1))

theorem second_at (h : FVec Ideal S288x256x512 .f32) (d : FVec Ideal S288x512x4096 .f32) (e : FVec Ideal S288x1x4096 .f32)
    (s : FVec Ideal S73728x1 .f32) (i : Fin 288) (r : Fin 256) (j : Fin 4096) :
    second h d e s (ix3 i r j) = ((∑ q : Fin 512, h (ix3 i r q) * d (ix3 i q j)) + e (ix3 i 0 j)) * s (ix2 (place i r) 0) := by
  pointwise [second]
  rfl

/-- The blocks past the first `n` put at zero, the blocks' rows laid out again. -/
def kept (n : IVec S1 32) (y : FVec Ideal S288x256x4096 .f32) : FVec Ideal S73728x4096 .f32 :=
  shapeCast S73728x4096 (select (broadcastInDim S288x256x4096 ![0, 1, 2] bcast_S288x1x1_S288x256x4096_0_1_2
      (broadcastInDim S288x1x1 ![0] bcast_S288_S288x1x1_0 (cmpi .slt (iotaInDim S288 32 0) (broadcastInDim S288 ![0] bcast_S1_S288_0 n))))
    y (broadcastInDim S288x256x4096 ![] bcast_S_S288x256x4096 (id (constant S_ .f32 0x00000000#32)))) shapeCasts_S288x256x4096_S73728x4096

theorem kept_at (n : IVec S1 32) (y : FVec Ideal S288x256x4096 .f32) (i : Fin 288) (r : Fin 256) (j : Fin 4096) :
    kept n y (ix2 (place i r) j) = if among i (n (ix1 0)) then y (ix3 i r j) else 0 := by
  have hq : (place i r).val / 256 = i.val := by simp only [place]; omega
  have hr : (place i r).val % 256 = r.val := by simp only [place]; omega
  pointwise [kept]
  rw [WordCmp.cmpi_slt_eq]
  simp only [hq, hr]
  by_cases c : among i (n (ix1 0))
  · rw [if_pos c, decide_eq_true c]
    rfl
  · rw [if_neg c, decide_eq_false c]
    show Ideal.ofBits .f32 0x00000000#32 = 0
    exact Ideal.ofBits_zero .f32

/-- The first layer's planes. -/
def downs (d : FVec Ideal S2x32x512x4096 .f32) : FVec Ideal S32x512x4096 .f32 :=
  shapeCast S32x512x4096 (extractStridedSlice S1x32x512x4096 ![0, 0, 0, 0] d slices_S2x32x512x4096_S1x32x512x4096_0_0_0_0) shapeCasts_S1x32x512x4096_S32x512x4096
def biases (e : FVec Ideal S2x32x1x4096 .f32) : FVec Ideal S32x1x4096 .f32 :=
  shapeCast S32x1x4096 (extractStridedSlice S1x32x1x4096 ![0, 0, 0, 0] e slices_S2x32x1x4096_S1x32x1x4096_0_0_0_0) shapeCasts_S1x32x1x4096_S32x1x4096

theorem downs_at (d : FVec Ideal S2x32x512x4096 .f32) (w : Fin 32) (q : Fin 512) (j : Fin 4096) :
    downs d (ix3 w q j) = d (ix4 0 w q j) := by
  pointwise [downs]
theorem biases_at (e : FVec Ideal S2x32x1x4096 .f32) (w : Fin 32) (j : Fin 4096) :
    biases e (ix3 w 0 j) = e (ix4 0 w 0 j) := by
  pointwise [biases]

/-- The whole reference. -/
def result (be : IVec S288 32) (n : IVec S1 32) (x : FVec Ideal S73728x4096 .f32) (g : FVec Ideal S32x4096x1024 .f32)
    (b : FVec Ideal S32x1x1024 .f32) (d : FVec Ideal S2x32x512x4096 .f32) (e : FVec Ideal S2x32x1x4096 .f32) (s : FVec Ideal S73728x1 .f32) :
    FVec Ideal S73728x4096 .f32 :=
  have u := first x (Host.gather gather_S32x4096x1024_S288x1_S288x4096x1024_12_0_n_n_0_1_140961024 g (starts be))
    (Host.gather gather_S32x1x1024_S288x1_S288x1x1024_12_0_n_n_0_1_111024 b (starts be))
  kept n (second (gate (gates u) (linears u))
    (Host.gather gather_S32x512x4096_S288x1_S288x512x4096_12_0_n_n_0_1_15124096 (downs d) (starts be))
    (Host.gather gather_S32x1x4096_S288x1_S288x1x4096_12_0_n_n_0_1_114096 (biases e) (starts be)) s)

theorem result_at (be : IVec S288 32) (n : IVec S1 32) (x : FVec Ideal S73728x4096 .f32) (g : FVec Ideal S32x4096x1024 .f32)
    (b : FVec Ideal S32x1x1024 .f32) (d : FVec Ideal S2x32x512x4096 .f32) (e : FVec Ideal S2x32x1x4096 .f32) (s : FVec Ideal S73728x1 .f32)
    (h : ∀ x, (be x).toNat < 32) (i : Fin 288) (r : Fin 256) (j : Fin 4096) :
    result be n x g b d e s (ix2 (place i r) j) = if among i (n (ix1 0)) then
      entry (fun k => x (ix2 (place i r) k)) (fun k f => g (ix3 (who (be (ix1 i))) k f)) (fun f => b (ix3 (who (be (ix1 i))) 0 f))
        (fun q => d (ix4 0 (who (be (ix1 i))) q j)) (e (ix4 0 (who (be (ix1 i))) 0 j)) (s (ix2 (place i r) 0)) else 0 := by
  have e0 := starts_at be h i
  have eg (k : Fin 4096) (f : Fin 1024) : Host.gather gather_S32x4096x1024_S288x1_S288x4096x1024_12_0_n_n_0_1_140961024 g (starts be) (ix3 i k f)
      = g (ix3 (who (be (ix1 i))) k f) := by
    rw [← e0]
    exact planes_at (N := 32) (by norm_num) _ g (starts be) i k f
  have eb (f : Fin 1024) : Host.gather gather_S32x1x1024_S288x1_S288x1x1024_12_0_n_n_0_1_111024 b (starts be) (ix3 i 0 f)
      = b (ix3 (who (be (ix1 i))) 0 f) := by
    rw [← e0]
    exact planes_at (N := 32) (by norm_num) _ b (starts be) i 0 f
  have ed (q : Fin 512) : Host.gather gather_S32x512x4096_S288x1_S288x512x4096_12_0_n_n_0_1_15124096 (downs d) (starts be) (ix3 i q j)
      = d (ix4 0 (who (be (ix1 i))) q j) := by
    rw [← e0]
    exact (planes_at (N := 32) (by norm_num) _ (downs d) (starts be) i q j).trans (downs_at d _ q j)
  have ee : Host.gather gather_S32x1x4096_S288x1_S288x1x4096_12_0_n_n_0_1_114096 (biases e) (starts be) (ix3 i 0 j)
      = e (ix4 0 (who (be (ix1 i))) 0 j) := by
    rw [← e0]
    exact (planes_at (N := 32) (by norm_num) _ (biases e) (starts be) i 0 j).trans (biases_at e _ j)
  unfold result
  rw [kept_at]
  refine congrArg (fun z => if among i (n (ix1 0)) then z else (0 : EReal)) ?_
  rw [second_at, ee]
  unfold entry
  refine congrArg (fun z => (z + _) * _) (Finset.sum_congr rfl fun q _ => ?_)
  rw [ed, gate_at, gates_at, linears_at]
  unfold act
  simp only [first_at, eg, eb]

end Cert.ExpertsRefIdeal.Whole
-- ==== Proof.ExpertsValue.lean ====
/-
  The experts' call, block by block: the precondition read, the array the region leaves, and the reference's.
-/
module

public import proofs.«01_k».proof.Proof.ExpertsBlock
public import proofs.«01_k».proof.Proof.ExpertsRef
public import proofs.«01_k».proof.Proof.ExpertsRun
public import proofs.«01_k».proof.Proof.Gen.Pre_experts_named
public import proofs.«01_k».proof.Defs
public import Idealize.ShloMosaic.Lib.StableHlo.Predicate
public import Idealize.ShloMosaic.Lib.Pipeline.Value

@[expose] public section

set_option maxRecDepth 16384

noncomputable section

open Idealize.ShloMosaic Idealize.ShloMosaic.TcCoe Idealize.SL.Sem

namespace Cert.Experts

/-- The precondition, read: every word of the table is below 32. -/
theorem named {F : FTy → Type} [FloatOps F] (be : IVec Cert.Pre_experts_named.S288 32) (n : IVec Cert.Pre_experts_named.S1 32)
    (x : FVec F Cert.Pre_experts_named.S73728x4096 .f32) (g : FVec F Cert.Pre_experts_named.S32x4096x1024 .f32)
    (b : FVec F Cert.Pre_experts_named.S32x1x1024 .f32) (d : FVec F Cert.Pre_experts_named.S2x32x512x4096 .f32)
    (e : FVec F Cert.Pre_experts_named.S2x32x1x4096 .f32) (s : FVec F Cert.Pre_experts_named.S73728x1 .f32)
    (h : Cert.Pre_experts_named.fn be n x g b d e s = fun _ => 1#1) (i : Cert.Pre_experts_named.S288.Idx) : (be i).toNat < 32 := by
  have w : IntOp.andi (IntOp.cmpi .sge (be i) 0#32) (IntOp.cmpi .slt (be i) (BitVec.ofNat 32 32)) = 1#1 := congrFun h i
  rw [WordCmp.andi_sge_zero_slt_ofNat (by norm_num)] at w
  by_contra c
  rw [decide_eq_false c] at w
  exact absurd w (by decide)

end Cert.Experts

namespace Cert.ExpertsKernelIdeal.Block

open Cert.ExpertsKernelIdeal Cert.ExpertsKernelIdeal.Gen Cert.ExpertsKernelIdeal.Run Cert.Experts

/-! ## Where the blocks stand -/

theorem coords_at : ∀ t : Fin grid0.N, ((grid0.coords t) 0).val = t.val := by decide +kernel
theorem at0 : ∀ t : Fin grid0.N, cc0_transform_0 (grid0.coords t) 0 = t.val ∧ cc0_transform_0 (grid0.coords t) 1 = 0 := by decide +kernel
theorem at5 : ∀ t : Fin grid0.N, cc0_transform_5 (grid0.coords t) 0 = t.val ∧ cc0_transform_5 (grid0.coords t) 1 = 0 := by decide +kernel
theorem at6 : ∀ t : Fin grid0.N, cc0_transform_6 (grid0.coords t) 0 = t.val ∧ cc0_transform_6 (grid0.coords t) 1 = 0 := by decide +kernel
theorem off_at : ∀ t : Fin grid0.N, k0_off1 (grid0.coords t) 0 = t.val := by decide +kernel
theorem flush_at : ∀ t : Fin grid0.N, Pipeline.Window.flushOf grid0 true cc0_transform_6 t = true := by decide +kernel

variable (m : (ℓ : Loc nD τ sig) → Buf (Elt Ideal) ℓ) (c : Dev nD)

abbrev be : IVec S288 32 := m ((c : Thread nD τ).loc main_arg0)
abbrev n : IVec S1 32 := m ((c : Thread nD τ).loc main_arg1)
abbrev x : FVec Ideal S73728x4096 .f32 := m ((c : Thread nD τ).loc main_arg2)
abbrev g : FVec Ideal S32x4096x1024 .f32 := m ((c : Thread nD τ).loc main_arg3)
abbrev b : FVec Ideal S32x1x1024 .f32 := m ((c : Thread nD τ).loc main_arg4)
abbrev d : FVec Ideal S2x32x512x4096 .f32 := m ((c : Thread nD τ).loc main_arg5)
abbrev e : FVec Ideal S2x32x1x4096 .f32 := m ((c : Thread nD τ).loc main_arg6)
abbrev s : FVec Ideal S73728x1 .f32 := m ((c : Thread nD τ).loc main_arg7)

/-- One entry of the result: of block `i`'s row `r`. -/
def cell (i : Fin 288) (r : Fin 256) (j : Fin 4096) : EReal :=
  if among i (n m c (ix1 0)) then
    entry (fun k => x m c (ix2 (place i r) k)) (fun k f => g m c (ix3 (who (be m c (ix1 i))) k f)) (fun f => b m c (ix3 (who (be m c (ix1 i))) 0 f))
      (fun q => d m c (ix4 0 (who (be m c (ix1 i))) q j)) (e m c (ix4 0 (who (be m c (ix1 i))) 0 j)) (s m c (ix2 (place i r) 0))
  else 0

/-- The whole result. -/
def out : FVec Ideal S73728x4096 .f32 := fun y =>
  cell m c ⟨(y 0).val / 256, by have : (y 0).val < 73728 := (y 0).isLt; omega⟩ ⟨(y 0).val % 256, Nat.mod_lt _ (by norm_num)⟩ (y 1)

theorem out_at (z : S73728x4096.Idx) (i : Fin 288) (r : Fin 256) (j : Fin 4096) (h0 : (z 0).val = i.val * 256 + r.val)
    (h1 : (z 1).val = j.val) : out m c z = cell m c i r j := by
  have e0 : (⟨(z 0).val / 256, by have : (z 0).val < 73728 := (z 0).isLt; omega⟩ : Fin 288) = i := Fin.ext (by show (z 0).val / 256 = _; omega)
  have e1 : (⟨(z 0).val % 256, Nat.mod_lt _ (by norm_num)⟩ : Fin 256) = r := Fin.ext (by show (z 0).val % 256 = _; omega)
  have e2 : (z 1 : Fin 4096) = j := Fin.ext h1
  unfold out
  rw [e0, e1]
  exact congrArg (cell m c i r) e2

theorem tokens : (V m c main_v0 : FVec Ideal S73728x4096 .bf16) = x m c := by
  refine (show _ = truncf .bf16 (x m c) bitsLt_bf16_f32 from ?_).trans rfl
  dsimp only [V]
  after_results

theorem ups : (V m c main_v1 : FVec Ideal S32x4096x1024 .bf16) = g m c := by
  refine (show _ = truncf .bf16 (g m c) bitsLt_bf16_f32 from ?_).trans rfl
  dsimp only [V]
  after_results

/-! ## The two tables -/

theorem found0 : (found m 0 : IVec S288 32) = be m c := by
  obtain rfl : c = 0 := Subsingleton.elim _ _
  exact V_arg0 m 0
theorem found1 : (found m 1 : IVec S1 32) = n m c := by
  obtain rfl : c = 0 := Subsingleton.elim _ _
  exact V_arg1 m 0

variable (h : ∀ y, (found m 0 y : BitVec 32).toNat < 32)

abbrev A : (pcfg0 (F := Ideal)).Adm := tables m h

include h in
theorem small (i : Fin 288) : (be m c (ix1 i)).toNat < 32 := by
  rw [← found0]
  exact h _

/-- The block a point stands at. -/
abbrev blk (t : Fin (cfg0 (A m h)).N) : Fin 288 := ⟨t.val, lt_of_lt_of_eq t.isLt N_0⟩

theorem expert_at (t : Fin (cfg0 (A m h)).N) : expert (found m) (grid0.coords t) = be m c (ix1 (blk m h t)) := by
  rw [← found0]
  refine congrArg (found m 0 : IVec S288 32) (funext fun (a : Fin 1) => Fin.ext ?_)
  match a with
  | ⟨0, _⟩ =>
    show k0_off1 (grid0.coords t) 0 + 1 * 0 = t.val
    rw [off_at]
    omega

theorem expert_val (t : Fin (cfg0 (A m h)).N) :
    (expert (found m) (grid0.coords t)).toNat = (who (be m c (ix1 (blk m h t)))).val := by
  rw [expert_at m c, who_val (small m c h _)]

theorem word_at : word (A m h) = n m c (ix1 0) := by
  have hb : ∀ b : Fin 1, (![0] : Fin 1 → Nat) b + 1 ≤ S1.size b := by decide
  rw [← found1]
  refine (dif_pos hb).trans (congrArg (found m 1 : IVec S1 32) (funext fun (b : Fin 1) => ?_))
  match b with
  | ⟨0, _⟩ => exact Subsingleton.elim (α := Fin 1) _ _

theorem turn_at (t : Fin (cfg0 (A m h)).N) : k0_cond1 (grid0.coords t) (word (A m h)) = 1#1 ↔ among (blk m h t) (n m c (ix1 0)) := by
  rw [first_iff, word_at m c, coords_at]

/-! ## The blocks -/

theorem block0 (t : Fin (cfg0 (A m h)).N) (r : Fin 256) (k : Fin 4096) :
    (iblk m (A m h) c 0 t : FVec Ideal S256x4096 .bf16) (ix2 r k) = x m c (ix2 (place (blk m h t) r) k) := by
  obtain ⟨h0, h1⟩ := at0 t
  unfold iblk
  refine (View.read_apply ..).trans ?_
  show (V m c main_v0 : FVec Ideal S73728x4096 .bf16) _ = x m c _
  rw [tokens]
  refine congrArg (x m c) ?_
  funext a
  apply Fin.ext
  match a with
  | ⟨0, _⟩ => show cc0_transform_0 (grid0.coords t) 0 * 256 + 1 * r.val = t.val * 256 + r.val; rw [h0]; omega
  | ⟨1, _⟩ => show cc0_transform_0 (grid0.coords t) 1 * 4096 + 1 * k.val = k.val; rw [h1]; omega

theorem block1 (t : Fin (cfg0 (A m h)).N) (k : Fin 4096) (f : Fin 1024) :
    (iblk m (A m h) c 1 t : FVec Ideal S1x4096x1024 .bf16) (ix3 0 k f) = g m c (ix3 (who (be m c (ix1 (blk m h t)))) k f) := by
  have he := expert_val m c h t
  unfold iblk
  refine (View.read_apply ..).trans ?_
  show (V m c main_v1 : FVec Ideal S32x4096x1024 .bf16) _ = g m c _
  rw [ups]
  refine congrArg (g m c) ?_
  funext a
  apply Fin.ext
  match a with
  | ⟨0, _⟩ => show (expert (found m) (grid0.coords t)).toNat * 1 + 1 * 0 = (who (be m c (ix1 (blk m h t)))).val; omega
  | ⟨1, _⟩ => show 0 * 4096 + 1 * k.val = k.val; omega
  | ⟨2, _⟩ => show 0 * 1024 + 1 * f.val = f.val; omega

theorem block2 (t : Fin (cfg0 (A m h)).N) (f : Fin 1024) :
    (iblk m (A m h) c 2 t : FVec Ideal S1x1x1024 .f32) (ix3 0 0 f) = b m c (ix3 (who (be m c (ix1 (blk m h t)))) 0 f) := by
  have he := expert_val m c h t
  unfold iblk
  refine (View.read_apply ..).trans ?_
  show (V m c main_arg4 : FVec Ideal S32x1x1024 .f32) _ = b m c _
  rw [V_arg4]
  refine congrArg (b m c) ?_
  funext a
  apply Fin.ext
  match a with
  | ⟨0, _⟩ => show (expert (found m) (grid0.coords t)).toNat * 1 + 1 * 0 = (who (be m c (ix1 (blk m h t)))).val; omega
  | ⟨1, _⟩ => show 0 * 1 + 1 * 0 = 0; omega
  | ⟨2, _⟩ => show 0 * 1024 + 1 * f.val = f.val; omega

theorem block3 (t : Fin (cfg0 (A m h)).N) (q : Fin 512) (j : Fin 4096) :
    (iblk m (A m h) c 3 t : FVec Ideal S1x1x512x4096 .f32) (ix4 0 0 q j) = d m c (ix4 0 (who (be m c (ix1 (blk m h t)))) q j) := by
  have he := expert_val m c h t
  unfold iblk
  refine (View.read_apply ..).trans ?_
  show (V m c main_arg5 : FVec Ideal S2x32x512x4096 .f32) _ = d m c _
  rw [V_arg5]
  refine congrArg (d m c) ?_
  funext a
  apply Fin.ext
  match a with
  | ⟨0, _⟩ => show 0 * 1 + 1 * 0 = 0; omega
  | ⟨1, _⟩ => show (expert (found m) (grid0.coords t)).toNat * 1 + 1 * 0 = (who (be m c (ix1 (blk m h t)))).val; omega
  | ⟨2, _⟩ => show 0 * 512 + 1 * q.val = q.val; omega
  | ⟨3, _⟩ => show 0 * 4096 + 1 * j.val = j.val; omega

theorem block4 (t : Fin (cfg0 (A m h)).N) (j : Fin 4096) :
    (iblk m (A m h) c 4 t : FVec Ideal S1x1x1x4096 .f32) (ix4 0 0 0 j) = e m c (ix4 0 (who (be m c (ix1 (blk m h t)))) 0 j) := by
  have he := expert_val m c h t
  unfold iblk
  refine (View.read_apply ..).trans ?_
  show (V m c main_arg6 : FVec Ideal S2x32x1x4096 .f32) _ = e m c _
  rw [V_arg6]
  refine congrArg (e m c) ?_
  funext a
  apply Fin.ext
  match a with
  | ⟨0, _⟩ => show 0 * 1 + 1 * 0 = 0; omega
  | ⟨1, _⟩ => show (expert (found m) (grid0.coords t)).toNat * 1 + 1 * 0 = (who (be m c (ix1 (blk m h t)))).val; omega
  | ⟨2, _⟩ => show 0 * 1 + 1 * 0 = 0; omega
  | ⟨3, _⟩ => show 0 * 4096 + 1 * j.val = j.val; omega

theorem block5 (t : Fin (cfg0 (A m h)).N) (r : Fin 256) :
    (iblk m (A m h) c 5 t : FVec Ideal S256x1 .f32) (ix2 r 0) = s m c (ix2 (place (blk m h t) r) 0) := by
  obtain ⟨h0, h1⟩ := at5 t
  unfold iblk
  refine (View.read_apply ..).trans ?_
  show (V m c main_arg7 : FVec Ideal S73728x1 .f32) _ = s m c _
  rw [V_arg7]
  refine congrArg (s m c) ?_
  funext a
  apply Fin.ext
  match a with
  | ⟨0, _⟩ => show cc0_transform_5 (grid0.coords t) 0 * 256 + 1 * r.val = t.val * 256 + r.val; rw [h0]; omega
  | ⟨1, _⟩ => show cc0_transform_5 (grid0.coords t) 1 * 1 + 1 * 0 = 0; rw [h1]

theorem point (t : Fin (cfg0 (A m h)).N) (r : Fin 256) (j : Fin 4096) :
    (left m (A m h) c t : FVec Ideal S256x4096 .f32) (ix2 r j) = cell m c (blk m h t) r j := by
  unfold left cell
  by_cases a : among (blk m h t) (n m c (ix1 0))
  · rw [if_pos a, if_pos ((turn_at m c h t).mpr a)]
    refine (active_at _ _ _ _ _ _ r j).trans ?_
    simp only [block0, block1, block2, block3, block4, block5]
  · rw [if_neg a, if_neg fun k => a ((turn_at m c h t).mp k)]
    exact idle_at r j

/-! ## The array the region leaves -/

theorem array6 : (dats m (A m h) 0 c).arrAt 6 (cfg0 (A m h)).N = out m c := by
  refine Pipeline.Dat.arrAt_eq_of_cover (dats m (A m h) 0 c) 6 (out m c) (fun t _ => ?_) (fun (i : S73728x4096.Idx) => ?_)
  · obtain ⟨h0, h1⟩ := at6 t
    show ((cfg0 (A m h)).win 6).cut (grid0.coords t) ((dats m (A m h) 0 c).after 6 t) = _
    rw [after6]
    refine funext fun (y : S256x4096.Idx) => ?_
    have hy : y = (ix2 (y 0) (y 1) : S256x4096.Idx) := by
      funext a
      match a with
      | ⟨0, _⟩ => rfl
      | ⟨1, _⟩ => rfl
    refine Eq.trans ?_ (View.read_apply (v := (((cfg0 (A m h)).win 6).blk t).view) (Val := Elt Ideal) (out m c) y).symm
    refine (congrArg (left m (A m h) c t : FVec Ideal S256x4096 .f32) hy).trans ((point m c h t (y 0) (y 1)).trans ?_)
    refine (out_at m c _ (blk m h t) (y 0) (y 1) ?_ ?_).symm
    · show cc0_transform_6 (grid0.coords t) 0 * 256 + 1 * (y 0).val = t.val * 256 + (y 0).val
      rw [h0]
      omega
    · show cc0_transform_6 (grid0.coords t) 1 * 4096 + 1 * (y 1).val = (y 1).val
      rw [h1]
      omega
  · have i0 : (i 0).val < 73728 := (i 0).isLt
    have i1 : (i 1).val < 4096 := (i 1).isLt
    let t : Fin (cfg0 (A m h)).N := ⟨(i 0).val / 256, lt_of_lt_of_eq (by omega) N_0.symm⟩
    have ht : t.val = (i 0).val / 256 := rfl
    obtain ⟨h0, h1⟩ := at6 t
    refine ⟨t, (Pipeline.Window.flush_eq_flushOf _ t).trans (flush_at t), Finset.mem_map.mpr
      ⟨(ix2 ⟨(i 0).val % 256, Nat.mod_lt _ (by norm_num)⟩ (i 1) : S256x4096.Idx), Finset.mem_univ _, ?_⟩⟩
    funext a
    apply Fin.ext
    match a with
    | ⟨0, _⟩ =>
      show cc0_transform_6 (grid0.coords t) 0 * 256 + 1 * ((i 0).val % 256) = (i 0).val
      rw [h0, ht]
      omega
    | ⟨1, _⟩ =>
      show cc0_transform_6 (grid0.coords t) 1 * 4096 + 1 * (i 1).val = (i 1).val
      rw [h1]
      omega

end Cert.ExpertsKernelIdeal.Block

namespace Cert.Proof

open Cert.Experts

theorem frame_experts_kernel : Cert.quiescent_ExpertsKernel (hExpertsKernel := Cert.ExpertsKernel.Gen.facts)
    (hPre_experts_named := Cert.Pre_experts_named.Gen.facts) := fun m ρ pre =>
  Cert.ExpertsKernel.Run.frame m ρ fun y => by
    rw [show Cert.ExpertsKernel.Run.found m 0 = _ from Cert.ExpertsKernel.Run.V_arg0 m 0]
    exact named _ _ _ _ _ _ _ _ (pre 0) y

theorem below (m : (ℓ : Loc Cert.ExpertsKernelIdeal.nD Cert.ExpertsKernelIdeal.τ Cert.ExpertsKernelIdeal.sig) → Buf (Elt Ideal) ℓ)
    (pre : Cert.Pre_ExpertsKernelIdeal (hPre_experts_named := Cert.Pre_experts_named.Gen.facts) m) :
    ∀ y, (Cert.ExpertsKernelIdeal.Run.found m 0 y : BitVec 32).toNat < 32 := fun y => by
  rw [show Cert.ExpertsKernelIdeal.Run.found m 0 = _ from Cert.ExpertsKernelIdeal.Run.V_arg0 m 0]
  exact named _ _ _ _ _ _ _ _ (pre 0) y

theorem frame_experts : Cert.quiescent_ExpertsKernelIdeal (hExpertsKernelIdeal := Cert.ExpertsKernelIdeal.Gen.facts)
    (hPre_experts_named := Cert.Pre_experts_named.Gen.facts) := fun m ρ pre =>
  Cert.ExpertsKernelIdeal.Run.frame m ρ (below m pre)

theorem frame_experts_ref : Cert.quiescent_ExpertsRefIdeal (hExpertsRefIdeal := Cert.ExpertsRefIdeal.Gen.facts)
    (hPre_experts_named := Cert.Pre_experts_named.Gen.facts) := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

open Cert.ExpertsKernelIdeal.Block Cert.ExpertsRefIdeal.Whole in
theorem algebraic_experts : Cert.algebraic_ExpertsKernelIdeal_ExpertsRefIdeal (hExpertsKernelIdeal := Cert.ExpertsKernelIdeal.Gen.facts)
    (hExpertsRefIdeal := Cert.ExpertsRefIdeal.Gen.facts) (hPre_experts_named := Cert.Pre_experts_named.Gen.facts) := by
  intro m ρ m' ρ' pre heq
  have hb := below m pre
  refine ⟨out m, ?_, ?_⟩
  · refine (θ_run _ _ _).mono (fun r h c => ?_) (θ_run_and (Cert.ExpertsKernelIdeal.Run.run m ρ (Cert.ExpertsKernelIdeal.Run.tables m hb)
      (Cert.ExpertsKernelIdeal.Run.found_eq m)) (Cert.ExpertsKernelIdeal.Run.frame m ρ hb))
    exact ⟨((h.1.1 c).1 6).trans (array6 m c hb), h.2.1 c⟩
  · refine (θ_run _ _ _).mono (fun r h c => ?_) (Cert.ExpertsRefIdeal.Value.run (F := Ideal) m' ρ')
    obtain ⟨h0, ha⟩ := h c
    refine ⟨h0.trans ?_, ha⟩
    unfold Cert.ExpertsRefIdeal.Value.res_main_v69
    obtain ⟨e0, e1, e2, e3, e4, e5, e6, e7⟩ := heq c
    rw [e0, e1, e2, e3, e4, e5, e6, e7]
    show result (be m c) (n m c) (x m c) (g m c) (b m c) (d m c) (e m c) (s m c) = _
    funext y
    have y0 : (y 0).val < 73728 := (y 0).isLt
    have hy : y = (ix2 (place ⟨(y 0).val / 256, by omega⟩ ⟨(y 0).val % 256, Nat.mod_lt _ (by norm_num)⟩) (y 1) : Cert.ExpertsKernelIdeal.S73728x4096.Idx) := by
      funext a
      apply Fin.ext
      match a with
      | ⟨0, _⟩ => show (y 0).val = (y 0).val / 256 * 256 + (y 0).val % 256; omega
      | ⟨1, _⟩ => rfl
    refine (congrArg (result (be m c) (n m c) (x m c) (g m c) (b m c) (d m c) (e m c) (s m c)) hy).trans
      ((result_at _ _ _ _ _ _ _ _ (fun z => ?_) _ _ _).trans rfl)
    exact named _ _ _ _ _ _ _ _ (pre c) z

end Cert.Proof
-- ==== Proof.lean ====
/-
  The claims, for the scan and the heads' normalisation after it, the six dense calls, the short convolution, the modulation,
  the normalisations, the experts and the experts' sum: the three frames, the idealization (which rewrites nothing), and that the call and its reference end with equal results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Step
public import proofs.«01_k».proof.Proof.Gen.ReferenceIdeal.Run
public import proofs.«01_k».proof.Proof.Gen.GatesKernel.Frame
public import proofs.«01_k».proof.Proof.Gen.GatesKernelIdeal.Value
public import proofs.«01_k».proof.Proof.Gen.GatesRefIdeal.Run
public import proofs.«01_k».proof.Proof.Gen.OutputKernel.Frame
public import proofs.«01_k».proof.Proof.Gen.OutputKernelIdeal.Value
public import proofs.«01_k».proof.Proof.Gen.OutputRefIdeal.Run
public import proofs.«01_k».proof.Proof.Gen.MergeKernel.Frame
public import proofs.«01_k».proof.Proof.Gen.MergeKernelIdeal.Value
public import proofs.«01_k».proof.Proof.Gen.MergeRefIdeal.Run
public import proofs.«01_k».proof.Proof.Gen.ColumnsKernel.Frame
public import proofs.«01_k».proof.Proof.Gen.ColumnsKernelIdeal.Value
public import proofs.«01_k».proof.Proof.Gen.ColumnsRefIdeal.Run
public import proofs.«01_k».proof.Proof.Gen.ShortKernel.Frame
public import proofs.«01_k».proof.Proof.Gen.ShortKernelIdeal.Value
public import proofs.«01_k».proof.Proof.Gen.ShortRefIdeal.Run
public import proofs.«01_k».proof.Proof.Gen.HeadsKernel.Frame
public import proofs.«01_k».proof.Proof.Gen.HeadsKernelIdeal.Value
public import proofs.«01_k».proof.Proof.Gen.HeadsRefIdeal.Run
public import proofs.«01_k».proof.Proof.Gen.NormKernel.Frame
public import proofs.«01_k».proof.Proof.Gen.NormKernelIdeal.Value
public import proofs.«01_k».proof.Proof.Gen.NormRefIdeal.Run
public import proofs.«01_k».proof.Proof.Gen.RouterKernel.Frame
public import proofs.«01_k».proof.Proof.Gen.RouterKernelIdeal.Value
public import proofs.«01_k».proof.Proof.Gen.RouterRefIdeal.Run
public import proofs.«01_k».proof.Proof.Gen.FinalKernel.Frame
public import proofs.«01_k».proof.Proof.Gen.FinalKernelIdeal.Value
public import proofs.«01_k».proof.Proof.Gen.FinalRefIdeal.Run
public import proofs.«01_k».proof.Proof.Gen.CombineKernel.Frame
public import proofs.«01_k».proof.Proof.Gen.CombineKernelIdeal.Value
public import proofs.«01_k».proof.Proof.Gen.CombineRefIdeal.Run
public import proofs.«01_k».proof.Proof.Gen.AdaKernel.Frame
public import proofs.«01_k».proof.Proof.Gen.AdaKernelIdeal.Value
public import proofs.«01_k».proof.Proof.Gen.AdaRefIdeal.Run
public import proofs.«01_k».proof.Proof.Gen.PostKernel.Frame
public import proofs.«01_k».proof.Proof.Gen.PostKernelIdeal.Value
public import proofs.«01_k».proof.Proof.Gen.PostRefIdeal.Run
public import proofs.«01_k».proof.Proof.Gen.ConvKernel.Frame
public import proofs.«01_k».proof.Proof.Gen.ConvKernelIdeal.Value
public import proofs.«01_k».proof.Proof.Gen.ConvRefIdeal.Run
public import proofs.«01_k».proof.Proof.Gen.ExpertsKernel.Launch
public import proofs.«01_k».proof.Proof.Gen.ExpertsKernelIdeal.Launch
public import proofs.«01_k».proof.Proof.Gen.ExpertsRefIdeal.Run
public import proofs.«01_k».proof.Proof.Gen.Pre_experts_named
public import proofs.«01_k».proof.Proof.KernelArrays
public import proofs.«01_k».proof.Proof.RefResult
public import proofs.«01_k».proof.Proof.GatesValue
public import proofs.«01_k».proof.Proof.OutputValue
public import proofs.«01_k».proof.Proof.MergeValue
public import proofs.«01_k».proof.Proof.ColumnsValue
public import proofs.«01_k».proof.Proof.ShortValue
public import proofs.«01_k».proof.Proof.HeadsValue
public import proofs.«01_k».proof.Proof.NormValue
public import proofs.«01_k».proof.Proof.RouterValue
public import proofs.«01_k».proof.Proof.FinalValue
public import proofs.«01_k».proof.Proof.CombineValue
public import proofs.«01_k».proof.Proof.AdaValue
public import proofs.«01_k».proof.Proof.PostValue
public import proofs.«01_k».proof.Proof.ConvValue
public import proofs.«01_k».proof.Proof.ExpertsValue
public import Idealize.ShloMosaic.Adequacy
public import Idealize.ShloMosaic.Init

@[expose] public section

noncomputable section

namespace Cert.Proof

open Idealize.ShloMosaic Idealize.SL.Sem Cert.Scan

/-- The reference's program runs and keeps its arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The scan and its reference end with the same four arrays. -/
theorem algebraic_scan : Cert.algebraic_KernelIdeal_ReferenceIdeal (hKernelIdeal := Cert.KernelIdeal.Gen.facts)
    (hReferenceIdeal := Cert.ReferenceIdeal.Gen.facts) := by
  intro m ρ m' ρ' _ heq
  refine ⟨Cert.KernelIdeal.Gates.outH m, Cert.KernelIdeal.Gates.outC m, Cert.KernelIdeal.Gates.outN m, Cert.KernelIdeal.Gates.outM m, ?_, ?_⟩
  · refine (θ_run _ _ _).mono (fun r h c => ?_) (Cert.KernelIdeal.Value.run_blocks (F := Ideal) m ρ)
    obtain ⟨h0, h1, h2, h3, ha⟩ := h c
    exact ⟨h0.trans (Cert.KernelIdeal.Gates.array7 m c), h1.trans (Cert.KernelIdeal.Gates.array8 m c),
      h2.trans (Cert.KernelIdeal.Gates.array9 m c), h3.trans (Cert.KernelIdeal.Gates.array10 m c), ha⟩
  · refine (θ_run _ _ _).mono (fun r h c => ?_) (Cert.ReferenceIdeal.Value.run (F := Ideal) m' ρ')
    obtain ⟨h0, h1, h2, h3, ha⟩ := h c
    obtain ⟨e0, e1, e2, e3, e4⟩ := heq c
    have eZ : Cert.Ref.aZ m' c = Cert.KernelIdeal.Gates.za m c := e0
    have eB : Cert.Ref.aB m' c = Cert.KernelIdeal.Gates.bias m c := e1
    have eC : Cert.Ref.aC m' c = Cert.KernelIdeal.Gates.c0 m c := e2
    have eN : Cert.Ref.aN m' c = Cert.KernelIdeal.Gates.n0 m c := e3
    have eM : Cert.Ref.aM m' c = Cert.KernelIdeal.Gates.m0 m c := e4
    have rh := Cert.Ref.result_h m' c
    have rc := Cert.Ref.result_c m' c
    have rn := Cert.Ref.result_n m' c
    have rm := Cert.Ref.result_m m' c
    rw [eZ, eB, eC, eN, eM] at rh rc rn rm
    exact ⟨h0.trans rh, h1.trans rc, h2.trans rn, h3.trans rm, ha⟩

theorem claim : Cert.Claim := ⟨Cert.Kernel.Gen.facts, Cert.KernelIdeal.Gen.facts, Cert.ReferenceIdeal.Gen.facts,
  Cert.GatesKernel.Gen.facts, Cert.GatesKernelIdeal.Gen.facts, Cert.GatesRefIdeal.Gen.facts,
  Cert.OutputKernel.Gen.facts, Cert.OutputKernelIdeal.Gen.facts, Cert.OutputRefIdeal.Gen.facts,
  Cert.MergeKernel.Gen.facts, Cert.MergeKernelIdeal.Gen.facts, Cert.MergeRefIdeal.Gen.facts,
  Cert.ColumnsKernel.Gen.facts, Cert.ColumnsKernelIdeal.Gen.facts, Cert.ColumnsRefIdeal.Gen.facts,
  Cert.ShortKernel.Gen.facts, Cert.ShortKernelIdeal.Gen.facts, Cert.ShortRefIdeal.Gen.facts,
  Cert.HeadsKernel.Gen.facts, Cert.HeadsKernelIdeal.Gen.facts, Cert.HeadsRefIdeal.Gen.facts,
  Cert.NormKernel.Gen.facts, Cert.NormKernelIdeal.Gen.facts, Cert.NormRefIdeal.Gen.facts,
  Cert.RouterKernel.Gen.facts, Cert.RouterKernelIdeal.Gen.facts, Cert.RouterRefIdeal.Gen.facts,
  Cert.FinalKernel.Gen.facts, Cert.FinalKernelIdeal.Gen.facts, Cert.FinalRefIdeal.Gen.facts,
  Cert.CombineKernel.Gen.facts, Cert.CombineKernelIdeal.Gen.facts, Cert.CombineRefIdeal.Gen.facts,
  Cert.AdaKernel.Gen.facts, Cert.AdaKernelIdeal.Gen.facts, Cert.AdaRefIdeal.Gen.facts,
  Cert.PostKernel.Gen.facts, Cert.PostKernelIdeal.Gen.facts, Cert.PostRefIdeal.Gen.facts,
  Cert.ConvKernel.Gen.facts, Cert.ConvKernelIdeal.Gen.facts, Cert.ConvRefIdeal.Gen.facts,
  Cert.ExpertsKernel.Gen.facts, Cert.ExpertsKernelIdeal.Gen.facts, Cert.ExpertsRefIdeal.Gen.facts, Cert.Pre_experts_named.Gen.facts,
  fun m ρ _ => Cert.Kernel.Gen.frame m ρ, fun m ρ _ => Cert.KernelIdeal.Gen.frame m ρ, frame_reference,
  fun m ρ _ => Cert.GatesKernel.Gen.frame m ρ, fun m ρ _ => Cert.GatesKernelIdeal.Gen.frame m ρ, frame_gates,
  fun m ρ _ => Cert.OutputKernel.Gen.frame m ρ, fun m ρ _ => Cert.OutputKernelIdeal.Gen.frame m ρ, frame_output,
  fun m ρ _ => Cert.MergeKernel.Gen.frame m ρ, fun m ρ _ => Cert.MergeKernelIdeal.Gen.frame m ρ, frame_merge,
  fun m ρ _ => Cert.ColumnsKernel.Gen.frame m ρ, fun m ρ _ => Cert.ColumnsKernelIdeal.Gen.frame m ρ, frame_columns,
  fun m ρ _ => Cert.ShortKernel.Gen.frame m ρ, fun m ρ _ => Cert.ShortKernelIdeal.Gen.frame m ρ, frame_short,
  fun m ρ _ => Cert.HeadsKernel.Gen.frame m ρ, fun m ρ _ => Cert.HeadsKernelIdeal.Gen.frame m ρ, frame_heads,
  fun m ρ _ => Cert.NormKernel.Gen.frame m ρ, fun m ρ _ => Cert.NormKernelIdeal.Gen.frame m ρ, frame_norm,
  fun m ρ _ => Cert.RouterKernel.Gen.frame m ρ, fun m ρ _ => Cert.RouterKernelIdeal.Gen.frame m ρ, frame_router,
  fun m ρ _ => Cert.FinalKernel.Gen.frame m ρ, fun m ρ _ => Cert.FinalKernelIdeal.Gen.frame m ρ, frame_final,
  fun m ρ _ => Cert.CombineKernel.Gen.frame m ρ, fun m ρ _ => Cert.CombineKernelIdeal.Gen.frame m ρ, frame_combine,
  fun m ρ _ => Cert.AdaKernel.Gen.frame m ρ, fun m ρ _ => Cert.AdaKernelIdeal.Gen.frame m ρ, frame_ada,
  fun m ρ _ => Cert.PostKernel.Gen.frame m ρ, fun m ρ _ => Cert.PostKernelIdeal.Gen.frame m ρ, frame_post,
  fun m ρ _ => Cert.ConvKernel.Gen.frame m ρ, fun m ρ _ => Cert.ConvKernelIdeal.Gen.frame m ρ, frame_conv,
  frame_experts_kernel, frame_experts, frame_experts_ref,
  trivial, algebraic_scan,
  trivial, algebraic_gates,
  trivial, algebraic_output,
  trivial, algebraic_merge,
  trivial, algebraic_columns,
  trivial, algebraic_short,
  trivial, algebraic_heads,
  trivial, algebraic_norm,
  trivial, algebraic_router,
  trivial, algebraic_final,
  trivial, algebraic_combine,
  trivial, algebraic_ada,
  trivial, algebraic_post,
  trivial, algebraic_conv,
  trivial, algebraic_experts⟩

end Cert.Proof

end
